-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddReferenceIdeal (m : (ℓ : Loc Cert.OutOddReferenceIdeal.nD Cert.OutOddReferenceIdeal.τ Cert.OutOddReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenReferenceIdeal (m : (ℓ : Loc Cert.OutEvenReferenceIdeal.nD Cert.OutEvenReferenceIdeal.τ Cert.OutEvenReferenceIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenIdeal_finite_even [hPre_finite_even : Cert.Pre_finite_even.Facts] (m : (ℓ : Loc Cert.EvenIdeal.nD Cert.EvenIdeal.τ Cert.EvenIdeal.sig) → Buf (Elt Ideal) ℓ) : Prop :=
  ∀ c : Dev Cert.EvenIdeal.nD,
    (Cert.Pre_finite_even.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5))).1 = (fun _ => 1#1)
    ∧ (Cert.Pre_finite_even.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5))).2.1 = (fun _ => 1#1)
    ∧ (Cert.Pre_finite_even.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5))).2.2.1 = (fun _ => 1#1)
    ∧ (Cert.Pre_finite_even.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5))).2.2.2 = (fun _ => 1#1)

def Pre_EvenReferenceIdeal (m : (ℓ : Loc Cert.EvenReferenceIdeal.nD Cert.EvenReferenceIdeal.τ Cert.EvenReferenceIdeal.sig) → Buf (Elt Ideal) ℓ) : Prop :=
  True

def Pre_EvenReferenceIdeal_finite_even [hPre_finite_even : Cert.Pre_finite_even.Facts] (m : (ℓ : Loc Cert.EvenReferenceIdeal.nD Cert.EvenReferenceIdeal.τ Cert.EvenReferenceIdeal.sig) → Buf (Elt Ideal) ℓ) : Prop :=
  ∀ c : Dev Cert.EvenReferenceIdeal.nD,
    (Cert.Pre_finite_even.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5))).1 = (fun _ => 1#1)
    ∧ (Cert.Pre_finite_even.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5))).2.1 = (fun _ => 1#1)
    ∧ (Cert.Pre_finite_even.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5))).2.2.1 = (fun _ => 1#1)
    ∧ (Cert.Pre_finite_even.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5))).2.2.2 = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvIdeal_finite_memkv [hPre_finite_memkv : Cert.Pre_finite_memkv.Facts] (m : (ℓ : Loc Cert.MemkvIdeal.nD Cert.MemkvIdeal.τ Cert.MemkvIdeal.sig) → Buf (Elt Ideal) ℓ) : Prop :=
  ∀ c : Dev Cert.MemkvIdeal.nD,
    (Cert.Pre_finite_memkv.fn (F := Ideal) (m ((c.tc : Thread Cert.MemkvIdeal.nD Cert.MemkvIdeal.τ).loc Cert.MemkvIdeal.main_arg0)) (m ((c.tc : Thread Cert.MemkvIdeal.nD Cert.MemkvIdeal.τ).loc Cert.MemkvIdeal.main_arg1)) (m ((c.tc : Thread Cert.MemkvIdeal.nD Cert.MemkvIdeal.τ).loc Cert.MemkvIdeal.main_arg2)) (m ((c.tc : Thread Cert.MemkvIdeal.nD Cert.MemkvIdeal.τ).loc Cert.MemkvIdeal.main_arg3))).1 = (fun _ => 1#1)
    ∧ (Cert.Pre_finite_memkv.fn (F := Ideal) (m ((c.tc : Thread Cert.MemkvIdeal.nD Cert.MemkvIdeal.τ).loc Cert.MemkvIdeal.main_arg0)) (m ((c.tc : Thread Cert.MemkvIdeal.nD Cert.MemkvIdeal.τ).loc Cert.MemkvIdeal.main_arg1)) (m ((c.tc : Thread Cert.MemkvIdeal.nD Cert.MemkvIdeal.τ).loc Cert.MemkvIdeal.main_arg2)) (m ((c.tc : Thread Cert.MemkvIdeal.nD Cert.MemkvIdeal.τ).loc Cert.MemkvIdeal.main_arg3))).2 = (fun _ => 1#1)

def Pre_MemkvReferenceIdeal (m : (ℓ : Loc Cert.MemkvReferenceIdeal.nD Cert.MemkvReferenceIdeal.τ Cert.MemkvReferenceIdeal.sig) → Buf (Elt Ideal) ℓ) : Prop :=
  True

def Pre_MemkvReferenceIdeal_finite_memkv [hPre_finite_memkv : Cert.Pre_finite_memkv.Facts] (m : (ℓ : Loc Cert.MemkvReferenceIdeal.nD Cert.MemkvReferenceIdeal.τ Cert.MemkvReferenceIdeal.sig) → Buf (Elt Ideal) ℓ) : Prop :=
  ∀ c : Dev Cert.MemkvReferenceIdeal.nD,
    (Cert.Pre_finite_memkv.fn (F := Ideal) (m ((c.tc : Thread Cert.MemkvReferenceIdeal.nD Cert.MemkvReferenceIdeal.τ).loc Cert.MemkvReferenceIdeal.main_arg0)) (m ((c.tc : Thread Cert.MemkvReferenceIdeal.nD Cert.MemkvReferenceIdeal.τ).loc Cert.MemkvReferenceIdeal.main_arg1)) (m ((c.tc : Thread Cert.MemkvReferenceIdeal.nD Cert.MemkvReferenceIdeal.τ).loc Cert.MemkvReferenceIdeal.main_arg2)) (m ((c.tc : Thread Cert.MemkvReferenceIdeal.nD Cert.MemkvReferenceIdeal.τ).loc Cert.MemkvReferenceIdeal.main_arg3))).1 = (fun _ => 1#1)
    ∧ (Cert.Pre_finite_memkv.fn (F := Ideal) (m ((c.tc : Thread Cert.MemkvReferenceIdeal.nD Cert.MemkvReferenceIdeal.τ).loc Cert.MemkvReferenceIdeal.main_arg0)) (m ((c.tc : Thread Cert.MemkvReferenceIdeal.nD Cert.MemkvReferenceIdeal.τ).loc Cert.MemkvReferenceIdeal.main_arg1)) (m ((c.tc : Thread Cert.MemkvReferenceIdeal.nD Cert.MemkvReferenceIdeal.τ).loc Cert.MemkvReferenceIdeal.main_arg2)) (m ((c.tc : Thread Cert.MemkvReferenceIdeal.nD Cert.MemkvReferenceIdeal.τ).loc Cert.MemkvReferenceIdeal.main_arg3))).2 = (fun _ => 1#1)

def Pre_Memattn (m : (ℓ : Loc Cert.Memattn.nD Cert.Memattn.τ Cert.Memattn.sig) → Buf (Elt Bits) ℓ) : Prop :=
  True

def Pre_MemattnIdeal (m : (ℓ : Loc Cert.MemattnIdeal.nD Cert.MemattnIdeal.τ Cert.MemattnIdeal.sig) → Buf (Elt Ideal) ℓ) : Prop :=
  True

def Pre_MemattnIdeal_finite_memattn [hPre_finite_memattn : Cert.Pre_finite_memattn.Facts] (m : (ℓ : Loc Cert.MemattnIdeal.nD Cert.MemattnIdeal.τ Cert.MemattnIdeal.sig) → Buf (Elt Ideal) ℓ) : Prop :=
  ∀ c : Dev Cert.MemattnIdeal.nD,
    (Cert.Pre_finite_memattn.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5)) (m ((c.tc : Thread Cert.MemattnIdeal.nD Cert.MemattnIdeal.τ).loc Cert.MemattnIdeal.main_arg6)) (m ((c.tc : Thread Cert.MemattnIdeal.nD Cert.MemattnIdeal.τ).loc Cert.MemattnIdeal.main_arg7))).1 = (fun _ => 1#1)
    ∧ (Cert.Pre_finite_memattn.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5)) (m ((c.tc : Thread Cert.MemattnIdeal.nD Cert.MemattnIdeal.τ).loc Cert.MemattnIdeal.main_arg6)) (m ((c.tc : Thread Cert.MemattnIdeal.nD Cert.MemattnIdeal.τ).loc Cert.MemattnIdeal.main_arg7))).2.1 = (fun _ => 1#1)
    ∧ (Cert.Pre_finite_memattn.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5)) (m ((c.tc : Thread Cert.MemattnIdeal.nD Cert.MemattnIdeal.τ).loc Cert.MemattnIdeal.main_arg6)) (m ((c.tc : Thread Cert.MemattnIdeal.nD Cert.MemattnIdeal.τ).loc Cert.MemattnIdeal.main_arg7))).2.2 = (fun _ => 1#1)

def Pre_MemattnReferenceIdeal (m : (ℓ : Loc Cert.MemattnReferenceIdeal.nD Cert.MemattnReferenceIdeal.τ Cert.MemattnReferenceIdeal.sig) → Buf (Elt Ideal) ℓ) : Prop :=
  True

def Pre_MemattnReferenceIdeal_finite_memattn [hPre_finite_memattn : Cert.Pre_finite_memattn.Facts] (m : (ℓ : Loc Cert.MemattnReferenceIdeal.nD Cert.MemattnReferenceIdeal.τ Cert.MemattnReferenceIdeal.sig) → Buf (Elt Ideal) ℓ) : Prop :=
  ∀ c : Dev Cert.MemattnReferenceIdeal.nD,
    (Cert.Pre_finite_memattn.fn (F := Ideal) (m ((c.tc : Thread Cert.MemattnReferenceIdeal.nD Cert.MemattnReferenceIdeal.τ).loc Cert.MemattnReferenceIdeal.main_arg0)) (m ((c.tc : Thread Cert.MemattnReferenceIdeal.nD Cert.MemattnReferenceIdeal.τ).loc Cert.MemattnReferenceIdeal.main_arg1)) (m ((c.tc : Thread Cert.MemattnReferenceIdeal.nD Cert.MemattnReferenceIdeal.τ).loc Cert.MemattnReferenceIdeal.main_arg2)) (m ((c.tc : Thread Cert.MemattnReferenceIdeal.nD Cert.MemattnReferenceIdeal.τ).loc Cert.MemattnReferenceIdeal.main_arg3)) (m ((c.tc : Thread Cert.MemattnReferenceIdeal.nD Cert.MemattnReferenceIdeal.τ).loc Cert.MemattnReferenceIdeal.main_arg4)) (m ((c.tc : Thread Cert.MemattnReferenceIdeal.nD Cert.MemattnReferenceIdeal.τ).loc Cert.MemattnReferenceIdeal.main_arg5)) (m ((c.tc : Thread Cert.MemattnReferenceIdeal.nD Cert.MemattnReferenceIdeal.τ).loc Cert.MemattnReferenceIdeal.main_arg6)) (m ((c.tc : Thread Cert.MemattnReferenceIdeal.nD Cert.MemattnReferenceIdeal.τ).loc Cert.MemattnReferenceIdeal.main_arg7))).1 = (fun _ => 1#1)
    ∧ (Cert.Pre_finite_memattn.fn (F := Ideal) (m ((c.tc : Thread Cert.MemattnReferenceIdeal.nD Cert.MemattnReferenceIdeal.τ).loc Cert.MemattnReferenceIdeal.main_arg0)) (m ((c.tc : Thread Cert.MemattnReferenceIdeal.nD Cert.MemattnReferenceIdeal.τ).loc Cert.MemattnReferenceIdeal.main_arg1)) (m ((c.tc : Thread Cert.MemattnReferenceIdeal.nD Cert.MemattnReferenceIdeal.τ).loc Cert.MemattnReferenceIdeal.main_arg2)) (m ((c.tc : Thread Cert.MemattnReferenceIdeal.nD Cert.MemattnReferenceIdeal.τ).loc Cert.MemattnReferenceIdeal.main_arg3)) (m ((c.tc : Thread Cert.MemattnReferenceIdeal.nD Cert.MemattnReferenceIdeal.τ).loc Cert.MemattnReferenceIdeal.main_arg4)) (m ((c.tc : Thread Cert.MemattnReferenceIdeal.nD Cert.MemattnReferenceIdeal.τ).loc Cert.MemattnReferenceIdeal.main_arg5)) (m ((c.tc : Thread Cert.MemattnReferenceIdeal.nD Cert.MemattnReferenceIdeal.τ).loc Cert.MemattnReferenceIdeal.main_arg6)) (m ((c.tc : Thread Cert.MemattnReferenceIdeal.nD Cert.MemattnReferenceIdeal.τ).loc Cert.MemattnReferenceIdeal.main_arg7))).2.1 = (fun _ => 1#1)
    ∧ (Cert.Pre_finite_memattn.fn (F := Ideal) (m ((c.tc : Thread Cert.MemattnReferenceIdeal.nD Cert.MemattnReferenceIdeal.τ).loc Cert.MemattnReferenceIdeal.main_arg0)) (m ((c.tc : Thread Cert.MemattnReferenceIdeal.nD Cert.MemattnReferenceIdeal.τ).loc Cert.MemattnReferenceIdeal.main_arg1)) (m ((c.tc : Thread Cert.MemattnReferenceIdeal.nD Cert.MemattnReferenceIdeal.τ).loc Cert.MemattnReferenceIdeal.main_arg2)) (m ((c.tc : Thread Cert.MemattnReferenceIdeal.nD Cert.MemattnReferenceIdeal.τ).loc Cert.MemattnReferenceIdeal.main_arg3)) (m ((c.tc : Thread Cert.MemattnReferenceIdeal.nD Cert.MemattnReferenceIdeal.τ).loc Cert.MemattnReferenceIdeal.main_arg4)) (m ((c.tc : Thread Cert.MemattnReferenceIdeal.nD Cert.MemattnReferenceIdeal.τ).loc Cert.MemattnReferenceIdeal.main_arg5)) (m ((c.tc : Thread Cert.MemattnReferenceIdeal.nD Cert.MemattnReferenceIdeal.τ).loc Cert.MemattnReferenceIdeal.main_arg6)) (m ((c.tc : Thread Cert.MemattnReferenceIdeal.nD Cert.MemattnReferenceIdeal.τ).loc Cert.MemattnReferenceIdeal.main_arg7))).2.2 = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddReferenceIdeal [hOutOddReferenceIdeal : Cert.OutOddReferenceIdeal.Facts] : Prop :=
  ∀ (m : (ℓ : Loc Cert.OutOddReferenceIdeal.nD Cert.OutOddReferenceIdeal.τ Cert.OutOddReferenceIdeal.sig) → Buf (Elt Ideal) ℓ) (g : Dev Cert.OutOddReferenceIdeal.nD → PrngReg), Pre_OutOddReferenceIdeal m →
    θ_run (Cert.OutOddReferenceIdeal.defs (F := Ideal)) (onTc (τ := Cert.OutOddReferenceIdeal.τ) (Cert.OutOddReferenceIdeal.main (F := Ideal))) ⟨m, fun _ => 0, g⟩ (fun r => (∀ c : Dev Cert.OutOddReferenceIdeal.nD,
      r.2.mem ((c.tc : Thread Cert.OutOddReferenceIdeal.nD Cert.OutOddReferenceIdeal.τ).loc Cert.OutOddReferenceIdeal.main_arg0) = m ((c.tc : Thread Cert.OutOddReferenceIdeal.nD Cert.OutOddReferenceIdeal.τ).loc Cert.OutOddReferenceIdeal.main_arg0)
      ∧ r.2.mem ((c.tc : Thread Cert.OutOddReferenceIdeal.nD Cert.OutOddReferenceIdeal.τ).loc Cert.OutOddReferenceIdeal.main_arg1) = m ((c.tc : Thread Cert.OutOddReferenceIdeal.nD Cert.OutOddReferenceIdeal.τ).loc Cert.OutOddReferenceIdeal.main_arg1)
      ∧ r.2.mem ((c.tc : Thread Cert.OutOddReferenceIdeal.nD Cert.OutOddReferenceIdeal.τ).loc Cert.OutOddReferenceIdeal.main_arg2) = m ((c.tc : Thread Cert.OutOddReferenceIdeal.nD Cert.OutOddReferenceIdeal.τ).loc Cert.OutOddReferenceIdeal.main_arg2)
      ∧ r.2.mem ((c.tc : Thread Cert.OutOddReferenceIdeal.nD Cert.OutOddReferenceIdeal.τ).loc Cert.OutOddReferenceIdeal.main_arg3) = m ((c.tc : Thread Cert.OutOddReferenceIdeal.nD Cert.OutOddReferenceIdeal.τ).loc Cert.OutOddReferenceIdeal.main_arg3)
      ∧ r.2.mem ((c.tc : Thread Cert.OutOddReferenceIdeal.nD Cert.OutOddReferenceIdeal.τ).loc Cert.OutOddReferenceIdeal.main_arg4) = m ((c.tc : Thread Cert.OutOddReferenceIdeal.nD Cert.OutOddReferenceIdeal.τ).loc Cert.OutOddReferenceIdeal.main_arg4))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6))
      ∧ r.2.sem = fun _ => 0)

def quiescent_OutEvenReferenceIdeal [hOutEvenReferenceIdeal : Cert.OutEvenReferenceIdeal.Facts] : Prop :=
  ∀ (m : (ℓ : Loc Cert.OutEvenReferenceIdeal.nD Cert.OutEvenReferenceIdeal.τ Cert.OutEvenReferenceIdeal.sig) → Buf (Elt Ideal) ℓ) (g : Dev Cert.OutEvenReferenceIdeal.nD → PrngReg), Pre_OutEvenReferenceIdeal m →
    θ_run (Cert.OutEvenReferenceIdeal.defs (F := Ideal)) (onTc (τ := Cert.OutEvenReferenceIdeal.τ) (Cert.OutEvenReferenceIdeal.main (F := Ideal))) ⟨m, fun _ => 0, g⟩ (fun r => (∀ c : Dev Cert.OutEvenReferenceIdeal.nD,
      r.2.mem ((c.tc : Thread Cert.OutEvenReferenceIdeal.nD Cert.OutEvenReferenceIdeal.τ).loc Cert.OutEvenReferenceIdeal.main_arg0) = m ((c.tc : Thread Cert.OutEvenReferenceIdeal.nD Cert.OutEvenReferenceIdeal.τ).loc Cert.OutEvenReferenceIdeal.main_arg0)
      ∧ r.2.mem ((c.tc : Thread Cert.OutEvenReferenceIdeal.nD Cert.OutEvenReferenceIdeal.τ).loc Cert.OutEvenReferenceIdeal.main_arg1) = m ((c.tc : Thread Cert.OutEvenReferenceIdeal.nD Cert.OutEvenReferenceIdeal.τ).loc Cert.OutEvenReferenceIdeal.main_arg1)
      ∧ r.2.mem ((c.tc : Thread Cert.OutEvenReferenceIdeal.nD Cert.OutEvenReferenceIdeal.τ).loc Cert.OutEvenReferenceIdeal.main_arg2) = m ((c.tc : Thread Cert.OutEvenReferenceIdeal.nD Cert.OutEvenReferenceIdeal.τ).loc Cert.OutEvenReferenceIdeal.main_arg2)
      ∧ r.2.mem ((c.tc : Thread Cert.OutEvenReferenceIdeal.nD Cert.OutEvenReferenceIdeal.τ).loc Cert.OutEvenReferenceIdeal.main_arg3) = m ((c.tc : Thread Cert.OutEvenReferenceIdeal.nD Cert.OutEvenReferenceIdeal.τ).loc Cert.OutEvenReferenceIdeal.main_arg3)
      ∧ r.2.mem ((c.tc : Thread Cert.OutEvenReferenceIdeal.nD Cert.OutEvenReferenceIdeal.τ).loc Cert.OutEvenReferenceIdeal.main_arg4) = m ((c.tc : Thread Cert.OutEvenReferenceIdeal.nD Cert.OutEvenReferenceIdeal.τ).loc Cert.OutEvenReferenceIdeal.main_arg4)
      ∧ r.2.mem ((c.tc : Thread Cert.OutEvenReferenceIdeal.nD Cert.OutEvenReferenceIdeal.τ).loc Cert.OutEvenReferenceIdeal.main_arg5) = m ((c.tc : Thread Cert.OutEvenReferenceIdeal.nD Cert.OutEvenReferenceIdeal.τ).loc Cert.OutEvenReferenceIdeal.main_arg5)
      ∧ r.2.mem ((c.tc : Thread Cert.OutEvenReferenceIdeal.nD Cert.OutEvenReferenceIdeal.τ).loc Cert.OutEvenReferenceIdeal.main_arg6) = m ((c.tc : Thread Cert.OutEvenReferenceIdeal.nD Cert.OutEvenReferenceIdeal.τ).loc Cert.OutEvenReferenceIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ r.2.sem = fun _ => 0)

def quiescent_EvenIdeal_pre_finite_even [hEvenIdeal : Cert.EvenIdeal.Facts] [hPre_finite_even : Cert.Pre_finite_even.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal_finite_even m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5))
      ∧ r.2.sem = fun _ => 0)

def quiescent_EvenReferenceIdeal_pre_finite_even [hEvenReferenceIdeal : Cert.EvenReferenceIdeal.Facts] [hPre_finite_even : Cert.Pre_finite_even.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal_finite_even m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvIdeal_pre_finite_memkv [hMemkvIdeal : Cert.MemkvIdeal.Facts] [hPre_finite_memkv : Cert.Pre_finite_memkv.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal_finite_memkv m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def quiescent_MemkvReferenceIdeal_pre_finite_memkv [hMemkvReferenceIdeal : Cert.MemkvReferenceIdeal.Facts] [hPre_finite_memkv : Cert.Pre_finite_memkv.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal_finite_memkv m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def quiescent_Memattn [hMemattn : Cert.Memattn.Facts] : Prop :=
  ∀ (m : (ℓ : Loc Cert.Memattn.nD Cert.Memattn.τ Cert.Memattn.sig) → Buf (Elt Bits) ℓ) (g : Dev Cert.Memattn.nD → PrngReg), Pre_Memattn m →
    θ_run (Cert.Memattn.defs (F := Bits)) (onTc (τ := Cert.Memattn.τ) (Cert.Memattn.main (F := Bits))) ⟨m, fun _ => 0, g⟩ (fun r => (∀ c : Dev Cert.Memattn.nD,
      r.2.mem ((c.tc : Thread Cert.Memattn.nD Cert.Memattn.τ).loc Cert.Memattn.main_arg0) = m ((c.tc : Thread Cert.Memattn.nD Cert.Memattn.τ).loc Cert.Memattn.main_arg0)
      ∧ r.2.mem ((c.tc : Thread Cert.Memattn.nD Cert.Memattn.τ).loc Cert.Memattn.main_arg1) = m ((c.tc : Thread Cert.Memattn.nD Cert.Memattn.τ).loc Cert.Memattn.main_arg1)
      ∧ r.2.mem ((c.tc : Thread Cert.Memattn.nD Cert.Memattn.τ).loc Cert.Memattn.main_arg2) = m ((c.tc : Thread Cert.Memattn.nD Cert.Memattn.τ).loc Cert.Memattn.main_arg2)
      ∧ r.2.mem ((c.tc : Thread Cert.Memattn.nD Cert.Memattn.τ).loc Cert.Memattn.main_arg3) = m ((c.tc : Thread Cert.Memattn.nD Cert.Memattn.τ).loc Cert.Memattn.main_arg3)
      ∧ r.2.mem ((c.tc : Thread Cert.Memattn.nD Cert.Memattn.τ).loc Cert.Memattn.main_arg4) = m ((c.tc : Thread Cert.Memattn.nD Cert.Memattn.τ).loc Cert.Memattn.main_arg4)
      ∧ r.2.mem ((c.tc : Thread Cert.Memattn.nD Cert.Memattn.τ).loc Cert.Memattn.main_arg5) = m ((c.tc : Thread Cert.Memattn.nD Cert.Memattn.τ).loc Cert.Memattn.main_arg5)
      ∧ r.2.mem ((c.tc : Thread Cert.Memattn.nD Cert.Memattn.τ).loc Cert.Memattn.main_arg6) = m ((c.tc : Thread Cert.Memattn.nD Cert.Memattn.τ).loc Cert.Memattn.main_arg6)
      ∧ r.2.mem ((c.tc : Thread Cert.Memattn.nD Cert.Memattn.τ).loc Cert.Memattn.main_arg7) = m ((c.tc : Thread Cert.Memattn.nD Cert.Memattn.τ).loc Cert.Memattn.main_arg7))
      ∧ r.2.sem = fun _ => 0)

def quiescent_MemattnIdeal [hMemattnIdeal : Cert.MemattnIdeal.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
      ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6)
      ∧ r.2.mem ((c.tc : Thread Cert.MemattnIdeal.nD Cert.MemattnIdeal.τ).loc Cert.MemattnIdeal.main_arg7) = m ((c.tc : Thread Cert.MemattnIdeal.nD Cert.MemattnIdeal.τ).loc Cert.MemattnIdeal.main_arg7))
      ∧ r.2.sem = fun _ => 0)

def quiescent_MemattnIdeal_pre_finite_memattn [hMemattnIdeal : Cert.MemattnIdeal.Facts] [hPre_finite_memattn : Cert.Pre_finite_memattn.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal_finite_memattn m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
      ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
      ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
      ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
      ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
      ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6)
      ∧ r.2.mem ((c.tc : Thread Cert.MemattnIdeal.nD Cert.MemattnIdeal.τ).loc Cert.MemattnIdeal.main_arg7) = m ((c.tc : Thread Cert.MemattnIdeal.nD Cert.MemattnIdeal.τ).loc Cert.MemattnIdeal.main_arg7))
      ∧ r.2.sem = fun _ => 0)

def quiescent_MemattnReferenceIdeal [hMemattnReferenceIdeal : Cert.MemattnReferenceIdeal.Facts] : Prop :=
  ∀ (m : (ℓ : Loc Cert.MemattnReferenceIdeal.nD Cert.MemattnReferenceIdeal.τ Cert.MemattnReferenceIdeal.sig) → Buf (Elt Ideal) ℓ) (g : Dev Cert.MemattnReferenceIdeal.nD → PrngReg), Pre_MemattnReferenceIdeal m →
    θ_run (Cert.MemattnReferenceIdeal.defs (F := Ideal)) (onTc (τ := Cert.MemattnReferenceIdeal.τ) (Cert.MemattnReferenceIdeal.main (F := Ideal))) ⟨m, fun _ => 0, g⟩ (fun r => (∀ c : Dev Cert.MemattnReferenceIdeal.nD,
      r.2.mem ((c.tc : Thread Cert.MemattnReferenceIdeal.nD Cert.MemattnReferenceIdeal.τ).loc Cert.MemattnReferenceIdeal.main_arg0) = m ((c.tc : Thread Cert.MemattnReferenceIdeal.nD Cert.MemattnReferenceIdeal.τ).loc Cert.MemattnReferenceIdeal.main_arg0)
      ∧ r.2.mem ((c.tc : Thread Cert.MemattnReferenceIdeal.nD Cert.MemattnReferenceIdeal.τ).loc Cert.MemattnReferenceIdeal.main_arg1) = m ((c.tc : Thread Cert.MemattnReferenceIdeal.nD Cert.MemattnReferenceIdeal.τ).loc Cert.MemattnReferenceIdeal.main_arg1)
      ∧ r.2.mem ((c.tc : Thread Cert.MemattnReferenceIdeal.nD Cert.MemattnReferenceIdeal.τ).loc Cert.MemattnReferenceIdeal.main_arg2) = m ((c.tc : Thread Cert.MemattnReferenceIdeal.nD Cert.MemattnReferenceIdeal.τ).loc Cert.MemattnReferenceIdeal.main_arg2)
      ∧ r.2.mem ((c.tc : Thread Cert.MemattnReferenceIdeal.nD Cert.MemattnReferenceIdeal.τ).loc Cert.MemattnReferenceIdeal.main_arg3) = m ((c.tc : Thread Cert.MemattnReferenceIdeal.nD Cert.MemattnReferenceIdeal.τ).loc Cert.MemattnReferenceIdeal.main_arg3)
      ∧ r.2.mem ((c.tc : Thread Cert.MemattnReferenceIdeal.nD Cert.MemattnReferenceIdeal.τ).loc Cert.MemattnReferenceIdeal.main_arg4) = m ((c.tc : Thread Cert.MemattnReferenceIdeal.nD Cert.MemattnReferenceIdeal.τ).loc Cert.MemattnReferenceIdeal.main_arg4)
      ∧ r.2.mem ((c.tc : Thread Cert.MemattnReferenceIdeal.nD Cert.MemattnReferenceIdeal.τ).loc Cert.MemattnReferenceIdeal.main_arg5) = m ((c.tc : Thread Cert.MemattnReferenceIdeal.nD Cert.MemattnReferenceIdeal.τ).loc Cert.MemattnReferenceIdeal.main_arg5)
      ∧ r.2.mem ((c.tc : Thread Cert.MemattnReferenceIdeal.nD Cert.MemattnReferenceIdeal.τ).loc Cert.MemattnReferenceIdeal.main_arg6) = m ((c.tc : Thread Cert.MemattnReferenceIdeal.nD Cert.MemattnReferenceIdeal.τ).loc Cert.MemattnReferenceIdeal.main_arg6)
      ∧ r.2.mem ((c.tc : Thread Cert.MemattnReferenceIdeal.nD Cert.MemattnReferenceIdeal.τ).loc Cert.MemattnReferenceIdeal.main_arg7) = m ((c.tc : Thread Cert.MemattnReferenceIdeal.nD Cert.MemattnReferenceIdeal.τ).loc Cert.MemattnReferenceIdeal.main_arg7))
      ∧ r.2.sem = fun _ => 0)

def quiescent_MemattnReferenceIdeal_pre_finite_memattn [hMemattnReferenceIdeal : Cert.MemattnReferenceIdeal.Facts] [hPre_finite_memattn : Cert.Pre_finite_memattn.Facts] : Prop :=
  ∀ (m : (ℓ : Loc Cert.MemattnReferenceIdeal.nD Cert.MemattnReferenceIdeal.τ Cert.MemattnReferenceIdeal.sig) → Buf (Elt Ideal) ℓ) (g : Dev Cert.MemattnReferenceIdeal.nD → PrngReg), Pre_MemattnReferenceIdeal_finite_memattn m →
    θ_run (Cert.MemattnReferenceIdeal.defs (F := Ideal)) (onTc (τ := Cert.MemattnReferenceIdeal.τ) (Cert.MemattnReferenceIdeal.main (F := Ideal))) ⟨m, fun _ => 0, g⟩ (fun r => (∀ c : Dev Cert.MemattnReferenceIdeal.nD,
      r.2.mem ((c.tc : Thread Cert.MemattnReferenceIdeal.nD Cert.MemattnReferenceIdeal.τ).loc Cert.MemattnReferenceIdeal.main_arg0) = m ((c.tc : Thread Cert.MemattnReferenceIdeal.nD Cert.MemattnReferenceIdeal.τ).loc Cert.MemattnReferenceIdeal.main_arg0)
      ∧ r.2.mem ((c.tc : Thread Cert.MemattnReferenceIdeal.nD Cert.MemattnReferenceIdeal.τ).loc Cert.MemattnReferenceIdeal.main_arg1) = m ((c.tc : Thread Cert.MemattnReferenceIdeal.nD Cert.MemattnReferenceIdeal.τ).loc Cert.MemattnReferenceIdeal.main_arg1)
      ∧ r.2.mem ((c.tc : Thread Cert.MemattnReferenceIdeal.nD Cert.MemattnReferenceIdeal.τ).loc Cert.MemattnReferenceIdeal.main_arg2) = m ((c.tc : Thread Cert.MemattnReferenceIdeal.nD Cert.MemattnReferenceIdeal.τ).loc Cert.MemattnReferenceIdeal.main_arg2)
      ∧ r.2.mem ((c.tc : Thread Cert.MemattnReferenceIdeal.nD Cert.MemattnReferenceIdeal.τ).loc Cert.MemattnReferenceIdeal.main_arg3) = m ((c.tc : Thread Cert.MemattnReferenceIdeal.nD Cert.MemattnReferenceIdeal.τ).loc Cert.MemattnReferenceIdeal.main_arg3)
      ∧ r.2.mem ((c.tc : Thread Cert.MemattnReferenceIdeal.nD Cert.MemattnReferenceIdeal.τ).loc Cert.MemattnReferenceIdeal.main_arg4) = m ((c.tc : Thread Cert.MemattnReferenceIdeal.nD Cert.MemattnReferenceIdeal.τ).loc Cert.MemattnReferenceIdeal.main_arg4)
      ∧ r.2.mem ((c.tc : Thread Cert.MemattnReferenceIdeal.nD Cert.MemattnReferenceIdeal.τ).loc Cert.MemattnReferenceIdeal.main_arg5) = m ((c.tc : Thread Cert.MemattnReferenceIdeal.nD Cert.MemattnReferenceIdeal.τ).loc Cert.MemattnReferenceIdeal.main_arg5)
      ∧ r.2.mem ((c.tc : Thread Cert.MemattnReferenceIdeal.nD Cert.MemattnReferenceIdeal.τ).loc Cert.MemattnReferenceIdeal.main_arg6) = m ((c.tc : Thread Cert.MemattnReferenceIdeal.nD Cert.MemattnReferenceIdeal.τ).loc Cert.MemattnReferenceIdeal.main_arg6)
      ∧ r.2.mem ((c.tc : Thread Cert.MemattnReferenceIdeal.nD Cert.MemattnReferenceIdeal.τ).loc Cert.MemattnReferenceIdeal.main_arg7) = m ((c.tc : Thread Cert.MemattnReferenceIdeal.nD Cert.MemattnReferenceIdeal.τ).loc Cert.MemattnReferenceIdeal.main_arg7))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8)
      ∧ r.2.mem ((c.tc : Thread Cert.SsdReferenceIdeal.nD Cert.SsdReferenceIdeal.τ).loc Cert.SsdReferenceIdeal.main_arg9) = m ((c.tc : Thread Cert.SsdReferenceIdeal.nD Cert.SsdReferenceIdeal.τ).loc Cert.SsdReferenceIdeal.main_arg9)
      ∧ r.2.mem ((c.tc : Thread Cert.SsdReferenceIdeal.nD Cert.SsdReferenceIdeal.τ).loc Cert.SsdReferenceIdeal.main_arg10) = m ((c.tc : Thread Cert.SsdReferenceIdeal.nD Cert.SsdReferenceIdeal.τ).loc Cert.SsdReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_OutOdd_OutOddIdeal : Prop :=
  True

def algebraic_OutOddIdeal_OutOddReferenceIdeal [hOutOddIdeal : Cert.OutOddIdeal.Facts] [hOutOddReferenceIdeal : Cert.OutOddReferenceIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddReferenceIdeal.nD Cert.OutOddReferenceIdeal.τ Cert.OutOddReferenceIdeal.sig) → Buf (Elt Ideal) ℓ) (g' : Dev Cert.OutOddReferenceIdeal.nD → PrngReg), Pre_OutOddIdeal m →
    (∀ c : Dev Cert.OutOddIdeal.nD,
      m' ((c.tc : Thread Cert.OutOddReferenceIdeal.nD Cert.OutOddReferenceIdeal.τ).loc Cert.OutOddReferenceIdeal.main_arg0) = m ((c.tc : Thread Cert.OutOddIdeal.nD Cert.OutOddIdeal.τ).loc Cert.OutOddIdeal.main_arg0)
      ∧ m' ((c.tc : Thread Cert.OutOddReferenceIdeal.nD Cert.OutOddReferenceIdeal.τ).loc Cert.OutOddReferenceIdeal.main_arg1) = m ((c.tc : Thread Cert.OutOddIdeal.nD Cert.OutOddIdeal.τ).loc Cert.OutOddIdeal.main_arg1)
      ∧ m' ((c.tc : Thread Cert.OutOddReferenceIdeal.nD Cert.OutOddReferenceIdeal.τ).loc Cert.OutOddReferenceIdeal.main_arg2) = m ((c.tc : Thread Cert.OutOddIdeal.nD Cert.OutOddIdeal.τ).loc Cert.OutOddIdeal.main_arg2)
      ∧ m' ((c.tc : Thread Cert.OutOddReferenceIdeal.nD Cert.OutOddReferenceIdeal.τ).loc Cert.OutOddReferenceIdeal.main_arg3) = m ((c.tc : Thread Cert.OutOddIdeal.nD Cert.OutOddIdeal.τ).loc Cert.OutOddIdeal.main_arg3)
      ∧ m' ((c.tc : Thread Cert.OutOddReferenceIdeal.nD Cert.OutOddReferenceIdeal.τ).loc Cert.OutOddReferenceIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v8)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v8) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddReferenceIdeal.defs (F := Ideal)) (onTc (τ := Cert.OutOddReferenceIdeal.τ) (Cert.OutOddReferenceIdeal.main (F := Ideal))) ⟨m', fun _ => 0, g'⟩ (fun r => ∀ c : Dev Cert.OutOddReferenceIdeal.nD,
          r.2.mem ((c.tc : Thread Cert.OutOddReferenceIdeal.nD Cert.OutOddReferenceIdeal.τ).loc Cert.OutOddReferenceIdeal.main_v6) = v0 c
          ∧ r.2.mem ((c.tc : Thread Cert.OutOddReferenceIdeal.nD Cert.OutOddReferenceIdeal.τ).loc Cert.OutOddReferenceIdeal.main_arg0) = m' ((c.tc : Thread Cert.OutOddReferenceIdeal.nD Cert.OutOddReferenceIdeal.τ).loc Cert.OutOddReferenceIdeal.main_arg0)
          ∧ r.2.mem ((c.tc : Thread Cert.OutOddReferenceIdeal.nD Cert.OutOddReferenceIdeal.τ).loc Cert.OutOddReferenceIdeal.main_arg1) = m' ((c.tc : Thread Cert.OutOddReferenceIdeal.nD Cert.OutOddReferenceIdeal.τ).loc Cert.OutOddReferenceIdeal.main_arg1)
          ∧ r.2.mem ((c.tc : Thread Cert.OutOddReferenceIdeal.nD Cert.OutOddReferenceIdeal.τ).loc Cert.OutOddReferenceIdeal.main_arg2) = m' ((c.tc : Thread Cert.OutOddReferenceIdeal.nD Cert.OutOddReferenceIdeal.τ).loc Cert.OutOddReferenceIdeal.main_arg2)
          ∧ r.2.mem ((c.tc : Thread Cert.OutOddReferenceIdeal.nD Cert.OutOddReferenceIdeal.τ).loc Cert.OutOddReferenceIdeal.main_arg3) = m' ((c.tc : Thread Cert.OutOddReferenceIdeal.nD Cert.OutOddReferenceIdeal.τ).loc Cert.OutOddReferenceIdeal.main_arg3)
          ∧ r.2.mem ((c.tc : Thread Cert.OutOddReferenceIdeal.nD Cert.OutOddReferenceIdeal.τ).loc Cert.OutOddReferenceIdeal.main_arg4) = m' ((c.tc : Thread Cert.OutOddReferenceIdeal.nD Cert.OutOddReferenceIdeal.τ).loc Cert.OutOddReferenceIdeal.main_arg4))

def preserves_OutEven_OutEvenIdeal : Prop :=
  True

def algebraic_OutEvenIdeal_OutEvenReferenceIdeal [hOutEvenIdeal : Cert.OutEvenIdeal.Facts] [hOutEvenReferenceIdeal : Cert.OutEvenReferenceIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenReferenceIdeal.nD Cert.OutEvenReferenceIdeal.τ Cert.OutEvenReferenceIdeal.sig) → Buf (Elt Ideal) ℓ) (g' : Dev Cert.OutEvenReferenceIdeal.nD → PrngReg), Pre_OutEvenIdeal m →
    (∀ c : Dev Cert.OutEvenIdeal.nD,
      m' ((c.tc : Thread Cert.OutEvenReferenceIdeal.nD Cert.OutEvenReferenceIdeal.τ).loc Cert.OutEvenReferenceIdeal.main_arg0) = m ((c.tc : Thread Cert.OutEvenIdeal.nD Cert.OutEvenIdeal.τ).loc Cert.OutEvenIdeal.main_arg0)
      ∧ m' ((c.tc : Thread Cert.OutEvenReferenceIdeal.nD Cert.OutEvenReferenceIdeal.τ).loc Cert.OutEvenReferenceIdeal.main_arg1) = m ((c.tc : Thread Cert.OutEvenIdeal.nD Cert.OutEvenIdeal.τ).loc Cert.OutEvenIdeal.main_arg1)
      ∧ m' ((c.tc : Thread Cert.OutEvenReferenceIdeal.nD Cert.OutEvenReferenceIdeal.τ).loc Cert.OutEvenReferenceIdeal.main_arg2) = m ((c.tc : Thread Cert.OutEvenIdeal.nD Cert.OutEvenIdeal.τ).loc Cert.OutEvenIdeal.main_arg2)
      ∧ m' ((c.tc : Thread Cert.OutEvenReferenceIdeal.nD Cert.OutEvenReferenceIdeal.τ).loc Cert.OutEvenReferenceIdeal.main_arg3) = m ((c.tc : Thread Cert.OutEvenIdeal.nD Cert.OutEvenIdeal.τ).loc Cert.OutEvenIdeal.main_arg3)
      ∧ m' ((c.tc : Thread Cert.OutEvenReferenceIdeal.nD Cert.OutEvenReferenceIdeal.τ).loc Cert.OutEvenReferenceIdeal.main_arg4) = m ((c.tc : Thread Cert.OutEvenIdeal.nD Cert.OutEvenIdeal.τ).loc Cert.OutEvenIdeal.main_arg4)
      ∧ m' ((c.tc : Thread Cert.OutEvenReferenceIdeal.nD Cert.OutEvenReferenceIdeal.τ).loc Cert.OutEvenReferenceIdeal.main_arg5) = m ((c.tc : Thread Cert.OutEvenIdeal.nD Cert.OutEvenIdeal.τ).loc Cert.OutEvenIdeal.main_arg5)
      ∧ m' ((c.tc : Thread Cert.OutEvenReferenceIdeal.nD Cert.OutEvenReferenceIdeal.τ).loc Cert.OutEvenReferenceIdeal.main_arg6) = m ((c.tc : Thread Cert.OutEvenIdeal.nD Cert.OutEvenIdeal.τ).loc Cert.OutEvenIdeal.main_arg6)) →
    ∃ (v0 : (c : Dev Cert.OutEvenIdeal.nD) → Buf (Elt Ideal) ((c.tc : Thread Cert.OutEvenIdeal.nD Cert.OutEvenIdeal.τ).loc Cert.OutEvenIdeal.main_v14)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v14) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6))
      ∧ θ_run (Cert.OutEvenReferenceIdeal.defs (F := Ideal)) (onTc (τ := Cert.OutEvenReferenceIdeal.τ) (Cert.OutEvenReferenceIdeal.main (F := Ideal))) ⟨m', fun _ => 0, g'⟩ (fun r => ∀ c : Dev Cert.OutEvenReferenceIdeal.nD,
          r.2.mem ((c.tc : Thread Cert.OutEvenReferenceIdeal.nD Cert.OutEvenReferenceIdeal.τ).loc Cert.OutEvenReferenceIdeal.main_v8) = v0 c
          ∧ r.2.mem ((c.tc : Thread Cert.OutEvenReferenceIdeal.nD Cert.OutEvenReferenceIdeal.τ).loc Cert.OutEvenReferenceIdeal.main_arg0) = m' ((c.tc : Thread Cert.OutEvenReferenceIdeal.nD Cert.OutEvenReferenceIdeal.τ).loc Cert.OutEvenReferenceIdeal.main_arg0)
          ∧ r.2.mem ((c.tc : Thread Cert.OutEvenReferenceIdeal.nD Cert.OutEvenReferenceIdeal.τ).loc Cert.OutEvenReferenceIdeal.main_arg1) = m' ((c.tc : Thread Cert.OutEvenReferenceIdeal.nD Cert.OutEvenReferenceIdeal.τ).loc Cert.OutEvenReferenceIdeal.main_arg1)
          ∧ r.2.mem ((c.tc : Thread Cert.OutEvenReferenceIdeal.nD Cert.OutEvenReferenceIdeal.τ).loc Cert.OutEvenReferenceIdeal.main_arg2) = m' ((c.tc : Thread Cert.OutEvenReferenceIdeal.nD Cert.OutEvenReferenceIdeal.τ).loc Cert.OutEvenReferenceIdeal.main_arg2)
          ∧ r.2.mem ((c.tc : Thread Cert.OutEvenReferenceIdeal.nD Cert.OutEvenReferenceIdeal.τ).loc Cert.OutEvenReferenceIdeal.main_arg3) = m' ((c.tc : Thread Cert.OutEvenReferenceIdeal.nD Cert.OutEvenReferenceIdeal.τ).loc Cert.OutEvenReferenceIdeal.main_arg3)
          ∧ r.2.mem ((c.tc : Thread Cert.OutEvenReferenceIdeal.nD Cert.OutEvenReferenceIdeal.τ).loc Cert.OutEvenReferenceIdeal.main_arg4) = m' ((c.tc : Thread Cert.OutEvenReferenceIdeal.nD Cert.OutEvenReferenceIdeal.τ).loc Cert.OutEvenReferenceIdeal.main_arg4)
          ∧ r.2.mem ((c.tc : Thread Cert.OutEvenReferenceIdeal.nD Cert.OutEvenReferenceIdeal.τ).loc Cert.OutEvenReferenceIdeal.main_arg5) = m' ((c.tc : Thread Cert.OutEvenReferenceIdeal.nD Cert.OutEvenReferenceIdeal.τ).loc Cert.OutEvenReferenceIdeal.main_arg5)
          ∧ r.2.mem ((c.tc : Thread Cert.OutEvenReferenceIdeal.nD Cert.OutEvenReferenceIdeal.τ).loc Cert.OutEvenReferenceIdeal.main_arg6) = m' ((c.tc : Thread Cert.OutEvenReferenceIdeal.nD Cert.OutEvenReferenceIdeal.τ).loc Cert.OutEvenReferenceIdeal.main_arg6))

def preserves_Odd_OddIdeal : Prop :=
  IdealRules.named_const.Statement Cert.OddIdeal.κ "scale" .f32 0x3E0293EE#32 (((Real.sqrt 128)⁻¹ * (Real.log 2)⁻¹ : ℝ) : EReal)

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v7_0)) (v1 : (c : Dev Cert.OddIdeal.nD) → Buf (Elt Ideal) ((c.tc : Thread Cert.OddIdeal.nD Cert.OddIdeal.τ).loc Cert.OddIdeal.main_v7_1)) (v2 : (c : Dev Cert.OddIdeal.nD) → Buf (Elt Ideal) ((c.tc : Thread Cert.OddIdeal.nD Cert.OddIdeal.τ).loc Cert.OddIdeal.main_v7_2)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v7_0) = v0 c
          ∧ r.2.mem ((c.tc : Thread Cert.OddIdeal.nD Cert.OddIdeal.τ).loc Cert.OddIdeal.main_v7_1) = v1 c
          ∧ r.2.mem ((c.tc : Thread Cert.OddIdeal.nD Cert.OddIdeal.τ).loc Cert.OddIdeal.main_v7_2) = v2 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v109) = v0 c
          ∧ r.2.mem ((c.tc : Thread Cert.OddReferenceIdeal.nD Cert.OddReferenceIdeal.τ).loc Cert.OddReferenceIdeal.main_v110) = v1 c
          ∧ r.2.mem ((c.tc : Thread Cert.OddReferenceIdeal.nD Cert.OddReferenceIdeal.τ).loc Cert.OddReferenceIdeal.main_v111) = v2 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5))

def preserves_Even_EvenIdeal : Prop :=
  True

def algebraic_EvenIdeal_EvenReferenceIdeal_pre_finite_even [hEvenIdeal : Cert.EvenIdeal.Facts] [hEvenReferenceIdeal : Cert.EvenReferenceIdeal.Facts] [hPre_finite_even : Cert.Pre_finite_even.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal_finite_even m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)
      ∧ m' ((c.tc : Thread Cert.EvenReferenceIdeal.nD Cert.EvenReferenceIdeal.τ).loc Cert.EvenReferenceIdeal.main_arg5) = m ((c.tc : Thread Cert.EvenIdeal.nD Cert.EvenIdeal.τ).loc Cert.EvenIdeal.main_arg5)) →
    ∃ (v0 : (c : Dev Cert.EvenIdeal.nD) → Buf (Elt Ideal) ((c.tc : Thread Cert.EvenIdeal.nD Cert.EvenIdeal.τ).loc Cert.EvenIdeal.main_v32_0)) (v1 : (c : Dev Cert.EvenIdeal.nD) → Buf (Elt Ideal) ((c.tc : Thread Cert.EvenIdeal.nD Cert.EvenIdeal.τ).loc Cert.EvenIdeal.main_v32_1)) (v2 : (c : Dev Cert.EvenIdeal.nD) → Buf (Elt Ideal) ((c.tc : Thread Cert.EvenIdeal.nD Cert.EvenIdeal.τ).loc Cert.EvenIdeal.main_v32_2)) (v3 : (c : Dev Cert.EvenIdeal.nD) → Buf (Elt Ideal) ((c.tc : Thread Cert.EvenIdeal.nD Cert.EvenIdeal.τ).loc Cert.EvenIdeal.main_v32_3)) (v4 : (c : Dev Cert.EvenIdeal.nD) → Buf (Elt Ideal) ((c.tc : Thread Cert.EvenIdeal.nD Cert.EvenIdeal.τ).loc Cert.EvenIdeal.main_v32_4)) (v5 : (c : Dev Cert.EvenIdeal.nD) → Buf (Elt Ideal) ((c.tc : Thread Cert.EvenIdeal.nD Cert.EvenIdeal.τ).loc Cert.EvenIdeal.main_v32_5)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v32_0) = v0 c
          ∧ r.2.mem ((c.tc : Thread Cert.EvenIdeal.nD Cert.EvenIdeal.τ).loc Cert.EvenIdeal.main_v32_1) = v1 c
          ∧ r.2.mem ((c.tc : Thread Cert.EvenIdeal.nD Cert.EvenIdeal.τ).loc Cert.EvenIdeal.main_v32_2) = v2 c
          ∧ r.2.mem ((c.tc : Thread Cert.EvenIdeal.nD Cert.EvenIdeal.τ).loc Cert.EvenIdeal.main_v32_3) = v3 c
          ∧ r.2.mem ((c.tc : Thread Cert.EvenIdeal.nD Cert.EvenIdeal.τ).loc Cert.EvenIdeal.main_v32_4) = v4 c
          ∧ r.2.mem ((c.tc : Thread Cert.EvenIdeal.nD Cert.EvenIdeal.τ).loc Cert.EvenIdeal.main_v32_5) = v5 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v120) = v0 c
          ∧ r.2.mem ((c.tc : Thread Cert.EvenReferenceIdeal.nD Cert.EvenReferenceIdeal.τ).loc Cert.EvenReferenceIdeal.main_v115) = v1 c
          ∧ r.2.mem ((c.tc : Thread Cert.EvenReferenceIdeal.nD Cert.EvenReferenceIdeal.τ).loc Cert.EvenReferenceIdeal.main_v116) = v2 c
          ∧ r.2.mem ((c.tc : Thread Cert.EvenReferenceIdeal.nD Cert.EvenReferenceIdeal.τ).loc Cert.EvenReferenceIdeal.main_v117) = v3 c
          ∧ r.2.mem ((c.tc : Thread Cert.EvenReferenceIdeal.nD Cert.EvenReferenceIdeal.τ).loc Cert.EvenReferenceIdeal.main_v118) = v4 c
          ∧ r.2.mem ((c.tc : Thread Cert.EvenReferenceIdeal.nD Cert.EvenReferenceIdeal.τ).loc Cert.EvenReferenceIdeal.main_v119) = v5 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5))

def preserves_Memkv_MemkvIdeal : Prop :=
  True

def algebraic_MemkvIdeal_MemkvReferenceIdeal_pre_finite_memkv [hMemkvIdeal : Cert.MemkvIdeal.Facts] [hMemkvReferenceIdeal : Cert.MemkvReferenceIdeal.Facts] [hPre_finite_memkv : Cert.Pre_finite_memkv.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal_finite_memkv m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v16_0)) (v1 : (c : Dev Cert.MemkvIdeal.nD) → Buf (Elt Ideal) ((c.tc : Thread Cert.MemkvIdeal.nD Cert.MemkvIdeal.τ).loc Cert.MemkvIdeal.main_v16_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v16_0) = v0 c
          ∧ r.2.mem ((c.tc : Thread Cert.MemkvIdeal.nD Cert.MemkvIdeal.τ).loc Cert.MemkvIdeal.main_v16_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v17) = v0 c
          ∧ r.2.mem ((c.tc : Thread Cert.MemkvReferenceIdeal.nD Cert.MemkvReferenceIdeal.τ).loc Cert.MemkvReferenceIdeal.main_v18) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3))

def preserves_Memattn_MemattnIdeal : Prop :=
  True

def algebraic_MemattnIdeal_MemattnReferenceIdeal_pre_finite_memattn [hMemattnIdeal : Cert.MemattnIdeal.Facts] [hMemattnReferenceIdeal : Cert.MemattnReferenceIdeal.Facts] [hPre_finite_memattn : Cert.Pre_finite_memattn.Facts] : Prop :=
  ∀ (m : (ℓ : Loc Cert.MemattnIdeal.nD Cert.MemattnIdeal.τ Cert.MemattnIdeal.sig) → Buf (Elt Ideal) ℓ) (g : Dev Cert.MemattnIdeal.nD → PrngReg)
    (m' : (ℓ : Loc Cert.MemattnReferenceIdeal.nD Cert.MemattnReferenceIdeal.τ Cert.MemattnReferenceIdeal.sig) → Buf (Elt Ideal) ℓ) (g' : Dev Cert.MemattnReferenceIdeal.nD → PrngReg), Pre_MemattnIdeal_finite_memattn m →
    (∀ c : Dev Cert.MemattnIdeal.nD,
      m' ((c.tc : Thread Cert.MemattnReferenceIdeal.nD Cert.MemattnReferenceIdeal.τ).loc Cert.MemattnReferenceIdeal.main_arg0) = m ((c.tc : Thread Cert.MemattnIdeal.nD Cert.MemattnIdeal.τ).loc Cert.MemattnIdeal.main_arg0)
      ∧ m' ((c.tc : Thread Cert.MemattnReferenceIdeal.nD Cert.MemattnReferenceIdeal.τ).loc Cert.MemattnReferenceIdeal.main_arg1) = m ((c.tc : Thread Cert.MemattnIdeal.nD Cert.MemattnIdeal.τ).loc Cert.MemattnIdeal.main_arg1)
      ∧ m' ((c.tc : Thread Cert.MemattnReferenceIdeal.nD Cert.MemattnReferenceIdeal.τ).loc Cert.MemattnReferenceIdeal.main_arg2) = m ((c.tc : Thread Cert.MemattnIdeal.nD Cert.MemattnIdeal.τ).loc Cert.MemattnIdeal.main_arg2)
      ∧ m' ((c.tc : Thread Cert.MemattnReferenceIdeal.nD Cert.MemattnReferenceIdeal.τ).loc Cert.MemattnReferenceIdeal.main_arg3) = m ((c.tc : Thread Cert.MemattnIdeal.nD Cert.MemattnIdeal.τ).loc Cert.MemattnIdeal.main_arg3)
      ∧ m' ((c.tc : Thread Cert.MemattnReferenceIdeal.nD Cert.MemattnReferenceIdeal.τ).loc Cert.MemattnReferenceIdeal.main_arg4) = m ((c.tc : Thread Cert.MemattnIdeal.nD Cert.MemattnIdeal.τ).loc Cert.MemattnIdeal.main_arg4)
      ∧ m' ((c.tc : Thread Cert.MemattnReferenceIdeal.nD Cert.MemattnReferenceIdeal.τ).loc Cert.MemattnReferenceIdeal.main_arg5) = m ((c.tc : Thread Cert.MemattnIdeal.nD Cert.MemattnIdeal.τ).loc Cert.MemattnIdeal.main_arg5)
      ∧ m' ((c.tc : Thread Cert.MemattnReferenceIdeal.nD Cert.MemattnReferenceIdeal.τ).loc Cert.MemattnReferenceIdeal.main_arg6) = m ((c.tc : Thread Cert.MemattnIdeal.nD Cert.MemattnIdeal.τ).loc Cert.MemattnIdeal.main_arg6)
      ∧ m' ((c.tc : Thread Cert.MemattnReferenceIdeal.nD Cert.MemattnReferenceIdeal.τ).loc Cert.MemattnReferenceIdeal.main_arg7) = m ((c.tc : Thread Cert.MemattnIdeal.nD Cert.MemattnIdeal.τ).loc Cert.MemattnIdeal.main_arg7)) →
    ∃ (v0 : (c : Dev Cert.MemattnIdeal.nD) → Buf (Elt Ideal) ((c.tc : Thread Cert.MemattnIdeal.nD Cert.MemattnIdeal.τ).loc Cert.MemattnIdeal.main_v21)),
      θ_run (Cert.MemattnIdeal.defs (F := Ideal)) (onTc (τ := Cert.MemattnIdeal.τ) (Cert.MemattnIdeal.main (F := Ideal))) ⟨m, fun _ => 0, g⟩ (fun r => ∀ c : Dev Cert.MemattnIdeal.nD,
          r.2.mem ((c.tc : Thread Cert.MemattnIdeal.nD Cert.MemattnIdeal.τ).loc Cert.MemattnIdeal.main_v21) = v0 c
          ∧ r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
          ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1)
          ∧ r.2.mem ((c.tc : Thread Cert.MemattnIdeal.nD Cert.MemattnIdeal.τ).loc Cert.MemattnIdeal.main_arg2) = m ((c.tc : Thread Cert.MemattnIdeal.nD Cert.MemattnIdeal.τ).loc Cert.MemattnIdeal.main_arg2)
          ∧ r.2.mem ((c.tc : Thread Cert.MemattnIdeal.nD Cert.MemattnIdeal.τ).loc Cert.MemattnIdeal.main_arg3) = m ((c.tc : Thread Cert.MemattnIdeal.nD Cert.MemattnIdeal.τ).loc Cert.MemattnIdeal.main_arg3)
          ∧ r.2.mem ((c.tc : Thread Cert.MemattnIdeal.nD Cert.MemattnIdeal.τ).loc Cert.MemattnIdeal.main_arg4) = m ((c.tc : Thread Cert.MemattnIdeal.nD Cert.MemattnIdeal.τ).loc Cert.MemattnIdeal.main_arg4)
          ∧ r.2.mem ((c.tc : Thread Cert.MemattnIdeal.nD Cert.MemattnIdeal.τ).loc Cert.MemattnIdeal.main_arg5) = m ((c.tc : Thread Cert.MemattnIdeal.nD Cert.MemattnIdeal.τ).loc Cert.MemattnIdeal.main_arg5)
          ∧ r.2.mem ((c.tc : Thread Cert.MemattnIdeal.nD Cert.MemattnIdeal.τ).loc Cert.MemattnIdeal.main_arg6) = m ((c.tc : Thread Cert.MemattnIdeal.nD Cert.MemattnIdeal.τ).loc Cert.MemattnIdeal.main_arg6)
          ∧ r.2.mem ((c.tc : Thread Cert.MemattnIdeal.nD Cert.MemattnIdeal.τ).loc Cert.MemattnIdeal.main_arg7) = m ((c.tc : Thread Cert.MemattnIdeal.nD Cert.MemattnIdeal.τ).loc Cert.MemattnIdeal.main_arg7))
      ∧ θ_run (Cert.MemattnReferenceIdeal.defs (F := Ideal)) (onTc (τ := Cert.MemattnReferenceIdeal.τ) (Cert.MemattnReferenceIdeal.main (F := Ideal))) ⟨m', fun _ => 0, g'⟩ (fun r => ∀ c : Dev Cert.MemattnReferenceIdeal.nD,
          r.2.mem ((c.tc : Thread Cert.MemattnReferenceIdeal.nD Cert.MemattnReferenceIdeal.τ).loc Cert.MemattnReferenceIdeal.main_v49) = v0 c
          ∧ r.2.mem ((c.tc : Thread Cert.MemattnReferenceIdeal.nD Cert.MemattnReferenceIdeal.τ).loc Cert.MemattnReferenceIdeal.main_arg0) = m' ((c.tc : Thread Cert.MemattnReferenceIdeal.nD Cert.MemattnReferenceIdeal.τ).loc Cert.MemattnReferenceIdeal.main_arg0)
          ∧ r.2.mem ((c.tc : Thread Cert.MemattnReferenceIdeal.nD Cert.MemattnReferenceIdeal.τ).loc Cert.MemattnReferenceIdeal.main_arg1) = m' ((c.tc : Thread Cert.MemattnReferenceIdeal.nD Cert.MemattnReferenceIdeal.τ).loc Cert.MemattnReferenceIdeal.main_arg1)
          ∧ r.2.mem ((c.tc : Thread Cert.MemattnReferenceIdeal.nD Cert.MemattnReferenceIdeal.τ).loc Cert.MemattnReferenceIdeal.main_arg2) = m' ((c.tc : Thread Cert.MemattnReferenceIdeal.nD Cert.MemattnReferenceIdeal.τ).loc Cert.MemattnReferenceIdeal.main_arg2)
          ∧ r.2.mem ((c.tc : Thread Cert.MemattnReferenceIdeal.nD Cert.MemattnReferenceIdeal.τ).loc Cert.MemattnReferenceIdeal.main_arg3) = m' ((c.tc : Thread Cert.MemattnReferenceIdeal.nD Cert.MemattnReferenceIdeal.τ).loc Cert.MemattnReferenceIdeal.main_arg3)
          ∧ r.2.mem ((c.tc : Thread Cert.MemattnReferenceIdeal.nD Cert.MemattnReferenceIdeal.τ).loc Cert.MemattnReferenceIdeal.main_arg4) = m' ((c.tc : Thread Cert.MemattnReferenceIdeal.nD Cert.MemattnReferenceIdeal.τ).loc Cert.MemattnReferenceIdeal.main_arg4)
          ∧ r.2.mem ((c.tc : Thread Cert.MemattnReferenceIdeal.nD Cert.MemattnReferenceIdeal.τ).loc Cert.MemattnReferenceIdeal.main_arg5) = m' ((c.tc : Thread Cert.MemattnReferenceIdeal.nD Cert.MemattnReferenceIdeal.τ).loc Cert.MemattnReferenceIdeal.main_arg5)
          ∧ r.2.mem ((c.tc : Thread Cert.MemattnReferenceIdeal.nD Cert.MemattnReferenceIdeal.τ).loc Cert.MemattnReferenceIdeal.main_arg6) = m' ((c.tc : Thread Cert.MemattnReferenceIdeal.nD Cert.MemattnReferenceIdeal.τ).loc Cert.MemattnReferenceIdeal.main_arg6)
          ∧ r.2.mem ((c.tc : Thread Cert.MemattnReferenceIdeal.nD Cert.MemattnReferenceIdeal.τ).loc Cert.MemattnReferenceIdeal.main_arg7) = m' ((c.tc : Thread Cert.MemattnReferenceIdeal.nD Cert.MemattnReferenceIdeal.τ).loc Cert.MemattnReferenceIdeal.main_arg7))

def preserves_Ssd_SsdIdeal : Prop :=
  IdealRules.named_const.Statement Cert.SsdIdeal.κ "mask" .f32 0xF149F2CA#32 ⊥

def algebraic_SsdIdeal_SsdReferenceIdeal [hSsdIdeal : Cert.SsdIdeal.Facts] [hSsdReferenceIdeal : Cert.SsdReferenceIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)
      ∧ m' ((c.tc : Thread Cert.SsdReferenceIdeal.nD Cert.SsdReferenceIdeal.τ).loc Cert.SsdReferenceIdeal.main_arg5) = m ((c.tc : Thread Cert.SsdIdeal.nD Cert.SsdIdeal.τ).loc Cert.SsdIdeal.main_arg5)
      ∧ m' ((c.tc : Thread Cert.SsdReferenceIdeal.nD Cert.SsdReferenceIdeal.τ).loc Cert.SsdReferenceIdeal.main_arg6) = m ((c.tc : Thread Cert.SsdIdeal.nD Cert.SsdIdeal.τ).loc Cert.SsdIdeal.main_arg6)
      ∧ m' ((c.tc : Thread Cert.SsdReferenceIdeal.nD Cert.SsdReferenceIdeal.τ).loc Cert.SsdReferenceIdeal.main_arg7) = m ((c.tc : Thread Cert.SsdIdeal.nD Cert.SsdIdeal.τ).loc Cert.SsdIdeal.main_arg7)
      ∧ m' ((c.tc : Thread Cert.SsdReferenceIdeal.nD Cert.SsdReferenceIdeal.τ).loc Cert.SsdReferenceIdeal.main_arg8) = m ((c.tc : Thread Cert.SsdIdeal.nD Cert.SsdIdeal.τ).loc Cert.SsdIdeal.main_arg8)
      ∧ m' ((c.tc : Thread Cert.SsdReferenceIdeal.nD Cert.SsdReferenceIdeal.τ).loc Cert.SsdReferenceIdeal.main_arg9) = m ((c.tc : Thread Cert.SsdIdeal.nD Cert.SsdIdeal.τ).loc Cert.SsdIdeal.main_arg9)
      ∧ m' ((c.tc : Thread Cert.SsdReferenceIdeal.nD Cert.SsdReferenceIdeal.τ).loc Cert.SsdReferenceIdeal.main_arg10) = m ((c.tc : Thread Cert.SsdIdeal.nD Cert.SsdIdeal.τ).loc Cert.SsdIdeal.main_arg10)) →
    ∃ (v0 : (c : Dev Cert.SsdIdeal.nD) → Buf (Elt Ideal) ((c.tc : Thread Cert.SsdIdeal.nD Cert.SsdIdeal.τ).loc Cert.SsdIdeal.main_v15_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v15_1) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v77) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7)
          ∧ r.2.mem ((c.tc : Thread Cert.SsdReferenceIdeal.nD Cert.SsdReferenceIdeal.τ).loc Cert.SsdReferenceIdeal.main_arg8) = m' ((c.tc : Thread Cert.SsdReferenceIdeal.nD Cert.SsdReferenceIdeal.τ).loc Cert.SsdReferenceIdeal.main_arg8)
          ∧ r.2.mem ((c.tc : Thread Cert.SsdReferenceIdeal.nD Cert.SsdReferenceIdeal.τ).loc Cert.SsdReferenceIdeal.main_arg9) = m' ((c.tc : Thread Cert.SsdReferenceIdeal.nD Cert.SsdReferenceIdeal.τ).loc Cert.SsdReferenceIdeal.main_arg9)
          ∧ r.2.mem ((c.tc : Thread Cert.SsdReferenceIdeal.nD Cert.SsdReferenceIdeal.τ).loc Cert.SsdReferenceIdeal.main_arg10) = m' ((c.tc : Thread Cert.SsdReferenceIdeal.nD Cert.SsdReferenceIdeal.τ).loc Cert.SsdReferenceIdeal.main_arg10))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutOdd : Cert.OutOdd.Facts) (hOutOddIdeal : Cert.OutOddIdeal.Facts) (hOutOddReferenceIdeal : Cert.OutOddReferenceIdeal.Facts) (hOutEven : Cert.OutEven.Facts) (hOutEvenIdeal : Cert.OutEvenIdeal.Facts) (hOutEvenReferenceIdeal : Cert.OutEvenReferenceIdeal.Facts) (hOdd : Cert.Odd.Facts) (hOddIdeal : Cert.OddIdeal.Facts) (hOddReferenceIdeal : Cert.OddReferenceIdeal.Facts) (hEven : Cert.Even.Facts) (hEvenIdeal : Cert.EvenIdeal.Facts) (hEvenReferenceIdeal : Cert.EvenReferenceIdeal.Facts) (hMemkv : Cert.Memkv.Facts) (hMemkvIdeal : Cert.MemkvIdeal.Facts) (hMemkvReferenceIdeal : Cert.MemkvReferenceIdeal.Facts) (hMemattn : Cert.Memattn.Facts) (hMemattnIdeal : Cert.MemattnIdeal.Facts) (hMemattnReferenceIdeal : Cert.MemattnReferenceIdeal.Facts) (hSsd : Cert.Ssd.Facts) (hSsdIdeal : Cert.SsdIdeal.Facts) (hSsdReferenceIdeal : Cert.SsdReferenceIdeal.Facts) (hPre_finite_even : Cert.Pre_finite_even.Facts) (hPre_finite_memkv : Cert.Pre_finite_memkv.Facts) (hPre_finite_memattn : Cert.Pre_finite_memattn.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OutOdd (hOutOdd := hOutOdd)
    ∧ quiescent_OutOddIdeal (hOutOddIdeal := hOutOddIdeal)
    ∧ quiescent_OutOddReferenceIdeal (hOutOddReferenceIdeal := hOutOddReferenceIdeal)
    ∧ quiescent_OutEven (hOutEven := hOutEven)
    ∧ quiescent_OutEvenIdeal (hOutEvenIdeal := hOutEvenIdeal)
    ∧ quiescent_OutEvenReferenceIdeal (hOutEvenReferenceIdeal := hOutEvenReferenceIdeal)
    ∧ quiescent_Odd (hOdd := hOdd)
    ∧ quiescent_OddIdeal (hOddIdeal := hOddIdeal)
    ∧ quiescent_OddReferenceIdeal (hOddReferenceIdeal := hOddReferenceIdeal)
    ∧ quiescent_Even (hEven := hEven)
    ∧ quiescent_EvenIdeal (hEvenIdeal := hEvenIdeal)
    ∧ quiescent_EvenIdeal_pre_finite_even (hEvenIdeal := hEvenIdeal) (hPre_finite_even := hPre_finite_even)
    ∧ quiescent_EvenReferenceIdeal (hEvenReferenceIdeal := hEvenReferenceIdeal)
    ∧ quiescent_EvenReferenceIdeal_pre_finite_even (hEvenReferenceIdeal := hEvenReferenceIdeal) (hPre_finite_even := hPre_finite_even)
    ∧ quiescent_Memkv (hMemkv := hMemkv)
    ∧ quiescent_MemkvIdeal (hMemkvIdeal := hMemkvIdeal)
    ∧ quiescent_MemkvIdeal_pre_finite_memkv (hMemkvIdeal := hMemkvIdeal) (hPre_finite_memkv := hPre_finite_memkv)
    ∧ quiescent_MemkvReferenceIdeal (hMemkvReferenceIdeal := hMemkvReferenceIdeal)
    ∧ quiescent_MemkvReferenceIdeal_pre_finite_memkv (hMemkvReferenceIdeal := hMemkvReferenceIdeal) (hPre_finite_memkv := hPre_finite_memkv)
    ∧ quiescent_Memattn (hMemattn := hMemattn)
    ∧ quiescent_MemattnIdeal (hMemattnIdeal := hMemattnIdeal)
    ∧ quiescent_MemattnIdeal_pre_finite_memattn (hMemattnIdeal := hMemattnIdeal) (hPre_finite_memattn := hPre_finite_memattn)
    ∧ quiescent_MemattnReferenceIdeal (hMemattnReferenceIdeal := hMemattnReferenceIdeal)
    ∧ quiescent_MemattnReferenceIdeal_pre_finite_memattn (hMemattnReferenceIdeal := hMemattnReferenceIdeal) (hPre_finite_memattn := hPre_finite_memattn)
    ∧ quiescent_Ssd (hSsd := hSsd)
    ∧ quiescent_SsdIdeal (hSsdIdeal := hSsdIdeal)
    ∧ quiescent_SsdReferenceIdeal (hSsdReferenceIdeal := hSsdReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_OutOdd_OutOddIdeal
    ∧ algebraic_OutOddIdeal_OutOddReferenceIdeal (hOutOddIdeal := hOutOddIdeal) (hOutOddReferenceIdeal := hOutOddReferenceIdeal)
    ∧ preserves_OutEven_OutEvenIdeal
    ∧ algebraic_OutEvenIdeal_OutEvenReferenceIdeal (hOutEvenIdeal := hOutEvenIdeal) (hOutEvenReferenceIdeal := hOutEvenReferenceIdeal)
    ∧ preserves_Odd_OddIdeal
    ∧ algebraic_OddIdeal_OddReferenceIdeal (hOddIdeal := hOddIdeal) (hOddReferenceIdeal := hOddReferenceIdeal)
    ∧ preserves_Even_EvenIdeal
    ∧ algebraic_EvenIdeal_EvenReferenceIdeal_pre_finite_even (hEvenIdeal := hEvenIdeal) (hEvenReferenceIdeal := hEvenReferenceIdeal) (hPre_finite_even := hPre_finite_even)
    ∧ preserves_Memkv_MemkvIdeal
    ∧ algebraic_MemkvIdeal_MemkvReferenceIdeal_pre_finite_memkv (hMemkvIdeal := hMemkvIdeal) (hMemkvReferenceIdeal := hMemkvReferenceIdeal) (hPre_finite_memkv := hPre_finite_memkv)
    ∧ preserves_Memattn_MemattnIdeal
    ∧ algebraic_MemattnIdeal_MemattnReferenceIdeal_pre_finite_memattn (hMemattnIdeal := hMemattnIdeal) (hMemattnReferenceIdeal := hMemattnReferenceIdeal) (hPre_finite_memattn := hPre_finite_memattn)
    ∧ preserves_Ssd_SsdIdeal
    ∧ algebraic_SsdIdeal_SsdReferenceIdeal (hSsdIdeal := hSsdIdeal) (hSsdReferenceIdeal := hSsdReferenceIdeal)
-- ==== Pre_finite_even.lean ====
abbrev S2x8192x1024 : Shape := ⟨3, ![2, 8192, 1024]⟩
abbrev S128x8x1024 : Shape := ⟨3, ![128, 8, 1024]⟩
abbrev S1024 : Shape := ⟨1, ![1024]⟩
abbrev S1024x2056 : Shape := ⟨2, ![1024, 2056]⟩
abbrev S64 : Shape := ⟨1, ![64]⟩
abbrev S_ : Shape := ⟨0, ![]⟩

class Facts : Prop where
  bcast_S_S2x8192x1024 : S_.BroadcastsInDim S2x8192x1024 (![] : Fin 0 → Fin S2x8192x1024.rank)
  bcast_S_S128x8x1024 : S_.BroadcastsInDim S128x8x1024 (![] : Fin 0 → Fin S128x8x1024.rank)
  bcast_S_S1024 : S_.BroadcastsInDim S1024 (![] : Fin 0 → Fin S1024.rank)
  bcast_S_S1024x2056 : S_.BroadcastsInDim S1024x2056 (![] : Fin 0 → Fin S1024x2056.rank)

variable [Facts]

def fn {F : FTy → Type} [FloatOps F] (main_arg0 : FVec F S2x8192x1024 .f32) (main_arg1 : FVec F S128x8x1024 .f32) (main_arg2 : FVec F S1024 .f32) (main_arg3 : FVec F S1024x2056 .f32) (main_arg4 : FVec F S64 .f32) (main_arg5 : FVec F S64 .f32) : IVec S2x8192x1024 1 × IVec S128x8x1024 1 × IVec S1024 1 × IVec S1024x2056 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S128x8x1024 .f32 := Host.absf main_arg1
  let main_cst_0 : FVec F S_ .f32 := constant S_ .f32 0x7F800000#32
  let main_v4 : FVec F S128x8x1024 .f32 := broadcastInDim S128x8x1024 ![] bcast_S_S128x8x1024 main_cst_0
  let main_v5 : IVec S128x8x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2056 .f32 := Host.absf main_arg3
  let main_cst_2 : FVec F S_ .f32 := constant S_ .f32 0x7F800000#32
  let main_v10 : FVec F S1024x2056 .f32 := broadcastInDim S1024x2056 ![] bcast_S_S1024x2056 main_cst_2
  let main_v11 : IVec S1024x2056 1 := cmpf .olt main_v9 main_v10
  (main_v2, main_v5, main_v8, main_v11)
-- ==== Pre_finite_memattn.lean ====
abbrev S2x8192x1024 : Shape := ⟨3, ![2, 8192, 1024]⟩
abbrev S128x8x1024 : Shape := ⟨3, ![128, 8, 1024]⟩
abbrev S2x256x4x64 : Shape := ⟨4, ![2, 256, 4, 64]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S_ : Shape := ⟨0, ![]⟩

class Facts : Prop where
  bcast_S_S2x8192x1024 : S_.BroadcastsInDim S2x8192x1024 (![] : Fin 0 → Fin S2x8192x1024.rank)
  bcast_S_S1024 : S_.BroadcastsInDim S1024 (![] : Fin 0 → Fin S1024.rank)
  bcast_S_S1024x256 : S_.BroadcastsInDim S1024x256 (![] : Fin 0 → Fin S1024x256.rank)

variable [Facts]

def fn {F : FTy → Type} [FloatOps F] (main_arg0 : FVec F S2x8192x1024 .f32) (main_arg1 : FVec F S128x8x1024 .f32) (main_arg2 : FVec F S2x256x4x64 .f32) (main_arg3 : FVec F S2x256x4x64 .f32) (main_arg4 : FVec F S1024 .f32) (main_arg5 : FVec F S1024x256 .f32) (main_arg6 : FVec F S256x1024 .f32) (main_arg7 : FVec F S64 .f32) : IVec S2x8192x1024 1 × IVec S1024 1 × IVec S1024x256 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S1024 .f32 := Host.absf main_arg4
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x256 .f32 := Host.absf main_arg5
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  (main_v2, main_v5, main_v8)
-- ==== Pre_finite_memkv.lean ====
abbrev S2x256x1024 : Shape := ⟨3, ![2, 256, 1024]⟩
abbrev S1024x256 : Shape := ⟨2, ![1024, 256]⟩
abbrev S64 : Shape := ⟨1, ![64]⟩
abbrev S_ : Shape := ⟨0, ![]⟩

class Facts : Prop where
  bcast_S_S2x256x1024 : S_.BroadcastsInDim S2x256x1024 (![] : Fin 0 → Fin S2x256x1024.rank)
  bcast_S_S1024x256 : S_.BroadcastsInDim S1024x256 (![] : Fin 0 → Fin S1024x256.rank)

variable [Facts]

def fn {F : FTy → Type} [FloatOps F] (main_arg0 : FVec F S2x256x1024 .f32) (main_arg1 : FVec F S1024x256 .f32) (main_arg2 : FVec F S1024x256 .f32) (main_arg3 : FVec F S64 .f32) : IVec S2x256x1024 1 × IVec S1024x256 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S2x8192x2x4x64 : Shape := ⟨5, ![2, 8192, 2, 4, 64]⟩
abbrev S2x8192x2x64 : Shape := ⟨4, ![2, 8192, 2, 64]⟩
abbrev S32x8 : Shape := ⟨2, ![32, 8]⟩
abbrev S8 : Shape := ⟨1, ![8]⟩
abbrev S8x32 : Shape := ⟨2, ![8, 32]⟩
abbrev S8x128 : Shape := ⟨2, ![8, 128]⟩
abbrev S1024 : Shape := ⟨1, ![1024]⟩
abbrev S1024x1 : Shape := ⟨2, ![1024, 1]⟩
abbrev S1x256 : Shape := ⟨2, ![1, 256]⟩
abbrev S_ : Shape := ⟨0, ![]⟩
abbrev S1024x256 : Shape := ⟨2, ![1024, 256]⟩
abbrev S1 : Shape := ⟨1, ![1]⟩
abbrev S1x1 : Shape := ⟨2, ![1, 1]⟩
abbrev S1024x32 : Shape := ⟨2, ![1024, 32]⟩
abbrev S8x128x256 : Shape := ⟨3, ![8, 128, 256]⟩
abbrev S16384x512 : Shape := ⟨2, ![16384, 512]⟩
abbrev S16384x128 : Shape := ⟨2, ![16384, 128]⟩
abbrev S128x512 : Shape := ⟨2, ![128, 512]⟩
abbrev S128x128 : Shape := ⟨2, ![128, 128]⟩
abbrev S128x256 : Shape := ⟨2, ![128, 256]⟩
abbrev S128x64 : Shape := ⟨2, ![128, 64]⟩
abbrev S256x64 : Shape := ⟨2, ![256, 64]⟩
abbrev S1x128x256 : Shape := ⟨3, ![1, 128, 256]⟩
abbrev S128 : Shape := ⟨1, ![128]⟩
abbrev S128x1 : Shape := ⟨2, ![128, 1]⟩

abbrev nBuf : Space → Nat
  | .hbm => 399
  | .vmem => 13
  | .smem => 1
  | _ => 0

abbrev hbmTy0_0 (i : Nat) : BufTy := match i % 128 with
  | 0 => ⟨S2x8192x2x4x64, .f32⟩
  | 1 => ⟨S2x8192x2x64, .f32⟩
  | 2 => ⟨S2x8192x2x64, .f32⟩
  | 3 => ⟨S32x8, .f32⟩
  | 4 => ⟨S8, .f32⟩
  | 5 => ⟨S8x32, .f32⟩
  | 6 => ⟨S8x128, .i32⟩
  | 7 => ⟨S1024, .i32⟩
  | 8 => ⟨S8x128, .i32⟩
  | 9 => ⟨S1024x1, .i32⟩
  | 10 => ⟨S1x256, .i32⟩
  | 11 => ⟨S_, .i32⟩
  | 12 => ⟨S1024x1, .i32⟩
  | 13 => ⟨S1024x1, .i32⟩
  | 14 => ⟨S1024x256, .i32⟩
  | 15 => ⟨S1024x256, .i32⟩
  | 16 => ⟨S1024x256, .i32⟩
  | 17 => ⟨S_, .i32⟩
  | 18 => ⟨S1024x256, .i32⟩
  | 19 => ⟨S1024x256, .i1⟩
  | 20 => ⟨S_, .i32⟩
  | 21 => ⟨S1024x256, .i32⟩
  | 22 => ⟨S1024x256, .i1⟩
  | 23 => ⟨S1024x256, .i1⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1, .i32⟩
  | 33 => ⟨S_, .i32⟩
  | 34 => ⟨S1024x1, .i32⟩
  | 35 => ⟨S1024x1, .i1⟩
  | 36 => ⟨S1x1, .i32⟩
  | 37 => ⟨S1024x1, .i32⟩
  | 38 => ⟨S1024x1, .i1⟩
  | 39 => ⟨S1024x1, .i1⟩
  | 40 => ⟨S_, .i1⟩
  | 41 => ⟨S1024, .i1⟩
  | 42 => ⟨S1024x32, .f32⟩
  | 43 => ⟨S1024x32, .i1⟩
  | 44 => ⟨S_, .f32⟩
  | 45 => ⟨S1024x32, .f32⟩
  | 46 => ⟨S1024x32, .f32⟩
  | 47 => ⟨S_, .i32⟩
  | 48 => ⟨S1024x256, .i32⟩
  | 49 => ⟨S1024x256, .i32⟩
  | 50 => ⟨S_, .i32⟩
  | 51 => ⟨S1024x256, .i32⟩
  | 52 => ⟨S1024x256, .i1⟩
  | 53 => ⟨S_, .i32⟩
  | 54 => ⟨S_, .i32⟩
  | 55 => ⟨S1024x256, .i32⟩
  | 56 => ⟨S1024x256, .i32⟩
  | 57 => ⟨S1024x256, .i32⟩
  | 58 => ⟨S_, .i32⟩
  | 59 => ⟨S1024x256, .i32⟩
  | 60 => ⟨S1024x256, .i32⟩
  | 61 => ⟨S_, .i32⟩
  | 62 => ⟨S1024x256, .i32⟩
  | 63 => ⟨S1024x256, .i1⟩
  | 64 => ⟨S_, .i32⟩
  | 65 => ⟨S_, .i32⟩
  | 66 => ⟨S1024x256, .i32⟩
  | 67 => ⟨S1024x256, .i32⟩
  | 68 => ⟨S1024x256, .i32⟩
  | 69 => ⟨S1024x256, .i32⟩
  | 70 => ⟨S_, .i32⟩
  | 71 => ⟨S1024x256, .i32⟩
  | 72 => ⟨S1024x256, .i1⟩
  | 73 => ⟨S_, .i32⟩
  | 74 => ⟨S_, .i32⟩
  | 75 => ⟨S1024x256, .i32⟩
  | 76 => ⟨S1024x256, .i32⟩
  | 77 => ⟨S1024x256, .i32⟩
  | 78 => ⟨S1024x256, .i32⟩
  | 79 => ⟨S_, .i32⟩
  | 80 => ⟨S1024x256, .i32⟩
  | 81 => ⟨S1024x256, .i1⟩
  | 82 => ⟨S_, .i32⟩
  | 83 => ⟨S_, .i32⟩
  | 84 => ⟨S1024x256, .i32⟩
  | 85 => ⟨S1024x256, .i32⟩
  | 86 => ⟨S1024x256, .i32⟩
  | 87 => ⟨S1024x256, .i32⟩
  | 88 => ⟨S_, .i32⟩
  | 89 => ⟨S1024x256, .i32⟩
  | 90 => ⟨S1024x256, .i1⟩
  | 91 => ⟨S_, .i32⟩
  | 92 => ⟨S_, .i32⟩
  | 93 => ⟨S1024x256, .i32⟩
  | 94 => ⟨S1024x256, .i32⟩
  | 95 => ⟨S1024x256, .i32⟩
  | 96 => ⟨S1024x256, .i32⟩
  | 97 => ⟨S_, .i32⟩
  | 98 => ⟨S1024x256, .i32⟩
  | 99 => ⟨S1024x256, .i1⟩
  | 100 => ⟨S_, .i32⟩
  | 101 => ⟨S_, .i32⟩
  | 102 => ⟨S1024x256, .i32⟩
  | 103 => ⟨S1024x256, .i32⟩
  | 104 => ⟨S1024x256, .i32⟩
  | 105 => ⟨S1024x256, .i32⟩
  | 106 => ⟨S_, .i32⟩
  | 107 => ⟨S1024x256, .i32⟩
  | 108 => ⟨S1024x256, .i1⟩
  | 109 => ⟨S_, .i32⟩
  | 110 => ⟨S_, .i32⟩
  | 111 => ⟨S1024x256, .i32⟩
  | 112 => ⟨S1024x256, .i32⟩
  | 113 => ⟨S1024x256, .i32⟩
  | 114 => ⟨S1024x256, .i32⟩
  | 115 => ⟨S_, .i32⟩
  | 116 => ⟨S1024x256, .i32⟩
  | 117 => ⟨S1024x256, .i1⟩
  | 118 => ⟨S_, .i32⟩
  | 119 => ⟨S_, .i32⟩
  | 120 => ⟨S1024x256, .i32⟩
  | 121 => ⟨S1024x256, .i32⟩
  | 122 => ⟨S1024x256, .i32⟩
  | 123 => ⟨S1024x256, .i32⟩
  | 124 => ⟨S_, .i32⟩
  | 125 => ⟨S1024x256, .i32⟩
  | 126 => ⟨S1024x256, .i1⟩
  | 127 => ⟨S_, .i32⟩
  | _ => ⟨S2x8192x2x4x64, .f32⟩

abbrev hbmTy0_1 (i : Nat) : BufTy := match i % 128 with
  | 0 => ⟨S_, .i32⟩
  | 1 => ⟨S1024x256, .i32⟩
  | 2 => ⟨S1024x256, .i32⟩
  | 3 => ⟨S1024x256, .i32⟩
  | 4 => ⟨S1024x256, .i32⟩
  | 5 => ⟨S_, .i32⟩
  | 6 => ⟨S1024x256, .i32⟩
  | 7 => ⟨S1024x256, .i1⟩
  | 8 => ⟨S_, .i32⟩
  | 9 => ⟨S_, .i32⟩
  | 10 => ⟨S1024x256, .i32⟩
  | 11 => ⟨S1024x256, .i32⟩
  | 12 => ⟨S1024x256, .i32⟩
  | 13 => ⟨S1024x256, .i32⟩
  | 14 => ⟨S_, .i32⟩
  | 15 => ⟨S1024x256, .i32⟩
  | 16 => ⟨S1024x256, .i1⟩
  | 17 => ⟨S_, .i32⟩
  | 18 => ⟨S_, .i32⟩
  | 19 => ⟨S1024x256, .i32⟩
  | 20 => ⟨S1024x256, .i32⟩
  | 21 => ⟨S1024x256, .i32⟩
  | 22 => ⟨S1024x256, .i32⟩
  | 23 => ⟨S_, .i32⟩
  | 24 => ⟨S1024x256, .i32⟩
  | 25 => ⟨S1024x256, .i1⟩
  | 26 => ⟨S_, .i32⟩
  | 27 => ⟨S_, .i32⟩
  | 28 => ⟨S1024x256, .i32⟩
  | 29 => ⟨S1024x256, .i32⟩
  | 30 => ⟨S1024x256, .i32⟩
  | 31 => ⟨S1024x256, .i32⟩
  | 32 => ⟨S_, .i32⟩
  | 33 => ⟨S1024x256, .i32⟩
  | 34 => ⟨S1024x256, .i1⟩
  | 35 => ⟨S_, .i32⟩
  | 36 => ⟨S_, .i32⟩
  | 37 => ⟨S1024x256, .i32⟩
  | 38 => ⟨S1024x256, .i32⟩
  | 39 => ⟨S1024x256, .i32⟩
  | 40 => ⟨S1024x256, .i32⟩
  | 41 => ⟨S_, .i32⟩
  | 42 => ⟨S1024x256, .i32⟩
  | 43 => ⟨S1024x256, .i1⟩
  | 44 => ⟨S_, .i32⟩
  | 45 => ⟨S_, .i32⟩
  | 46 => ⟨S1024x256, .i32⟩
  | 47 => ⟨S1024x256, .i32⟩
  | 48 => ⟨S1024x256, .i32⟩
  | 49 => ⟨S1024x256, .i32⟩
  | 50 => ⟨S_, .i32⟩
  | 51 => ⟨S1024x256, .i32⟩
  | 52 => ⟨S1024x256, .i1⟩
  | 53 => ⟨S_, .i32⟩
  | 54 => ⟨S_, .i32⟩
  | 55 => ⟨S1024x256, .i32⟩
  | 56 => ⟨S1024x256, .i32⟩
  | 57 => ⟨S1024x256, .i32⟩
  | 58 => ⟨S1024x256, .i32⟩
  | 59 => ⟨S_, .i32⟩
  | 60 => ⟨S1024x256, .i32⟩
  | 61 => ⟨S1024x256, .i1⟩
  | 62 => ⟨S1024x256, .i32⟩
  | 63 => ⟨S1024x256, .i32⟩
  | 64 => ⟨S_, .f32⟩
  | 65 => ⟨S1024x256, .f32⟩
  | 66 => ⟨S_, .i32⟩
  | 67 => ⟨S1024x256, .i32⟩
  | 68 => ⟨S1024x256, .i1⟩
  | 69 => ⟨S1024x1, .f32⟩
  | 70 => ⟨S1024x256, .f32⟩
  | 71 => ⟨S1024x256, .f32⟩
  | 72 => ⟨S_, .i32⟩
  | 73 => ⟨S1024x256, .i32⟩
  | 74 => ⟨S1024x256, .i1⟩
  | 75 => ⟨S1024x1, .f32⟩
  | 76 => ⟨S1024x256, .f32⟩
  | 77 => ⟨S1024x256, .f32⟩
  | 78 => ⟨S_, .i32⟩
  | 79 => ⟨S1024x256, .i32⟩
  | 80 => ⟨S1024x256, .i1⟩
  | 81 => ⟨S1024x1, .f32⟩
  | 82 => ⟨S1024x256, .f32⟩
  | 83 => ⟨S1024x256, .f32⟩
  | 84 => ⟨S_, .i32⟩
  | 85 => ⟨S1024x256, .i32⟩
  | 86 => ⟨S1024x256, .i1⟩
  | 87 => ⟨S1024x1, .f32⟩
  | 88 => ⟨S1024x256, .f32⟩
  | 89 => ⟨S1024x256, .f32⟩
  | 90 => ⟨S_, .i32⟩
  | 91 => ⟨S1024x256, .i32⟩
  | 92 => ⟨S1024x256, .i1⟩
  | 93 => ⟨S1024x1, .f32⟩
  | 94 => ⟨S1024x256, .f32⟩
  | 95 => ⟨S1024x256, .f32⟩
  | 96 => ⟨S_, .i32⟩
  | 97 => ⟨S1024x256, .i32⟩
  | 98 => ⟨S1024x256, .i1⟩
  | 99 => ⟨S1024x1, .f32⟩
  | 100 => ⟨S1024x256, .f32⟩
  | 101 => ⟨S1024x256, .f32⟩
  | 102 => ⟨S_, .i32⟩
  | 103 => ⟨S1024x256, .i32⟩
  | 104 => ⟨S1024x256, .i1⟩
  | 105 => ⟨S1024x1, .f32⟩
  | 106 => ⟨S1024x256, .f32⟩
  | 107 => ⟨S1024x256, .f32⟩
  | 108 => ⟨S_, .i32⟩
  | 109 => ⟨S1024x256, .i32⟩
  | 110 => ⟨S1024x256, .i1⟩
  | 111 => ⟨S1024x1, .f32⟩
  | 112 => ⟨S1024x256, .f32⟩
  | 113 => ⟨S1024x256, .f32⟩
  | 114 => ⟨S_, .i32⟩
  | 115 => ⟨S1024x256, .i32⟩
  | 116 => ⟨S1024x256, .i1⟩
  | 117 => ⟨S1024x1, .f32⟩
  | 118 => ⟨S1024x256, .f32⟩
  | 119 => ⟨S1024x256, .f32⟩
  | 120 => ⟨S_, .i32⟩
  | 121 => ⟨S1024x256, .i32⟩
  | 122 => ⟨S1024x256, .i1⟩
  | 123 => ⟨S1024x1, .f32⟩
  | 124 => ⟨S1024x256, .f32⟩
  | 125 => ⟨S1024x256, .f32⟩
  | 126 => ⟨S_, .i32⟩
  | 127 => ⟨S1024x256, .i32⟩
  | _ => ⟨S2x8192x2x4x64, .f32⟩

abbrev hbmTy0_2 (i : Nat) : BufTy := match i % 128 with
  | 0 => ⟨S1024x256, .i1⟩
  | 1 => ⟨S1024x1, .f32⟩
  | 2 => ⟨S1024x256, .f32⟩
  | 3 => ⟨S1024x256, .f32⟩
  | 4 => ⟨S_, .i32⟩
  | 5 => ⟨S1024x256, .i32⟩
  | 6 => ⟨S1024x256, .i1⟩
  | 7 => ⟨S1024x1, .f32⟩
  | 8 => ⟨S1024x256, .f32⟩
  | 9 => ⟨S1024x256, .f32⟩
  | 10 => ⟨S_, .i32⟩
  | 11 => ⟨S1024x256, .i32⟩
  | 12 => ⟨S1024x256, .i1⟩
  | 13 => ⟨S1024x1, .f32⟩
  | 14 => ⟨S1024x256, .f32⟩
  | 15 => ⟨S1024x256, .f32⟩
  | 16 => ⟨S_, .i32⟩
  | 17 => ⟨S1024x256, .i32⟩
  | 18 => ⟨S1024x256, .i1⟩
  | 19 => ⟨S1024x1, .f32⟩
  | 20 => ⟨S1024x256, .f32⟩
  | 21 => ⟨S1024x256, .f32⟩
  | 22 => ⟨S_, .i32⟩
  | 23 => ⟨S1024x256, .i32⟩
  | 24 => ⟨S1024x256, .i1⟩
  | 25 => ⟨S1024x1, .f32⟩
  | 26 => ⟨S1024x256, .f32⟩
  | 27 => ⟨S1024x256, .f32⟩
  | 28 => ⟨S_, .i32⟩
  | 29 => ⟨S1024x256, .i32⟩
  | 30 => ⟨S1024x256, .i1⟩
  | 31 => ⟨S1024x1, .f32⟩
  | 32 => ⟨S1024x256, .f32⟩
  | 33 => ⟨S1024x256, .f32⟩
  | 34 => ⟨S_, .i32⟩
  | 35 => ⟨S1024x256, .i32⟩
  | 36 => ⟨S1024x256, .i1⟩
  | 37 => ⟨S1024x1, .f32⟩
  | 38 => ⟨S1024x256, .f32⟩
  | 39 => ⟨S1024x256, .f32⟩
  | 40 => ⟨S_, .i32⟩
  | 41 => ⟨S1024x256, .i32⟩
  | 42 => ⟨S1024x256, .i1⟩
  | 43 => ⟨S1024x1, .f32⟩
  | 44 => ⟨S1024x256, .f32⟩
  | 45 => ⟨S1024x256, .f32⟩
  | 46 => ⟨S_, .i32⟩
  | 47 => ⟨S1024x256, .i32⟩
  | 48 => ⟨S1024x256, .i1⟩
  | 49 => ⟨S1024x1, .f32⟩
  | 50 => ⟨S1024x256, .f32⟩
  | 51 => ⟨S1024x256, .f32⟩
  | 52 => ⟨S_, .i32⟩
  | 53 => ⟨S1024x256, .i32⟩
  | 54 => ⟨S1024x256, .i1⟩
  | 55 => ⟨S1024x1, .f32⟩
  | 56 => ⟨S1024x256, .f32⟩
  | 57 => ⟨S1024x256, .f32⟩
  | 58 => ⟨S_, .i32⟩
  | 59 => ⟨S1024x256, .i32⟩
  | 60 => ⟨S1024x256, .i1⟩
  | 61 => ⟨S1024x1, .f32⟩
  | 62 => ⟨S1024x256, .f32⟩
  | 63 => ⟨S1024x256, .f32⟩
  | 64 => ⟨S_, .i32⟩
  | 65 => ⟨S1024x256, .i32⟩
  | 66 => ⟨S1024x256, .i1⟩
  | 67 => ⟨S1024x1, .f32⟩
  | 68 => ⟨S1024x256, .f32⟩
  | 69 => ⟨S1024x256, .f32⟩
  | 70 => ⟨S_, .i32⟩
  | 71 => ⟨S1024x256, .i32⟩
  | 72 => ⟨S1024x256, .i1⟩
  | 73 => ⟨S1024x1, .f32⟩
  | 74 => ⟨S1024x256, .f32⟩
  | 75 => ⟨S1024x256, .f32⟩
  | 76 => ⟨S_, .i32⟩
  | 77 => ⟨S1024x256, .i32⟩
  | 78 => ⟨S1024x256, .i1⟩
  | 79 => ⟨S1024x1, .f32⟩
  | 80 => ⟨S1024x256, .f32⟩
  | 81 => ⟨S1024x256, .f32⟩
  | 82 => ⟨S_, .i32⟩
  | 83 => ⟨S1024x256, .i32⟩
  | 84 => ⟨S1024x256, .i1⟩
  | 85 => ⟨S1024x1, .f32⟩
  | 86 => ⟨S1024x256, .f32⟩
  | 87 => ⟨S1024x256, .f32⟩
  | 88 => ⟨S_, .i32⟩
  | 89 => ⟨S1024x256, .i32⟩
  | 90 => ⟨S1024x256, .i1⟩
  | 91 => ⟨S1024x1, .f32⟩
  | 92 => ⟨S1024x256, .f32⟩
  | 93 => ⟨S1024x256, .f32⟩
  | 94 => ⟨S_, .i32⟩
  | 95 => ⟨S1024x256, .i32⟩
  | 96 => ⟨S1024x256, .i1⟩
  | 97 => ⟨S1024x1, .f32⟩
  | 98 => ⟨S1024x256, .f32⟩
  | 99 => ⟨S1024x256, .f32⟩
  | 100 => ⟨S_, .i32⟩
  | 101 => ⟨S1024x256, .i32⟩
  | 102 => ⟨S1024x256, .i1⟩
  | 103 => ⟨S1024x1, .f32⟩
  | 104 => ⟨S1024x256, .f32⟩
  | 105 => ⟨S1024x256, .f32⟩
  | 106 => ⟨S_, .i32⟩
  | 107 => ⟨S1024x256, .i32⟩
  | 108 => ⟨S1024x256, .i1⟩
  | 109 => ⟨S1024x1, .f32⟩
  | 110 => ⟨S1024x256, .f32⟩
  | 111 => ⟨S1024x256, .f32⟩
  | 112 => ⟨S_, .i32⟩
  | 113 => ⟨S1024x256, .i32⟩
  | 114 => ⟨S1024x256, .i1⟩
  | 115 => ⟨S1024x1, .f32⟩
  | 116 => ⟨S1024x256, .f32⟩
  | 117 => ⟨S1024x256, .f32⟩
  | 118 => ⟨S_, .i32⟩
  | 119 => ⟨S1024x256, .i32⟩
  | 120 => ⟨S1024x256, .i1⟩
  | 121 => ⟨S1024x1, .f32⟩
  | 122 => ⟨S1024x256, .f32⟩
  | 123 => ⟨S1024x256, .f32⟩
  | 124 => ⟨S_, .i32⟩
  | 125 => ⟨S1024x256, .i32⟩
  | 126 => ⟨S1024x256, .i1⟩
  | 127 => ⟨S1024x1, .f32⟩
  | _ => ⟨S2x8192x2x4x64, .f32⟩

abbrev hbmTy0_3 (i : Nat) : BufTy := match i % 128 with
  | 0 => ⟨S1024x256, .f32⟩
  | 1 => ⟨S1024x256, .f32⟩
  | 2 => ⟨S_, .f32⟩
  | 3 => ⟨S_, .f32⟩
  | 4 => ⟨S1024x256, .f32⟩
  | 5 => ⟨S1024x256, .f32⟩
  | 6 => ⟨S8x128x256, .f32⟩
  | 7 => ⟨S16384x512, .f32⟩
  | 8 => ⟨S16384x128, .f32⟩
  | 9 => ⟨S16384x128, .f32⟩
  | 10 => ⟨S_, .f32⟩
  | 11 => ⟨S16384x512, .f32⟩
  | 12 => ⟨S16384x512, .f32⟩
  | 13 => ⟨S16384x512, .bf16⟩
  | 14 => ⟨S16384x512, .bf16⟩
  | _ => ⟨S2x8192x2x4x64, .f32⟩

abbrev hbmTy (i : Nat) : BufTy := match i / 128 with
  | 0 => hbmTy0_0 i
  | 1 => hbmTy0_1 i
  | 2 => hbmTy0_2 i
  | 3 => hbmTy0_3 i
  | _ => ⟨S2x8192x2x4x64, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x256, .f32⟩
  | .local _ .vmem, ⟨11, _⟩ => ⟨S128x512, .bf16⟩
  | .local _ .vmem, ⟨12, _⟩ => ⟨S128x512, .bf16⟩
  | .local _ .smem, ⟨0, _⟩ => ⟨S8, .f32⟩
  | _, _ => ⟨S2x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_c_5 : Ref sig .tc := ⟨.hbm, 54, rfl⟩
abbrev main_call1_v0 : Ref sig .tc := ⟨.hbm, 55, rfl⟩
abbrev main_call1_v1 : Ref sig .tc := ⟨.hbm, 56, rfl⟩
abbrev main_v21 : Ref sig .tc := ⟨.hbm, 57, rfl⟩
abbrev main_c_6 : Ref sig .tc := ⟨.hbm, 58, rfl⟩
abbrev main_v22 : Ref sig .tc := ⟨.hbm, 59, rfl⟩
abbrev main_v23 : Ref sig .tc := ⟨.hbm, 60, rfl⟩
abbrev main_c_7 : Ref sig .tc := ⟨.hbm, 61, rfl⟩
abbrev main_v24 : Ref sig .tc := ⟨.hbm, 62, rfl⟩
abbrev main_v25 : Ref sig .tc := ⟨.hbm, 63, rfl⟩
abbrev main_c_8 : Ref sig .tc := ⟨.hbm, 64, rfl⟩
abbrev main_c_9 : Ref sig .tc := ⟨.hbm, 65, rfl⟩
abbrev main_call2_v0 : Ref sig .tc := ⟨.hbm, 66, rfl⟩
abbrev main_call2_v1 : Ref sig .tc := ⟨.hbm, 67, rfl⟩
abbrev main_v26 : Ref sig .tc := ⟨.hbm, 68, rfl⟩
abbrev main_v27 : Ref sig .tc := ⟨.hbm, 69, rfl⟩
abbrev main_c_10 : Ref sig .tc := ⟨.hbm, 70, rfl⟩
abbrev main_v28 : Ref sig .tc := ⟨.hbm, 71, rfl⟩
abbrev main_v29 : Ref sig .tc := ⟨.hbm, 72, rfl⟩
abbrev main_c_11 : Ref sig .tc := ⟨.hbm, 73, rfl⟩
abbrev main_c_12 : Ref sig .tc := ⟨.hbm, 74, rfl⟩
abbrev main_call3_v0 : Ref sig .tc := ⟨.hbm, 75, rfl⟩
abbrev main_call3_v1 : Ref sig .tc := ⟨.hbm, 76, rfl⟩
abbrev main_v30 : Ref sig .tc := ⟨.hbm, 77, rfl⟩
abbrev main_v31 : Ref sig .tc := ⟨.hbm, 78, rfl⟩
abbrev main_c_13 : Ref sig .tc := ⟨.hbm, 79, rfl⟩
abbrev main_v32 : Ref sig .tc := ⟨.hbm, 80, rfl⟩
abbrev main_v33 : Ref sig .tc := ⟨.hbm, 81, rfl⟩
abbrev main_c_14 : Ref sig .tc := ⟨.hbm, 82, rfl⟩
abbrev main_c_15 : Ref sig .tc := ⟨.hbm, 83, rfl⟩
abbrev main_call4_v0 : Ref sig .tc := ⟨.hbm, 84, rfl⟩
abbrev main_call4_v1 : Ref sig .tc := ⟨.hbm, 85, rfl⟩
abbrev main_v34 : Ref sig .tc := ⟨.hbm, 86, rfl⟩
abbrev main_v35 : Ref sig .tc := ⟨.hbm, 87, rfl⟩
abbrev main_c_16 : Ref sig .tc := ⟨.hbm, 88, rfl⟩
abbrev main_v36 : Ref sig .tc := ⟨.hbm, 89, rfl⟩
abbrev main_v37 : Ref sig .tc := ⟨.hbm, 90, rfl⟩
abbrev main_c_17 : Ref sig .tc := ⟨.hbm, 91, rfl⟩
abbrev main_c_18 : Ref sig .tc := ⟨.hbm, 92, rfl⟩
abbrev main_call5_v0 : Ref sig .tc := ⟨.hbm, 93, rfl⟩
abbrev main_call5_v1 : Ref sig .tc := ⟨.hbm, 94, rfl⟩
abbrev main_v38 : Ref sig .tc := ⟨.hbm, 95, rfl⟩
abbrev main_v39 : Ref sig .tc := ⟨.hbm, 96, rfl⟩
abbrev main_c_19 : Ref sig .tc := ⟨.hbm, 97, rfl⟩
abbrev main_v40 : Ref sig .tc := ⟨.hbm, 98, rfl⟩
abbrev main_v41 : Ref sig .tc := ⟨.hbm, 99, rfl⟩
abbrev main_c_20 : Ref sig .tc := ⟨.hbm, 100, rfl⟩
abbrev main_c_21 : Ref sig .tc := ⟨.hbm, 101, rfl⟩
abbrev main_call6_v0 : Ref sig .tc := ⟨.hbm, 102, rfl⟩
abbrev main_call6_v1 : Ref sig .tc := ⟨.hbm, 103, rfl⟩
abbrev main_v42 : Ref sig .tc := ⟨.hbm, 104, rfl⟩
abbrev main_v43 : Ref sig .tc := ⟨.hbm, 105, rfl⟩
abbrev main_c_22 : Ref sig .tc := ⟨.hbm, 106, rfl⟩
abbrev main_v44 : Ref sig .tc := ⟨.hbm, 107, rfl⟩
abbrev main_v45 : Ref sig .tc := ⟨.hbm, 108, rfl⟩
abbrev main_c_23 : Ref sig .tc := ⟨.hbm, 109, rfl⟩
abbrev main_c_24 : Ref sig .tc := ⟨.hbm, 110, rfl⟩
abbrev main_call7_v0 : Ref sig .tc := ⟨.hbm, 111, rfl⟩
abbrev main_call7_v1 : Ref sig .tc := ⟨.hbm, 112, rfl⟩
abbrev main_v46 : Ref sig .tc := ⟨.hbm, 113, rfl⟩
abbrev main_v47 : Ref sig .tc := ⟨.hbm, 114, rfl⟩
abbrev main_c_25 : Ref sig .tc := ⟨.hbm, 115, rfl⟩
abbrev main_v48 : Ref sig .tc := ⟨.hbm, 116, rfl⟩
abbrev main_v49 : Ref sig .tc := ⟨.hbm, 117, rfl⟩
abbrev main_c_26 : Ref sig .tc := ⟨.hbm, 118, rfl⟩
abbrev main_c_27 : Ref sig .tc := ⟨.hbm, 119, rfl⟩
abbrev main_call8_v0 : Ref sig .tc := ⟨.hbm, 120, rfl⟩
abbrev main_call8_v1 : Ref sig .tc := ⟨.hbm, 121, rfl⟩
abbrev main_v50 : Ref sig .tc := ⟨.hbm, 122, rfl⟩
abbrev main_v51 : Ref sig .tc := ⟨.hbm, 123, rfl⟩
abbrev main_c_28 : Ref sig .tc := ⟨.hbm, 124, rfl⟩
abbrev main_v52 : Ref sig .tc := ⟨.hbm, 125, rfl⟩
abbrev main_v53 : Ref sig .tc := ⟨.hbm, 126, rfl⟩
abbrev main_c_29 : Ref sig .tc := ⟨.hbm, 127, rfl⟩
abbrev main_c_30 : Ref sig .tc := ⟨.hbm, 128, rfl⟩
abbrev main_call9_v0 : Ref sig .tc := ⟨.hbm, 129, rfl⟩
abbrev main_call9_v1 : Ref sig .tc := ⟨.hbm, 130, rfl⟩
abbrev main_v54 : Ref sig .tc := ⟨.hbm, 131, rfl⟩
abbrev main_v55 : Ref sig .tc := ⟨.hbm, 132, rfl⟩
abbrev main_c_31 : Ref sig .tc := ⟨.hbm, 133, rfl⟩
abbrev main_v56 : Ref sig .tc := ⟨.hbm, 134, rfl⟩
abbrev main_v57 : Ref sig .tc := ⟨.hbm, 135, rfl⟩
abbrev main_c_32 : Ref sig .tc := ⟨.hbm, 136, rfl⟩
abbrev main_c_33 : Ref sig .tc := ⟨.hbm, 137, rfl⟩
abbrev main_call10_v0 : Ref sig .tc := ⟨.hbm, 138, rfl⟩
abbrev main_call10_v1 : Ref sig .tc := ⟨.hbm, 139, rfl⟩
abbrev main_v58 : Ref sig .tc := ⟨.hbm, 140, rfl⟩
abbrev main_v59 : Ref sig .tc := ⟨.hbm, 141, rfl⟩
abbrev main_c_34 : Ref sig .tc := ⟨.hbm, 142, rfl⟩
abbrev main_v60 : Ref sig .tc := ⟨.hbm, 143, rfl⟩
abbrev main_v61 : Ref sig .tc := ⟨.hbm, 144, rfl⟩
abbrev main_c_35 : Ref sig .tc := ⟨.hbm, 145, rfl⟩
abbrev main_c_36 : Ref sig .tc := ⟨.hbm, 146, rfl⟩
abbrev main_call11_v0 : Ref sig .tc := ⟨.hbm, 147, rfl⟩
abbrev main_call11_v1 : Ref sig .tc := ⟨.hbm, 148, rfl⟩
abbrev main_v62 : Ref sig .tc := ⟨.hbm, 149, rfl⟩
abbrev main_v63 : Ref sig .tc := ⟨.hbm, 150, rfl⟩
abbrev main_c_37 : Ref sig .tc := ⟨.hbm, 151, rfl⟩
abbrev main_v64 : Ref sig .tc := ⟨.hbm, 152, rfl⟩
abbrev main_v65 : Ref sig .tc := ⟨.hbm, 153, rfl⟩
abbrev main_c_38 : Ref sig .tc := ⟨.hbm, 154, rfl⟩
abbrev main_c_39 : Ref sig .tc := ⟨.hbm, 155, rfl⟩
abbrev main_call12_v0 : Ref sig .tc := ⟨.hbm, 156, rfl⟩
abbrev main_call12_v1 : Ref sig .tc := ⟨.hbm, 157, rfl⟩
abbrev main_v66 : Ref sig .tc := ⟨.hbm, 158, rfl⟩
abbrev main_v67 : Ref sig .tc := ⟨.hbm, 159, rfl⟩
abbrev main_c_40 : Ref sig .tc := ⟨.hbm, 160, rfl⟩
abbrev main_v68 : Ref sig .tc := ⟨.hbm, 161, rfl⟩
abbrev main_v69 : Ref sig .tc := ⟨.hbm, 162, rfl⟩
abbrev main_c_41 : Ref sig .tc := ⟨.hbm, 163, rfl⟩
abbrev main_c_42 : Ref sig .tc := ⟨.hbm, 164, rfl⟩
abbrev main_call13_v0 : Ref sig .tc := ⟨.hbm, 165, rfl⟩
abbrev main_call13_v1 : Ref sig .tc := ⟨.hbm, 166, rfl⟩
abbrev main_v70 : Ref sig .tc := ⟨.hbm, 167, rfl⟩
abbrev main_v71 : Ref sig .tc := ⟨.hbm, 168, rfl⟩
abbrev main_c_43 : Ref sig .tc := ⟨.hbm, 169, rfl⟩
abbrev main_v72 : Ref sig .tc := ⟨.hbm, 170, rfl⟩
abbrev main_v73 : Ref sig .tc := ⟨.hbm, 171, rfl⟩
abbrev main_c_44 : Ref sig .tc := ⟨.hbm, 172, rfl⟩
abbrev main_c_45 : Ref sig .tc := ⟨.hbm, 173, rfl⟩
abbrev main_call14_v0 : Ref sig .tc := ⟨.hbm, 174, rfl⟩
abbrev main_call14_v1 : Ref sig .tc := ⟨.hbm, 175, rfl⟩
abbrev main_v74 : Ref sig .tc := ⟨.hbm, 176, rfl⟩
abbrev main_v75 : Ref sig .tc := ⟨.hbm, 177, rfl⟩
abbrev main_c_46 : Ref sig .tc := ⟨.hbm, 178, rfl⟩
abbrev main_v76 : Ref sig .tc := ⟨.hbm, 179, rfl⟩
abbrev main_v77 : Ref sig .tc := ⟨.hbm, 180, rfl⟩
abbrev main_c_47 : Ref sig .tc := ⟨.hbm, 181, rfl⟩
abbrev main_c_48 : Ref sig .tc := ⟨.hbm, 182, rfl⟩
abbrev main_call15_v0 : Ref sig .tc := ⟨.hbm, 183, rfl⟩
abbrev main_call15_v1 : Ref sig .tc := ⟨.hbm, 184, rfl⟩
abbrev main_v78 : Ref sig .tc := ⟨.hbm, 185, rfl⟩
abbrev main_v79 : Ref sig .tc := ⟨.hbm, 186, rfl⟩
abbrev main_c_49 : Ref sig .tc := ⟨.hbm, 187, rfl⟩
abbrev main_v80 : Ref sig .tc := ⟨.hbm, 188, rfl⟩
abbrev main_v81 : Ref sig .tc := ⟨.hbm, 189, rfl⟩
abbrev main_call16_v0 : Ref sig .tc := ⟨.hbm, 190, rfl⟩
abbrev main_v82 : Ref sig .tc := ⟨.hbm, 191, rfl⟩
abbrev main_cst : Ref sig .tc := ⟨.hbm, 192, rfl⟩
abbrev main_v83 : Ref sig .tc := ⟨.hbm, 193, rfl⟩
abbrev main_c_50 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_call17_v0 : Ref sig .tc := ⟨.hbm, 198, rfl⟩
abbrev main_v87 : Ref sig .tc := ⟨.hbm, 199, rfl⟩
abbrev main_c_51 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_call18_v0 : Ref sig .tc := ⟨.hbm, 204, rfl⟩
abbrev main_v91 : Ref sig .tc := ⟨.hbm, 205, rfl⟩
abbrev main_c_52 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_call19_v0 : Ref sig .tc := ⟨.hbm, 210, rfl⟩
abbrev main_v95 : Ref sig .tc := ⟨.hbm, 211, rfl⟩
abbrev main_c_53 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_call20_v0 : Ref sig .tc := ⟨.hbm, 216, rfl⟩
abbrev main_v99 : Ref sig .tc := ⟨.hbm, 217, rfl⟩
abbrev main_c_54 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_call21_v0 : Ref sig .tc := ⟨.hbm, 222, rfl⟩
abbrev main_v103 : Ref sig .tc := ⟨.hbm, 223, rfl⟩
abbrev main_c_55 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_call22_v0 : Ref sig .tc := ⟨.hbm, 228, rfl⟩
abbrev main_v107 : Ref sig .tc := ⟨.hbm, 229, rfl⟩
abbrev main_c_56 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_call23_v0 : Ref sig .tc := ⟨.hbm, 234, rfl⟩
abbrev main_v111 : Ref sig .tc := ⟨.hbm, 235, rfl⟩
abbrev main_c_57 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_call24_v0 : Ref sig .tc := ⟨.hbm, 240, rfl⟩
abbrev main_v115 : Ref sig .tc := ⟨.hbm, 241, rfl⟩
abbrev main_c_58 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_call25_v0 : Ref sig .tc := ⟨.hbm, 246, rfl⟩
abbrev main_v119 : Ref sig .tc := ⟨.hbm, 247, rfl⟩
abbrev main_c_59 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_call26_v0 : Ref sig .tc := ⟨.hbm, 252, rfl⟩
abbrev main_v123 : Ref sig .tc := ⟨.hbm, 253, rfl⟩
abbrev main_c_60 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_call27_v0 : Ref sig .tc := ⟨.hbm, 258, rfl⟩
abbrev main_v127 : Ref sig .tc := ⟨.hbm, 259, rfl⟩
abbrev main_c_61 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_call28_v0 : Ref sig .tc := ⟨.hbm, 264, rfl⟩
abbrev main_v131 : Ref sig .tc := ⟨.hbm, 265, rfl⟩
abbrev main_c_62 : Ref sig .tc := ⟨.hbm, 266, rfl⟩
abbrev main_v132 : Ref sig .tc := ⟨.hbm, 267, rfl⟩
abbrev main_v133 : Ref sig .tc := ⟨.hbm, 268, rfl⟩
abbrev main_v134 : Ref sig .tc := ⟨.hbm, 269, rfl⟩
abbrev main_call29_v0 : Ref sig .tc := ⟨.hbm, 270, rfl⟩
abbrev main_v135 : Ref sig .tc := ⟨.hbm, 271, rfl⟩
abbrev main_c_63 : Ref sig .tc := ⟨.hbm, 272, rfl⟩
abbrev main_v136 : Ref sig .tc := ⟨.hbm, 273, rfl⟩
abbrev main_v137 : Ref sig .tc := ⟨.hbm, 274, rfl⟩
abbrev main_v138 : Ref sig .tc := ⟨.hbm, 275, rfl⟩
abbrev main_call30_v0 : Ref sig .tc := ⟨.hbm, 276, rfl⟩
abbrev main_v139 : Ref sig .tc := ⟨.hbm, 277, rfl⟩
abbrev main_c_64 : Ref sig .tc := ⟨.hbm, 278, rfl⟩
abbrev main_v140 : Ref sig .tc := ⟨.hbm, 279, rfl⟩
abbrev main_v141 : Ref sig .tc := ⟨.hbm, 280, rfl⟩
abbrev main_v142 : Ref sig .tc := ⟨.hbm, 281, rfl⟩
abbrev main_call31_v0 : Ref sig .tc := ⟨.hbm, 282, rfl⟩
abbrev main_v143 : Ref sig .tc := ⟨.hbm, 283, rfl⟩
abbrev main_c_65 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_call32_v0 : Ref sig .tc := ⟨.hbm, 288, rfl⟩
abbrev main_v147 : Ref sig .tc := ⟨.hbm, 289, rfl⟩
abbrev main_c_66 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_call33_v0 : Ref sig .tc := ⟨.hbm, 294, rfl⟩
abbrev main_v151 : Ref sig .tc := ⟨.hbm, 295, rfl⟩
abbrev main_c_67 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_call34_v0 : Ref sig .tc := ⟨.hbm, 300, rfl⟩
abbrev main_v155 : Ref sig .tc := ⟨.hbm, 301, rfl⟩
abbrev main_c_68 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_call35_v0 : Ref sig .tc := ⟨.hbm, 306, rfl⟩
abbrev main_v159 : Ref sig .tc := ⟨.hbm, 307, rfl⟩
abbrev main_c_69 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_call36_v0 : Ref sig .tc := ⟨.hbm, 312, rfl⟩
abbrev main_v163 : Ref sig .tc := ⟨.hbm, 313, rfl⟩
abbrev main_c_70 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_call37_v0 : Ref sig .tc := ⟨.hbm, 318, rfl⟩
abbrev main_v167 : Ref sig .tc := ⟨.hbm, 319, rfl⟩
abbrev main_c_71 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_call38_v0 : Ref sig .tc := ⟨.hbm, 324, rfl⟩
abbrev main_v171 : Ref sig .tc := ⟨.hbm, 325, rfl⟩
abbrev main_c_72 : Ref sig .tc := ⟨.hbm, 326, rfl⟩
abbrev main_v172 : Ref sig .tc := ⟨.hbm, 327, rfl⟩
abbrev main_v173 : Ref sig .tc := ⟨.hbm, 328, rfl⟩
abbrev main_v174 : Ref sig .tc := ⟨.hbm, 329, rfl⟩
abbrev main_call39_v0 : Ref sig .tc := ⟨.hbm, 330, rfl⟩
abbrev main_v175 : Ref sig .tc := ⟨.hbm, 331, rfl⟩
abbrev main_c_73 : Ref sig .tc := ⟨.hbm, 332, rfl⟩
abbrev main_v176 : Ref sig .tc := ⟨.hbm, 333, rfl⟩
abbrev main_v177 : Ref sig .tc := ⟨.hbm, 334, rfl⟩
abbrev main_v178 : Ref sig .tc := ⟨.hbm, 335, rfl⟩
abbrev main_call40_v0 : Ref sig .tc := ⟨.hbm, 336, rfl⟩
abbrev main_v179 : Ref sig .tc := ⟨.hbm, 337, rfl⟩
abbrev main_c_74 : Ref sig .tc := ⟨.hbm, 338, rfl⟩
abbrev main_v180 : Ref sig .tc := ⟨.hbm, 339, rfl⟩
abbrev main_v181 : Ref sig .tc := ⟨.hbm, 340, rfl⟩
abbrev main_v182 : Ref sig .tc := ⟨.hbm, 341, rfl⟩
abbrev main_call41_v0 : Ref sig .tc := ⟨.hbm, 342, rfl⟩
abbrev main_v183 : Ref sig .tc := ⟨.hbm, 343, rfl⟩
abbrev main_c_75 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_call42_v0 : Ref sig .tc := ⟨.hbm, 348, rfl⟩
abbrev main_v187 : Ref sig .tc := ⟨.hbm, 349, rfl⟩
abbrev main_c_76 : Ref sig .tc := ⟨.hbm, 350, rfl⟩
abbrev main_v188 : Ref sig .tc := ⟨.hbm, 351, rfl⟩
abbrev main_v189 : Ref sig .tc := ⟨.hbm, 352, rfl⟩
abbrev main_v190 : Ref sig .tc := ⟨.hbm, 353, rfl⟩
abbrev main_call43_v0 : Ref sig .tc := ⟨.hbm, 354, rfl⟩
abbrev main_v191 : Ref sig .tc := ⟨.hbm, 355, rfl⟩
abbrev main_c_77 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_call44_v0 : Ref sig .tc := ⟨.hbm, 360, rfl⟩
abbrev main_v195 : Ref sig .tc := ⟨.hbm, 361, rfl⟩
abbrev main_c_78 : Ref sig .tc := ⟨.hbm, 362, rfl⟩
abbrev main_v196 : Ref sig .tc := ⟨.hbm, 363, rfl⟩
abbrev main_v197 : Ref sig .tc := ⟨.hbm, 364, rfl⟩
abbrev main_v198 : Ref sig .tc := ⟨.hbm, 365, rfl⟩
abbrev main_call45_v0 : Ref sig .tc := ⟨.hbm, 366, rfl⟩
abbrev main_v199 : Ref sig .tc := ⟨.hbm, 367, rfl⟩
abbrev main_c_79 : Ref sig .tc := ⟨.hbm, 368, rfl⟩
abbrev main_v200 : Ref sig .tc := ⟨.hbm, 369, rfl⟩
abbrev main_v201 : Ref sig .tc := ⟨.hbm, 370, rfl⟩
abbrev main_v202 : Ref sig .tc := ⟨.hbm, 371, rfl⟩
abbrev main_call46_v0 : Ref sig .tc := ⟨.hbm, 372, rfl⟩
abbrev main_v203 : Ref sig .tc := ⟨.hbm, 373, rfl⟩
abbrev main_c_80 : Ref sig .tc := ⟨.hbm, 374, rfl⟩
abbrev main_v204 : Ref sig .tc := ⟨.hbm, 375, rfl⟩
abbrev main_v205 : Ref sig .tc := ⟨.hbm, 376, rfl⟩
abbrev main_v206 : Ref sig .tc := ⟨.hbm, 377, rfl⟩
abbrev main_call47_v0 : Ref sig .tc := ⟨.hbm, 378, rfl⟩
abbrev main_v207 : Ref sig .tc := ⟨.hbm, 379, rfl⟩
abbrev main_c_81 : Ref sig .tc := ⟨.hbm, 380, rfl⟩
abbrev main_v208 : Ref sig .tc := ⟨.hbm, 381, rfl⟩
abbrev main_v209 : Ref sig .tc := ⟨.hbm, 382, rfl⟩
abbrev main_v210 : Ref sig .tc := ⟨.hbm, 383, rfl⟩
abbrev main_call48_v0 : Ref sig .tc := ⟨.hbm, 384, rfl⟩
abbrev main_v211 : Ref sig .tc := ⟨.hbm, 385, rfl⟩
abbrev main_cst_82 : Ref sig .tc := ⟨.hbm, 386, rfl⟩
abbrev main_call49_v0 : Ref sig .tc := ⟨.hbm, 387, rfl⟩
abbrev main_call49_v1 : Ref sig .tc := ⟨.hbm, 388, rfl⟩
abbrev main_v212 : Ref sig .tc := ⟨.hbm, 389, rfl⟩
abbrev main_v213 : Ref sig .tc := ⟨.hbm, 390, rfl⟩
abbrev main_v214 : Ref sig .tc := ⟨.hbm, 391, rfl⟩
abbrev main_v215 : Ref sig .tc := ⟨.hbm, 392, rfl⟩
abbrev main_v216 : Ref sig .tc := ⟨.hbm, 393, rfl⟩
abbrev main_cst_83 : Ref sig .tc := ⟨.hbm, 394, rfl⟩
abbrev main_v217 : Ref sig .tc := ⟨.hbm, 395, rfl⟩
abbrev main_v218 : Ref sig .tc := ⟨.hbm, 396, rfl⟩
abbrev main_v219 : Ref sig .tc := ⟨.hbm, 397, rfl⟩
abbrev main_v220 : Ref sig .tc := ⟨.hbm, 398, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x2x4x64 : Shape := ⟨5, ![2, 8192, 2, 4, 64]⟩
abbrev S2x8192x2x64 : Shape := ⟨4, ![2, 8192, 2, 64]⟩
abbrev S32x8 : Shape := ⟨2, ![32, 8]⟩
abbrev S8 : Shape := ⟨1, ![8]⟩
abbrev S8x32 : Shape := ⟨2, ![8, 32]⟩
abbrev S2x4x32 : Shape := ⟨3, ![2, 4, 32]⟩
abbrev S2x4 : Shape := ⟨2, ![2, 4]⟩
abbrev S2x64x128x2x4x64 : Shape := ⟨6, ![2, 64, 128, 2, 4, 64]⟩
abbrev S2x64x128x2x64 : Shape := ⟨5, ![2, 64, 128, 2, 64]⟩
abbrev S2x1x128x2x64 : Shape := ⟨5, ![2, 1, 128, 2, 64]⟩
abbrev S_ : Shape := ⟨0, ![]⟩
abbrev S2x63x128x2x64 : Shape := ⟨5, ![2, 63, 128, 2, 64]⟩
abbrev S2x64x256x2x64 : Shape := ⟨5, ![2, 64, 256, 2, 64]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S128x256x1 : Shape := ⟨3, ![128, 256, 1]⟩
abbrev S2x4x128x256 : Shape := ⟨4, ![2, 4, 128, 256]⟩
abbrev S2x64x2x256x128x4 : Shape := ⟨6, ![2, 64, 2, 256, 128, 4]⟩
abbrev S2x64x2x4x128x256 : Shape := ⟨6, ![2, 64, 2, 4, 128, 256]⟩
abbrev S1x1x2x4x128x256 : Shape := ⟨6, ![1, 1, 2, 4, 128, 256]⟩
abbrev S64x1x1x128x256 : Shape := ⟨5, ![64, 1, 1, 128, 256]⟩
abbrev S2x4x1x1 : Shape := ⟨4, ![2, 4, 1, 1]⟩
abbrev S2x64x2x4x128 : Shape := ⟨5, ![2, 64, 2, 4, 128]⟩
abbrev S2x64x2x4x128x1 : Shape := ⟨6, ![2, 64, 2, 4, 128, 1]⟩
abbrev S1x1x2x4x1x1 : Shape := ⟨6, ![1, 1, 2, 4, 1, 1]⟩
abbrev S2x64x2x64x4x128 : Shape := ⟨6, ![2, 64, 2, 64, 4, 128]⟩
abbrev S16384x512 : Shape := ⟨2, ![16384, 512]⟩

abbrev nBuf : Space → Nat
  | .hbm => 131
  | .vmem => 0
  | .smem => 0
  | _ => 0

abbrev hbmTy0_0 (i : Nat) : BufTy := match i % 128 with
  | 0 => ⟨S2x8192x2x4x64, .f32⟩
  | 1 => ⟨S2x8192x2x64, .f32⟩
  | 2 => ⟨S2x8192x2x64, .f32⟩
  | 3 => ⟨S32x8, .f32⟩
  | 4 => ⟨S8, .f32⟩
  | 5 => ⟨S8x32, .f32⟩
  | 6 => ⟨S2x4x32, .f32⟩
  | 7 => ⟨S2x4, .f32⟩
  | 8 => ⟨S2x64x128x2x4x64, .f32⟩
  | 9 => ⟨S2x64x128x2x64, .f32⟩
  | 10 => ⟨S2x64x128x2x64, .f32⟩
  | 11 => ⟨S2x1x128x2x64, .f32⟩
  | 12 => ⟨S_, .f32⟩
  | 13 => ⟨S2x1x128x2x64, .f32⟩
  | 14 => ⟨S2x63x128x2x64, .f32⟩
  | 15 => ⟨S2x64x128x2x64, .f32⟩
  | 16 => ⟨S2x64x256x2x64, .f32⟩
  | 17 => ⟨S2x63x128x2x64, .f32⟩
  | 18 => ⟨S2x64x128x2x64, .f32⟩
  | 19 => ⟨S2x64x256x2x64, .f32⟩
  | 20 => ⟨S256, .i32⟩
  | 21 => ⟨S1x256, .i32⟩
  | 22 => ⟨S128, .i32⟩
  | 23 => ⟨S128x1, .i32⟩
  | 24 => ⟨S_, .i32⟩
  | 25 => ⟨S128x1, .i32⟩
  | 26 => ⟨S128x1, .i32⟩
  | 27 => ⟨S128x256, .i32⟩
  | 28 => ⟨S128x256, .i32⟩
  | 29 => ⟨S128x256, .i32⟩
  | 30 => ⟨S64, .i32⟩
  | 31 => ⟨S64x1x1, .i32⟩
  | 32 => ⟨S_, .i32⟩
  | 33 => ⟨S128x256, .i32⟩
  | 34 => ⟨S128x256, .i1⟩
  | 35 => ⟨S_, .i32⟩
  | 36 => ⟨S128x256, .i32⟩
  | 37 => ⟨S128x256, .i1⟩
  | 38 => ⟨S128x256, .i1⟩
  | 39 => ⟨S_, .i32⟩
  | 40 => ⟨S64x1x1, .i32⟩
  | 41 => ⟨S64x1x1, .i32⟩
  | 42 => ⟨S_, .i32⟩
  | 43 => ⟨S64x1x1, .i32⟩
  | 44 => ⟨S64x1x1, .i32⟩
  | 45 => ⟨S1x1x256, .i32⟩
  | 46 => ⟨S64x1x256, .i32⟩
  | 47 => ⟨S64x1x256, .i32⟩
  | 48 => ⟨S64x1x256, .i32⟩
  | 49 => ⟨S_, .i32⟩
  | 50 => ⟨S64x1x256, .i32⟩
  | 51 => ⟨S64x1x256, .i1⟩
  | 52 => ⟨S1x128x256, .i1⟩
  | 53 => ⟨S64x128x256, .i1⟩
  | 54 => ⟨S64x128x256, .i1⟩
  | 55 => ⟨S64x128x256, .i1⟩
  | 56 => ⟨S_, .i32⟩
  | 57 => ⟨S128x256, .i32⟩
  | 58 => ⟨S128x256, .i32⟩
  | 59 => ⟨S_, .i32⟩
  | 60 => ⟨S128x256, .i32⟩
  | 61 => ⟨S128x256, .i32⟩
  | 62 => ⟨S128x256, .f32⟩
  | 63 => ⟨S_, .f32⟩
  | 64 => ⟨S128x256, .f32⟩
  | 65 => ⟨S128x256, .f32⟩
  | 66 => ⟨S128x256, .f32⟩
  | 67 => ⟨S_, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S128x256, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i1⟩
  | 80 => ⟨S_, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i32⟩
  | 90 => ⟨S128x256, .i32⟩
  | 91 => ⟨S128x256x1, .i32⟩
  | 92 => ⟨S2x4x128x256, .f32⟩
  | 93 => ⟨S2x64x2x256x128x4, .f32⟩
  | 94 => ⟨S2x64x2x4x128x256, .f32⟩
  | 95 => ⟨S_, .f32⟩
  | 96 => ⟨S2x64x2x4x128x256, .f32⟩
  | 97 => ⟨S2x64x2x4x128x256, .f32⟩
  | 98 => ⟨S1x1x2x4x128x256, .f32⟩
  | 99 => ⟨S2x64x2x4x128x256, .f32⟩
  | 100 => ⟨S2x64x2x4x128x256, .f32⟩
  | 101 => ⟨S64x1x1x128x256, .i1⟩
  | 102 => ⟨S_, .f32⟩
  | 103 => ⟨S_, .f32⟩
  | 104 => ⟨S2x64x2x4x128x256, .i1⟩
  | 105 => ⟨S2x64x2x4x128x256, .f32⟩
  | 106 => ⟨S2x64x2x4x128x256, .f32⟩
  | 107 => ⟨S2x4x1x1, .f32⟩
  | 108 => ⟨S_, .f32⟩
  | 109 => ⟨S2x64x2x4x128, .f32⟩
  | 110 => ⟨S2x64x2x4x128x1, .f32⟩
  | 111 => ⟨S1x1x2x4x1x1, .f32⟩
  | 112 => ⟨S2x64x2x4x128x1, .f32⟩
  | 113 => ⟨S2x64x2x4x128x1, .f32⟩
  | 114 => ⟨S2x64x2x4x128x256, .f32⟩
  | 115 => ⟨S2x64x2x4x128x256, .f32⟩
  | 116 => ⟨S2x64x2x4x128x256, .f32⟩
  | 117 => ⟨S_, .f32⟩
  | 118 => ⟨S2x64x2x4x128, .f32⟩
  | 119 => ⟨S2x64x2x4x128x1, .f32⟩
  | 120 => ⟨S1x1x2x4x1x1, .f32⟩
  | 121 => ⟨S2x64x2x4x128x1, .f32⟩
  | 122 => ⟨S2x64x2x4x128x1, .f32⟩
  | 123 => ⟨S2x64x2x4x128x1, .f32⟩
  | 124 => ⟨S2x64x2x4x128x1, .f32⟩
  | 125 => ⟨S2x64x2x4x128x256, .f32⟩
  | 126 => ⟨S2x64x2x4x128x256, .f32⟩
  | 127 => ⟨S2x64x2x64x4x128, .f32⟩
  | _ => ⟨S2x8192x2x4x64, .f32⟩

abbrev hbmTy0_1 (i : Nat) : BufTy := match i % 128 with
  | 0 => ⟨S2x64x128x2x4x64, .f32⟩
  | 1 => ⟨S16384x512, .f32⟩
  | 2 => ⟨S16384x512, .bf16⟩
  | _ => ⟨S2x8192x2x4x64, .f32⟩

abbrev hbmTy (i : Nat) : BufTy := match i / 128 with
  | 0 => hbmTy0_0 i
  | 1 => hbmTy0_1 i
  | _ => ⟨S2x8192x2x4x64, .f32⟩

abbrev bufTy : (tb : Table) → Fin (tcTables nBuf tb) → BufTy
  | .hbm, ⟨i, _⟩ => hbmTy i
  | _, _ => ⟨S2x8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_10 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_18 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Ffn.lean ====
abbrev S2x8192x1024 : Shape := ⟨3, ![2, 8192, 1024]⟩
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1024x1024 : Shape := ⟨2, ![1024, 1024]⟩
abbrev S17408x1024 : Shape := ⟨2, ![17408, 1024]⟩
abbrev S1x1024 : Shape := ⟨2, ![1, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S2x8192x1024 : Shape := ⟨3, ![2, 8192, 1024]⟩
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S128x8 : Shape := ⟨2, ![128, 8]⟩
abbrev S128x8x1 : Shape := ⟨3, ![128, 8, 1]⟩
abbrev S128x8x2816 : Shape := ⟨3, ![128, 8, 2816]⟩
abbrev S16384x1024 : Shape := ⟨2, ![16384, 1024]⟩
abbrev S1024x1024 : Shape := ⟨2, ![1024, 1024]⟩
abbrev S17408x1024 : Shape := ⟨2, ![17408, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S2x8192x1024, .f32⟩
  | .hbm, ⟨36, _⟩ => ⟨S128x8x1024, .f32⟩
  | .hbm, ⟨37, _⟩ => ⟨S_, .f32⟩
  | .hbm, ⟨38, _⟩ => ⟨S128x8, .f32⟩
  | .hbm, ⟨39, _⟩ => ⟨S128x8x1, .f32⟩
  | .hbm, ⟨40, _⟩ => ⟨S_, .f32⟩
  | .hbm, ⟨41, _⟩ => ⟨S128x8x1, .f32⟩
  | .hbm, ⟨42, _⟩ => ⟨S128x8x1, .f32⟩
  | .hbm, ⟨43, _⟩ => ⟨S_, .f32⟩
  | .hbm, ⟨44, _⟩ => ⟨S128x8x1, .f32⟩
  | .hbm, ⟨45, _⟩ => ⟨S128x8x1, .f32⟩
  | .hbm, ⟨46, _⟩ => ⟨S128x8x1, .f32⟩
  | .hbm, ⟨47, _⟩ => ⟨S128x8x1024, .f32⟩
  | .hbm, ⟨48, _⟩ => ⟨S128x8x1024, .f32⟩
  | .hbm, ⟨49, _⟩ => ⟨S1x1x1024, .f32⟩
  | .hbm, ⟨50, _⟩ => ⟨S128x8x1024, .f32⟩
  | .hbm, ⟨51, _⟩ => ⟨S128x8x1024, .f32⟩
  | .hbm, ⟨52, _⟩ => ⟨S128x8x2816, .f32⟩
  | .hbm, ⟨53, _⟩ => ⟨S128x8x2816, .f32⟩
  | .hbm, ⟨54, _⟩ => ⟨S128x8x2816, .f32⟩
  | .hbm, ⟨55, _⟩ => ⟨S_, .f32⟩
  | .hbm, ⟨56, _⟩ => ⟨S128x8x2816, .f32⟩
  | .hbm, ⟨57, _⟩ => ⟨S128x8x2816, .f32⟩
  | .hbm, ⟨58, _⟩ => ⟨S_, .f32⟩
  | .hbm, ⟨59, _⟩ => ⟨S128x8x2816, .f32⟩
  | .hbm, ⟨60, _⟩ => ⟨S128x8x2816, .f32⟩
  | .hbm, ⟨61, _⟩ => ⟨S128x8x2816, .f32⟩
  | .hbm, ⟨62, _⟩ => ⟨S128x8x2816, .f32⟩
  | .hbm, ⟨63, _⟩ => ⟨S128x8x2816, .f32⟩
  | .hbm, ⟨64, _⟩ => ⟨S128x8x1024, .f32⟩
  | .hbm, ⟨65, _⟩ => ⟨S128x8x1024, .f32⟩
  | .hbm, ⟨66, _⟩ => ⟨S16384x1024, .f32⟩
  | .hbm, ⟨67, _⟩ => ⟨S1024x1024, .f32⟩
  | .hbm, ⟨68, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== OutOdd.lean ====
abbrev S2x8192x1024 : Shape := ⟨3, ![2, 8192, 1024]⟩
abbrev S128x8x1024 : Shape := ⟨3, ![128, 8, 1024]⟩
abbrev S1024x1024 : Shape := ⟨2, ![1024, 1024]⟩
abbrev S16384x1024 : Shape := ⟨2, ![16384, 1024]⟩
abbrev S17408x1024 : Shape := ⟨2, ![17408, 1024]⟩
abbrev S512x1024 : Shape := ⟨2, ![512, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x8192x1024, .f32⟩
  | .hbm, ⟨3, _⟩ => ⟨S128x8x1024, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S17408x1024, .f32⟩
  | .hbm, ⟨8, _⟩ => ⟨S16384x1024, .f32⟩
  | .hbm, ⟨9, _⟩ => ⟨S1024x1024, .f32⟩
  | .hbm, ⟨10, _⟩ => ⟨S17408x1024, .f32⟩
  | .hbm, ⟨11, _⟩ => ⟨S17408x1024, .bf16⟩
  | .hbm, ⟨12, _⟩ => ⟨S1024x1024, .bf16⟩
  | .hbm, ⟨13, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutOddReferenceIdeal.lean ====
abbrev S2x8192x1024 : Shape := ⟨3, ![2, 8192, 1024]⟩
abbrev S128x8x1024 : Shape := ⟨3, ![128, 8, 1024]⟩
abbrev S1024x1024 : Shape := ⟨2, ![1024, 1024]⟩
abbrev S16384x1024 : Shape := ⟨2, ![16384, 1024]⟩
abbrev S17408x1024 : Shape := ⟨2, ![17408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x8192x1024, .f32⟩
  | .hbm, ⟨3, _⟩ => ⟨S128x8x1024, .f32⟩
  | .hbm, ⟨4, _⟩ => ⟨S1024x1024, .f32⟩
  | .hbm, ⟨5, _⟩ => ⟨S2x8192x1024, .f32⟩
  | .hbm, ⟨6, _⟩ => ⟨S2x8192x1024, .f32⟩
  | .hbm, ⟨7, _⟩ => ⟨S128x8x1024, .f32⟩
  | .hbm, ⟨8, _⟩ => ⟨S128x8x1024, .f32⟩
  | .hbm, ⟨9, _⟩ => ⟨S16384x1024, .f32⟩
  | .hbm, ⟨10, _⟩ => ⟨S1024x1024, .f32⟩
  | .hbm, ⟨11, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OutEven.lean ====
abbrev S2x8192x1024 : Shape := ⟨3, ![2, 8192, 1024]⟩
abbrev S128x8x1024 : Shape := ⟨3, ![128, 8, 1024]⟩
abbrev S2x8192x512 : Shape := ⟨3, ![2, 8192, 512]⟩
abbrev S128x8x512 : Shape := ⟨3, ![128, 8, 512]⟩
abbrev S1024x1024 : Shape := ⟨2, ![1024, 1024]⟩
abbrev S16384x1024 : Shape := ⟨2, ![16384, 1024]⟩
abbrev S17408x1024 : Shape := ⟨2, ![17408, 1024]⟩
abbrev S16384x512 : Shape := ⟨2, ![16384, 512]⟩
abbrev S1024x512 : Shape := ⟨2, ![1024, 512]⟩
abbrev S17408x512 : Shape := ⟨2, ![17408, 512]⟩
abbrev S512x1024 : Shape := ⟨2, ![512, 1024]⟩
abbrev S512x512 : Shape := ⟨2, ![512, 512]⟩

abbrev nBuf : Space → Nat
  | .hbm => 22
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x8192x512, .f32⟩
  | .hbm, ⟨3, _⟩ => ⟨S128x8x512, .f32⟩
  | .hbm, ⟨4, _⟩ => ⟨S2x8192x512, .f32⟩
  | .hbm, ⟨5, _⟩ => ⟨S128x8x512, .f32⟩
  | .hbm, ⟨6, _⟩ => ⟨S1024x1024, .f32⟩
  | .hbm, ⟨7, _⟩ => ⟨S1024x1024, .bf16⟩
  | .hbm, ⟨8, _⟩ => ⟨S16384x1024, .f32⟩
  | .hbm, ⟨9, _⟩ => ⟨S1024x1024, .f32⟩
  | .hbm, ⟨10, _⟩ => ⟨S17408x1024, .f32⟩
  | .hbm, ⟨11, _⟩ => ⟨S16384x512, .f32⟩
  | .hbm, ⟨12, _⟩ => ⟨S1024x512, .f32⟩
  | .hbm, ⟨13, _⟩ => ⟨S17408x512, .f32⟩
  | .hbm, ⟨14, _⟩ => ⟨S17408x512, .bf16⟩
  | .hbm, ⟨15, _⟩ => ⟨S16384x512, .f32⟩
  | .hbm, ⟨16, _⟩ => ⟨S1024x512, .f32⟩
  | .hbm, ⟨17, _⟩ => ⟨S17408x512, .f32⟩
  | .hbm, ⟨18, _⟩ => ⟨S17408x512, .bf16⟩
  | .hbm, ⟨19, _⟩ => ⟨S512x1024, .bf16⟩
  | .hbm, ⟨20, _⟩ => ⟨S512x1024, .bf16⟩
  | .hbm, ⟨21, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenReferenceIdeal.lean ====
abbrev S2x8192x1024 : Shape := ⟨3, ![2, 8192, 1024]⟩
abbrev S128x8x1024 : Shape := ⟨3, ![128, 8, 1024]⟩
abbrev S2x8192x512 : Shape := ⟨3, ![2, 8192, 512]⟩
abbrev S128x8x512 : Shape := ⟨3, ![128, 8, 512]⟩
abbrev S1024x1024 : Shape := ⟨2, ![1024, 1024]⟩
abbrev S16384x1024 : Shape := ⟨2, ![16384, 1024]⟩
abbrev S17408x1024 : Shape := ⟨2, ![17408, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x8192x512, .f32⟩
  | .hbm, ⟨3, _⟩ => ⟨S128x8x512, .f32⟩
  | .hbm, ⟨4, _⟩ => ⟨S2x8192x512, .f32⟩
  | .hbm, ⟨5, _⟩ => ⟨S128x8x512, .f32⟩
  | .hbm, ⟨6, _⟩ => ⟨S1024x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S16384x1024, .f32⟩
  | .hbm, ⟨14, _⟩ => ⟨S1024x1024, .f32⟩
  | .hbm, ⟨15, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Odd.lean ====
abbrev S2x8192x1024 : Shape := ⟨3, ![2, 8192, 1024]⟩
abbrev S128x8x1024 : Shape := ⟨3, ![128, 8, 1024]⟩
abbrev S1024 : Shape := ⟨1, ![1024]⟩
abbrev S1024x1536 : Shape := ⟨2, ![1024, 1536]⟩
abbrev S128 : Shape := ⟨1, ![128]⟩
abbrev S16384x1024 : Shape := ⟨2, ![16384, 1024]⟩
abbrev S1024x1024 : Shape := ⟨2, ![1024, 1024]⟩
abbrev S17408x1024 : Shape := ⟨2, ![17408, 1024]⟩
abbrev S1x1024 : Shape := ⟨2, ![1, 1024]⟩
abbrev S1x128 : Shape := ⟨2, ![1, 128]⟩
abbrev S17408x256 : Shape := ⟨2, ![17408, 256]⟩
abbrev S17408x512 : Shape := ⟨2, ![17408, 512]⟩
abbrev S68x1x256 : Shape := ⟨3, ![68, 1, 256]⟩
abbrev S512x1024 : Shape := ⟨2, ![512, 1024]⟩
abbrev S512x256 : Shape := ⟨2, ![512, 256]⟩
abbrev S512x512 : Shape := ⟨2, ![512, 512]⟩
abbrev S2x1x256 : Shape := ⟨3, ![2, 1, 256]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S256x128 : Shape := ⟨2, ![256, 128]⟩
abbrev S1x1x128 : Shape := ⟨3, ![1, 1, 128]⟩

abbrev nBuf : Space → Nat
  | .hbm => 19
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S1024x1536, .f32⟩
  | .hbm, ⟨4, _⟩ => ⟨S128, .f32⟩
  | .hbm, ⟨5, _⟩ => ⟨S128, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S1x1024, .f32⟩
  | .hbm, ⟨10, _⟩ => ⟨S1024x1536, .bf16⟩
  | .hbm, ⟨11, _⟩ => ⟨S1x128, .f32⟩
  | .hbm, ⟨12, _⟩ => ⟨S1x128, .f32⟩
  | .hbm, ⟨13, _⟩ => ⟨S17408x1024, .bf16⟩
  | .hbm, ⟨14, _⟩ => ⟨S17408x256, .f32⟩
  | .hbm, ⟨15, _⟩ => ⟨S17408x256, .f32⟩
  | .hbm, ⟨16, _⟩ => ⟨S17408x512, .bf16⟩
  | .hbm, ⟨17, _⟩ => ⟨S17408x512, .bf16⟩
  | .hbm, ⟨18, _⟩ => ⟨S68x1x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S2x1x256, .f32⟩
  | .local _ .vmem, ⟨17, _⟩ => ⟨S2x1x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OddIdeal.lean ====
variable {F : FTy → Type} [FloatOps F] [Named F]
def κ : String → Option EReal := fun
  | "scale" => some (((Real.sqrt 128)⁻¹ * (Real.log 2)⁻¹ : ℝ) : EReal)
  | _ => none
-- ==== OddReferenceIdeal.lean ====
abbrev S2x8192x1024 : Shape := ⟨3, ![2, 8192, 1024]⟩
abbrev S128x8x1024 : Shape := ⟨3, ![128, 8, 1024]⟩
abbrev S1024 : Shape := ⟨1, ![1024]⟩
abbrev S1024x1536 : Shape := ⟨2, ![1024, 1536]⟩
abbrev S128 : Shape := ⟨1, ![128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x1536 : Shape := ⟨3, ![2, 8192, 1536]⟩
abbrev S2x8192x256 : Shape := ⟨3, ![2, 8192, 256]⟩
abbrev S2x8192x2x4x128 : Shape := ⟨5, ![2, 8192, 2, 4, 128]⟩
abbrev S2x8192x2x4 : Shape := ⟨4, ![2, 8192, 2, 4]⟩
abbrev S2x8192x2x4x1 : Shape := ⟨5, ![2, 8192, 2, 4, 1]⟩
abbrev S1x1x1x1x128 : Shape := ⟨5, ![1, 1, 1, 1, 128]⟩
abbrev S2x8192x2x128 : Shape := ⟨4, ![2, 8192, 2, 128]⟩
abbrev S2x8192x2 : Shape := ⟨3, ![2, 8192, 2]⟩
abbrev S2x8192x2x1 : Shape := ⟨4, ![2, 8192, 2, 1]⟩
abbrev S1x1x1x128 : Shape := ⟨4, ![1, 1, 1, 128]⟩
abbrev S16384x1024 : Shape := ⟨2, ![16384, 1024]⟩
abbrev S16384x256 : Shape := ⟨2, ![16384, 256]⟩
abbrev S128x8 : Shape := ⟨2, ![128, 8]⟩
abbrev S128x8x1 : Shape := ⟨3, ![128, 8, 1]⟩
abbrev S128x8x1536 : Shape := ⟨3, ![128, 8, 1536]⟩
abbrev S128x8x256 : Shape := ⟨3, ![128, 8, 256]⟩
abbrev S128x8x2x4x128 : Shape := ⟨5, ![128, 8, 2, 4, 128]⟩
abbrev S128x8x2x4 : Shape := ⟨4, ![128, 8, 2, 4]⟩
abbrev S128x8x2x4x1 : Shape := ⟨5, ![128, 8, 2, 4, 1]⟩
abbrev S128x8x2x128 : Shape := ⟨4, ![128, 8, 2, 128]⟩
abbrev S128x8x2 : Shape := ⟨3, ![128, 8, 2]⟩
abbrev S128x8x2x1 : Shape := ⟨4, ![128, 8, 2, 1]⟩
abbrev S1024x1024 : Shape := ⟨2, ![1024, 1024]⟩
abbrev S1024x256 : Shape := ⟨2, ![1024, 256]⟩
abbrev S17408x1024 : Shape := ⟨2, ![17408, 1024]⟩
abbrev S17408x256 : Shape := ⟨2, ![17408, 256]⟩

abbrev nBuf : Space → Nat
  | .hbm => 140
  | .vmem => 0
  | .smem => 0
  | _ => 0

abbrev hbmTy0_0 (i : Nat) : BufTy := match i % 128 with
  | 0 => ⟨S2x8192x1024, .f32⟩
  | 1 => ⟨S128x8x1024, .f32⟩
  | 2 => ⟨S1024, .f32⟩
  | 3 => ⟨S1024x1536, .f32⟩
  | 4 => ⟨S128, .f32⟩
  | 5 => ⟨S128, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x1536, .f32⟩
  | 23 => ⟨S2x8192x1024, .f32⟩
  | 24 => ⟨S2x8192x256, .f32⟩
  | 25 => ⟨S2x8192x256, .f32⟩
  | 26 => ⟨S2x8192x2x4x128, .f32⟩
  | 27 => ⟨S2x8192x2x4x128, .f32⟩
  | 28 => ⟨S_, .f32⟩
  | 29 => ⟨S2x8192x2x4, .f32⟩
  | 30 => ⟨S2x8192x2x4x1, .f32⟩
  | 31 => ⟨S_, .f32⟩
  | 32 => ⟨S2x8192x2x4x1, .f32⟩
  | 33 => ⟨S2x8192x2x4x1, .f32⟩
  | 34 => ⟨S_, .f32⟩
  | 35 => ⟨S2x8192x2x4x1, .f32⟩
  | 36 => ⟨S2x8192x2x4x1, .f32⟩
  | 37 => ⟨S2x8192x2x4x1, .f32⟩
  | 38 => ⟨S2x8192x2x4x128, .f32⟩
  | 39 => ⟨S2x8192x2x4x128, .f32⟩
  | 40 => ⟨S1x1x1x1x128, .f32⟩
  | 41 => ⟨S2x8192x2x4x128, .f32⟩
  | 42 => ⟨S2x8192x2x4x128, .f32⟩
  | 43 => ⟨S2x8192x2x128, .f32⟩
  | 44 => ⟨S2x8192x2x128, .f32⟩
  | 45 => ⟨S_, .f32⟩
  | 46 => ⟨S2x8192x2, .f32⟩
  | 47 => ⟨S2x8192x2x1, .f32⟩
  | 48 => ⟨S_, .f32⟩
  | 49 => ⟨S2x8192x2x1, .f32⟩
  | 50 => ⟨S2x8192x2x1, .f32⟩
  | 51 => ⟨S_, .f32⟩
  | 52 => ⟨S2x8192x2x1, .f32⟩
  | 53 => ⟨S2x8192x2x1, .f32⟩
  | 54 => ⟨S2x8192x2x1, .f32⟩
  | 55 => ⟨S2x8192x2x128, .f32⟩
  | 56 => ⟨S2x8192x2x128, .f32⟩
  | 57 => ⟨S1x1x1x128, .f32⟩
  | 58 => ⟨S2x8192x2x128, .f32⟩
  | 59 => ⟨S2x8192x2x128, .f32⟩
  | 60 => ⟨S16384x1024, .f32⟩
  | 61 => ⟨S_, .f32⟩
  | 62 => ⟨S_, .f32⟩
  | 63 => ⟨S16384x1024, .f32⟩
  | 64 => ⟨S16384x1024, .f32⟩
  | 65 => ⟨S_, .f32⟩
  | 66 => ⟨S_, .f32⟩
  | 67 => ⟨S16384x1024, .f32⟩
  | 68 => ⟨S16384x1024, .f32⟩
  | 69 => ⟨S16384x256, .f32⟩
  | 70 => ⟨S16384x256, .f32⟩
  | 71 => ⟨S128x8x1024, .f32⟩
  | 72 => ⟨S_, .f32⟩
  | 73 => ⟨S128x8, .f32⟩
  | 74 => ⟨S128x8x1, .f32⟩
  | 75 => ⟨S_, .f32⟩
  | 76 => ⟨S128x8x1, .f32⟩
  | 77 => ⟨S128x8x1, .f32⟩
  | 78 => ⟨S_, .f32⟩
  | 79 => ⟨S128x8x1, .f32⟩
  | 80 => ⟨S128x8x1, .f32⟩
  | 81 => ⟨S128x8x1, .f32⟩
  | 82 => ⟨S128x8x1024, .f32⟩
  | 83 => ⟨S128x8x1024, .f32⟩
  | 84 => ⟨S1x1x1024, .f32⟩
  | 85 => ⟨S128x8x1024, .f32⟩
  | 86 => ⟨S128x8x1024, .f32⟩
  | 87 => ⟨S128x8x1536, .f32⟩
  | 88 => ⟨S128x8x1024, .f32⟩
  | 89 => ⟨S128x8x256, .f32⟩
  | 90 => ⟨S128x8x256, .f32⟩
  | 91 => ⟨S128x8x2x4x128, .f32⟩
  | 92 => ⟨S128x8x2x4x128, .f32⟩
  | 93 => ⟨S_, .f32⟩
  | 94 => ⟨S128x8x2x4, .f32⟩
  | 95 => ⟨S128x8x2x4x1, .f32⟩
  | 96 => ⟨S_, .f32⟩
  | 97 => ⟨S128x8x2x4x1, .f32⟩
  | 98 => ⟨S128x8x2x4x1, .f32⟩
  | 99 => ⟨S_, .f32⟩
  | 100 => ⟨S128x8x2x4x1, .f32⟩
  | 101 => ⟨S128x8x2x4x1, .f32⟩
  | 102 => ⟨S128x8x2x4x1, .f32⟩
  | 103 => ⟨S128x8x2x4x128, .f32⟩
  | 104 => ⟨S128x8x2x4x128, .f32⟩
  | 105 => ⟨S1x1x1x1x128, .f32⟩
  | 106 => ⟨S128x8x2x4x128, .f32⟩
  | 107 => ⟨S128x8x2x4x128, .f32⟩
  | 108 => ⟨S128x8x2x128, .f32⟩
  | 109 => ⟨S128x8x2x128, .f32⟩
  | 110 => ⟨S_, .f32⟩
  | 111 => ⟨S128x8x2, .f32⟩
  | 112 => ⟨S128x8x2x1, .f32⟩
  | 113 => ⟨S_, .f32⟩
  | 114 => ⟨S128x8x2x1, .f32⟩
  | 115 => ⟨S128x8x2x1, .f32⟩
  | 116 => ⟨S_, .f32⟩
  | 117 => ⟨S128x8x2x1, .f32⟩
  | 118 => ⟨S128x8x2x1, .f32⟩
  | 119 => ⟨S128x8x2x1, .f32⟩
  | 120 => ⟨S128x8x2x128, .f32⟩
  | 121 => ⟨S128x8x2x128, .f32⟩
  | 122 => ⟨S1x1x1x128, .f32⟩
  | 123 => ⟨S128x8x2x128, .f32⟩
  | 124 => ⟨S128x8x2x128, .f32⟩
  | 125 => ⟨S1024x1024, .f32⟩
  | 126 => ⟨S_, .f32⟩
  | 127 => ⟨S_, .f32⟩
  | _ => ⟨S2x8192x1024, .f32⟩

abbrev hbmTy0_1 (i : Nat) : BufTy := match i % 128 with
  | 0 => ⟨S1024x1024, .f32⟩
  | 1 => ⟨S1024x1024, .f32⟩
  | 2 => ⟨S_, .f32⟩
  | 3 => ⟨S_, .f32⟩
  | 4 => ⟨S1024x1024, .f32⟩
  | 5 => ⟨S1024x1024, .f32⟩
  | 6 => ⟨S1024x256, .f32⟩
  | 7 => ⟨S1024x256, .f32⟩
  | 8 => ⟨S17408x1024, .f32⟩
  | 9 => ⟨S17408x1024, .bf16⟩
  | 10 => ⟨S17408x256, .f32⟩
  | 11 => ⟨S17408x256, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_16 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_20 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Even.lean ====
abbrev S2x8192x1024 : Shape := ⟨3, ![2, 8192, 1024]⟩
abbrev S128x8x1024 : Shape := ⟨3, ![128, 8, 1024]⟩
abbrev S1024 : Shape := ⟨1, ![1024]⟩
abbrev S1024x2056 : Shape := ⟨2, ![1024, 2056]⟩
abbrev S64 : Shape := ⟨1, ![64]⟩
abbrev S_ : Shape := ⟨0, ![]⟩
abbrev S1024x2176 : Shape := ⟨2, ![1024, 2176]⟩
abbrev S16384x1024 : Shape := ⟨2, ![16384, 1024]⟩
abbrev S1024x1024 : Shape := ⟨2, ![1024, 1024]⟩
abbrev S17408x1024 : Shape := ⟨2, ![17408, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S512x512 : Shape := ⟨2, ![512, 512]⟩
abbrev S128x128 : Shape := ⟨2, ![128, 128]⟩
abbrev S17408x512 : Shape := ⟨2, ![17408, 512]⟩
abbrev S17408x128 : Shape := ⟨2, ![17408, 128]⟩
abbrev S17408x768 : Shape := ⟨2, ![17408, 768]⟩
abbrev S512x1024 : Shape := ⟨2, ![512, 1024]⟩
abbrev S512x128 : Shape := ⟨2, ![512, 128]⟩
abbrev S512x768 : Shape := ⟨2, ![512, 768]⟩
abbrev S512x1 : Shape := ⟨2, ![512, 1]⟩
abbrev S512x2176 : Shape := ⟨2, ![512, 2176]⟩

abbrev nBuf : Space → Nat
  | .hbm => 50
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1024, .f32⟩
  | .hbm, ⟨3, _⟩ => ⟨S1024x2056, .f32⟩
  | .hbm, ⟨4, _⟩ => ⟨S64, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S1024x2176, .f32⟩
  | .hbm, ⟨9, _⟩ => ⟨S1024x2176, .bf16⟩
  | .hbm, ⟨10, _⟩ => ⟨S16384x1024, .f32⟩
  | .hbm, ⟨11, _⟩ => ⟨S1024x1024, .f32⟩
  | .hbm, ⟨12, _⟩ => ⟨S17408x1024, .f32⟩
  | .hbm, ⟨13, _⟩ => ⟨S1x1024, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .f32⟩
  | .hbm, ⟨32, _⟩ => ⟨S512x512, .bf16⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S128x128, .f32⟩
  | .hbm, ⟨43, _⟩ => ⟨S128x128, .bf16⟩
  | .hbm, ⟨44, _⟩ => ⟨S17408x512, .bf16⟩
  | .hbm, ⟨45, _⟩ => ⟨S17408x128, .f32⟩
  | .hbm, ⟨46, _⟩ => ⟨S17408x128, .f32⟩
  | .hbm, ⟨47, _⟩ => ⟨S17408x512, .f32⟩
  | .hbm, ⟨48, _⟩ => ⟨S17408x768, .f32⟩
  | .hbm, ⟨49, _⟩ => ⟨S17408x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S512x512, .bf16⟩
  | .local _ .vmem, ⟨5, _⟩ => ⟨S128x128, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x768, .f32⟩
  | .local _ .vmem, ⟨17, _⟩ => ⟨S512x768, .f32⟩
  | .local _ .vmem, ⟨18, _⟩ => ⟨S512x128, .f32⟩
  | .local _ .vmem, ⟨19, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_v32_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== EvenReferenceIdeal.lean ====
abbrev S2x8192x1024 : Shape := ⟨3, ![2, 8192, 1024]⟩
abbrev S128x8x1024 : Shape := ⟨3, ![128, 8, 1024]⟩
abbrev S1024 : Shape := ⟨1, ![1024]⟩
abbrev S1024x2056 : Shape := ⟨2, ![1024, 2056]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2056 : Shape := ⟨3, ![2, 8192, 2056]⟩
abbrev S2x8192x512 : Shape := ⟨3, ![2, 8192, 512]⟩
abbrev S2x8192x128 : Shape := ⟨3, ![2, 8192, 128]⟩
abbrev S2x8192x768 : Shape := ⟨3, ![2, 8192, 768]⟩
abbrev S2x8192x8 : Shape := ⟨3, ![2, 8192, 8]⟩
abbrev S2x8192x2x4x64 : Shape := ⟨5, ![2, 8192, 2, 4, 64]⟩
abbrev S2x8192x2x4 : Shape := ⟨4, ![2, 8192, 2, 4]⟩
abbrev S2x8192x2x4x1 : Shape := ⟨5, ![2, 8192, 2, 4, 1]⟩
abbrev S1x1x1x1x64 : Shape := ⟨5, ![1, 1, 1, 1, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S1x1x1x64 : Shape := ⟨4, ![1, 1, 1, 64]⟩
abbrev S16384x512 : Shape := ⟨2, ![16384, 512]⟩
abbrev S16384x128 : Shape := ⟨2, ![16384, 128]⟩
abbrev S16384x768 : Shape := ⟨2, ![16384, 768]⟩
abbrev S128x8 : Shape := ⟨2, ![128, 8]⟩
abbrev S128x8x1 : Shape := ⟨3, ![128, 8, 1]⟩
abbrev S128x8x2056 : Shape := ⟨3, ![128, 8, 2056]⟩
abbrev S128x8x512 : Shape := ⟨3, ![128, 8, 512]⟩
abbrev S128x8x128 : Shape := ⟨3, ![128, 8, 128]⟩
abbrev S128x8x768 : Shape := ⟨3, ![128, 8, 768]⟩
abbrev S128x8x8 : Shape := ⟨3, ![128, 8, 8]⟩
abbrev S128x8x2x4x64 : Shape := ⟨5, ![128, 8, 2, 4, 64]⟩
abbrev S128x8x2x4 : Shape := ⟨4, ![128, 8, 2, 4]⟩
abbrev S128x8x2x4x1 : Shape := ⟨5, ![128, 8, 2, 4, 1]⟩
abbrev S128x8x2x64 : Shape := ⟨4, ![128, 8, 2, 64]⟩
abbrev S128x8x2 : Shape := ⟨3, ![128, 8, 2]⟩
abbrev S128x8x2x1 : Shape := ⟨4, ![128, 8, 2, 1]⟩
abbrev S1024x512 : Shape := ⟨2, ![1024, 512]⟩
abbrev S1024x128 : Shape := ⟨2, ![1024, 128]⟩
abbrev S1024x768 : Shape := ⟨2, ![1024, 768]⟩
abbrev S17408x512 : Shape := ⟨2, ![17408, 512]⟩
abbrev S17408x128 : Shape := ⟨2, ![17408, 128]⟩
abbrev S17408x768 : Shape := ⟨2, ![17408, 768]⟩

abbrev nBuf : Space → Nat
  | .hbm => 151
  | .vmem => 0
  | .smem => 0
  | _ => 0

abbrev hbmTy0_0 (i : Nat) : BufTy := match i % 128 with
  | 0 => ⟨S2x8192x1024, .f32⟩
  | 1 => ⟨S128x8x1024, .f32⟩
  | 2 => ⟨S1024, .f32⟩
  | 3 => ⟨S1024x2056, .f32⟩
  | 4 => ⟨S64, .f32⟩
  | 5 => ⟨S64, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x2056, .f32⟩
  | 23 => ⟨S2x8192x512, .f32⟩
  | 24 => ⟨S2x8192x128, .f32⟩
  | 25 => ⟨S2x8192x128, .f32⟩
  | 26 => ⟨S2x8192x512, .f32⟩
  | 27 => ⟨S2x8192x768, .f32⟩
  | 28 => ⟨S2x8192x8, .f32⟩
  | 29 => ⟨S2x8192x2x4x64, .f32⟩
  | 30 => ⟨S2x8192x2x4x64, .f32⟩
  | 31 => ⟨S_, .f32⟩
  | 32 => ⟨S2x8192x2x4, .f32⟩
  | 33 => ⟨S2x8192x2x4x1, .f32⟩
  | 34 => ⟨S_, .f32⟩
  | 35 => ⟨S2x8192x2x4x1, .f32⟩
  | 36 => ⟨S2x8192x2x4x1, .f32⟩
  | 37 => ⟨S_, .f32⟩
  | 38 => ⟨S2x8192x2x4x1, .f32⟩
  | 39 => ⟨S2x8192x2x4x1, .f32⟩
  | 40 => ⟨S2x8192x2x4x1, .f32⟩
  | 41 => ⟨S2x8192x2x4x64, .f32⟩
  | 42 => ⟨S2x8192x2x4x64, .f32⟩
  | 43 => ⟨S1x1x1x1x64, .f32⟩
  | 44 => ⟨S2x8192x2x4x64, .f32⟩
  | 45 => ⟨S2x8192x2x4x64, .f32⟩
  | 46 => ⟨S_, .f32⟩
  | 47 => ⟨S2x8192x2x4x64, .f32⟩
  | 48 => ⟨S2x8192x2x4x64, .f32⟩
  | 49 => ⟨S2x8192x2x64, .f32⟩
  | 50 => ⟨S2x8192x2x64, .f32⟩
  | 51 => ⟨S_, .f32⟩
  | 52 => ⟨S2x8192x2, .f32⟩
  | 53 => ⟨S2x8192x2x1, .f32⟩
  | 54 => ⟨S_, .f32⟩
  | 55 => ⟨S2x8192x2x1, .f32⟩
  | 56 => ⟨S2x8192x2x1, .f32⟩
  | 57 => ⟨S_, .f32⟩
  | 58 => ⟨S2x8192x2x1, .f32⟩
  | 59 => ⟨S2x8192x2x1, .f32⟩
  | 60 => ⟨S2x8192x2x1, .f32⟩
  | 61 => ⟨S2x8192x2x64, .f32⟩
  | 62 => ⟨S2x8192x2x64, .f32⟩
  | 63 => ⟨S1x1x1x64, .f32⟩
  | 64 => ⟨S2x8192x2x64, .f32⟩
  | 65 => ⟨S2x8192x2x64, .f32⟩
  | 66 => ⟨S_, .i32⟩
  | 67 => ⟨S_, .f32⟩
  | 68 => ⟨S2x8192x128, .f32⟩
  | 69 => ⟨S16384x512, .f32⟩
  | 70 => ⟨S16384x128, .f32⟩
  | 71 => ⟨S16384x128, .f32⟩
  | 72 => ⟨S16384x512, .f32⟩
  | 73 => ⟨S16384x768, .f32⟩
  | 74 => ⟨S16384x128, .f32⟩
  | 75 => ⟨S128x8x1024, .f32⟩
  | 76 => ⟨S_, .f32⟩
  | 77 => ⟨S128x8, .f32⟩
  | 78 => ⟨S128x8x1, .f32⟩
  | 79 => ⟨S_, .f32⟩
  | 80 => ⟨S128x8x1, .f32⟩
  | 81 => ⟨S128x8x1, .f32⟩
  | 82 => ⟨S_, .f32⟩
  | 83 => ⟨S128x8x1, .f32⟩
  | 84 => ⟨S128x8x1, .f32⟩
  | 85 => ⟨S128x8x1, .f32⟩
  | 86 => ⟨S128x8x1024, .f32⟩
  | 87 => ⟨S128x8x1024, .f32⟩
  | 88 => ⟨S1x1x1024, .f32⟩
  | 89 => ⟨S128x8x1024, .f32⟩
  | 90 => ⟨S128x8x1024, .f32⟩
  | 91 => ⟨S128x8x2056, .f32⟩
  | 92 => ⟨S128x8x512, .f32⟩
  | 93 => ⟨S128x8x128, .f32⟩
  | 94 => ⟨S128x8x128, .f32⟩
  | 95 => ⟨S128x8x512, .f32⟩
  | 96 => ⟨S128x8x768, .f32⟩
  | 97 => ⟨S128x8x8, .f32⟩
  | 98 => ⟨S128x8x2x4x64, .f32⟩
  | 99 => ⟨S128x8x2x4x64, .f32⟩
  | 100 => ⟨S_, .f32⟩
  | 101 => ⟨S128x8x2x4, .f32⟩
  | 102 => ⟨S128x8x2x4x1, .f32⟩
  | 103 => ⟨S_, .f32⟩
  | 104 => ⟨S128x8x2x4x1, .f32⟩
  | 105 => ⟨S128x8x2x4x1, .f32⟩
  | 106 => ⟨S_, .f32⟩
  | 107 => ⟨S128x8x2x4x1, .f32⟩
  | 108 => ⟨S128x8x2x4x1, .f32⟩
  | 109 => ⟨S128x8x2x4x1, .f32⟩
  | 110 => ⟨S128x8x2x4x64, .f32⟩
  | 111 => ⟨S128x8x2x4x64, .f32⟩
  | 112 => ⟨S1x1x1x1x64, .f32⟩
  | 113 => ⟨S128x8x2x4x64, .f32⟩
  | 114 => ⟨S128x8x2x4x64, .f32⟩
  | 115 => ⟨S_, .f32⟩
  | 116 => ⟨S128x8x2x4x64, .f32⟩
  | 117 => ⟨S128x8x2x4x64, .f32⟩
  | 118 => ⟨S128x8x2x64, .f32⟩
  | 119 => ⟨S128x8x2x64, .f32⟩
  | 120 => ⟨S_, .f32⟩
  | 121 => ⟨S128x8x2, .f32⟩
  | 122 => ⟨S128x8x2x1, .f32⟩
  | 123 => ⟨S_, .f32⟩
  | 124 => ⟨S128x8x2x1, .f32⟩
  | 125 => ⟨S128x8x2x1, .f32⟩
  | 126 => ⟨S_, .f32⟩
  | 127 => ⟨S128x8x2x1, .f32⟩
  | _ => ⟨S2x8192x1024, .f32⟩

abbrev hbmTy0_1 (i : Nat) : BufTy := match i % 128 with
  | 0 => ⟨S128x8x2x1, .f32⟩
  | 1 => ⟨S128x8x2x1, .f32⟩
  | 2 => ⟨S128x8x2x64, .f32⟩
  | 3 => ⟨S128x8x2x64, .f32⟩
  | 4 => ⟨S1x1x1x64, .f32⟩
  | 5 => ⟨S128x8x2x64, .f32⟩
  | 6 => ⟨S128x8x2x64, .f32⟩
  | 7 => ⟨S_, .i32⟩
  | 8 => ⟨S_, .f32⟩
  | 9 => ⟨S128x8x128, .f32⟩
  | 10 => ⟨S1024x512, .f32⟩
  | 11 => ⟨S1024x128, .f32⟩
  | 12 => ⟨S1024x128, .f32⟩
  | 13 => ⟨S1024x512, .f32⟩
  | 14 => ⟨S1024x768, .f32⟩
  | 15 => ⟨S1024x128, .f32⟩
  | 16 => ⟨S17408x512, .f32⟩
  | 17 => ⟨S17408x128, .f32⟩
  | 18 => ⟨S17408x128, .f32⟩
  | 19 => ⟨S17408x512, .f32⟩
  | 20 => ⟨S17408x768, .f32⟩
  | 21 => ⟨S17408x128, .f32⟩
  | 22 => ⟨S17408x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c : Ref sig .tc := ⟨.hbm, 66, rfl⟩
abbrev main_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_16 : Ref sig .tc := ⟨.hbm, 120, rfl⟩
abbrev main_v95 : Ref sig .tc := ⟨.hbm, 121, rfl⟩
abbrev main_v96 : Ref sig .tc := ⟨.hbm, 122, rfl⟩
abbrev main_cst_17 : Ref sig .tc := ⟨.hbm, 123, rfl⟩
abbrev main_v97 : Ref sig .tc := ⟨.hbm, 124, rfl⟩
abbrev main_v98 : Ref sig .tc := ⟨.hbm, 125, rfl⟩
abbrev main_cst_18 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_19 : Ref sig .tc := ⟨.hbm, 135, rfl⟩
abbrev main_call1_v0 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩

abbrev nD : Nat := 1
abbrev τ : Topo := Topo.v7x

variable {F : FTy → Type} [FloatOps F]
-- ==== Memkv.lean ====
abbrev S2x256x1024 : Shape := ⟨3, ![2, 256, 1024]⟩
abbrev S1024x256 : Shape := ⟨2, ![1024, 256]⟩
abbrev S64 : Shape := ⟨1, ![64]⟩
abbrev S512x1024 : Shape := ⟨2, ![512, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S_ : Shape := ⟨0, ![]⟩
abbrev S512x256 : Shape := ⟨2, ![512, 256]⟩

abbrev nBuf : Space → Nat
  | .hbm => 24
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S1024x256, .f32⟩
  | .hbm, ⟨2, _⟩ => ⟨S1024x256, .f32⟩
  | .hbm, ⟨3, _⟩ => ⟨S64, .f32⟩
  | .hbm, ⟨4, _⟩ => ⟨S512x1024, .f32⟩
  | .hbm, ⟨5, _⟩ => ⟨S1024x256, .bf16⟩
  | .hbm, ⟨6, _⟩ => ⟨S1024x256, .bf16⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x256, .f32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .f32⟩
  | .hbm, ⟨21, _⟩ => ⟨S256x256, .bf16⟩
  | .hbm, ⟨22, _⟩ => ⟨S512x256, .f32⟩
  | .hbm, ⟨23, _⟩ => ⟨S512x256, .f32⟩
  | .local _ .vmem, ⟨0, _⟩ => ⟨S512x1024, .f32⟩
  | .local _ .vmem, ⟨1, _⟩ => ⟨S1024x256, .bf16⟩
  | .local _ .vmem, ⟨2, _⟩ => ⟨S1024x256, .bf16⟩
  | .local _ .vmem, ⟨3, _⟩ => ⟨S256x256, .bf16⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemkvReferenceIdeal.lean ====
abbrev S2x256x1024 : Shape := ⟨3, ![2, 256, 1024]⟩
abbrev S1024x256 : Shape := ⟨2, ![1024, 256]⟩
abbrev S64 : Shape := ⟨1, ![64]⟩
abbrev S2x256x256 : Shape := ⟨3, ![2, 256, 256]⟩
abbrev S2x256x4x64 : Shape := ⟨4, ![2, 256, 4, 64]⟩
abbrev S_ : Shape := ⟨0, ![]⟩
abbrev S2x256x4 : Shape := ⟨3, ![2, 256, 4]⟩
abbrev S2x256x4x1 : Shape := ⟨4, ![2, 256, 4, 1]⟩
abbrev S1x1x1x64 : Shape := ⟨4, ![1, 1, 1, 64]⟩
abbrev S512x256 : Shape := ⟨2, ![512, 256]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x256, .f32⟩
  | .hbm, ⟨2, _⟩ => ⟨S1024x256, .f32⟩
  | .hbm, ⟨3, _⟩ => ⟨S64, .f32⟩
  | .hbm, ⟨4, _⟩ => ⟨S2x256x256, .f32⟩
  | .hbm, ⟨5, _⟩ => ⟨S2x256x4x64, .f32⟩
  | .hbm, ⟨6, _⟩ => ⟨S2x256x4x64, .f32⟩
  | .hbm, ⟨7, _⟩ => ⟨S_, .f32⟩
  | .hbm, ⟨8, _⟩ => ⟨S2x256x4, .f32⟩
  | .hbm, ⟨9, _⟩ => ⟨S2x256x4x1, .f32⟩
  | .hbm, ⟨10, _⟩ => ⟨S_, .f32⟩
  | .hbm, ⟨11, _⟩ => ⟨S2x256x4x1, .f32⟩
  | .hbm, ⟨12, _⟩ => ⟨S2x256x4x1, .f32⟩
  | .hbm, ⟨13, _⟩ => ⟨S_, .f32⟩
  | .hbm, ⟨14, _⟩ => ⟨S2x256x4x1, .f32⟩
  | .hbm, ⟨15, _⟩ => ⟨S2x256x4x1, .f32⟩
  | .hbm, ⟨16, _⟩ => ⟨S2x256x4x1, .f32⟩
  | .hbm, ⟨17, _⟩ => ⟨S2x256x4x64, .f32⟩
  | .hbm, ⟨18, _⟩ => ⟨S2x256x4x64, .f32⟩
  | .hbm, ⟨19, _⟩ => ⟨S1x1x1x64, .f32⟩
  | .hbm, ⟨20, _⟩ => ⟨S2x256x4x64, .f32⟩
  | .hbm, ⟨21, _⟩ => ⟨S2x256x4x64, .f32⟩
  | .hbm, ⟨22, _⟩ => ⟨S2x256x256, .f32⟩
  | .hbm, ⟨23, _⟩ => ⟨S2x256x4x64, .f32⟩
  | .hbm, ⟨24, _⟩ => ⟨S512x256, .f32⟩
  | .hbm, ⟨25, _⟩ => ⟨S512x256, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Memattn.lean ====
abbrev S2x8192x1024 : Shape := ⟨3, ![2, 8192, 1024]⟩
abbrev S128x8x1024 : Shape := ⟨3, ![128, 8, 1024]⟩
abbrev S2x256x4x64 : Shape := ⟨4, ![2, 256, 4, 64]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S16384x1024 : Shape := ⟨2, ![16384, 1024]⟩
abbrev S1024x1024 : Shape := ⟨2, ![1024, 1024]⟩
abbrev S17408x1024 : Shape := ⟨2, ![17408, 1024]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x256x256 : Shape := ⟨3, ![2, 256, 256]⟩
abbrev S256x256 : Shape := ⟨2, ![256, 256]⟩
abbrev S_ : Shape := ⟨0, ![]⟩
abbrev S512x1024 : Shape := ⟨2, ![512, 1024]⟩
abbrev S1x256x256 : Shape := ⟨3, ![1, 256, 256]⟩
abbrev S512x256 : Shape := ⟨2, ![512, 256]⟩
abbrev S512 : Shape := ⟨1, ![512]⟩
abbrev S512x1 : Shape := ⟨2, ![512, 1]⟩
abbrev S512x64 : Shape := ⟨2, ![512, 64]⟩
abbrev S256x64 : Shape := ⟨2, ![256, 64]⟩

abbrev nBuf : Space → Nat
  | .hbm => 32
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x256x4x64, .f32⟩
  | .hbm, ⟨3, _⟩ => ⟨S2x256x4x64, .f32⟩
  | .hbm, ⟨4, _⟩ => ⟨S1024, .f32⟩
  | .hbm, ⟨5, _⟩ => ⟨S1024x256, .f32⟩
  | .hbm, ⟨6, _⟩ => ⟨S256x1024, .f32⟩
  | .hbm, ⟨7, _⟩ => ⟨S64, .f32⟩
  | .hbm, ⟨8, _⟩ => ⟨S16384x1024, .f32⟩
  | .hbm, ⟨9, _⟩ => ⟨S1024x1024, .f32⟩
  | .hbm, ⟨10, _⟩ => ⟨S17408x1024, .f32⟩
  | .hbm, ⟨11, _⟩ => ⟨S1x1024, .f32⟩
  | .hbm, ⟨12, _⟩ => ⟨S1024x256, .bf16⟩
  | .hbm, ⟨13, _⟩ => ⟨S256x1024, .bf16⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S2x256x256, .f32⟩
  | .hbm, ⟨19, _⟩ => ⟨S2x256x256, .f32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .f32⟩
  | .hbm, ⟨30, _⟩ => ⟨S256x256, .bf16⟩
  | .hbm, ⟨31, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S256x1024, .bf16⟩
  | .local _ .vmem, ⟨5, _⟩ => ⟨S256x256, .bf16⟩
  | .local _ .vmem, ⟨6, _⟩ => ⟨S1x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S512x1024, .f32⟩
  | .local _ .vmem, ⟨12, _⟩ => ⟨S512x1024, .f32⟩
  | .local _ .vmem, ⟨13, _⟩ => ⟨S512x256, .f32⟩
  | .local _ .vmem, ⟨14, _⟩ => ⟨S512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  c0_i32
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemattnReferenceIdeal.lean ====
abbrev S2x8192x1024 : Shape := ⟨3, ![2, 8192, 1024]⟩
abbrev S128x8x1024 : Shape := ⟨3, ![128, 8, 1024]⟩
abbrev S2x256x4x64 : Shape := ⟨4, ![2, 256, 4, 64]⟩
abbrev S1024 : Shape := ⟨1, ![1024]⟩
abbrev S1024x256 : Shape := ⟨2, ![1024, 256]⟩
abbrev S256x1024 : Shape := ⟨2, ![256, 1024]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x256 : Shape := ⟨3, ![2, 8192, 256]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S16384x1024 : Shape := ⟨2, ![16384, 1024]⟩
abbrev S1024x1024 : Shape := ⟨2, ![1024, 1024]⟩
abbrev S17408x1024 : Shape := ⟨2, ![17408, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S2x256x4x64, .f32⟩
  | .hbm, ⟨3, _⟩ => ⟨S2x256x4x64, .f32⟩
  | .hbm, ⟨4, _⟩ => ⟨S1024, .f32⟩
  | .hbm, ⟨5, _⟩ => ⟨S1024x256, .f32⟩
  | .hbm, ⟨6, _⟩ => ⟨S256x1024, .f32⟩
  | .hbm, ⟨7, _⟩ => ⟨S64, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x256, .f32⟩
  | .hbm, ⟨25, _⟩ => ⟨S2x8192x4x64, .f32⟩
  | .hbm, ⟨26, _⟩ => ⟨S2x8192x4x64, .f32⟩
  | .hbm, ⟨27, _⟩ => ⟨S_, .f32⟩
  | .hbm, ⟨28, _⟩ => ⟨S2x8192x4, .f32⟩
  | .hbm, ⟨29, _⟩ => ⟨S2x8192x4x1, .f32⟩
  | .hbm, ⟨30, _⟩ => ⟨S_, .f32⟩
  | .hbm, ⟨31, _⟩ => ⟨S2x8192x4x1, .f32⟩
  | .hbm, ⟨32, _⟩ => ⟨S2x8192x4x1, .f32⟩
  | .hbm, ⟨33, _⟩ => ⟨S_, .f32⟩
  | .hbm, ⟨34, _⟩ => ⟨S2x8192x4x1, .f32⟩
  | .hbm, ⟨35, _⟩ => ⟨S2x8192x4x1, .f32⟩
  | .hbm, ⟨36, _⟩ => ⟨S2x8192x4x1, .f32⟩
  | .hbm, ⟨37, _⟩ => ⟨S2x8192x4x64, .f32⟩
  | .hbm, ⟨38, _⟩ => ⟨S2x8192x4x64, .f32⟩
  | .hbm, ⟨39, _⟩ => ⟨S1x1x1x64, .f32⟩
  | .hbm, ⟨40, _⟩ => ⟨S2x8192x4x64, .f32⟩
  | .hbm, ⟨41, _⟩ => ⟨S2x8192x4x64, .f32⟩
  | .hbm, ⟨42, _⟩ => ⟨S2x4x8192x256, .f32⟩
  | .hbm, ⟨43, _⟩ => ⟨S_, .f32⟩
  | .hbm, ⟨44, _⟩ => ⟨S2x4x8192x256, .f32⟩
  | .hbm, ⟨45, _⟩ => ⟨S2x4x8192x256, .f32⟩
  | .hbm, ⟨46, _⟩ => ⟨S_, .f32⟩
  | .hbm, ⟨47, _⟩ => ⟨S2x4x8192, .f32⟩
  | .hbm, ⟨48, _⟩ => ⟨S_, .f32⟩
  | .hbm, ⟨49, _⟩ => ⟨S2x4x8192, .f32⟩
  | .hbm, ⟨50, _⟩ => ⟨S2x4x8192, .f32⟩
  | .hbm, ⟨51, _⟩ => ⟨S2x4x8192x1, .f32⟩
  | .hbm, ⟨52, _⟩ => ⟨S2x4x8192x256, .f32⟩
  | .hbm, ⟨53, _⟩ => ⟨S2x4x8192x256, .f32⟩
  | .hbm, ⟨54, _⟩ => ⟨S2x4x8192x256, .f32⟩
  | .hbm, ⟨55, _⟩ => ⟨S_, .f32⟩
  | .hbm, ⟨56, _⟩ => ⟨S2x4x8192, .f32⟩
  | .hbm, ⟨57, _⟩ => ⟨S2x4x8192x1, .f32⟩
  | .hbm, ⟨58, _⟩ => ⟨S2x4x8192x256, .f32⟩
  | .hbm, ⟨59, _⟩ => ⟨S2x4x8192x256, .f32⟩
  | .hbm, ⟨60, _⟩ => ⟨S2x4x64x8192, .f32⟩
  | .hbm, ⟨61, _⟩ => ⟨S2x8192x4x64, .f32⟩
  | .hbm, ⟨62, _⟩ => ⟨S2x8192x256, .f32⟩
  | .hbm, ⟨63, _⟩ => ⟨S2x8192x1024, .f32⟩
  | .hbm, ⟨64, _⟩ => ⟨S2x8192x1024, .f32⟩
  | .hbm, ⟨65, _⟩ => ⟨S16384x1024, .f32⟩
  | .hbm, ⟨66, _⟩ => ⟨S1024x1024, .f32⟩
  | .hbm, ⟨67, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Ssd.lean ====
abbrev S128x8x768 : Shape := ⟨3, ![128, 8, 768]⟩
abbrev S128x8x512 : Shape := ⟨3, ![128, 8, 512]⟩
abbrev S128x8x128 : Shape := ⟨3, ![128, 8, 128]⟩
abbrev S128x3x768 : Shape := ⟨3, ![128, 3, 768]⟩
abbrev S128x8x64x64 : Shape := ⟨4, ![128, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S1x768 : Shape := ⟨2, ![1, 768]⟩
abbrev S_ : Shape := ⟨0, ![]⟩
abbrev S128 : Shape := ⟨1, ![128]⟩
abbrev S1x128 : Shape := ⟨2, ![1, 128]⟩
abbrev S8x1 : Shape := ⟨2, ![8, 1]⟩
abbrev S8x64 : Shape := ⟨2, ![8, 64]⟩
abbrev S1x512 : Shape := ⟨2, ![1, 512]⟩
abbrev S128x8x8 : Shape := ⟨3, ![128, 8, 8]⟩
abbrev S128x512x64 : Shape := ⟨3, ![128, 512, 64]⟩
abbrev S16x8x768 : Shape := ⟨3, ![16, 8, 768]⟩
abbrev S16x8x512 : Shape := ⟨3, ![16, 8, 512]⟩
abbrev S16x8x128 : Shape := ⟨3, ![16, 8, 128]⟩
abbrev S16x8x8 : Shape := ⟨3, ![16, 8, 8]⟩
abbrev S16x512x64 : Shape := ⟨3, ![16, 512, 64]⟩
abbrev S1x8x768 : Shape := ⟨3, ![1, 8, 768]⟩
abbrev S8x768 : Shape := ⟨2, ![8, 768]⟩
abbrev S1x8x512 : Shape := ⟨3, ![1, 8, 512]⟩
abbrev S8x512 : Shape := ⟨2, ![8, 512]⟩
abbrev S1x8x128 : Shape := ⟨3, ![1, 8, 128]⟩
abbrev S8x128 : Shape := ⟨2, ![8, 128]⟩
abbrev S1x8x8 : Shape := ⟨3, ![1, 8, 8]⟩
abbrev S8x8 : Shape := ⟨2, ![8, 8]⟩
abbrev S1x512x64 : Shape := ⟨3, ![1, 512, 64]⟩
abbrev S512x64 : Shape := ⟨2, ![512, 64]⟩
abbrev S1x8 : Shape := ⟨2, ![1, 8]⟩
abbrev S64x64 : Shape := ⟨2, ![64, 64]⟩
abbrev S1x1 : Shape := ⟨2, ![1, 1]⟩
abbrev S8x256 : Shape := ⟨2, ![8, 256]⟩
abbrev S1x256 : Shape := ⟨2, ![1, 256]⟩

abbrev nBuf : Space → Nat
  | .hbm => 34
  | .vmem => 24
  | .smem => 0
  | _ => 0

abbrev bufTy : (tb : Table) → Fin (tcTables nBuf tb) → BufTy
  | .hbm, ⟨0, _⟩ => ⟨S128x8x768, .f32⟩
  | .hbm, ⟨1, _⟩ => ⟨S128x8x512, .f32⟩
  | .hbm, ⟨2, _⟩ => ⟨S128x8x128, .f32⟩
  | .hbm, ⟨3, _⟩ => ⟨S128x3x768, .f32⟩
  | .hbm, ⟨4, _⟩ => ⟨S128x8x64x64, .f32⟩
  | .hbm, ⟨5, _⟩ => ⟨S4x768, .f32⟩
  | .hbm, ⟨6, _⟩ => ⟨S768, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S1x768, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S8x1, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S8x1, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x512, .f32⟩
  | .hbm, ⟨26, _⟩ => ⟨S_, .i32⟩
  | .hbm, ⟨27, _⟩ => ⟨S_, .f32⟩
  | .hbm, ⟨28, _⟩ => ⟨S128x8x768, .f32⟩
  | .hbm, ⟨29, _⟩ => ⟨S128x8x8, .f32⟩
  | .hbm, ⟨30, _⟩ => ⟨S128x8x8, .f32⟩
  | .hbm, ⟨31, _⟩ => ⟨S128x512x64, .f32⟩
  | .hbm, ⟨32, _⟩ => ⟨S128x8x512, .f32⟩
  | .hbm, ⟨33, _⟩ => ⟨S128x512x64, .f32⟩
  | .local _ .vmem, ⟨0, _⟩ => ⟨S16x8x768, .f32⟩
  | .local _ .vmem, ⟨1, _⟩ => ⟨S16x8x768, .f32⟩
  | .local _ .vmem, ⟨2, _⟩ => ⟨S16x8x768, .f32⟩
  | .local _ .vmem, ⟨3, _⟩ => ⟨S16x8x768, .f32⟩
  | .local _ .vmem, ⟨4, _⟩ => ⟨S16x8x512, .f32⟩
  | .local _ .vmem, ⟨5, _⟩ => ⟨S16x8x512, .f32⟩
  | .local _ .vmem, ⟨6, _⟩ => ⟨S16x8x128, .f32⟩
  | .local _ .vmem, ⟨7, _⟩ => ⟨S16x8x128, .f32⟩
  | .local _ .vmem, ⟨8, _⟩ => ⟨S16x8x8, .f32⟩
  | .local _ .vmem, ⟨9, _⟩ => ⟨S16x8x8, .f32⟩
  | .local _ .vmem, ⟨10, _⟩ => ⟨S16x512x64, .f32⟩
  | .local _ .vmem, ⟨11, _⟩ => ⟨S16x512x64, .f32⟩
  | .local _ .vmem, ⟨12, _⟩ => ⟨S4x768, .f32⟩
  | .local _ .vmem, ⟨13, _⟩ => ⟨S1x768, .f32⟩
  | .local _ .vmem, ⟨14, _⟩ => ⟨S1x128, .f32⟩
  | .local _ .vmem, ⟨15, _⟩ => ⟨S8x1, .f32⟩
  | .local _ .vmem, ⟨16, _⟩ => ⟨S1x128, .f32⟩
  | .local _ .vmem, ⟨17, _⟩ => ⟨S8x1, .f32⟩
  | .local _ .vmem, ⟨18, _⟩ => ⟨S1x512, .f32⟩
  | .local _ .vmem, ⟨19, _⟩ => ⟨S1x512, .f32⟩
  | .local _ .vmem, ⟨20, _⟩ => ⟨S16x8x512, .f32⟩
  | .local _ .vmem, ⟨21, _⟩ => ⟨S16x8x512, .f32⟩
  | .local _ .vmem, ⟨22, _⟩ => ⟨S16x512x64, .f32⟩
  | .local _ .vmem, ⟨23, _⟩ => ⟨S16x512x64, .f32⟩
  | _, _ => ⟨S128x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg17 : BitVec 32 := Scf.iv c0_i32 c1_i32 k0_t1
  let v1 : Index := Scalar.indexCast arg17
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg17 : BitVec 32 := Scf.iv c0_i32 c1_i32 k0_t1
  let v7 : Index := Scalar.indexCast arg17
  let c0_4 : Index := 0#32
  let c0_5 : Index := 0#32
  ![v7.toNat, 0, 0]
def k0_off3 (k0_t1 : Fin k0_t1_loop.trips) : Fin 3 → Nat :=
  let c0_i32 : BitVec 32 := 0#32
  let c1_i32 : BitVec 32 := 1#32
  let arg17 : BitVec 32 := Scf.iv c0_i32 c1_i32 k0_t1
  let v10 : Index := Scalar.indexCast arg17
  let c0_6 : Index := 0#32
  let c0_7 : Index := 0#32
  ![v10.toNat, 0, 0]
def k0_off4 (k0_t1 : Fin k0_t1_loop.trips) : Fin 3 → Nat :=
  let c0_i32 : BitVec 32 := 0#32
  let c1_i32 : BitVec 32 := 1#32
  let arg17 : BitVec 32 := Scf.iv c0_i32 c1_i32 k0_t1
  let v13 : Index := Scalar.indexCast arg17
  let c0_8 : Index := 0#32
  let c0_9 : Index := 0#32
  ![v13.toNat, 0, 0]
def k0_off5 (k0_t1 : Fin k0_t1_loop.trips) : Fin 3 → Nat :=
  let c0_i32 : BitVec 32 := 0#32
  let c1_i32 : BitVec 32 := 1#32
  let arg17 : BitVec 32 := Scf.iv c0_i32 c1_i32 k0_t1
  let v16 : Index := Scalar.indexCast arg17
  let c0_10 : Index := 0#32
  let c0_11 : Index := 0#32
  ![v16.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SsdIdeal.lean ====
variable {F : FTy → Type} [FloatOps F] [Named F]
def κ : String → Option EReal := fun
  | "mask" => some ⊥
  | _ => none
-- ==== SsdReferenceIdeal.lean ====
abbrev S128x8x768 : Shape := ⟨3, ![128, 8, 768]⟩
abbrev S128x8x512 : Shape := ⟨3, ![128, 8, 512]⟩
abbrev S128x8x128 : Shape := ⟨3, ![128, 8, 128]⟩
abbrev S128x3x768 : Shape := ⟨3, ![128, 3, 768]⟩
abbrev S128x8x64x64 : Shape := ⟨4, ![128, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S_ : Shape := ⟨0, ![]⟩
abbrev S128x11x768 : Shape := ⟨3, ![128, 11, 768]⟩
abbrev S1x768 : Shape := ⟨2, ![1, 768]⟩
abbrev S1x1x768 : Shape := ⟨3, ![1, 1, 768]⟩
abbrev S128x8x8x64 : Shape := ⟨4, ![128, 8, 8, 64]⟩
abbrev S128x8x2x64 : Shape := ⟨4, ![128, 8, 2, 64]⟩
abbrev S128x8x8 : Shape := ⟨3, ![128, 8, 8]⟩
abbrev S1x1x8 : Shape := ⟨3, ![1, 1, 8]⟩
abbrev S8x1 : Shape := ⟨2, ![8, 1]⟩
abbrev S128x8x8x1 : Shape := ⟨4, ![128, 8, 8, 1]⟩
abbrev S128x1x8 : Shape := ⟨3, ![128, 1, 8]⟩
abbrev S128x8 : Shape := ⟨2, ![128, 8]⟩
abbrev S128x8x1x1 : Shape := ⟨4, ![128, 8, 1, 1]⟩
abbrev S128x512x64 : Shape := ⟨3, ![128, 512, 64]⟩

abbrev nBuf : Space → Nat
  | .hbm => 132
  | .vmem => 0
  | .smem => 0
  | _ => 0

abbrev hbmTy0_0 (i : Nat) : BufTy := match i % 128 with
  | 0 => ⟨S128x8x768, .f32⟩
  | 1 => ⟨S128x8x512, .f32⟩
  | 2 => ⟨S128x8x128, .f32⟩
  | 3 => ⟨S128x3x768, .f32⟩
  | 4 => ⟨S128x8x64x64, .f32⟩
  | 5 => ⟨S4x768, .f32⟩
  | 6 => ⟨S768, .f32⟩
  | 7 => ⟨S8, .f32⟩
  | 8 => ⟨S8, .f32⟩
  | 9 => ⟨S8, .f32⟩
  | 10 => ⟨S512, .f32⟩
  | 11 => ⟨S8, .i32⟩
  | 12 => ⟨S_, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S8, .i32⟩
  | 21 => ⟨S8, .i32⟩
  | 22 => ⟨S_, .i32⟩
  | 23 => ⟨S8, .i32⟩
  | 24 => ⟨S8, .i1⟩
  | 25 => ⟨S8, .i1⟩
  | 26 => ⟨S_, .i32⟩
  | 27 => ⟨S8, .i32⟩
  | 28 => ⟨S8, .i32⟩
  | 29 => ⟨S8, .i32⟩
  | 30 => ⟨S128x11x768, .f32⟩
  | 31 => ⟨S128x8x768, .f32⟩
  | 32 => ⟨S1x768, .f32⟩
  | 33 => ⟨S768, .f32⟩
  | 34 => ⟨S1x1x768, .f32⟩
  | 35 => ⟨S128x8x768, .f32⟩
  | 36 => ⟨S128x8x768, .f32⟩
  | 37 => ⟨S_, .f32⟩
  | 38 => ⟨S128x8x768, .f32⟩
  | 39 => ⟨S128x8x768, .f32⟩
  | 40 => ⟨S128x8x768, .f32⟩
  | 41 => ⟨S1x768, .f32⟩
  | 42 => ⟨S768, .f32⟩
  | 43 => ⟨S1x1x768, .f32⟩
  | 44 => ⟨S128x8x768, .f32⟩
  | 45 => ⟨S128x8x768, .f32⟩
  | 46 => ⟨S128x8x768, .f32⟩
  | 47 => ⟨S128x8x768, .f32⟩
  | 48 => ⟨S1x768, .f32⟩
  | 49 => ⟨S768, .f32⟩
  | 50 => ⟨S1x1x768, .f32⟩
  | 51 => ⟨S128x8x768, .f32⟩
  | 52 => ⟨S128x8x768, .f32⟩
  | 53 => ⟨S128x8x768, .f32⟩
  | 54 => ⟨S128x8x768, .f32⟩
  | 55 => ⟨S1x768, .f32⟩
  | 56 => ⟨S768, .f32⟩
  | 57 => ⟨S1x1x768, .f32⟩
  | 58 => ⟨S128x8x768, .f32⟩
  | 59 => ⟨S128x8x768, .f32⟩
  | 60 => ⟨S128x8x768, .f32⟩
  | 61 => ⟨S1x1x768, .f32⟩
  | 62 => ⟨S128x8x768, .f32⟩
  | 63 => ⟨S128x8x768, .f32⟩
  | 64 => ⟨S128x8x768, .f32⟩
  | 65 => ⟨S128x8x768, .f32⟩
  | 66 => ⟨S_, .f32⟩
  | 67 => ⟨S128x8x768, .f32⟩
  | 68 => ⟨S128x8x768, .f32⟩
  | 69 => ⟨S_, .f32⟩
  | 70 => ⟨S128x8x768, .f32⟩
  | 71 => ⟨S128x8x768, .f32⟩
  | 72 => ⟨S128x8x768, .f32⟩
  | 73 => ⟨S128x8x512, .f32⟩
  | 74 => ⟨S128x8x128, .f32⟩
  | 75 => ⟨S128x8x128, .f32⟩
  | 76 => ⟨S128x8x8x64, .f32⟩
  | 77 => ⟨S128x8x2x64, .f32⟩
  | 78 => ⟨S128x8x8, .f32⟩
  | 79 => ⟨S1x1x8, .f32⟩
  | 80 => ⟨S128x8x8, .f32⟩
  | 81 => ⟨S128x8x8, .f32⟩
  | 82 => ⟨S_, .f32⟩
  | 83 => ⟨S128x8x8, .f32⟩
  | 84 => ⟨S128x8x8, .f32⟩
  | 85 => ⟨S128x8x8, .f32⟩
  | 86 => ⟨S128x8x8, .f32⟩
  | 87 => ⟨S128x8x8, .i1⟩
  | 88 => ⟨S128x8x8, .f32⟩
  | 89 => ⟨S128x8x8, .f32⟩
  | 90 => ⟨S128x8x8, .f32⟩
  | 91 => ⟨S128x8x8, .f32⟩
  | 92 => ⟨S128x8x8, .f32⟩
  | 93 => ⟨S128x8x8, .f32⟩
  | 94 => ⟨S128x8x8, .f32⟩
  | 95 => ⟨S128x8x8, .f32⟩
  | 96 => ⟨S8, .f32⟩
  | 97 => ⟨S8, .f32⟩
  | 98 => ⟨S_, .i32⟩
  | 99 => ⟨S8, .i32⟩
  | 100 => ⟨S8, .i1⟩
  | 101 => ⟨S_, .i32⟩
  | 102 => ⟨S8, .i32⟩
  | 103 => ⟨S8, .i32⟩
  | 104 => ⟨S8, .i32⟩
  | 105 => ⟨S8x1, .i32⟩
  | 106 => ⟨S128x8x8x64, .f32⟩
  | 107 => ⟨S1x1x8, .f32⟩
  | 108 => ⟨S128x8x8, .f32⟩
  | 109 => ⟨S128x8x8, .f32⟩
  | 110 => ⟨S_, .f32⟩
  | 111 => ⟨S_, .f32⟩
  | 112 => ⟨S128x8x8, .f32⟩
  | 113 => ⟨S128x8x8x1, .f32⟩
  | 114 => ⟨S128x8x8x64, .f32⟩
  | 115 => ⟨S128x8x8x64, .f32⟩
  | 116 => ⟨S128x1x8, .f32⟩
  | 117 => ⟨S128x8x8, .f32⟩
  | 118 => ⟨S128x8x8, .f32⟩
  | 119 => ⟨S128x8x8, .f32⟩
  | 120 => ⟨S128x1x8, .f32⟩
  | 121 => ⟨S128x8, .f32⟩
  | 122 => ⟨S128x8, .f32⟩
  | 123 => ⟨S128x8x1x1, .f32⟩
  | 124 => ⟨S128x8x64x64, .f32⟩
  | 125 => ⟨S128x8x64x64, .f32⟩
  | 126 => ⟨S128x8x8x1, .f32⟩
  | 127 => ⟨S128x8x8x64, .f32⟩
  | _ => ⟨S128x8x768, .f32⟩

abbrev hbmTy0_1 (i : Nat) : BufTy := match i % 128 with
  | 0 => ⟨S128x8x8x64, .f32⟩
  | 1 => ⟨S128x8x64x64, .f32⟩
  | 2 => ⟨S128x8x64x64, .f32⟩
  | 3 => ⟨S128x512x64, .f32⟩
  | _ => ⟨S128x8x768, .f32⟩

abbrev hbmTy (i : Nat) : BufTy := match i / 128 with
  | 0 => hbmTy0_0 i
  | 1 => hbmTy0_1 i
  | _ => ⟨S128x8x768, .f32⟩

abbrev bufTy : (tb : Table) → Fin (tcTables nBuf tb) → BufTy
  | .hbm, ⟨i, _⟩ => hbmTy i
  | _, _ => ⟨S128x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_0 : Ref sig .tc := ⟨.hbm, 98, rfl⟩
abbrev main_v48 : Ref sig .tc := ⟨.hbm, 99, rfl⟩
abbrev main_v49 : Ref sig .tc := ⟨.hbm, 100, rfl⟩
abbrev main_c_1 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_call3_call0_cst : Ref sig .tc := ⟨.hbm, 110, rfl⟩
abbrev main_call3_call0_v0 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩

abbrev nD : Nat := 1
abbrev τ : Topo := Topo.v7x

variable {F : FTy → Type} [FloatOps F]
-- ==== Proof.Swa.Host.lean ====
/- The attention kernel's bias table as the host prepares it: a distance and a bucket for every query and key, a column picked from the
   relative-bias rows of the head, and the mask. -/
module

public import proofs.«01_k».proof.Proof.Gen.KernelIdeal.Value
public import Idealize.ShloMosaic.Lib.StableHlo.ReadAt
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

/-- The distance of the key from the query. -/
def dist : IVec S1024x256 32 :=
  subi (broadcastInDim S1024x256 ![0, 1] bcast_S1024x1_S1024x256_0_1 (addi (broadcastInDim S1024x1 ![] bcast_S_S1024x1 (constantI S_ 32 128#32))
    (shapeCast S1024x1 (iotaInDim S8x128 32 1) shapeCasts_S8x128_S1024x1)))
    (broadcastInDim S1024x256 ![0, 1] bcast_S1x256_S1024x256_0_1 (iotaInDim S1x256 32 1))

/-- The keys in the window. -/
def valid (d : IVec S1024x256 32) : IVec S1024x256 1 :=
  andi (cmpi .sge d (broadcastInDim S1024x256 ![] bcast_S_S1024x256 (constantI S_ 32 0#32))) (cmpi .slt d (broadcastInDim S1024x256 ![] bcast_S_S1024x256 (constantI S_ 32 128#32)))

/-- One where the distance has reached a bucket's first distance. -/
def step (n : IVec S1024x256 32) (t : BitVec 32) : IVec S1024x256 32 :=
  select (cmpi .sge n (broadcastInDim S1024x256 ![] bcast_S_S1024x256 (constantI S_ 32 t)))
    (broadcastInDim S1024x256 ![] bcast_S_S1024x256 (constantI S_ 32 1#32)) (broadcastInDim S1024x256 ![] bcast_S_S1024x256 (constantI S_ 32 0#32))

/-- The bucket of a distance. -/
def bucket (n : IVec S1024x256 32) : IVec S1024x256 32 :=
  select (cmpi .slt n (broadcastInDim S1024x256 ![] bcast_S_S1024x256 (constantI S_ 32 16#32))) n
    (addi (addi (addi (addi (addi (addi (addi (addi (addi (addi (addi (addi (addi (addi (addi (broadcastInDim S1024x256 ![] bcast_S_S1024x256 (constantI S_ 32 16#32)) (step n 19#32)) (step n 21#32)) (step n 24#32)) (step n 27#32)) (step n 31#32)) (step n 35#32)) (step n 40#32)) (step n 46#32)) (step n 52#32)) (step n 59#32)) (step n 67#32)) (step n 77#32)) (step n 87#32)) (step n 99#32)) (step n 113#32))

/-- The head of each row. -/
def headIdx : IVec S1024x1 32 :=
  broadcastInDim S1024x1 ![0] bcast_S1024_S1024x1_0
    (select (cmpi .slt (shapeCast S1024 (iotaInDim S8x128 32 0) shapeCasts_S8x128_S1024) (broadcastInDim S1024 ![] bcast_S_S1024 (constantI S_ 32 0#32)))
      (addi (shapeCast S1024 (iotaInDim S8x128 32 0) shapeCasts_S8x128_S1024) (broadcastInDim S1024 ![] bcast_S_S1024 (constantI S_ 32 8#32)))
      (shapeCast S1024 (iotaInDim S8x128 32 0) shapeCasts_S8x128_S1024))

/-- Whether a head number is one of the table's. -/
def inTable (i : IVec S1024x1 32) : IVec S1024x1 1 :=
  andi (cmpi .sge i (broadcastInDim S1024x1 ![] bcast_S_S1024x1 (constantI S_ 32 0#32)))
    (cmpi .sle i (broadcastInDim S1024x1 ![0, 1] bcast_S1x1_S1024x1_0_1 (broadcastInDim S1x1 ![1] bcast_S1_S1x1_1 (constantI S1 32 7#32))))

/-- The reading of each row's head from the table. -/
def takeRows (tab : FVec Ideal S32x8 .f32) (i : IVec S1024x1 32) : FVec Ideal S1024x32 .f32 :=
  select (broadcastInDim S1024x32 ![0] bcast_S1024_S1024x32_0 (Host.reduce IntOp.andi (inTable i) (constantI S_ 1 1#1) reducesTo_S1024x1_S1024_d1 h_S_))
    (Host.gather gather_S8x32_S1024x1_S1024x32_1_0_n_n_0_1_132 (transpose S8x32 [1, 0] tab transposes_S32x8_S8x32_1_0) i)
    (broadcastInDim S1024x32 ![] bcast_S_S1024x32 (constant S_ .f32 0x7FC00000#32))

/-- A column where the bucket is `b`, what was there elsewhere. -/
def pick (bk : IVec S1024x256 32) (b : BitVec 32) (col : FVec Ideal S1024x1 .f32) (prev : FVec Ideal S1024x256 .f32) : FVec Ideal S1024x256 .f32 :=
  select (cmpi .eq bk (broadcastInDim S1024x256 ![] bcast_S_S1024x256 (constantI S_ 32 b))) (broadcastInDim S1024x256 ![0, 1] bcast_S1024x1_S1024x256_0_1 col) prev

/-- The bucket's column of each row. -/
def pickAll (bk : IVec S1024x256 32) (rw : FVec Ideal S1024x32 .f32) : FVec Ideal S1024x256 .f32 :=
  (pick bk 31#32 (extractStridedSlice S1024x1 ![0, 31] rw slices_S1024x32_S1024x1_0_31) (pick bk 30#32 (extractStridedSlice S1024x1 ![0, 30] rw slices_S1024x32_S1024x1_0_30) (pick bk 29#32 (extractStridedSlice S1024x1 ![0, 29] rw slices_S1024x32_S1024x1_0_29) (pick bk 28#32 (extractStridedSlice S1024x1 ![0, 28] rw slices_S1024x32_S1024x1_0_28) (pick bk 27#32 (extractStridedSlice S1024x1 ![0, 27] rw slices_S1024x32_S1024x1_0_27) (pick bk 26#32 (extractStridedSlice S1024x1 ![0, 26] rw slices_S1024x32_S1024x1_0_26) (pick bk 25#32 (extractStridedSlice S1024x1 ![0, 25] rw slices_S1024x32_S1024x1_0_25) (pick bk 24#32 (extractStridedSlice S1024x1 ![0, 24] rw slices_S1024x32_S1024x1_0_24) (pick bk 23#32 (extractStridedSlice S1024x1 ![0, 23] rw slices_S1024x32_S1024x1_0_23) (pick bk 22#32 (extractStridedSlice S1024x1 ![0, 22] rw slices_S1024x32_S1024x1_0_22) (pick bk 21#32 (extractStridedSlice S1024x1 ![0, 21] rw slices_S1024x32_S1024x1_0_21) (pick bk 20#32 (extractStridedSlice S1024x1 ![0, 20] rw slices_S1024x32_S1024x1_0_20) (pick bk 19#32 (extractStridedSlice S1024x1 ![0, 19] rw slices_S1024x32_S1024x1_0_19) (pick bk 18#32 (extractStridedSlice S1024x1 ![0, 18] rw slices_S1024x32_S1024x1_0_18) (pick bk 17#32 (extractStridedSlice S1024x1 ![0, 17] rw slices_S1024x32_S1024x1_0_17) (pick bk 16#32 (extractStridedSlice S1024x1 ![0, 16] rw slices_S1024x32_S1024x1_0_16) (pick bk 15#32 (extractStridedSlice S1024x1 ![0, 15] rw slices_S1024x32_S1024x1_0_15) (pick bk 14#32 (extractStridedSlice S1024x1 ![0, 14] rw slices_S1024x32_S1024x1_0_14) (pick bk 13#32 (extractStridedSlice S1024x1 ![0, 13] rw slices_S1024x32_S1024x1_0_13) (pick bk 12#32 (extractStridedSlice S1024x1 ![0, 12] rw slices_S1024x32_S1024x1_0_12) (pick bk 11#32 (extractStridedSlice S1024x1 ![0, 11] rw slices_S1024x32_S1024x1_0_11) (pick bk 10#32 (extractStridedSlice S1024x1 ![0, 10] rw slices_S1024x32_S1024x1_0_10) (pick bk 9#32 (extractStridedSlice S1024x1 ![0, 9] rw slices_S1024x32_S1024x1_0_9) (pick bk 8#32 (extractStridedSlice S1024x1 ![0, 8] rw slices_S1024x32_S1024x1_0_8) (pick bk 7#32 (extractStridedSlice S1024x1 ![0, 7] rw slices_S1024x32_S1024x1_0_7) (pick bk 6#32 (extractStridedSlice S1024x1 ![0, 6] rw slices_S1024x32_S1024x1_0_6) (pick bk 5#32 (extractStridedSlice S1024x1 ![0, 5] rw slices_S1024x32_S1024x1_0_5) (pick bk 4#32 (extractStridedSlice S1024x1 ![0, 4] rw slices_S1024x32_S1024x1_0_4) (pick bk 3#32 (extractStridedSlice S1024x1 ![0, 3] rw slices_S1024x32_S1024x1_0_3) (pick bk 2#32 (extractStridedSlice S1024x1 ![0, 2] rw slices_S1024x32_S1024x1_0_2) (pick bk 1#32 (extractStridedSlice S1024x1 ![0, 1] rw slices_S1024x32_S1024x1_0_1) (pick bk 0#32 (extractStridedSlice S1024x1 ![0, 0] rw slices_S1024x32_S1024x1_0_0) (broadcastInDim S1024x256 ![] bcast_S_S1024x256 (constant S_ .f32 0x00000000#32))))))))))))))))))))))))))))))))))

/-- The masked table. -/
def biasTab (tab : FVec Ideal S32x8 .f32) : FVec Ideal S8x128x256 .f32 :=
  shapeCast S8x128x256 (select (valid dist) (pickAll (bucket (maxsi dist (broadcastInDim S1024x256 ![] bcast_S_S1024x256 (constantI S_ 32 0#32)))) (takeRows tab headIdx))
    (broadcastInDim S1024x256 ![] bcast_S_S1024x256 (constant S_ .f32 0xFF800000#32))) shapeCasts_S1024x256_S8x128x256

end Cert.KernelIdeal.Swa

end
-- ==== Proof.Swa.Launch.lean ====
/- The attention kernel's arrays at launch: the bias table, the scaled queries, and the keys and values by rows. The host's lines are
   read in three stretches, each from any contents before it. -/
module

public import proofs.«01_k».proof.Proof.Swa.Host

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

/-- The lines that make the distances, the validity and the rows of the table. -/
abbrev linesRows : List (HloOp τ sig (Elt Ideal)) := List.flatten [hostOps0, hostOps0_1]
/-- The lines that make the buckets. -/
abbrev linesBucket : List (HloOp τ sig (Elt Ideal)) := List.flatten [hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33]
/-- The lines that pick the columns, mask, and arrange the other arrays. -/
abbrev linesPick : List (HloOp τ sig (Elt Ideal)) := List.flatten [hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100]

section
variable (W : Valuation τ sig (Elt Ideal))

theorem rows_dist : after linesRows W (Proc.devRef .tc main_v10) = dist := by
  after_reads_simp
  rfl

theorem rows_valid : after linesRows W (Proc.devRef .tc main_v15) = valid dist := by
  after_reads_simp
  rfl

theorem rows_table : after linesRows W (Proc.devRef .tc main_v16) = takeRows (W (Proc.devRef .tc main_arg3)) headIdx := by
  after_reads_simp
  rfl

theorem bucket_bucket : after linesBucket W (Proc.devRef .tc main_v82) = bucket (maxsi (W (Proc.devRef .tc main_v10)) (broadcastInDim S1024x256 ![] bcast_S_S1024x256 (constantI S_ 32 0#32))) := by
  after_reads_simp
  rfl

theorem bucket_valid : after linesBucket W (Proc.devRef .tc main_v15) = W (Proc.devRef .tc main_v15) := by
  after_reads_simp

theorem bucket_table : after linesBucket W (Proc.devRef .tc main_v16) = W (Proc.devRef .tc main_v16) := by
  after_reads_simp

theorem pick_bias : after linesPick W (Proc.devRef .tc main_v213) = shapeCast S8x128x256 (select (W (Proc.devRef .tc main_v15))
    (pickAll (W (Proc.devRef .tc main_v82)) (W (Proc.devRef .tc main_v16)))
    (broadcastInDim S1024x256 ![] bcast_S_S1024x256 (constant S_ .f32 0xFF800000#32))) shapeCasts_S1024x256_S8x128x256 := by
  after_reads_simp
  rfl

end

variable (m : (ℓ : Loc nD τ sig) → Buf (Elt Ideal) ℓ) (c : Dev nD)

theorem V_stretches (b : Ref sig .tc) : V m c b = after linesPick (after linesBucket (after linesRows (fun b => m (c, b)))) (Proc.devRef .tc b) := by
  rw [← StableHlo.after_append, ← StableHlo.after_append]
  rfl

theorem V_bias : V m c main_v213 = biasTab (m ((c.tc : Thread nD τ).loc main_arg3)) := by
  rw [V_stretches, pick_bias, bucket_bucket, bucket_valid, bucket_table, rows_dist, rows_valid, rows_table]
  rfl

theorem V_q : V m c main_v219 = truncf .bf16 (mulf (shapeCast S16384x512 (m ((c.tc : Thread nD τ).loc main_arg0)) shapeCasts_S2x8192x2x4x64_S16384x512 : FVec Ideal S16384x512 .f32)
    (broadcastInDim S16384x512 ![] bcast_S_S16384x512 (constant S_ .f32 0x3E000000#32))) bitsLt_bf16_f32 := by
  unfold Gen.V
  after_reads_simp
  rfl

theorem V_k : V m c main_v215 = shapeCast S16384x128 (m ((c.tc : Thread nD τ).loc main_arg1)) shapeCasts_S2x8192x2x64_S16384x128 := by
  unfold Gen.V
  after_reads_simp
  rfl

theorem V_v : V m c main_v216 = shapeCast S16384x128 (m ((c.tc : Thread nD τ).loc main_arg2)) shapeCasts_S2x8192x2x64_S16384x128 := by
  unfold Gen.V
  after_reads_simp
  rfl

theorem V_sinks : V m c main_arg4 = m ((c.tc : Thread nD τ).loc main_arg4) := by
  unfold Gen.V
  after_reads_simp

end Cert.KernelIdeal.Swa

end
-- ==== Proof.Swa.Attn.lean ====
/-
  Softmax attention with a sink, for one query row, on the extended reals: the weighted sum of the values, the weights
  being exponentials of the scores less the greatest of scores and sink, over their sum and the sink's own exponential.
  A key whose score is `⊥` has weight zero unless every weight's denominator is zero; then all weights are `⊥`, and a
  repeated half of the values adds nothing new.
-/
module

public import Idealize.ShloMosaic.Lib.Pointwise
public import Idealize.ShloMosaic.Lib.IdealHost

@[expose] public section

noncomputable section

namespace Cert.Swa

open Idealize.ShloMosaic

/-- The greatest of the scores and the sink. -/
def top {n : ℕ} (s : Fin n → EReal) (sk : EReal) : EReal :=
  max (Finset.fold max (Ideal.ofBits FTy.f32 4286578688#32) s Finset.univ) sk

/-- The common denominator of the weights. -/
def den {n : ℕ} (s : Fin n → EReal) (sk : EReal) : EReal :=
  ∑ x, Ideal.exp (s x - top s sk) + Ideal.exp (sk - top s sk)

/-- Attention with a sink: scores `s`, sink `sk`, values `v`. -/
def attn {n : ℕ} (s : Fin n → EReal) (sk : EReal) (v : Fin n → EReal) : EReal :=
  ∑ x, Ideal.div (Ideal.exp (s x - top s sk)) (den s sk) * v x

theorem exp_nonneg (x : EReal) : 0 ≤ Ideal.exp x := by
  induction x with
  | bot => simp
  | top => simp
  | coe r => simpa using (Real.exp_pos r).le

theorem div_zero_zero : Ideal.div 0 0 = ⊥ := by simp [Ideal.div]

/-- A sum of multiples of `⊥` is `⊥`, `0` or `⊤`. -/
theorem sum_bot_mul {n : ℕ} (v : Fin n → EReal) (u : Finset (Fin n)) :
    ∑ x ∈ u, ⊥ * v x = ⊥ ∨ ∑ x ∈ u, ⊥ * v x = 0 ∨ ∑ x ∈ u, ⊥ * v x = ⊤ := by
  classical
  induction u using Finset.induction_on with
  | empty => simp
  | insert a u ha ih =>
    rw [Finset.sum_insert ha]
    have h : ⊥ * v a = ⊥ ∨ ⊥ * v a = 0 ∨ ⊥ * v a = ⊤ := by
      rcases lt_trichotomy (v a) 0 with h | h | h
      · exact .inr (.inr (EReal.bot_mul_of_neg h))
      · exact .inr (.inl (by rw [h, mul_zero]))
      · exact .inl (EReal.bot_mul_of_pos h)
    rcases h with h | h | h <;> rcases ih with i | i | i <;> rw [h, i] <;> simp

/-- … so adding it to itself changes nothing. -/
theorem sum_bot_mul_add_self {n : ℕ} (v : Fin n → EReal) :
    ∑ x, ⊥ * v x + ∑ x, ⊥ * v x = ∑ x, ⊥ * v x := by
  rcases sum_bot_mul v Finset.univ with h | h | h <;> rw [h] <;> simp

/-- Where the denominator is zero every exponential is. -/
theorem exp_eq_zero_of_den {n : ℕ} {s : Fin n → EReal} {sk : EReal} (h : den s sk = 0) (x : Fin n) :
    Ideal.exp (s x - top s sk) = 0 := by
  have h0 : ∀ y ∈ (Finset.univ : Finset (Fin n)), 0 ≤ Ideal.exp (s y - top s sk) := fun y _ => exp_nonneg _
  have h1 := (add_eq_zero_iff_of_nonneg (Finset.sum_nonneg h0) (exp_nonneg _)).mp h
  exact (Finset.sum_eq_zero_iff_of_nonneg h0).mp h1.1 x (Finset.mem_univ x)

/-- The first block of a sequence has no block before it. Its missing keys are masked: whether their values are zeros or a
    copy of the block's own values, the row's attention is the same. -/
theorem attn_first {n : ℕ} (s : Fin (n + n) → EReal) (sk : EReal) (v v' : Fin (n + n) → EReal)
    (hs : ∀ j : Fin n, s (Fin.castAdd n j) = ⊥) (hv : ∀ j : Fin n, v (Fin.natAdd n j) = v' (Fin.natAdd n j))
    (hcopy : ∀ j : Fin n, v (Fin.castAdd n j) = v (Fin.natAdd n j)) (hzero : ∀ j : Fin n, v' (Fin.castAdd n j) = 0) :
    attn s sk v = attn s sk v' := by
  unfold attn
  rw [Fin.sum_univ_add, Fin.sum_univ_add]
  simp only [hcopy, hzero, hv, mul_zero, Finset.sum_const_zero, zero_add]
  by_cases h : den s sk = 0
  · simp only [exp_eq_zero_of_den h, h, div_zero_zero]
    exact sum_bot_mul_add_self _
  · simp only [hs, EReal.bot_sub, Ideal.exp_bot, Ideal.zero_div h, zero_mul, Finset.sum_const_zero, zero_add]

end Cert.Swa

end
-- ==== Proof.Swa.Block.lean ====
/-
  What one grid point of the windowed attention kernel leaves in its output block: eight heads side by side, each the
  attention of its slice of the query block over the previous and the current key block.
-/
module

public import proofs.«01_k».proof.Proof.Gen.KernelIdeal.Value
public import proofs.«01_k».proof.Proof.Swa.Attn
public import Idealize.ShloMosaic.Lib.Pipeline.ValueKit
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem

/-- The named mask literal is `⊥`. -/
theorem mask_eq : (Named.named κ "mask" 0xF149F2CA#32 : Ideal .f32) = (⊥ : EReal) :=
  IdealRules.named_const.ideal_named_scalar _ _ _ _ rfl

/-- One head: scores, masked by column, softmax with the sink, times the values. -/
def headOut (mask : IVec S128x256 1) (q : FVec Ideal S128x64 .bf16) (kb vb : FVec Ideal S256x64 .bf16)
    (b : FVec Ideal S128x256 .f32) (sk : Elt Ideal .f32) : FVec Ideal S128x64 .f32 :=
  let s : FVec Ideal S128x256 .f32 := select mask
    (addf (matmul dot_S128x64_S256x64_S128x256_1_1_0_0_n_n none q kb (constant S128x256 .f32 0x00000000#32)) b)
    (broadcast S128x256 (Named.named κ "mask" 0xF149F2CA#32 : Ideal .f32))
  let mx : FVec Ideal S128x1 .f32 := maximumf
    (shapeCast S128x1 (multiReduction .maximumf [1] S128 s 0xFF800000#32 reduces_S128x256_S128 (.inl rfl) rfl) shapeCasts_S128_S128x1)
    (broadcast S128x1 sk)
  let p : FVec Ideal S128x256 .f32 := exp (subf s (broadcastTo S128x256 mx broadcasts_S128x1_S128x256))
  let den : FVec Ideal S128x1 .f32 := addf
    (shapeCast S128x1 (multiReduction .add [1] S128 p 0x00000000#32 reduces_S128x256_S128 (.inl rfl) rfl) shapeCasts_S128_S128x1)
    (exp (subf (broadcast S128x1 sk) mx))
  matmul dot_S128x256_S256x64_S128x64_1_0_0_1_n_n none
    (truncf .bf16 (divf p (broadcastTo S128x256 den broadcasts_S128x1_S128x256)) bitsLt_bf16_f32) vb
    (constant S128x64 .f32 0x00000000#32)

theorem headOut_apply (mask : IVec S128x256 1) (q : FVec Ideal S128x64 .bf16) (kb vb : FVec Ideal S256x64 .bf16)
    (b : FVec Ideal S128x256 .f32) (sk : Elt Ideal .f32) (a : Fin 128) (d : Fin 64) :
    headOut mask q kb vb b sk (ix2 a d) = Cert.Swa.attn
      (fun j : Fin 256 => Scalar.select (mask (ix2 a j)) (∑ k : Fin 64, q (ix2 a k) * kb (ix2 j k) + b (ix2 a j)) (⊥ : EReal))
      sk (fun j => vb (ix2 j d)) := by
  rw [← mask_eq]
  pointwise [headOut]
  rfl

/-- Eight blocks of 64 columns side by side. -/
def cat8 (f : Fin 8 → FVec Ideal S128x64 .f32) : FVec Ideal S128x512 .f32 :=
  concatenate S128x512 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩] concatenates_S128x64_S128x64_S128x64_S128x64_S128x64_S128x64_S128x64_S128x64_S128x512_d1

theorem cat8_apply (f : Fin 8 → FVec Ideal S128x64 .f32) (a : Fin 128) (hh : Fin 8) (d : Fin 64) :
    cat8 f (ix2 a ⟨64 * hh.val + d.val, by omega⟩) = f hh (ix2 a d) := by
  match hh with
  | 0 | 1 | 2 | 3 | 4 | 5 | 6 | 7 =>
    pointwise [cat8]
    all_goals repeat rw [dif_neg (by omega)]
    all_goals first
      | rw [dif_pos (by omega)]; exact congrArg (f _) (congrArg (ix2 a) (Fin.ext (by simp only []; omega)))
      | exact congrArg (f _) (congrArg (ix2 a) (Fin.ext (by simp only []; omega)))

/-! The body's named terms are the heads. -/

theorem head0 (i : grid0.Coords) (q : FVec Ideal S128x512 .bf16) (kp kc : FVec Ideal S128x64 .f32) (vb : FVec Ideal S256x64 .bf16) (b : FVec Ideal S1x128x256 .f32) (s : Elt Ideal .f32) :
    k0_pay11 vb (k0_pay7 i q kp kc b s) (k0_pay8 i q kp kc b s) (k0_pay9 i q kp kc b s) (k0_pay10 s)
    = headOut (k0_pay2 i) (extractStridedSlice S128x64 ![0, 0] (k0_pay3 q) slices_S128x512_o0_0_S128x64) (k0_pay4 kp kc) vb (shapeCast S128x256 b shapeCasts_S1x128x256_S128x256) s := rfl
theorem head1 (mask : IVec S128x256 1) (v6 : FVec Ideal S128x512 .bf16) (kb vb : FVec Ideal S256x64 .bf16) (b : FVec Ideal S1x128x256 .f32) (s : Elt Ideal .f32) :
    k0_pay12 mask v6 kb vb b s = headOut mask (extractStridedSlice S128x64 ![0, 64] v6 slices_S128x512_o0_64_S128x64) kb vb (shapeCast S128x256 b shapeCasts_S1x128x256_S128x256) s := rfl
theorem head3 (mask : IVec S128x256 1) (v6 : FVec Ideal S128x512 .bf16) (kb vb : FVec Ideal S256x64 .bf16) (b : FVec Ideal S1x128x256 .f32) (s : Elt Ideal .f32) :
    k0_pay17 mask v6 kb vb b s = headOut mask (extractStridedSlice S128x64 ![0, 192] v6 slices_S128x512_o0_192_S128x64) kb vb (shapeCast S128x256 b shapeCasts_S1x128x256_S128x256) s := rfl
theorem head6 (mask : IVec S128x256 1) (v6 : FVec Ideal S128x512 .bf16) (kb vb : FVec Ideal S256x64 .bf16) (b : FVec Ideal S1x128x256 .f32) (s : Elt Ideal .f32) :
    k0_pay24 mask v6 kb vb b s = headOut mask (extractStridedSlice S128x64 ![0, 384] v6 slices_S128x512_o0_384_S128x64) kb vb (shapeCast S128x256 b shapeCasts_S1x128x256_S128x256) s := rfl
theorem head2 (mask : IVec S128x256 1) (v6 : FVec Ideal S128x512 .bf16) (kb vb : FVec Ideal S256x64 .bf16) (b : FVec Ideal S1x128x256 .f32) (s : Elt Ideal .f32) :
    k0_pay16 vb (k0_pay13 mask v6 kb b) s (k0_pay14 mask v6 kb b) (k0_pay15 s) = headOut mask (extractStridedSlice S128x64 ![0, 128] v6 slices_S128x512_o0_128_S128x64) kb vb (shapeCast S128x256 b shapeCasts_S1x128x256_S128x256) s := rfl
theorem head4 (mask : IVec S128x256 1) (v6 : FVec Ideal S128x512 .bf16) (kb : FVec Ideal S256x64 .bf16) (vp vc : FVec Ideal S128x64 .f32) (b : FVec Ideal S1x128x256 .f32) (s : Elt Ideal .f32) :
    k0_pay20 mask v6 kb vp vc b s = headOut mask (extractStridedSlice S128x64 ![0, 256] v6 slices_S128x512_o0_256_S128x64) kb (k0_pay19 vp vc) (shapeCast S128x256 b shapeCasts_S1x128x256_S128x256) s := rfl
theorem head5 (mask : IVec S128x256 1) (v6 : FVec Ideal S128x512 .bf16) (kb vb : FVec Ideal S256x64 .bf16) (b : FVec Ideal S1x128x256 .f32) (s : Elt Ideal .f32) :
    k0_pay23 vb (k0_pay21 mask v6 kb b) s (k0_pay22 mask v6 kb b) = headOut mask (extractStridedSlice S128x64 ![0, 320] v6 slices_S128x512_o0_320_S128x64) kb vb (shapeCast S128x256 b shapeCasts_S1x128x256_S128x256) s := rfl
theorem head7 (mask : IVec S128x256 1) (v6 : FVec Ideal S128x512 .bf16) (kb vb : FVec Ideal S256x64 .bf16) (b : FVec Ideal S1x128x256 .f32) (s : Elt Ideal .f32) (h0 h1 h2 h3 h4 h5 h6 : FVec Ideal S128x64 .f32) :
    k0_pay1 mask h0 h1 h2 h3 vb h4 h5 h6 (k0_pay25 v6 kb) (k0_pay26 b) s
    = truncf .bf16 (cat8 ![h0, h1, h2, h3, h4, h5, h6, headOut mask (extractStridedSlice S128x64 ![0, 448] v6 slices_S128x512_o0_448_S128x64) kb vb (shapeCast S128x256 b shapeCasts_S1x128x256_S128x256) s]) bitsLt_bf16_f32 := rfl

/-- The head `hh` of a block, from the seven input blocks (`x0` sinks, `x1` queries, `x2` and `x4` the current keys and
    values, `x3` and `x5` the previous ones, `x6` the biases). -/
def headVal (i : grid0.Coords) (x0 : FVec Ideal S8 .f32) (x1 : FVec Ideal S128x512 .bf16) (x2 x3 x4 x5 : FVec Ideal S128x128 .f32)
    (x6 : FVec Ideal S8x128x256 .f32) (hh : Fin 8) (a : Fin 128) (d : Fin 64) : EReal :=
  Cert.Swa.attn
    (fun j : Fin 256 => Scalar.select (k0_pay2 i (ix2 a j))
      (∑ k : Fin 64, x1 (ix2 a ⟨64 * hh.val + k.val, by omega⟩)
          * (if h : j.val < 128 then x3 (ix2 ⟨j.val, h⟩ ⟨64 * (hh.val / 4) + k.val, by omega⟩)
             else x2 (ix2 ⟨j.val - 128, by omega⟩ ⟨64 * (hh.val / 4) + k.val, by omega⟩))
        + x6 (ix3 hh a j)) (⊥ : EReal))
    (x0 (ix1 hh))
    (fun j => if h : j.val < 128 then x5 (ix2 ⟨j.val, h⟩ ⟨64 * (hh.val / 4) + d.val, by omega⟩)
             else x4 (ix2 ⟨j.val - 128, by omega⟩ ⟨64 * (hh.val / 4) + d.val, by omega⟩))

variable (m : (ℓ : Loc nD τ sig) → Buf (Elt Ideal) ℓ)

/-- What point `t` leaves at row `a`, column `64 hh + d` of its output block. -/
theorem outs_apply (c : Dev nD) (t : Fin cfg0.N) (a : Fin 128) (hh : Fin 8) (d : Fin 64) :
    outsAt0 m c t (ix2 a ⟨64 * hh.val + d.val, by omega⟩ : S128x512.Idx)
      = headVal (grid0.coords t) (iblk m c 0 t) (iblk m c 1 t) (iblk m c 2 t) (iblk m c 3 t) (iblk m c 4 t) (iblk m c 5 t)
          (iblk m c 6 t) hh a d := by
  unfold outsAt0
  frame_out
  rw [head0, head1, head2, head3, head4, head5, head6, head7]
  refine (cat8_apply _ a hh d).trans ?_
  generalize iblk m c 0 t = x0, iblk m c 1 t = x1, iblk m c 2 t = x2, iblk m c 3 t = x3, iblk m c 4 t = x4, iblk m c 5 t = x5,
    iblk m c 6 t = x6
  match hh with
  | 0 | 1 | 2 | 3 | 4 | 5 | 6 | 7 =>
    refine (headOut_apply _ _ _ _ _ _ a d).trans ?_
    unfold headVal
    pointwise [k0_pay3, k0_pay4, k0_pay5, k0_pay18, k0_pay19]

end Cert.KernelIdeal.Swa

end
-- ==== Proof.Swa.Blocks.lean ====
/- The input blocks of a grid point of the attention kernel, as elements of the arguments. -/
module

public import proofs.«01_k».proof.Proof.Swa.Launch
public import proofs.«01_k».proof.Proof.Swa.Block
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

theorem idx : ∀ t : Fin cfg0.N, win0_0.index t = ![0] ∧ win0_1.index t = ![t.val, 0] ∧ win0_2.index t = ![t.val, 0]
    ∧ win0_3.index t = ![t.val - (if t.val % 64 = 0 then 0 else 1), 0] ∧ win0_4.index t = ![t.val, 0]
    ∧ win0_5.index t = ![t.val - (if t.val % 64 = 0 then 0 else 1), 0] ∧ win0_6.index t = ![0, 0, 0] ∧ win0_7.index t = ![t.val, 0]
    ∧ (grid0.coords t 1).val = t.val % 64 :=
  (by decide +kernel : ∀ t : Fin grid0.N, _)

theorem lt_N (t : Fin cfg0.N) : t.val < 128 := t.isLt

theorem keys_apply (k : FVec Ideal S2x8192x2x64 .f32) (r : Fin 16384) (e : Fin 128) :
    shapeCast S16384x128 k shapeCasts_S2x8192x2x64_S16384x128 (ix2 r e)
      = k (ix4 ⟨r.val / 8192, by omega⟩ ⟨r.val % 8192, by omega⟩ ⟨e.val / 64, by omega⟩ ⟨e.val % 64, by omega⟩) := by
  pointwise []

theorem queries_apply (q : FVec Ideal S2x8192x2x4x64 .f32) (r : Fin 16384) (e : Fin 512) :
    truncf .bf16 (mulf (shapeCast S16384x512 q shapeCasts_S2x8192x2x4x64_S16384x512)
      (broadcastInDim S16384x512 ![] bcast_S_S16384x512 (constant S_ .f32 0x3E000000#32))) bitsLt_bf16_f32 (ix2 r e)
      = q (ix5 ⟨r.val / 8192, by omega⟩ ⟨r.val % 8192, by omega⟩ ⟨e.val / 256, by omega⟩ ⟨e.val / 64 % 4, by omega⟩ ⟨e.val % 64, by omega⟩)
        * Ideal.ofBits FTy.f32 1040187392#32 := by
  pointwise []

variable (m : (ℓ : Loc nD τ sig) → Buf (Elt Ideal) ℓ) (c : Dev nD)

/-- The queries, keys, values, bias table and sinks. -/
abbrev argQ : FVec Ideal S2x8192x2x4x64 .f32 := m ((c.tc : Thread nD τ).loc main_arg0)
abbrev argK : FVec Ideal S2x8192x2x64 .f32 := m ((c.tc : Thread nD τ).loc main_arg1)
abbrev argV : FVec Ideal S2x8192x2x64 .f32 := m ((c.tc : Thread nD τ).loc main_arg2)
abbrev argT : FVec Ideal S32x8 .f32 := m ((c.tc : Thread nD τ).loc main_arg3)
abbrev argS : FVec Ideal S8 .f32 := m ((c.tc : Thread nD τ).loc main_arg4)

theorem sinks_blk (t : Fin cfg0.N) (h : Fin 8) : iblk m c 0 t (ix1 h : S8.Idx) = (argS m c) (ix1 h) := by
  have e : iblk m c 0 t (ix1 h : S8.Idx) = V m c main_arg4 (ix1 h) := by
    blk_ext [iblk, idx t]
  rw [e, V_sinks]

theorem queries_blk (t : Fin cfg0.N) (a : Fin 128) (e : Fin 512) : iblk m c 1 t (ix2 a e : S128x512.Idx)
    = (argQ m c) (ix5 ⟨t.val / 64, by have := lt_N t; omega⟩ ⟨t.val % 64 * 128 + a.val, by omega⟩ ⟨e.val / 256, by omega⟩ ⟨e.val / 64 % 4, by omega⟩ ⟨e.val % 64, by omega⟩)
      * Ideal.ofBits FTy.f32 1040187392#32 := by
  have ht := lt_N t
  have h : iblk m c 1 t (ix2 a e : S128x512.Idx) = V m c main_v219 (ix2 ⟨t.val * 128 + a.val, by omega⟩ e) := by
    blk_ext [iblk, idx t]
  rw [h, V_q]
  refine (queries_apply _ _ _).trans ?_
  refine congrArg (fun i => (argQ m c) i * Ideal.ofBits FTy.f32 1040187392#32) ?_
  congr 1 <;> apply Fin.ext <;> simp only [] <;> omega

theorem kcur (t : Fin cfg0.N) (j : Fin 128) (e : Fin 128) : iblk m c 2 t (ix2 j e : S128x128.Idx)
    = (argK m c) (ix4 ⟨t.val / 64, by have := lt_N t; omega⟩ ⟨t.val % 64 * 128 + j.val, by omega⟩ ⟨e.val / 64, by omega⟩ ⟨e.val % 64, by omega⟩) := by
  have ht := lt_N t
  have h : iblk m c 2 t (ix2 j e : S128x128.Idx) = V m c main_v215 (ix2 ⟨t.val * 128 + j.val, by omega⟩ e) := by
    blk_ext [iblk, idx t]
  rw [h, V_k]
  refine (keys_apply _ _ _).trans ?_
  refine congrArg (argK m c) ?_
  congr 1 <;> apply Fin.ext <;> simp only [] <;> omega

theorem vcur (t : Fin cfg0.N) (j : Fin 128) (e : Fin 128) : iblk m c 4 t (ix2 j e : S128x128.Idx)
    = (argV m c) (ix4 ⟨t.val / 64, by have := lt_N t; omega⟩ ⟨t.val % 64 * 128 + j.val, by omega⟩ ⟨e.val / 64, by omega⟩ ⟨e.val % 64, by omega⟩) := by
  have ht := lt_N t
  have h : iblk m c 4 t (ix2 j e : S128x128.Idx) = V m c main_v216 (ix2 ⟨t.val * 128 + j.val, by omega⟩ e) := by
    blk_ext [iblk, idx t]
  rw [h, V_v]
  refine (keys_apply _ _ _).trans ?_
  refine congrArg (argV m c) ?_
  congr 1 <;> apply Fin.ext <;> simp only [] <;> omega

theorem kprev (t : Fin cfg0.N) (j : Fin 128) (e : Fin 128) : iblk m c 3 t (ix2 j e : S128x128.Idx)
    = (argK m c) (ix4 ⟨t.val / 64, by have := lt_N t; omega⟩ ⟨(t.val % 64 - 1) * 128 + j.val, by omega⟩ ⟨e.val / 64, by omega⟩ ⟨e.val % 64, by omega⟩) := by
  have ht := lt_N t
  have h : iblk m c 3 t (ix2 j e : S128x128.Idx) = V m c main_v215 (ix2 ⟨(t.val - (if t.val % 64 = 0 then 0 else 1)) * 128 + j.val, by split <;> omega⟩ e) := by
    blk_ext [iblk, idx t]
  rw [h, V_k]
  refine (keys_apply _ _ _).trans ?_
  refine congrArg (argK m c) ?_
  congr 1 <;> apply Fin.ext <;> simp only [] <;> split <;> omega

theorem vprev (t : Fin cfg0.N) (j : Fin 128) (e : Fin 128) : iblk m c 5 t (ix2 j e : S128x128.Idx)
    = (argV m c) (ix4 ⟨t.val / 64, by have := lt_N t; omega⟩ ⟨(t.val % 64 - 1) * 128 + j.val, by omega⟩ ⟨e.val / 64, by omega⟩ ⟨e.val % 64, by omega⟩) := by
  have ht := lt_N t
  have h : iblk m c 5 t (ix2 j e : S128x128.Idx) = V m c main_v216 (ix2 ⟨(t.val - (if t.val % 64 = 0 then 0 else 1)) * 128 + j.val, by split <;> omega⟩ e) := by
    blk_ext [iblk, idx t]
  rw [h, V_v]
  refine (keys_apply _ _ _).trans ?_
  refine congrArg (argV m c) ?_
  congr 1 <;> apply Fin.ext <;> simp only [] <;> split <;> omega

theorem bias_blk (t : Fin cfg0.N) (h : Fin 8) (a : Fin 128) (j : Fin 256) : iblk m c 6 t (ix3 h a j : S8x128x256.Idx) = biasTab (argT m c) (ix3 h a j) := by
  have e : iblk m c 6 t (ix3 h a j : S8x128x256.Idx) = V m c main_v213 (ix3 h a j) := by
    blk_ext [iblk, idx t]
  rw [e, V_bias]

end Cert.KernelIdeal.Swa

end
-- ==== Proof.Swa.RefSteps.lean ====
/- The reference of the sliding-window attention, cut into its steps: the distance and validity of a key, the bucket of its distance, the
   bands of keys and values, the scores, the weights and the result; and each step read at an index. -/
module

public import proofs.«01_k».proof.Proof.Gen.ReferenceIdeal.Run
public import proofs.«01_k».proof.Proof.Gen.ReferenceIdeal
public import proofs.«01_k».proof.Proof.Swa.Attn
public import Idealize.ShloMosaic.Lib.StableHlo.ReadAt
public import Idealize.ShloMosaic.Lib.Pointwise

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

/-- The distance 128 + a − j of query `a` of a block to key `j` of its band. -/
def dist : IVec S128x256 32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- Which keys of the band a query of block `b` sees. -/
def valid : IVec S64x128x256 1 :=
  andi (broadcastInDim S64x128x256 ![0, 1, 2] bcast_S1x128x256_S64x128x256_0_1_2 (broadcastInDim S1x128x256 ![1, 2] bcast_S128x256_S1x128x256_1_2
      (andi (cmpi .sge dist (broadcastInDim S128x256 ![] bcast_S_S128x256 (constantI S_ 32 0#32)))
        (cmpi .slt dist (broadcastInDim S128x256 ![] bcast_S_S128x256 (constantI S_ 32 128#32))))))
    (broadcastInDim S64x128x256 ![0, 1, 2] bcast_S64x1x256_S64x128x256_0_1_2 (cmpi .sge
      (addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32))))
        (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0)))))
      (broadcastInDim S64x1x256 ![] bcast_S_S64x1x256 (constantI S_ 32 0#32))))

/-- The bucket of each distance, with the wrap of a negative index. -/
def buckets : IVec S128x256 32 :=
  let n := maxsi dist (broadcastInDim S128x256 ![] bcast_S_S128x256 (constantI S_ 32 0#32))
  let bk := select (cmpi .slt n (broadcastInDim S128x256 ![] bcast_S_S128x256 (constantI S_ 32 16#32))) n
    (minsi (addi (broadcastInDim S128x256 ![] bcast_S_S128x256 (constantI S_ 32 16#32)) (fptosi 32
      (mulf (Host.divf (Host.log (Host.divf (sitofp .f32 (maxsi n (broadcastInDim S128x256 ![] bcast_S_S128x256 (constantI S_ 32 1#32))))
          (broadcastInDim S128x256 ![] bcast_S_S128x256 (constant S_ .f32 0x41800000#32))))
        (broadcastInDim S128x256 ![] bcast_S_S128x256 (constant S_ .f32 0x40051592#32)))
        (broadcastInDim S128x256 ![] bcast_S_S128x256 (constant S_ .f32 0x41800000#32)) : FVec Ideal S128x256 .f32)))
      (broadcastInDim S128x256 ![] bcast_S_S128x256 (constantI S_ 32 31#32)))
  select (cmpi .slt bk (broadcastInDim S128x256 ![] bcast_S_S128x256 (constantI S_ 32 0#32)))
    (addi bk (broadcastInDim S128x256 ![] bcast_S_S128x256 (constantI S_ 32 32#32))) bk

/-- The relative bias of each head, query and key. -/
def bias (tab : FVec Ideal S32x8 .f32) : FVec Ideal S2x4x128x256 .f32 :=
  Host.gather gather_S2x4x32_S128x256x1_S2x4x128x256_01_2_n_n_2_2_241
    (shapeCast S2x4x32 (transpose S8x32 [1, 0] tab transposes_S32x8_S8x32_1_0) shapeCasts_S8x32_S2x4x32)
    (broadcastInDim S128x256x1 ![0, 1] bcast_S128x256_S128x256x1_0_1 buckets)

/-- The band of a block: the block before it (zero before the first) and the block itself. -/
def band (k : FVec Ideal S2x8192x2x64 .f32) : FVec Ideal S2x64x256x2x64 .f32 :=
  concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (shapeCast S2x64x128x2x64 k shapeCasts_S2x8192x2x64_S2x64x128x2x64) slices_S2x64x128x2x64_S2x63x128x2x64_0_0_0_0_0)⟩] concatenates_S2x1x128x2x64_S2x63x128x2x64_S2x64x128x2x64_d1)⟩, ⟨S2x64x128x2x64, (shapeCast S2x64x128x2x64 k shapeCasts_S2x8192x2x64_S2x64x128x2x64)⟩] concatenates_S2x64x128x2x64_S2x64x128x2x64_S2x64x256x2x64_d2

/-- The masked scores, from the queries, a band of keys and a bias. -/
def scores (q : FVec Ideal S2x8192x2x4x64 .f32) (kb : FVec Ideal S2x64x256x2x64 .f32) (bs : FVec Ideal S2x4x128x256 .f32) :
    FVec Ideal S2x64x2x4x128x256 .f32 :=
  select (broadcastInDim S2x64x2x4x128x256 ![1, 2, 3, 4, 5] bcast_S64x1x1x128x256_S2x64x2x4x128x256_1_2_3_4_5 (broadcastInDim S64x1x1x128x256 ![0, 3, 4] bcast_S64x128x256_S64x1x1x128x256_0_3_4 valid))
    (addf (mulf (transpose S2x64x2x4x128x256 [0, 1, 2, 5, 4, 3] (Host.dotGeneral dot_S2x64x256x2x64_S2x64x128x2x4x64_S2x64x2x256x128x4_4_5_2_24_013_013 none kb (shapeCast S2x64x128x2x4x64 q shapeCasts_S2x8192x2x4x64_S2x64x128x2x4x64)) transposes_S2x64x2x256x128x4_S2x64x2x4x128x256_0_1_2_5_4_3)
        (broadcastInDim S2x64x2x4x128x256 ![] bcast_S_S2x64x2x4x128x256 (constant S_ .f32 0x3E000000#32)))
      (broadcastInDim S2x64x2x4x128x256 ![0, 1, 2, 3, 4, 5] bcast_S1x1x2x4x128x256_S2x64x2x4x128x256_0_1_2_3_4_5 (broadcastInDim S1x1x2x4x128x256 ![2, 3, 4, 5] bcast_S2x4x128x256_S1x1x2x4x128x256_2_3_4_5 bs)))
    (broadcastInDim S2x64x2x4x128x256 ![] bcast_S_S2x64x2x4x128x256 (constant S_ .f32 0xFF800000#32))

/-- The sink of each head, one per query. -/
def sinkCol (sinks : FVec Ideal S8 .f32) : FVec Ideal S2x64x2x4x128x1 .f32 :=
  broadcastInDim S2x64x2x4x128x1 ![0, 1, 2, 3, 4, 5] bcast_S1x1x2x4x1x1_S2x64x2x4x128x1_0_1_2_3_4_5 (broadcastInDim S1x1x2x4x1x1 ![2, 3, 4, 5] bcast_S2x4x1x1_S1x1x2x4x1x1_2_3_4_5 (broadcastInDim S2x4x1x1 ![0, 1] bcast_S2x4_S2x4x1x1_0_1 (shapeCast S2x4 sinks shapeCasts_S8_S2x4)))

/-- The fold of the maximum over the last axis. -/
def redMax (s : FVec Ideal S2x64x2x4x128x256 .f32) : FVec Ideal S2x64x2x4x128 .f32 :=
  Host.reduce (FloatOps.maximumf : Ideal .f32 → Ideal .f32 → Ideal .f32) s (constant S_ .f32 0xFF800000#32) reducesTo_S2x64x2x4x128x256_S2x64x2x4x128_d5 h_S_

/-- The sum over the last axis. -/
def redSum (s : FVec Ideal S2x64x2x4x128x256 .f32) : FVec Ideal S2x64x2x4x128 .f32 :=
  Host.reduceAdd s (constant S_ .f32 0x00000000#32) reducesTo_S2x64x2x4x128x256_S2x64x2x4x128_d5 h_S_

/-- The greater of a row's value and its sink. -/
def maxCol (y : FVec Ideal S2x64x2x4x128 .f32) (sk : FVec Ideal S2x64x2x4x128x1 .f32) : FVec Ideal S2x64x2x4x128x1 .f32 :=
  maximumf (broadcastInDim S2x64x2x4x128x1 ![0, 1, 2, 3, 4] bcast_S2x64x2x4x128_S2x64x2x4x128x1_0_1_2_3_4 y) sk

/-- The maximum that the softmax subtracts. -/
def rowMax (s : FVec Ideal S2x64x2x4x128x256 .f32) (sk : FVec Ideal S2x64x2x4x128x1 .f32) : FVec Ideal S2x64x2x4x128x1 .f32 :=
  maxCol (redMax s) sk

/-- The exponentials of the scores less their maximum. -/
def expo (s : FVec Ideal S2x64x2x4x128x256 .f32) (mx : FVec Ideal S2x64x2x4x128x1 .f32) : FVec Ideal S2x64x2x4x128x256 .f32 :=
  Host.exp (subf s (broadcastInDim S2x64x2x4x128x256 ![0, 1, 2, 3, 4, 5] bcast_S2x64x2x4x128x1_S2x64x2x4x128x256_0_1_2_3_4_5 mx))

/-- The denominator: the exponentials and the sink's. -/
def denom (p : FVec Ideal S2x64x2x4x128x256 .f32) (sk mx : FVec Ideal S2x64x2x4x128x1 .f32) : FVec Ideal S2x64x2x4x128x1 .f32 :=
  addf (broadcastInDim S2x64x2x4x128x1 ![0, 1, 2, 3, 4] bcast_S2x64x2x4x128_S2x64x2x4x128x1_0_1_2_3_4
    (redSum p)) (Host.exp (subf sk mx))

/-- The softmax with the sink in its denominator. -/
def weights (s : FVec Ideal S2x64x2x4x128x256 .f32) (sinks : FVec Ideal S8 .f32) : FVec Ideal S2x64x2x4x128x256 .f32 :=
  Host.divf (expo s (rowMax s (sinkCol sinks))) (broadcastInDim S2x64x2x4x128x256 ![0, 1, 2, 3, 4, 5] bcast_S2x64x2x4x128x1_S2x64x2x4x128x256_0_1_2_3_4_5
    (denom (expo s (rowMax s (sinkCol sinks))) (sinkCol sinks) (rowMax s (sinkCol sinks))))

/-- The weighted band of values, laid out one row per token. -/
def out (vb : FVec Ideal S2x64x256x2x64 .f32) (w : FVec Ideal S2x64x2x4x128x256 .f32) : FVec Ideal S16384x512 .bf16 :=
  truncf .bf16 (shapeCast S16384x512 (transpose S2x64x128x2x4x64 [0, 1, 5, 2, 4, 3] (Host.dotGeneral dot_S2x64x256x2x64_S2x64x2x4x128x256_S2x64x2x64x4x128_2_5_4_34_013_012 none vb w) transposes_S2x64x2x64x4x128_S2x64x128x2x4x64_0_1_5_2_4_3) shapeCasts_S2x64x128x2x4x64_S16384x512) bitsLt_bf16_f32

/-- The reference's result is these steps one after another. -/
theorem res_eq (m : (ℓ : Loc nD τ sig) → Buf (Elt Ideal) ℓ) (c : Dev nD) :
    Cert.ReferenceIdeal.Value.res_main_v101 m c
      = out (band (m ((c.tc : Thread nD τ).loc main_arg2)))
          (weights (scores (m ((c.tc : Thread nD τ).loc main_arg0)) (band (m ((c.tc : Thread nD τ).loc main_arg1))) (bias (m ((c.tc : Thread nD τ).loc main_arg3))))
            (m ((c.tc : Thread nD τ).loc main_arg4))) := rfl

end Cert.ReferenceIdeal.Swa

end
-- ==== Proof.Swa.RefA.lean ====
/- The steps of the windowed attention's reference read at an index. -/
module

public import proofs.«01_k».proof.Proof.Swa.RefSteps

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

theorem dist_apply (a : Fin 128) (j : Fin 256) :
    dist (ix2 a j) = 128#32 + BitVec.ofNat 32 a.val - BitVec.ofNat 32 j.val := by
  pointwise [dist]
  rfl

theorem valid_apply (n : Fin 64) (a : Fin 128) (j : Fin 256) :
    valid (ix3 n a j) = IntOp.andi (IntOp.andi (IntOp.cmpi .sge (dist (ix2 a j)) 0#32) (IntOp.cmpi .slt (dist (ix2 a j)) 128#32))
      (IntOp.cmpi .sge (IntOp.addi (IntOp.subi (IntOp.muli (BitVec.ofNat 32 n.val) 128#32) 128#32) (BitVec.ofNat 32 j.val)) 0#32) := by
  pointwise [valid]

/-- The logarithm of `n / 16` to the base of the literal nearest 8, sixteen times. -/
def refLog (n : BitVec 32) : EReal :=
  Ideal.div (Ideal.log (Ideal.div (FloatOps.sitofp (F := Ideal) FTy.f32 n) (Ideal.ofBits FTy.f32 1098907648#32)))
    (Ideal.ofBits FTy.f32 1074075026#32) * Ideal.ofBits FTy.f32 1098907648#32

/-- The bucket of a distance: the distance itself below 16, then logarithmically up to 31. -/
def refBucket (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32 (refLog (IntOp.maxsi (IntOp.maxsi d 0#32) 1#32)))) 31#32)

theorem buckets_apply (a : Fin 128) (j : Fin 256) :
    buckets (ix2 a j) = Scalar.select (IntOp.cmpi .slt (refBucket (dist (ix2 a j))) 0#32)
      (IntOp.addi (refBucket (dist (ix2 a j))) 32#32) (refBucket (dist (ix2 a j))) := by
  pointwise [buckets, refBucket, refLog]

theorem band_apply (k : FVec Ideal S2x8192x2x64 .f32) (b : Fin 2) (n : Fin 64) (j : Fin 256) (v : Fin 2) (d : Fin 64) :
    band k (ix5 b n j v d) = if h : j.val < 128 then
        if h' : n.val < 1 then (0 : EReal) else k (ix4 b ⟨(n.val - 1) * 128 + j.val, by omega⟩ v d)
      else k (ix4 b ⟨n.val * 128 + (j.val - 128), by omega⟩ v d) := by
  pointwise [band]
  try simp only [Ideal.ofBits_zero]
  try rfl

end Cert.ReferenceIdeal.Swa

end
-- ==== Proof.Swa.HostAt.lean ====
/- The steps of the kernel's bias table read at an index. -/
module

public import proofs.«01_k».proof.Proof.Swa.Host

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

theorem dist_apply (r : Fin 1024) (j : Fin 256) :
    dist (ix2 r j) = 128#32 + BitVec.ofNat 32 (r.val % 128) - BitVec.ofNat 32 j.val := by
  pointwise [dist]
  rfl

theorem valid_apply (d : IVec S1024x256 32) (r : Fin 1024) (j : Fin 256) :
    valid d (ix2 r j) = IntOp.andi (IntOp.cmpi .sge (d (ix2 r j)) 0#32) (IntOp.cmpi .slt (d (ix2 r j)) 128#32) := by
  pointwise [valid]

/-- One where a distance has reached `t`. -/
def stepN (n t : BitVec 32) : BitVec 32 := Scalar.select (IntOp.cmpi .sge n t) 1#32 0#32

/-- The bucket of a distance by its thresholds. -/
def bucketN (n : BitVec 32) : BitVec 32 :=
  Scalar.select (IntOp.cmpi .slt n 16#32) n
    (IntOp.addi (IntOp.addi (IntOp.addi (IntOp.addi (IntOp.addi (IntOp.addi (IntOp.addi (IntOp.addi (IntOp.addi (IntOp.addi (IntOp.addi (IntOp.addi (IntOp.addi (IntOp.addi (IntOp.addi 16#32 (stepN n 19#32)) (stepN n 21#32)) (stepN n 24#32)) (stepN n 27#32)) (stepN n 31#32)) (stepN n 35#32)) (stepN n 40#32)) (stepN n 46#32)) (stepN n 52#32)) (stepN n 59#32)) (stepN n 67#32)) (stepN n 77#32)) (stepN n 87#32)) (stepN n 99#32)) (stepN n 113#32))

theorem step_apply (n : IVec S1024x256 32) (t : BitVec 32) (r : Fin 1024) (j : Fin 256) :
    step n t (ix2 r j) = stepN (n (ix2 r j)) t := by
  pointwise [step, stepN]

theorem bucket_apply (n : IVec S1024x256 32) (r : Fin 1024) (j : Fin 256) :
    bucket n (ix2 r j) = bucketN (n (ix2 r j)) := by
  unfold bucketN
  simp only [← step_apply]
  pointwise [bucket]

theorem pick_apply (bk : IVec S1024x256 32) (b : BitVec 32) (col : FVec Ideal S1024x1 .f32) (prev : FVec Ideal S1024x256 .f32) (r : Fin 1024) (j : Fin 256) :
    pick bk b col prev (ix2 r j) = Scalar.select (IntOp.cmpi .eq (bk (ix2 r j)) b) (col (ix2 r (0 : Fin 1))) (prev (ix2 r j)) := by
  pointwise [pick]

theorem slice_apply (rw : FVec Ideal S1024x32 .f32) (k : ℕ) (hk : k < 32) (h : S1024x32.Slices ![0, k] S1024x1) (r : Fin 1024) :
    extractStridedSlice S1024x1 ![0, k] rw h (ix2 r (0 : Fin 1)) = rw (ix2 r ⟨k, hk⟩) := by
  refine congrArg rw (funext fun a => Fin.ext ?_)
  match a with
  | ⟨0, _⟩ => exact Nat.zero_add _
  | ⟨1, _⟩ => rfl

/-- Selections one after another by a word, from any columns. -/
def chainN (w : BitVec 32) (f : Fin 32 → EReal) : EReal :=
  (Scalar.select (IntOp.cmpi .eq w 31#32) (f 31) (Scalar.select (IntOp.cmpi .eq w 30#32) (f 30) (Scalar.select (IntOp.cmpi .eq w 29#32) (f 29) (Scalar.select (IntOp.cmpi .eq w 28#32) (f 28) (Scalar.select (IntOp.cmpi .eq w 27#32) (f 27) (Scalar.select (IntOp.cmpi .eq w 26#32) (f 26) (Scalar.select (IntOp.cmpi .eq w 25#32) (f 25) (Scalar.select (IntOp.cmpi .eq w 24#32) (f 24) (Scalar.select (IntOp.cmpi .eq w 23#32) (f 23) (Scalar.select (IntOp.cmpi .eq w 22#32) (f 22) (Scalar.select (IntOp.cmpi .eq w 21#32) (f 21) (Scalar.select (IntOp.cmpi .eq w 20#32) (f 20) (Scalar.select (IntOp.cmpi .eq w 19#32) (f 19) (Scalar.select (IntOp.cmpi .eq w 18#32) (f 18) (Scalar.select (IntOp.cmpi .eq w 17#32) (f 17) (Scalar.select (IntOp.cmpi .eq w 16#32) (f 16) (Scalar.select (IntOp.cmpi .eq w 15#32) (f 15) (Scalar.select (IntOp.cmpi .eq w 14#32) (f 14) (Scalar.select (IntOp.cmpi .eq w 13#32) (f 13) (Scalar.select (IntOp.cmpi .eq w 12#32) (f 12) (Scalar.select (IntOp.cmpi .eq w 11#32) (f 11) (Scalar.select (IntOp.cmpi .eq w 10#32) (f 10) (Scalar.select (IntOp.cmpi .eq w 9#32) (f 9) (Scalar.select (IntOp.cmpi .eq w 8#32) (f 8) (Scalar.select (IntOp.cmpi .eq w 7#32) (f 7) (Scalar.select (IntOp.cmpi .eq w 6#32) (f 6) (Scalar.select (IntOp.cmpi .eq w 5#32) (f 5) (Scalar.select (IntOp.cmpi .eq w 4#32) (f 4) (Scalar.select (IntOp.cmpi .eq w 3#32) (f 3) (Scalar.select (IntOp.cmpi .eq w 2#32) (f 2) (Scalar.select (IntOp.cmpi .eq w 1#32) (f 1) (Scalar.select (IntOp.cmpi .eq w 0#32) (f 0) (Ideal.ofBits FTy.f32 0x00000000#32)))))))))))))))))))))))))))))))))

theorem chainN_eq (f : Fin 32 → EReal) (k : Fin 32) : chainN (BitVec.ofNat 32 k.val) f = f k := by
  fin_cases k <;> rfl

theorem pickAll_word (bk : IVec S1024x256 32) (rw : FVec Ideal S1024x32 .f32) (r : Fin 1024) (j : Fin 256) :
    pickAll bk rw (ix2 r j) = chainN (bk (ix2 r j)) (fun k => rw (ix2 r k)) := by
  unfold pickAll
  simp only [pick_apply]
  rw [slice_apply rw 0 (by omega) slices_S1024x32_S1024x1_0_0 r, slice_apply rw 1 (by omega) slices_S1024x32_S1024x1_0_1 r, slice_apply rw 2 (by omega) slices_S1024x32_S1024x1_0_2 r, slice_apply rw 3 (by omega) slices_S1024x32_S1024x1_0_3 r, slice_apply rw 4 (by omega) slices_S1024x32_S1024x1_0_4 r, slice_apply rw 5 (by omega) slices_S1024x32_S1024x1_0_5 r, slice_apply rw 6 (by omega) slices_S1024x32_S1024x1_0_6 r, slice_apply rw 7 (by omega) slices_S1024x32_S1024x1_0_7 r, slice_apply rw 8 (by omega) slices_S1024x32_S1024x1_0_8 r, slice_apply rw 9 (by omega) slices_S1024x32_S1024x1_0_9 r, slice_apply rw 10 (by omega) slices_S1024x32_S1024x1_0_10 r, slice_apply rw 11 (by omega) slices_S1024x32_S1024x1_0_11 r, slice_apply rw 12 (by omega) slices_S1024x32_S1024x1_0_12 r, slice_apply rw 13 (by omega) slices_S1024x32_S1024x1_0_13 r, slice_apply rw 14 (by omega) slices_S1024x32_S1024x1_0_14 r, slice_apply rw 15 (by omega) slices_S1024x32_S1024x1_0_15 r, slice_apply rw 16 (by omega) slices_S1024x32_S1024x1_0_16 r, slice_apply rw 17 (by omega) slices_S1024x32_S1024x1_0_17 r, slice_apply rw 18 (by omega) slices_S1024x32_S1024x1_0_18 r, slice_apply rw 19 (by omega) slices_S1024x32_S1024x1_0_19 r, slice_apply rw 20 (by omega) slices_S1024x32_S1024x1_0_20 r, slice_apply rw 21 (by omega) slices_S1024x32_S1024x1_0_21 r, slice_apply rw 22 (by omega) slices_S1024x32_S1024x1_0_22 r, slice_apply rw 23 (by omega) slices_S1024x32_S1024x1_0_23 r, slice_apply rw 24 (by omega) slices_S1024x32_S1024x1_0_24 r, slice_apply rw 25 (by omega) slices_S1024x32_S1024x1_0_25 r, slice_apply rw 26 (by omega) slices_S1024x32_S1024x1_0_26 r, slice_apply rw 27 (by omega) slices_S1024x32_S1024x1_0_27 r, slice_apply rw 28 (by omega) slices_S1024x32_S1024x1_0_28 r, slice_apply rw 29 (by omega) slices_S1024x32_S1024x1_0_29 r, slice_apply rw 30 (by omega) slices_S1024x32_S1024x1_0_30 r, slice_apply rw 31 (by omega) slices_S1024x32_S1024x1_0_31 r]
  rfl

theorem pickAll_apply (bk : IVec S1024x256 32) (rw : FVec Ideal S1024x32 .f32) (r : Fin 1024) (j : Fin 256) (k : Fin 32)
    (h : bk (ix2 r j) = BitVec.ofNat 32 k.val) : pickAll bk rw (ix2 r j) = rw (ix2 r k) := by
  rw [pickAll_word, h, chainN_eq]

theorem biasTab_apply (tab : FVec Ideal S32x8 .f32) (h : Fin 8) (a : Fin 128) (j : Fin 256) :
    biasTab tab (ix3 h a j) = Scalar.select (valid dist (ix2 ⟨h.val * 128 + a.val, by omega⟩ j))
      (pickAll (bucket (maxsi dist (broadcastInDim S1024x256 ![] bcast_S_S1024x256 (constantI S_ 32 0#32)))) (takeRows tab headIdx) (ix2 ⟨h.val * 128 + a.val, by omega⟩ j))
      (Ideal.ofBits FTy.f32 4286578688#32) := by
  unfold biasTab
  generalize pickAll _ _ = y
  generalize valid dist = w
  pointwise []

end Cert.KernelIdeal.Swa

end
-- ==== Proof.Swa.Bucket.lean ====
/- The bucket of a distance, by logarithm and by thresholds: the powers of the base of the logarithm lie between the same whole numbers
   as the thresholds. -/
module

public import proofs.«01_k».proof.Proof.Swa.RefA
public import proofs.«01_k».proof.Proof.Swa.HostAt

@[expose] public section

set_option maxRecDepth 16384

noncomputable section

namespace Cert.Swa

open Idealize.ShloMosaic

/-- The logarithm's literal. -/
def c8 : ℝ := 8721810 / 4194304

theorem lit_c8 : Ideal.ofBits FTy.f32 1074075026#32 = ((c8 : ℝ) : EReal) := by
  simp [Ideal.ofBits, Ideal.ieee, c8]
  rw [← EReal.coe_mul]
  norm_num

theorem lit_16 : Ideal.ofBits FTy.f32 1098907648#32 = ((16 : ℝ) : EReal) := by
  simp [Ideal.ofBits, Ideal.ieee]
  rw [← EReal.coe_mul]
  norm_num

theorem exp_low : (113878 / 100000 : ℝ) ≤ Real.exp (c8 / 16) := by
  refine le_trans ?_ (Real.sum_le_exp_of_nonneg (by unfold c8; norm_num) 6)
  simp only [Finset.sum_range_succ, Finset.sum_range_zero, c8, Nat.factorial]
  norm_num

theorem exp_high : Real.exp (c8 / 16) ≤ (113879 / 100000 : ℝ) := by
  refine le_trans (Real.exp_bound' (n := 6) (by unfold c8; norm_num) (by unfold c8; norm_num) (by norm_num)) ?_
  simp only [Finset.sum_range_succ, Finset.sum_range_zero, c8, Nat.factorial]
  norm_num

/-- Between the `k`-th and the next power of the base, sixteen times the logarithm has whole part `k`. -/
theorem floor_log (n k : ℕ) (h0 : 0 < n) (h1 : 16 * 113879 ^ k ≤ n * 100000 ^ k) (h2 : n * 100000 ^ (k + 1) < 16 * 113878 ^ (k + 1)) :
    ⌊Real.log ((n : ℝ) / 16) * (1 / c8) * 16⌋ = (k : ℤ) := by
  have hc : (0 : ℝ) < c8 := by unfold c8; norm_num
  have hn : (0 : ℝ) < (n : ℝ) / 16 := by positivity
  have e1 : Real.exp (c8 / 16) ^ k ≤ (n : ℝ) / 16 := by
    refine le_trans (pow_le_pow_left₀ (Real.exp_pos _).le exp_high k) ?_
    rw [div_pow, div_le_div_iff₀ (by positivity) (by norm_num)]
    have : ((16 * 113879 ^ k : ℕ) : ℝ) ≤ ((n * 100000 ^ k : ℕ) : ℝ) := by exact_mod_cast h1
    push_cast at this
    linarith
  have e2 : (n : ℝ) / 16 < Real.exp (c8 / 16) ^ (k + 1) := by
    refine lt_of_lt_of_le ?_ (pow_le_pow_left₀ (by norm_num) exp_low (k + 1))
    rw [div_pow, div_lt_div_iff₀ (by norm_num) (by positivity)]
    have : ((n * 100000 ^ (k + 1) : ℕ) : ℝ) < ((16 * 113878 ^ (k + 1) : ℕ) : ℝ) := by exact_mod_cast h2
    push_cast at this
    linarith
  rw [← Real.exp_nat_mul, ← Real.le_log_iff_exp_le hn] at e1
  rw [← Real.exp_nat_mul, ← Real.log_lt_iff_lt_exp hn] at e2
  have e : Real.log ((n : ℝ) / 16) * (1 / c8) * 16 = Real.log ((n : ℝ) / 16) * 16 / c8 := by ring
  rw [Int.floor_eq_iff, e]
  constructor
  · rw [le_div_iff₀ hc]
    push_cast
    linarith
  · rw [div_lt_iff₀ hc]
    push_cast at e2 ⊢
    linarith

/-- The bucket as a whole number. -/
def bucketNat (n : ℕ) : ℕ :=
  if n < 16 then n else 16 + ([19, 21, 24, 27, 31, 35, 40, 46, 52, 59, 67, 77, 87, 99, 113].filter (· ≤ n)).length

theorem powers : ∀ n : Fin 128, 16 ≤ n.val → 16 * 113879 ^ (bucketNat n.val - 16) ≤ n.val * 100000 ^ (bucketNat n.val - 16)
    ∧ n.val * 100000 ^ (bucketNat n.val - 16 + 1) < 16 * 113878 ^ (bucketNat n.val - 16 + 1) := by
  decide +kernel

theorem bucketNat_lt : ∀ n : Fin 128, bucketNat n.val < 32 := by decide +kernel

theorem kernel_bucket : ∀ n : Fin 128, Cert.KernelIdeal.Swa.bucketN (IntOp.maxsi (BitVec.ofNat 32 n.val) 0#32) = BitVec.ofNat 32 (bucketNat n.val) := by
  decide +kernel

/-- The reference's logarithm, cut to a whole number. -/
theorem ref_log (n : Fin 128) (h : 16 ≤ n.val) :
    FloatOps.fptosi (F := Ideal) (φ := .f32) 32 (Cert.ReferenceIdeal.Swa.refLog (BitVec.ofNat 32 n.val)) = BitVec.ofNat 32 (bucketNat n.val - 16) := by
  have hi : (BitVec.ofNat 32 n.val).toInt = (n.val : ℤ) := by
    rw [BitVec.toInt_eq_toNat_of_lt] <;> simp only [BitVec.toNat_ofNat] <;> omega
  have hl : Cert.ReferenceIdeal.Swa.refLog (BitVec.ofNat 32 n.val) = ((Real.log ((n.val : ℝ) / 16) * (1 / c8) * 16 : ℝ) : EReal) := by
    unfold Cert.ReferenceIdeal.Swa.refLog
    have hc : c8 ≠ 0 := by unfold c8; norm_num
    have hn : (0 : ℝ) < (n.val : ℝ) := by exact_mod_cast (by omega : 0 < n.val)
    have hp : ¬ (n.val : ℝ) * (1 / 16) ≤ 0 := by
      have : (0 : ℝ) < (n.val : ℝ) * (1 / 16) := by positivity
      exact not_le.mpr this
    rw [lit_c8, lit_16, Ideal.div_coe (y := 16) (by norm_num), Ideal.div_coe hc]
    show Ideal.log ((((BitVec.ofNat 32 n.val).toInt : ℝ) : EReal) * ((1 / 16 : ℝ) : EReal)) * _ * _ = _
    rw [hi, ← EReal.coe_mul, Ideal.log_coe, Int.cast_natCast, if_neg hp, ← EReal.coe_mul, ← EReal.coe_mul]
    simp only [mul_one_div]
  rw [hl]
  obtain ⟨h1, h2⟩ := powers n h
  have hf := floor_log n.val (bucketNat n.val - 16) (by omega) h1 h2
  have hb := bucketNat_lt n
  have hpos : (0 : ℝ) ≤ Real.log ((n.val : ℝ) / 16) * (1 / c8) * 16 := by
    have := Int.floor_le (Real.log ((n.val : ℝ) / 16) * (1 / c8) * 16)
    rw [hf] at this
    exact le_trans (by positivity) this
  show Ideal.fptosi 32 _ = _
  unfold Ideal.fptosi
  rw [Ideal.toIntClamped_coe, if_pos hpos, hf, min_eq_right (by norm_num; omega), max_eq_right (by norm_num)]
  rfl

theorem max_word : ∀ n : Fin 128, IntOp.maxsi (BitVec.ofNat 32 n.val) 0#32 = BitVec.ofNat 32 n.val := by decide +kernel
theorem max1_word : ∀ n : Fin 128, 16 ≤ n.val → IntOp.maxsi (BitVec.ofNat 32 n.val) 1#32 = BitVec.ofNat 32 n.val := by decide +kernel
theorem min_word : ∀ k : Fin 16, IntOp.minsi (IntOp.addi 16#32 (BitVec.ofNat 32 k.val)) 31#32 = BitVec.ofNat 32 (k.val + 16) := by decide +kernel
theorem small_word : ∀ n : Fin 128, n.val < 16 → IntOp.cmpi .slt (BitVec.ofNat 32 n.val) 16#32 = 1#1 := by decide +kernel
theorem large_word : ∀ n : Fin 128, 16 ≤ n.val → IntOp.cmpi .slt (BitVec.ofNat 32 n.val) 16#32 = 0#1 := by decide +kernel
theorem bucketNat_ge : ∀ n : Fin 128, 16 ≤ n.val → 16 ≤ bucketNat n.val := by decide +kernel

theorem ref_bucket (n : Fin 128) : Cert.ReferenceIdeal.Swa.refBucket (BitVec.ofNat 32 n.val) = BitVec.ofNat 32 (bucketNat n.val) := by
  unfold Cert.ReferenceIdeal.Swa.refBucket
  rw [max_word n]
  rcases Nat.lt_or_ge n.val 16 with h | h
  · rw [small_word n h, bucketNat, if_pos h]
    rfl
  · have hb := bucketNat_lt n
    have hg := bucketNat_ge n h
    rw [large_word n h, max1_word n h, ref_log n h]
    have := min_word ⟨bucketNat n.val - 16, by omega⟩
    simp only [] at this
    rw [this, Nat.sub_add_cancel hg]
    rfl

end Cert.Swa

end
-- ==== Proof.Swa.Words.lean ====
/- Words of the mask: which keys of a band a query sees, and the bucket of a key in the window. -/
module

public import proofs.«01_k».proof.Proof.Swa.Bucket

@[expose] public section

set_option maxRecDepth 16384

noncomputable section

namespace Cert.Swa

open Idealize.ShloMosaic

/-- The distance of key `j` of the band from query `a`. -/
def distW (a j : ℕ) : BitVec 32 := 128#32 + BitVec.ofNat 32 a - BitVec.ofNat 32 j

/-- Whether a distance lies in the window. -/
def inWin (d : BitVec 32) : BitVec 1 := IntOp.andi (IntOp.cmpi .sge d 0#32) (IntOp.cmpi .slt d 128#32)

/-- Whether key `j` of the band of block `n` exists. -/
def exists_ (n j : ℕ) : BitVec 1 :=
  IntOp.cmpi .sge (IntOp.addi (IntOp.subi (IntOp.muli (BitVec.ofNat 32 n) 128#32) 128#32) (BitVec.ofNat 32 j)) 0#32

theorem inWin_eq : ∀ (a : Fin 128) (j : Fin 256), inWin (distW a.val j.val) = if a.val < j.val ∧ j.val ≤ 128 + a.val then 1#1 else 0#1 := by
  decide +kernel

theorem distW_eq (a : Fin 128) (j : Fin 256) (h : j.val ≤ 128 + a.val) : distW a.val j.val = BitVec.ofNat 32 (128 + a.val - j.val) := by
  unfold distW
  apply BitVec.eq_of_toNat_eq
  simp only [BitVec.toNat_sub, BitVec.toNat_add, BitVec.toNat_ofNat]
  omega

theorem exists_eq : ∀ (n : Fin 64) (j : Fin 256), exists_ n.val j.val = if 0 < n.val ∨ 128 ≤ j.val then 1#1 else 0#1 := by
  decide +kernel

theorem wrap_bucket : ∀ k : Fin 32, min (Scalar.select (IntOp.cmpi .slt (BitVec.ofNat 32 k.val) 0#32) (IntOp.addi (BitVec.ofNat 32 k.val) 32#32) (BitVec.ofNat 32 k.val)).toInt.toNat 31 = k.val := by
  decide +kernel

/-- A finite factor that is not negative comes out of a sum of products. -/
theorem sum_scale {n : ℕ} (f g : Fin n → EReal) (r : ℝ) (hr : 0 ≤ r) :
    ∑ k, f k * (r : EReal) * g k = (∑ k, g k * f k) * (r : EReal) := by
  have h : ∀ u : Finset (Fin n), ∑ k ∈ u, f k * (r : EReal) * g k = (∑ k ∈ u, g k * f k) * (r : EReal) := fun u => by
    classical
    induction u using Finset.induction_on with
    | empty => simp
    | insert a u ha ih =>
      rw [Finset.sum_insert ha, Finset.sum_insert ha, ih,
        EReal.right_distrib_of_nonneg_of_ne_top (by exact_mod_cast hr) (EReal.coe_ne_top r)]
      congr 1
      rw [mul_right_comm, mul_comm (f a)]
  exact h Finset.univ

theorem lit_eighth : Ideal.ofBits FTy.f32 1040187392#32 = ((1 / 8 : ℝ) : EReal) := by
  simp [Ideal.ofBits, Ideal.ieee]
  rw [← EReal.coe_mul]
  norm_num

theorem lit_low : Ideal.ofBits FTy.f32 4286578688#32 = (⊥ : EReal) := by
  simp [Ideal.ofBits, Ideal.ieee]

end Cert.Swa

end
-- ==== Proof.Swa.Rows.lean ====
/- The rows of the relative-bias table that the kernel's host takes: row `r` is that of head `r / 128`. -/
module

public import proofs.«01_k».proof.Proof.Swa.Host
public import Idealize.ShloMosaic.Lib.Routing.Ops

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

theorem headIdx_word (r : Fin 1024) (z : Fin 1) :
    headIdx (ix2 r z) = Scalar.select (IntOp.cmpi .slt (BitVec.ofNat 32 (r.val / 128)) 0#32) (IntOp.addi (BitVec.ofNat 32 (r.val / 128)) 8#32) (BitVec.ofNat 32 (r.val / 128)) := by
  pointwise [headIdx]
  try rfl

theorem wrap_word : ∀ k : Fin 8, Scalar.select (IntOp.cmpi .slt (BitVec.ofNat 32 k.val) 0#32) (IntOp.addi (BitVec.ofNat 32 k.val) 8#32) (BitVec.ofNat 32 k.val) = BitVec.ofNat 32 k.val := by
  decide

theorem headIdx_apply (r : Fin 1024) (z : Fin 1) : headIdx (ix2 r z) = BitVec.ofNat 32 (r.val / 128) :=
  (headIdx_word r z).trans (wrap_word ⟨r.val / 128, by omega⟩)

theorem inTable_apply (i : IVec S1024x1 32) (r : Fin 1024) (z : Fin 1) :
    inTable i (ix2 r z) = IntOp.andi (IntOp.cmpi .sge (i (ix2 r z)) 0#32) (IntOp.cmpi .sle (i (ix2 r z)) 7#32) := by
  pointwise [inTable]

theorem in_word : ∀ k : Fin 8, IntOp.andi (IntOp.cmpi .sge (BitVec.ofNat 32 k.val) 0#32) (IntOp.cmpi .sle (BitVec.ofNat 32 k.val) 7#32) = 1#1 := by
  decide

theorem red1 : S1024x1.Reduces [1] S1024 := by decide

theorem lift1 (r : Fin 1024) (k : Fin 1) : red1.lift (ix1 r) k = ix2 r k := by
  funext c
  apply Fin.ext
  fin_cases c <;> rfl

theorem all_apply (x : IVec S1024x1 1) (r : Fin 1024) (h : x (ix2 r (0 : Fin 1)) = 1#1) :
    Host.reduce IntOp.andi x (constantI S_ 1 1#1) reducesTo_S1024x1_S1024_d1 h_S_ (ix1 r) = 1#1 := by
  rw [Host.reduce_eq_fold_single _ _ _ _ red1]
  have : (x ∘ red1.lift (ix1 r)) = fun k : Fin 1 => 1#1 := funext fun k => by
    show x (red1.lift (ix1 r) k) = _
    have hk : k = (0 : Fin 1) := Subsingleton.elim (α := Fin 1) _ _
    rw [hk]
    exact (congrArg x (lift1 r 0)).trans h
  rw [this]
  rfl

theorem takeRows_apply (tab : FVec Ideal S32x8 .f32) (r : Fin 1024) (k : Fin 32) :
    takeRows tab headIdx (ix2 r k) = tab (ix2 k ⟨r.val / 128, by omega⟩) := by
  have h1 := all_apply (inTable headIdx) r (by rw [inTable_apply, headIdx_apply]; exact in_word ⟨r.val / 128, by omega⟩)
  have h2 := Routing.gather_row gather_S8x32_S1024x1_S1024x32_1_0_n_n_0_1_132 rfl rfl rfl rfl rfl
    (transpose S8x32 [1, 0] tab transposes_S32x8_S8x32_1_0) headIdx r k ⟨r.val / 128, by omega⟩ (headIdx_apply r 0) (by decide)
  have h3 : transpose S8x32 [1, 0] tab transposes_S32x8_S8x32_1_0 (ix2 ⟨r.val / 128, by omega⟩ k) = tab (ix2 k ⟨r.val / 128, by omega⟩) := by
    pointwise []
  refine Eq.trans ?_ (h2.trans h3)
  unfold takeRows
  generalize Host.reduce IntOp.andi (inTable headIdx) (constantI S_ 1 1#1) reducesTo_S1024x1_S1024_d1 h_S_ = w at h1
  generalize Host.gather gather_S8x32_S1024x1_S1024x32_1_0_n_n_0_1_132 (transpose S8x32 [1, 0] tab transposes_S32x8_S8x32_1_0) headIdx = y
  pointwise []
  rw [h1]
  rfl

end Cert.KernelIdeal.Swa

end
-- ==== Proof.Swa.RefC.lean ====
/- The steps of the windowed attention's reference read at an index. -/
module

public import proofs.«01_k».proof.Proof.Swa.RefSteps

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

theorem gather_apply (x : FVec Ideal S2x4x32 .f32) (idx : IVec S128x256x1 32) (v : Fin 2) (g : Fin 4) (a : Fin 128) (j : Fin 256) :
    Host.gather gather_S2x4x32_S128x256x1_S2x4x128x256_01_2_n_n_2_2_241 x idx (ix4 v g a j)
      = x (ix3 v g ⟨min (idx (ix3 a j (0 : Fin 1))).toInt.toNat 31, by omega⟩) := by
  unfold Host.gather
  refine congrArg x (funext fun c => Fin.ext ?_)
  show gather_S2x4x32_S128x256x1_S2x4x128x256_01_2_n_n_2_2_241.start _ idx c + gather_S2x4x32_S128x256x1_S2x4x128x256_01_2_n_n_2_2_241.batchCoord _ c
      + gather_S2x4x32_S128x256x1_S2x4x128x256_01_2_n_n_2_2_241.offCoord _ c = _
  have h012 : c = 0 ∨ c = 1 ∨ c = 2 := by
    match c with
    | ⟨0, _⟩ => exact .inl rfl
    | ⟨1, _⟩ => exact .inr (.inl rfl)
    | ⟨2, _⟩ => exact .inr (.inr rfl)
  rw [GatherDims.batchCoord_eq_zero _ _ _ List.not_mem_nil]
  rcases h012 with rfl | rfl | rfl
  · unfold GatherDims.start
    rw [dif_neg (by decide)]
    exact Nat.zero_add _
  · unfold GatherDims.start
    rw [dif_neg (by decide)]
    exact Nat.zero_add _
  · rw [GatherDims.offCoord_eq_zero _ _ _ (by decide)]
    unfold GatherDims.start
    rw [dif_pos (by decide)]
    have hsi : gather_S2x4x32_S128x256x1_S2x4x128x256_01_2_n_n_2_2_241.siIdx (ix4 v g a j) ⟨List.idxOf (2 : Fin 3) gather_S2x4x32_S128x256x1_S2x4x128x256_01_2_n_n_2_2_241.startIndexMap, by decide⟩ = ix3 a j (0 : Fin 1) := by
      funext b
      refine Fin.ext ?_
      match b with
      | ⟨0, _⟩ => rfl
      | ⟨1, _⟩ => rfl
      | ⟨2, _⟩ => rfl
    rw [hsi]
    rfl

theorem table_apply (tab : FVec Ideal S32x8 .f32) (v : Fin 2) (g : Fin 4) (c : Fin 32) :
    shapeCast S2x4x32 (transpose S8x32 [1, 0] tab transposes_S32x8_S8x32_1_0) shapeCasts_S8x32_S2x4x32 (ix3 v g c)
      = tab (ix2 c ⟨v.val * 4 + g.val, by omega⟩) := by
  pointwise []

theorem column_apply (bk : IVec S128x256 32) (a : Fin 128) (j : Fin 256) (z : Fin 1) :
    broadcastInDim S128x256x1 ![0, 1] bcast_S128x256_S128x256x1_0_1 bk (ix3 a j z) = bk (ix2 a j) := by
  pointwise []

theorem bias_apply (tab : FVec Ideal S32x8 .f32) (v : Fin 2) (g : Fin 4) (a : Fin 128) (j : Fin 256) :
    bias tab (ix4 v g a j) = tab (ix2 ⟨min (buckets (ix2 a j)).toInt.toNat 31, by omega⟩ ⟨v.val * 4 + g.val, by omega⟩) := by
  unfold bias
  rw [gather_apply, table_apply]
  refine congrArg (fun c => tab (ix2 c _)) (Fin.ext ?_)
  exact congrArg (fun w : BitVec 32 => min w.toInt.toNat 31) (column_apply buckets a j 0)

end Cert.ReferenceIdeal.Swa

end
-- ==== Proof.Swa.RefB.lean ====
/- The steps of the windowed attention's reference read at an index. -/
module

public import proofs.«01_k».proof.Proof.Swa.RefSteps

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

theorem scores_apply (q : FVec Ideal S2x8192x2x4x64 .f32) (kb : FVec Ideal S2x64x256x2x64 .f32) (bs : FVec Ideal S2x4x128x256 .f32)
    (b : Fin 2) (n : Fin 64) (v : Fin 2) (g : Fin 4) (a : Fin 128) (j : Fin 256)  :
    scores q kb bs (ix6 b n v g a j) = Scalar.select (valid (ix3 n a j))
      ((∑ x : Fin 64, kb (ix5 b n j v x) * q (ix5 b ⟨n.val * 128 + a.val, by omega⟩ v g x)) * Ideal.ofBits FTy.f32 1040187392#32 + bs (ix4 v g a j))
      (Ideal.ofBits FTy.f32 4286578688#32) := by
  pointwise [scores]

theorem sinkCol_apply (sinks : FVec Ideal S8 .f32)
    (b : Fin 2) (n : Fin 64) (v : Fin 2) (g : Fin 4) (a : Fin 128) (z : Fin 1) :
    sinkCol sinks (ix6 b n v g a z) = sinks (ix1 ⟨v.val * 4 + g.val, by omega⟩) := by
  pointwise [sinkCol]

theorem red : S2x64x2x4x128x256.Reduces [5] S2x64x2x4x128 := by decide

theorem lift_eq (b : Fin 2) (n : Fin 64) (v : Fin 2) (g : Fin 4) (a : Fin 128) (k : Fin 256) :
    red.lift (ix5 b n v g a) k = ix6 b n v g a k := by
  funext c
  apply Fin.ext
  fin_cases c <;> rfl

theorem redMax_apply (s : FVec Ideal S2x64x2x4x128x256 .f32) (b : Fin 2) (n : Fin 64) (v : Fin 2) (g : Fin 4) (a : Fin 128) :
    redMax s (ix5 b n v g a) = Finset.fold max (Ideal.ofBits FTy.f32 4286578688#32) (fun k : Fin 256 => s (ix6 b n v g a k)) Finset.univ := by
  unfold redMax
  rw [Host.reduce_eq_fold_single _ _ _ _ red]
  have : (s ∘ red.lift (ix5 b n v g a)) = fun k : Fin 256 => s (ix6 b n v g a k) := funext fun k => congrArg s (lift_eq b n v g a k)
  rw [this]
  rfl

theorem redSum_apply (s : FVec Ideal S2x64x2x4x128x256 .f32) (b : Fin 2) (n : Fin 64) (v : Fin 2) (g : Fin 4) (a : Fin 128) :
    redSum s (ix5 b n v g a) = ∑ k : Fin 256, s (ix6 b n v g a k) := by
  refine (Ideal.hostReduceAdd_single _ red _ _ _).trans ?_
  refine Eq.trans (congrArg₂ (· + ·) (Ideal.ofBits_zero (φ := .f32)) (Finset.sum_congr rfl fun k _ => congrArg s (lift_eq b n v g a k))) (zero_add _)

end Cert.ReferenceIdeal.Swa

end
-- ==== Proof.Swa.RefD.lean ====
/- The steps of the windowed attention's reference read at an index. -/
module

public import proofs.«01_k».proof.Proof.Swa.RefSteps

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

theorem out_apply (vb : FVec Ideal S2x64x256x2x64 .f32) (w : FVec Ideal S2x64x2x4x128x256 .f32) (r : Fin 16384) (e : Fin 512) :
    out vb w (ix2 r e) = ∑ x : Fin 256, vb (ix5 ⟨r.val / 8192, by omega⟩ ⟨r.val / 128 % 64, by omega⟩ x ⟨e.val / 256, by omega⟩ ⟨e.val % 64, by omega⟩)
      * w (ix6 ⟨r.val / 8192, by omega⟩ ⟨r.val / 128 % 64, by omega⟩ ⟨e.val / 256, by omega⟩ ⟨e.val / 64 % 4, by omega⟩ ⟨r.val % 128, by omega⟩ x) := by
  pointwise [out]

end Cert.ReferenceIdeal.Swa

end
-- ==== Proof.Swa.RefE.lean ====
/- The steps of the windowed attention's reference read at an index. -/
module

public import proofs.«01_k».proof.Proof.Swa.RefB
public import proofs.«01_k».proof.Proof.Swa.RefD

@[expose] public section

set_option maxRecDepth 16384

noncomputable section

namespace Cert.ReferenceIdeal.Swa

open Cert.ReferenceIdeal Cert.ReferenceIdeal.Gen Idealize.ShloMosaic Idealize.ShloMosaic.TcCoe Idealize.SL.Sem Idealize.ShloMosaic.StableHlo

theorem keep_apply (y : FVec Ideal S2x64x2x4x128 .f32)
    (b : Fin 2) (n : Fin 64) (v : Fin 2) (g : Fin 4) (a : Fin 128) (z : Fin 1) :
    broadcastInDim S2x64x2x4x128x1 ![0, 1, 2, 3, 4] bcast_S2x64x2x4x128_S2x64x2x4x128x1_0_1_2_3_4 y (ix6 b n v g a z) = y (ix5 b n v g a) := by
  pointwise []

theorem maxCol_apply (y : FVec Ideal S2x64x2x4x128 .f32) (sk : FVec Ideal S2x64x2x4x128x1 .f32)
    (b : Fin 2) (n : Fin 64) (v : Fin 2) (g : Fin 4) (a : Fin 128) (z : Fin 1) :
    maxCol y sk (ix6 b n v g a z) = max (y (ix5 b n v g a)) (sk (ix6 b n v g a z)) := by
  unfold maxCol
  exact (maximumf_apply _ _ _).trans (congrArg (fun w : EReal => max w (sk (ix6 b n v g a z))) (keep_apply y b n v g a z))

theorem rowMax_apply (s : FVec Ideal S2x64x2x4x128x256 .f32) (sk : FVec Ideal S2x64x2x4x128x1 .f32)
    (b : Fin 2) (n : Fin 64) (v : Fin 2) (g : Fin 4) (a : Fin 128) (z : Fin 1) :
    rowMax s sk (ix6 b n v g a z) = max (redMax s (ix5 b n v g a)) (sk (ix6 b n v g a z)) :=
  maxCol_apply (redMax s) sk b n v g a z

theorem denom_apply (s : FVec Ideal S2x64x2x4x128x256 .f32) (sk mx : FVec Ideal S2x64x2x4x128x1 .f32)
    (b : Fin 2) (n : Fin 64) (v : Fin 2) (g : Fin 4) (a : Fin 128) (z : Fin 1) :
    denom s sk mx (ix6 b n v g a z) = redSum s (ix5 b n v g a) + Ideal.exp (sk (ix6 b n v g a z) - mx (ix6 b n v g a z)) := by
  unfold denom
  generalize redSum s = y
  pointwise []

theorem expo_apply (s : FVec Ideal S2x64x2x4x128x256 .f32) (mx : FVec Ideal S2x64x2x4x128x1 .f32)
    (b : Fin 2) (n : Fin 64) (v : Fin 2) (g : Fin 4) (a : Fin 128) (j : Fin 256) :
    expo s mx (ix6 b n v g a j) = Ideal.exp (s (ix6 b n v g a j) - mx (ix6 b n v g a (0 : Fin 1))) := by
  pointwise [expo]

theorem weights_apply (s : FVec Ideal S2x64x2x4x128x256 .f32) (sinks : FVec Ideal S8 .f32)
    (b : Fin 2) (n : Fin 64) (v : Fin 2) (g : Fin 4) (a : Fin 128) (j : Fin 256)  :
    weights s sinks (ix6 b n v g a j) = Ideal.div (expo s (rowMax s (sinkCol sinks)) (ix6 b n v g a j))
      (denom (expo s (rowMax s (sinkCol sinks))) (sinkCol sinks) (rowMax s (sinkCol sinks)) (ix6 b n v g a (0 : Fin 1))) := by
  unfold weights
  generalize expo s (rowMax s (sinkCol sinks)) = p
  generalize denom p (sinkCol sinks) (rowMax s (sinkCol sinks)) = y
  pointwise []

/-- The weights are those of the attention of one row. -/
theorem weights_attn (s : FVec Ideal S2x64x2x4x128x256 .f32) (sinks : FVec Ideal S8 .f32)
    (b : Fin 2) (n : Fin 64) (v : Fin 2) (g : Fin 4) (a : Fin 128) (j : Fin 256)  :
    weights s sinks (ix6 b n v g a j) = Ideal.div
      (Ideal.exp (s (ix6 b n v g a j) - Cert.Swa.top (fun k : Fin 256 => s (ix6 b n v g a k)) (sinks (ix1 ⟨v.val * 4 + g.val, by omega⟩))))
      (Cert.Swa.den (fun k : Fin 256 => s (ix6 b n v g a k)) (sinks (ix1 ⟨v.val * 4 + g.val, by omega⟩))) := by
  rw [weights_apply, denom_apply, redSum_apply]
  simp only [expo_apply, rowMax_apply, redMax_apply, sinkCol_apply]
  rfl

/-- The reference at row `r`, column `e`. -/
theorem res_apply (vb : FVec Ideal S2x64x256x2x64 .f32) (s : FVec Ideal S2x64x2x4x128x256 .f32) (sinks : FVec Ideal S8 .f32) (r : Fin 16384) (e : Fin 512) :
    out vb (weights s sinks) (ix2 r e) = Cert.Swa.attn
      (fun k : Fin 256 => s (ix6 ⟨r.val / 8192, by omega⟩ ⟨r.val / 128 % 64, by omega⟩ ⟨e.val / 256, by omega⟩ ⟨e.val / 64 % 4, by omega⟩ ⟨r.val % 128, by omega⟩ k))
      (sinks (ix1 ⟨e.val / 256 * 4 + e.val / 64 % 4, by omega⟩))
      (fun k => vb (ix5 ⟨r.val / 8192, by omega⟩ ⟨r.val / 128 % 64, by omega⟩ k ⟨e.val / 256, by omega⟩ ⟨e.val % 64, by omega⟩)) := by
  rw [out_apply]
  simp only [weights_attn, Cert.Swa.attn]
  exact Finset.sum_congr rfl fun k _ => mul_comm _ _

end Cert.ReferenceIdeal.Swa

end
-- ==== Proof.Swa.Point.lean ====
/- A grid point of the attention kernel against the reference: the same scores under the same mask, the same values, and so the same
   attention. -/
module

public import proofs.«01_k».proof.Proof.Swa.Blocks
public import proofs.«01_k».proof.Proof.Swa.Words
public import proofs.«01_k».proof.Proof.Swa.Rows
public import proofs.«01_k».proof.Proof.Swa.RefA
public import proofs.«01_k».proof.Proof.Swa.RefC
public import proofs.«01_k».proof.Proof.Swa.RefE

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.StableHlo

/-- The reference's result over arrays. -/
abbrev refTerm (q : FVec Ideal S2x8192x2x4x64 .f32) (k v : FVec Ideal S2x8192x2x64 .f32) (tab : FVec Ideal S32x8 .f32) (sinks : FVec Ideal S8 .f32) :
    FVec Ideal S16384x512 .bf16 :=
  Cert.ReferenceIdeal.Swa.out (Cert.ReferenceIdeal.Swa.band v)
    (Cert.ReferenceIdeal.Swa.weights (Cert.ReferenceIdeal.Swa.scores q (Cert.ReferenceIdeal.Swa.band k) (Cert.ReferenceIdeal.Swa.bias tab)) sinks)

/-- The body's column mask. -/
theorem mask_apply (i : grid0.Coords) (a : Fin 128) (j : Fin 256) :
    k0_pay2 i (ix2 a j) = IntOp.cmpi .sge (BitVec.ofNat 32 j.val)
      (Scalar.select (IntOp.cmpi .sgt (BitVec.ofNat 32 (i 1).val) 0#32) 0#32 128#32) := by
  pointwise [k0_pay2]
  rfl

theorem mask_word : ∀ (n : Fin 64) (j : Fin 256), IntOp.cmpi .sge (BitVec.ofNat 32 j.val)
      (Scalar.select (IntOp.cmpi .sgt (BitVec.ofNat 32 n.val) 0#32) 0#32 128#32) = if 0 < n.val ∨ 128 ≤ j.val then 1#1 else 0#1 := by
  decide +kernel

/-- The kernel's bias in the window. -/
theorem kernel_bias (tab : FVec Ideal S32x8 .f32) (h : Fin 8) (a : Fin 128) (j : Fin 256) (h1 : a.val < j.val) (h2 : j.val ≤ 128 + a.val) :
    biasTab tab (ix3 h a j) = tab (ix2 ⟨Cert.Swa.bucketNat (128 + a.val - j.val), Cert.Swa.bucketNat_lt ⟨128 + a.val - j.val, by omega⟩⟩ h) := by
  have hr : (h.val * 128 + a.val) % 128 = a.val := by omega
  have hd : dist (ix2 (⟨h.val * 128 + a.val, by omega⟩ : Fin 1024) j) = BitVec.ofNat 32 (128 + a.val - j.val) := by
    rw [dist_apply, ← Cert.Swa.distW_eq a j h2, Cert.Swa.distW]
    simp only [hr]
  have hm : valid dist (ix2 (⟨h.val * 128 + a.val, by omega⟩ : Fin 1024) j) = 1#1 := by
    have := Cert.Swa.inWin_eq a j
    rw [if_pos ⟨h1, h2⟩, Cert.Swa.distW_eq a j h2, Cert.Swa.inWin] at this
    rw [valid_apply, hd, this]
  have hb : bucket (maxsi dist (broadcastInDim S1024x256 ![] bcast_S_S1024x256 (constantI S_ 32 0#32))) (ix2 (⟨h.val * 128 + a.val, by omega⟩ : Fin 1024) j)
      = BitVec.ofNat 32 (Cert.Swa.bucketNat (128 + a.val - j.val)) := by
    have := Cert.Swa.kernel_bucket ⟨128 + a.val - j.val, by omega⟩
    rw [bucket_apply, ← this, ← hd]
    rfl
  rw [biasTab_apply, hm, pickAll_apply _ _ _ _ ⟨Cert.Swa.bucketNat (128 + a.val - j.val), Cert.Swa.bucketNat_lt ⟨128 + a.val - j.val, by omega⟩⟩ hb, takeRows_apply]
  refine congrArg (fun x => tab (ix2 _ x)) (Fin.ext ?_)
  show (h.val * 128 + a.val) / 128 = h.val
  omega

/-- … and outside it. -/
theorem kernel_masked (tab : FVec Ideal S32x8 .f32) (h : Fin 8) (a : Fin 128) (j : Fin 256) (h1 : ¬ (a.val < j.val ∧ j.val ≤ 128 + a.val)) :
    biasTab tab (ix3 h a j) = (⊥ : EReal) := by
  have hr : (h.val * 128 + a.val) % 128 = a.val := by omega
  have hm : valid dist (ix2 (⟨h.val * 128 + a.val, by omega⟩ : Fin 1024) j) = 0#1 := by
    have := Cert.Swa.inWin_eq a j
    rw [if_neg h1, Cert.Swa.inWin, Cert.Swa.distW] at this
    rw [valid_apply, dist_apply]
    simp only [hr]
    exact this
  rw [biasTab_apply, hm, Cert.Swa.lit_low]
  rfl

/-- The reference's bias in the window. -/
theorem ref_bias (tab : FVec Ideal S32x8 .f32) (v : Fin 2) (g : Fin 4) (a : Fin 128) (j : Fin 256) (h1 : a.val < j.val) (h2 : j.val ≤ 128 + a.val) :
    Cert.ReferenceIdeal.Swa.bias tab (ix4 v g a j)
      = tab (ix2 ⟨Cert.Swa.bucketNat (128 + a.val - j.val), Cert.Swa.bucketNat_lt ⟨128 + a.val - j.val, by omega⟩⟩ ⟨v.val * 4 + g.val, by omega⟩) := by
  rw [Cert.ReferenceIdeal.Swa.bias_apply]
  refine congrArg (fun x => tab (ix2 x _)) (Fin.ext ?_)
  have hb := Cert.Swa.ref_bucket ⟨128 + a.val - j.val, by omega⟩
  have hd : Cert.ReferenceIdeal.Swa.dist (ix2 a j) = BitVec.ofNat 32 (128 + a.val - j.val) := by
    rw [Cert.ReferenceIdeal.Swa.dist_apply, ← Cert.Swa.distW_eq a j h2, Cert.Swa.distW]
  show min (Cert.ReferenceIdeal.Swa.buckets (ix2 a j)).toInt.toNat 31 = _
  rw [Cert.ReferenceIdeal.Swa.buckets_apply, hd]
  simp only [] at hb
  rw [hb]
  exact Cert.Swa.wrap_bucket ⟨_, Cert.Swa.bucketNat_lt ⟨128 + a.val - j.val, by omega⟩⟩

theorem ref_valid (n : Fin 64) (a : Fin 128) (j : Fin 256) :
    Cert.ReferenceIdeal.Swa.valid (ix3 n a j) = IntOp.andi (Cert.Swa.inWin (Cert.Swa.distW a.val j.val)) (Cert.Swa.exists_ n.val j.val) := by
  rw [Cert.ReferenceIdeal.Swa.valid_apply, Cert.ReferenceIdeal.Swa.dist_apply]
  rfl

variable (m : (ℓ : Loc nD τ sig) → Buf (Elt Ideal) ℓ) (c : Dev nD)

/-- The body's score. -/
def bodyScore (i : grid0.Coords) (x1 : FVec Ideal S128x512 .bf16) (x2 x3 : FVec Ideal S128x128 .bf16) (x6 : FVec Ideal S8x128x256 .f32)
    (hh : Fin 8) (a : Fin 128) (j : Fin 256) : EReal :=
  Scalar.select (k0_pay2 i (ix2 a j))
    (∑ k : Fin 64, (x1 (ix2 a ⟨64 * hh.val + k.val, by omega⟩) : EReal)
        * (if h : j.val < 128 then x3 (ix2 ⟨j.val, h⟩ ⟨64 * (hh.val / 4) + k.val, by omega⟩)
           else x2 (ix2 ⟨j.val - 128, by omega⟩ ⟨64 * (hh.val / 4) + k.val, by omega⟩))
      + x6 (ix3 hh a j)) ⊥

/-- Reads of the arguments at equal coordinates. -/
theorem read4 (X : FVec Ideal S2x8192x2x64 .f32) {a a' : Fin 2} {b b' : Fin 8192} {e e' : Fin 2} {f f' : Fin 64} (ha : a.val = a'.val) (hb : b.val = b'.val)
    (he : e.val = e'.val) (hf : f.val = f'.val) : X (ix4 a b e f) = X (ix4 a' b' e' f') := by
  rw [Fin.ext ha, Fin.ext hb, Fin.ext he, Fin.ext hf]

theorem read5 (X : FVec Ideal S2x8192x2x4x64 .f32) {a a' : Fin 2} {b b' : Fin 8192} {e e' : Fin 2} {g g' : Fin 4} {f f' : Fin 64} (ha : a.val = a'.val)
    (hb : b.val = b'.val) (he : e.val = e'.val) (hg : g.val = g'.val) (hf : f.val = f'.val) : X (ix5 a b e g f) = X (ix5 a' b' e' g' f') := by
  rw [Fin.ext ha, Fin.ext hb, Fin.ext he, Fin.ext hg, Fin.ext hf]

/-- The scaled product of a query and a key. -/
theorem dot_eq (t : Fin cfg0.N) (a : Fin 128) (hh : Fin 8) (j : Fin 256) (he : 0 < t.val % 64 ∨ 128 ≤ j.val)
    (Q : Fin 64 → EReal) (K : Fin 64 → EReal)
    (hQ : ∀ k : Fin 64, Q k = iblk m c 1 t (ix2 a ⟨64 * hh.val + k.val, by omega⟩ : S128x512.Idx))
    (hK : ∀ k : Fin 64, K k = (if h : j.val < 128 then iblk m c 3 t (ix2 ⟨j.val, h⟩ ⟨64 * (hh.val / 4) + k.val, by omega⟩ : S128x128.Idx)
           else iblk m c 2 t (ix2 ⟨j.val - 128, by omega⟩ ⟨64 * (hh.val / 4) + k.val, by omega⟩ : S128x128.Idx))) :
    ∑ k : Fin 64, Q k * K k
      = (∑ x : Fin 64, Cert.ReferenceIdeal.Swa.band (argK m c) (ix5 ⟨t.val / 64, by have := lt_N t; omega⟩ ⟨t.val % 64, by omega⟩ j ⟨hh.val / 4, by omega⟩ x)
          * argQ m c (ix5 ⟨t.val / 64, by have := lt_N t; omega⟩ ⟨t.val % 64 * 128 + a.val, by omega⟩ ⟨hh.val / 4, by omega⟩ ⟨hh.val % 4, by omega⟩ x))
        * Ideal.ofBits FTy.f32 1040187392#32 := by
  have ht := lt_N t
  rw [Cert.Swa.lit_eighth, ← Cert.Swa.sum_scale _ _ _ (by norm_num)]
  refine Finset.sum_congr rfl fun k _ => ?_
  have h1 : Q k = argQ m c (ix5 ⟨t.val / 64, by omega⟩ ⟨t.val % 64 * 128 + a.val, by omega⟩ ⟨hh.val / 4, by omega⟩ ⟨hh.val % 4, by omega⟩ k) * ((1 / 8 : ℝ) : EReal) := by
    rw [hQ, queries_blk, Cert.Swa.lit_eighth]
    exact congrArg (fun x : EReal => x * ((1 / 8 : ℝ) : EReal)) (read5 _ rfl rfl (by show (64 * hh.val + k.val) / 256 = hh.val / 4; omega)
      (by show (64 * hh.val + k.val) / 64 % 4 = hh.val % 4; omega) (by show (64 * hh.val + k.val) % 64 = k.val; omega))
  have h2 : K k = Cert.ReferenceIdeal.Swa.band (argK m c) (ix5 ⟨t.val / 64, by omega⟩ ⟨t.val % 64, by omega⟩ j ⟨hh.val / 4, by omega⟩ k) := by
    rw [hK, Cert.ReferenceIdeal.Swa.band_apply]
    by_cases hj : j.val < 128
    · have hn : ¬ t.val % 64 < 1 := by omega
      rw [dif_pos hj, dif_pos hj, dif_neg hn, kprev]
      exact read4 _ rfl (by show (t.val % 64 - 1) * 128 + j.val = (t.val % 64 - 1) * 128 + j.val; rfl) (by show (64 * (hh.val / 4) + k.val) / 64 = hh.val / 4; omega)
        (by show (64 * (hh.val / 4) + k.val) % 64 = k.val; omega)
    · rw [dif_neg hj, dif_neg hj, kcur]
      exact read4 _ rfl (by show t.val % 64 * 128 + (j.val - 128) = t.val % 64 * 128 + (j.val - 128); rfl) (by show (64 * (hh.val / 4) + k.val) / 64 = hh.val / 4; omega)
        (by show (64 * (hh.val / 4) + k.val) % 64 = k.val; omega)
  rw [h1, h2]

/-- The biased score under both masks. -/
theorem masked_eq (n : Fin 64) (a : Fin 128) (hh : Fin 8) (j : Fin 256) (tab : FVec Ideal S32x8 .f32) (D E : EReal) (hD : 0 < n.val ∨ 128 ≤ j.val → D = E) :
    Scalar.select (if 0 < n.val ∨ 128 ≤ j.val then 1#1 else 0#1) (D + biasTab tab (ix3 hh a j)) (⊥ : EReal)
    = Scalar.select (IntOp.andi (Cert.Swa.inWin (Cert.Swa.distW a.val j.val)) (Cert.Swa.exists_ n.val j.val))
        (E + Cert.ReferenceIdeal.Swa.bias tab (ix4 ⟨hh.val / 4, by omega⟩ ⟨hh.val % 4, by omega⟩ a j)) (Ideal.ofBits FTy.f32 4286578688#32) := by
  rw [Cert.Swa.exists_eq n j, Cert.Swa.inWin_eq a j, Cert.Swa.lit_low]
  by_cases hw : a.val < j.val ∧ j.val ≤ 128 + a.val
  · by_cases he : 0 < n.val ∨ 128 ≤ j.val
    · rw [if_pos he, if_pos hw, kernel_bias _ _ _ _ hw.1 hw.2, ref_bias _ _ _ _ _ hw.1 hw.2, hD he]
      have e1 : ∀ x y : EReal, Scalar.select (IntOp.andi 1#1 1#1) x y = x := fun _ _ => rfl
      have e2 : ∀ x y : EReal, Scalar.select 1#1 x y = x := fun _ _ => rfl
      rw [e1, e2]
      refine congrArg (fun x : EReal => E + x) (congrArg tab (congrArg (ix2 _) (Fin.ext ?_)))
      show hh.val = hh.val / 4 * 4 + hh.val % 4
      omega
    · rw [if_neg he, if_pos hw]
      rfl
  · rw [if_neg hw, kernel_masked _ _ _ _ hw, EReal.add_bot]
    have e1 : ∀ (b : BitVec 1) (x : EReal), Scalar.select (IntOp.andi 0#1 b) x (⊥ : EReal) = ⊥ := fun b x => by
      have : IntOp.andi 0#1 b = 0#1 := by revert b; decide
      rw [this]; rfl
    have e2 : ∀ b : BitVec 1, Scalar.select b (⊥ : EReal) ⊥ = ⊥ := fun b => by unfold Scalar.select; split <;> rfl
    rw [e1, e2]

/-- The scores of a row of a point are the reference's. -/
theorem score_eq (t : Fin cfg0.N) (a : Fin 128) (hh : Fin 8) (j : Fin 256) :
    bodyScore (grid0.coords t) (iblk m c 1 t) (iblk m c 2 t) (iblk m c 3 t) (iblk m c 6 t) hh a j
    = Cert.ReferenceIdeal.Swa.scores (argQ m c) (Cert.ReferenceIdeal.Swa.band (argK m c)) (Cert.ReferenceIdeal.Swa.bias (argT m c))
        (ix6 ⟨t.val / 64, by have := lt_N t; omega⟩ ⟨t.val % 64, by omega⟩ ⟨hh.val / 4, by omega⟩ ⟨hh.val % 4, by omega⟩ a j) := by
  obtain ⟨_, _, _, _, _, _, _, _, hc⟩ := idx t
  unfold bodyScore
  rw [Cert.ReferenceIdeal.Swa.scores_apply, ref_valid, mask_apply, bias_blk, hc]
  exact (congrArg (fun w => Scalar.select w _ _) (mask_word ⟨t.val % 64, by omega⟩ j)).trans
    (masked_eq ⟨t.val % 64, by omega⟩ a hh j _ _ _ fun he => dot_eq m c t a hh j he _ _ (fun _ => rfl) (fun _ => rfl))

/-- The attention of a row of a point is the reference's. -/
theorem head_eq (t : Fin cfg0.N) (a : Fin 128) (hh : Fin 8) (d : Fin 64) :
    headVal (grid0.coords t) (iblk m c 0 t) (iblk m c 1 t) (iblk m c 2 t) (iblk m c 3 t) (iblk m c 4 t) (iblk m c 5 t) (iblk m c 6 t) hh a d
    = Cert.Swa.attn (fun j : Fin 256 => Cert.ReferenceIdeal.Swa.scores (argQ m c) (Cert.ReferenceIdeal.Swa.band (argK m c)) (Cert.ReferenceIdeal.Swa.bias (argT m c))
          (ix6 ⟨t.val / 64, by have := lt_N t; omega⟩ ⟨t.val % 64, by omega⟩ ⟨hh.val / 4, by omega⟩ ⟨hh.val % 4, by omega⟩ a j))
        (argS m c (ix1 hh))
        (fun j => Cert.ReferenceIdeal.Swa.band (argV m c) (ix5 ⟨t.val / 64, by have := lt_N t; omega⟩ ⟨t.val % 64, by omega⟩ j ⟨hh.val / 4, by omega⟩ d)) := by
  have ht := lt_N t
  have hs := funext fun j => score_eq m c t a hh j
  unfold headVal
  rw [sinks_blk]
  refine (congrArg (fun s => Cert.Swa.attn s (argS m c (ix1 hh)) _) hs).trans ?_
  have hcur : ∀ j : Fin 256, ¬ j.val < 128 → (iblk m c 4 t (ix2 ⟨j.val - 128, by omega⟩ ⟨64 * (hh.val / 4) + d.val, by omega⟩ : S128x128.Idx) : EReal)
      = argV m c (ix4 ⟨t.val / 64, by omega⟩ ⟨t.val % 64 * 128 + (j.val - 128), by omega⟩ ⟨hh.val / 4, by omega⟩ d) := fun j hj => by
    rw [vcur]
    exact read4 _ rfl rfl (by show (64 * (hh.val / 4) + d.val) / 64 = hh.val / 4; omega) (by show (64 * (hh.val / 4) + d.val) % 64 = d.val; omega)
  have hprev : ∀ (j : Fin 256) (hj : j.val < 128), (iblk m c 5 t (ix2 ⟨j.val, hj⟩ ⟨64 * (hh.val / 4) + d.val, by omega⟩ : S128x128.Idx) : EReal)
      = argV m c (ix4 ⟨t.val / 64, by omega⟩ ⟨(t.val % 64 - 1) * 128 + j.val, by omega⟩ ⟨hh.val / 4, by omega⟩ d) := fun j hj => by
    rw [vprev]
    exact read4 _ rfl rfl (by show (64 * (hh.val / 4) + d.val) / 64 = hh.val / 4; omega) (by show (64 * (hh.val / 4) + d.val) % 64 = d.val; omega)
  by_cases h0 : t.val % 64 < 1
  · refine Cert.Swa.attn_first (n := 128) _ _ _ _ (fun j => ?_) (fun j => ?_) (fun j => ?_) (fun j => ?_)
    · have hj : (Fin.castAdd 128 j).val = j.val := rfl
      rw [← score_eq m c t a hh (Fin.castAdd 128 j)]
      have hmask := mask_word ⟨t.val % 64, by omega⟩ (Fin.castAdd 128 j)
      obtain ⟨_, _, _, _, _, _, _, _, hc⟩ := idx t
      simp only [] at hmask
      unfold bodyScore
      rw [mask_apply, hc, hmask, if_neg (by rw [hj]; omega)]
      rfl
    · have hj : ¬ (Fin.natAdd 128 j).val < 128 := by show ¬ 128 + j.val < 128; omega
      rw [dif_neg hj, Cert.ReferenceIdeal.Swa.band_apply, dif_neg hj]
      exact hcur (Fin.natAdd 128 j) hj
    · have hj : ¬ (Fin.natAdd 128 j).val < 128 := by show ¬ 128 + j.val < 128; omega
      have hj' : (Fin.castAdd 128 j).val < 128 := j.isLt
      rw [dif_pos hj', dif_neg hj]
      exact (hprev (Fin.castAdd 128 j) hj').trans ((read4 _ rfl (by show (t.val % 64 - 1) * 128 + j.val = t.val % 64 * 128 + (128 + j.val - 128); omega)
        rfl rfl).trans (hcur (Fin.natAdd 128 j) hj).symm)
    · have hj' : (Fin.castAdd 128 j).val < 128 := j.isLt
      rw [Cert.ReferenceIdeal.Swa.band_apply, dif_pos hj', dif_pos h0]
  · refine congrArg (Cert.Swa.attn _ _) (funext fun j => ?_)
    rw [Cert.ReferenceIdeal.Swa.band_apply]
    by_cases hj : j.val < 128
    · rw [dif_pos hj, dif_pos hj, dif_neg h0]
      exact hprev j hj
    · rw [dif_neg hj, dif_neg hj]
      exact hcur j hj

/-- What a point leaves at row `a`, column `64 hh + d` is the reference's result there. -/
theorem point (t : Fin cfg0.N) (a : Fin 128) (hh : Fin 8) (d : Fin 64) :
    outsAt0 m c t (ix2 a ⟨64 * hh.val + d.val, by omega⟩ : S128x512.Idx)
      = refTerm (argQ m c) (argK m c) (argV m c) (argT m c) (argS m c)
          (ix2 (⟨t.val * 128 + a.val, by have := lt_N t; omega⟩ : Fin 16384) (⟨64 * hh.val + d.val, by omega⟩ : Fin 512)) := by
  have ht := lt_N t
  rw [outs_apply, head_eq]
  unfold refTerm
  rw [Cert.ReferenceIdeal.Swa.res_apply]
  have i1 : (t.val * 128 + a.val) / 8192 = t.val / 64 := by omega
  have i2 : (t.val * 128 + a.val) / 128 % 64 = t.val % 64 := by omega
  have i3 : (64 * hh.val + d.val) / 256 = hh.val / 4 := by omega
  have i4 : (64 * hh.val + d.val) / 64 % 4 = hh.val % 4 := by omega
  have i5 : (t.val * 128 + a.val) % 128 = a.val := by omega
  have i6 : (64 * hh.val + d.val) % 64 = d.val := by omega
  have i7 : hh.val / 4 * 4 + hh.val % 4 = hh.val := by omega
  simp only [i1, i2, i3, i4, i5, i6, i7]

/-- The kernel's result array is the reference's result. -/
theorem final : (dats m 0 c).arrAt 7 (cfgs 0).N = refTerm (argQ m c) (argK m c) (argV m c) (argT m c) (argS m c) := by
  refine (dats m 0 c).arrAt_eq_of_covers 7 _ (by decide +kernel) fun t _ y => ?_
  obtain ⟨_, _, _, _, _, _, _, i7, _⟩ := idx t
  blk_simp
  rw [after0_7]
  have h0 : (y 0 : ℕ) < 128 := (y 0).isLt
  have h1 : (y 1 : ℕ) < 512 := (y 1).isLt
  have hy : (y : S128x512.Idx) = ix2 (⟨(y 0 : ℕ), h0⟩ : Fin 128) (⟨64 * ((⟨(y 1 : ℕ) / 64, by omega⟩ : Fin 8)).val + ((⟨(y 1 : ℕ) % 64, by omega⟩ : Fin 64)).val, by
      show 64 * ((y 1 : ℕ) / 64) + (y 1 : ℕ) % 64 < 512; omega⟩ : Fin 512) := by
    funext k
    match k with
    | 0 => rfl
    | 1 => exact Fin.ext (by show (y 1 : ℕ) = 64 * ((y 1 : ℕ) / 64) + (y 1 : ℕ) % 64; omega)
  refine (congrArg (outsAt0 m c t) hy).trans ((point m c t _ _ _).trans (congrArg (refTerm _ _ _ _ _) ?_))
  have ht := lt_N t
  blk_ext [i7]

end Cert.KernelIdeal.Swa

end
-- ==== Proof.Layer.Math.lean ====
/- The layer's mathematics on one row: the root-mean-square norm and the gated feed-forward block. -/
module

public import Idealize.ShloMosaic.Lib.Pointwise

@[expose] public section

set_option maxRecDepth 16384

noncomputable section

namespace Cert.Layer

open Idealize.ShloMosaic

/-- The root-mean-square norm of a row, scaled by the weights. -/
def norm {n : ℕ} (d : EReal) (x w : Fin n → EReal) (k : Fin n) : EReal :=
  x k * Ideal.rsqrt (Ideal.div (∑ l, x l * x l) d + Ideal.ofBits FTy.f32 897988541#32) * w k

/-- A unit of the gated block: `silu (h · g) * (h · u)`. -/
def unit {n : ℕ} (h g u : Fin n → EReal) : EReal :=
  (∑ k, h k * g k) * Ideal.logistic (∑ k, h k * g k) * ∑ k, h k * u k

/-- The row plus the gated block of its norm. -/
def ffn {n f : ℕ} (d : EReal) (x w : Fin n → EReal) (wg wu : Fin n → Fin f → EReal) (wd : Fin f → Fin n → EReal) (e : Fin n) : EReal :=
  x e + ∑ l, unit (norm d x w) (fun k => wg k l) (fun k => wu k l) * wd l e

/-- The units may be added half by half. -/
theorem ffn_halves {n f : ℕ} (d : EReal) (x w : Fin n → EReal) (wg wu : Fin n → Fin (f + f) → EReal) (wd : Fin (f + f) → Fin n → EReal) (e : Fin n) :
    x e + ∑ l : Fin f, unit (norm d x w) (fun k => wg k (Fin.castAdd f l)) (fun k => wu k (Fin.castAdd f l)) * wd (Fin.castAdd f l) e
      + ∑ l : Fin f, unit (norm d x w) (fun k => wg k (Fin.natAdd f l)) (fun k => wu k (Fin.natAdd f l)) * wd (Fin.natAdd f l) e
    = ffn d x w wg wu wd e := by
  rw [ffn, Fin.sum_univ_add, add_assoc]

end Cert.Layer

end
-- ==== Proof.Ffn.Blocks.lean ====
/- The feed-forward kernel's blocks and what a pair of grid points leaves: the row plus the units of both halves. -/
module

public import proofs.«01_k».proof.Proof.Gen.FfnIdeal.Value
public import proofs.«01_k».proof.Proof.Layer.Math
public import Idealize.ShloMosaic.Lib.StableHlo.ReadAt
public import Idealize.ShloMosaic.Lib.Pipeline.ValueKit

@[expose] public section

set_option maxRecDepth 16384

noncomputable section

namespace Cert.FfnIdeal.Layer

open Cert.FfnIdeal Cert.FfnIdeal.Gen Idealize.ShloMosaic Idealize.ShloMosaic.TcCoe Idealize.SL.Sem Idealize.ShloMosaic.StableHlo

/-- The stored norm. -/
theorem norm_apply (x : FVec Ideal S1024x1024 .f32) (w : FVec Ideal S1x1024 .f32) (a k : Fin 1024) :
    k0_pay2 (F := Ideal) x w (ix2 a k) = Cert.Layer.norm (Ideal.ofBits FTy.f32 1149239296#32) (fun l => x (ix2 a l)) (fun l => w (ix2 0 l)) k := by
  pointwise [k0_pay2, k0_pay1, Cert.Layer.norm]

/-- The stored row. -/
theorem row_apply (x : FVec Ideal S1024x1024 .f32) (a e : Fin 1024) : k0_pay3 (F := Ideal) x (ix2 a e) = x (ix2 a e) := by
  pointwise [k0_pay3, k0_pay1]

/-- The accumulated units. -/
theorem step_apply (h : FVec Ideal S1024x1024 .bf16) (wg wu : FVec Ideal S1024x1408 .bf16) (acc : FVec Ideal S1024x1024 .f32) (wd : FVec Ideal S1408x1024 .bf16) (a e : Fin 1024) :
    k0_pay4 (F := Ideal) h wg wu acc wd (ix2 a e)
      = acc (ix2 a e) + ∑ l : Fin 1408, Cert.Layer.unit (fun k => h (ix2 a k)) (fun k => wg (ix2 k l)) (fun k => wu (ix2 k l)) * wd (ix2 l e) := by
  pointwise [k0_pay4, Cert.Layer.unit]

/-- The rows of the two inputs, one under the other. -/
def both (p : FVec Ideal S2x8192x1024 .f32) (s : FVec Ideal S128x8x1024 .f32) : FVec Ideal S17408x1024 .f32 :=
  concatenate S17408x1024 0 [⟨S16384x1024, shapeCast S16384x1024 p shapeCasts_S2x8192x1024_S16384x1024⟩, ⟨S1024x1024, shapeCast S1024x1024 s shapeCasts_S128x8x1024_S1024x1024⟩] concatenates_S16384x1024_S1024x1024_S17408x1024_d0

theorem both_apply (p : FVec Ideal S2x8192x1024 .f32) (s : FVec Ideal S128x8x1024 .f32) (r : Fin 17408) (e : Fin 1024) :
    both p s (ix2 r e) = if h : r.val < 16384 then p (ix3 ⟨r.val / 8192, by omega⟩ ⟨r.val % 8192, by omega⟩ e)
      else s (ix3 ⟨(r.val - 16384) / 8, by omega⟩ ⟨(r.val - 16384) % 8, by omega⟩ e) := by
  pointwise [both]

theorem idx : ∀ t : Fin cfg0.N, win0_0.index t = ![t.val / 2, 0]
    ∧ win0_1.index t = ![0, 0]
    ∧ win0_2.index t = ![0, t.val % 2]
    ∧ win0_3.index t = ![0, t.val % 2]
    ∧ win0_4.index t = ![t.val % 2, 0]
    ∧ win0_5.index t = ![t.val / 2, 0] :=
  (by decide +kernel : ∀ t : Fin grid0.N, _)

theorem lt_N (t : Fin cfg0.N) : t.val < 34 := t.isLt

variable (m : (ℓ : Loc nD τ sig) → Buf (Elt Ideal) ℓ) (c : Dev nD)

/-- The rows, the norm's weights, and the three matrices. -/
abbrev argX : FVec Ideal S17408x1024 .f32 := both (m ((c.tc : Thread nD τ).loc main_arg0)) (m ((c.tc : Thread nD τ).loc main_arg1))
abbrev argW : FVec Ideal S1024 .f32 := m ((c.tc : Thread nD τ).loc main_arg2)
abbrev argG : FVec Ideal S1024x2816 .f32 := m ((c.tc : Thread nD τ).loc main_arg3)
abbrev argU : FVec Ideal S1024x2816 .f32 := m ((c.tc : Thread nD τ).loc main_arg4)
abbrev argD : FVec Ideal S2816x1024 .f32 := m ((c.tc : Thread nD τ).loc main_arg5)

theorem V_x : V m c main_v2 = argX m c := by
  entry_read
  rfl

theorem rows_blk (t : Fin cfg0.N) (a k : Fin 1024) : iblk m c 0 t (ix2 a k : S1024x1024.Idx)
    = argX m c (ix2 ⟨t.val / 2 * 1024 + a.val, by have := lt_N t; omega⟩ k) := by
  have ht := lt_N t
  have h : iblk m c 0 t (ix2 a k : S1024x1024.Idx) = V m c main_v2 (ix2 ⟨t.val / 2 * 1024 + a.val, by omega⟩ k) := by
    blk_ext [iblk, idx t]
  rw [h, V_x]

theorem weights_blk (t : Fin cfg0.N) (k : Fin 1024) : iblk m c 1 t (ix2 0 k : S1x1024.Idx) = argW m c (ix1 k) := by
  blk_point [iblk, V, idx t]

theorem gate_blk (t : Fin cfg0.N) (k : Fin 1024) (l : Fin 1408) : iblk m c 2 t (ix2 k l : S1024x1408.Idx)
    = argG m c (ix2 k ⟨t.val % 2 * 1408 + l.val, by omega⟩) := by
  blk_point [iblk, V, idx t]

theorem up_blk (t : Fin cfg0.N) (k : Fin 1024) (l : Fin 1408) : iblk m c 3 t (ix2 k l : S1024x1408.Idx)
    = argU m c (ix2 k ⟨t.val % 2 * 1408 + l.val, by omega⟩) := by
  blk_point [iblk, V, idx t]

theorem down_blk (t : Fin cfg0.N) (l : Fin 1408) (e : Fin 1024) : iblk m c 4 t (ix2 l e : S1408x1024.Idx)
    = argD m c (ix2 ⟨t.val % 2 * 1408 + l.val, by omega⟩ e) := by
  blk_point [iblk, V, idx t]

end Cert.FfnIdeal.Layer

end
-- ==== Proof.Ffn.Ref.lean ====
/- The feed-forward reference, step by step, and its rows. -/
module

public import proofs.«01_k».proof.Proof.Gen.FfnReferenceIdeal.Run
public import proofs.«01_k».proof.Proof.Layer.Math

@[expose] public section

set_option maxRecDepth 16384

noncomputable section

namespace Cert.FfnReferenceIdeal.Layer

open Cert.FfnReferenceIdeal Cert.FfnReferenceIdeal.Gen Idealize.ShloMosaic Idealize.ShloMosaic.TcCoe Idealize.SL.Sem Idealize.ShloMosaic.StableHlo

/-- The norm of every row. -/
def normP (x : FVec Ideal S2x8192x1024 .f32) (w : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))

/-- The product with a matrix. -/
def linP (h : FVec Ideal S2x8192x1024 .f32) (w : FVec Ideal S1024x2816 .f32) : FVec Ideal S2x8192x2816 .f32 :=
  Host.dotGeneral dot_S2x8192x1024_S1024x2816_S2x8192x2816_2_0_01_1_n_n none h w

/-- The gated units. -/
def gateP (g u : FVec Ideal S2x8192x2816 .f32) : FVec Ideal S2x8192x2816 .f32 :=
  mulf (mulf g (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf g))))) u

/-- The block's result, by rows. -/
def rowsP (x : FVec Ideal S2x8192x1024 .f32) (z : FVec Ideal S2x8192x2816 .f32) (wd : FVec Ideal S2816x1024 .f32) : FVec Ideal S16384x1024 .f32 :=
  shapeCast S16384x1024 (addf x (Host.dotGeneral dot_S2x8192x2816_S2816x1024_S2x8192x1024_2_0_01_1_n_n none z wd)) shapeCasts_S2x8192x1024_S16384x1024

theorem normP_apply (x : FVec Ideal S2x8192x1024 .f32) (w : FVec Ideal S1024 .f32) (a : Fin 2) (b : Fin 8192) (k : Fin 1024) :
    normP x w (ix3 a b k) = Cert.Layer.norm (Ideal.ofBits FTy.f32 1149239296#32) (fun l => x (ix3 a b l)) (fun l => w (ix1 l)) k := by
  pointwise [normP, Cert.Layer.norm]

theorem linP_apply (h : FVec Ideal S2x8192x1024 .f32) (w : FVec Ideal S1024x2816 .f32) (a : Fin 2) (b : Fin 8192) (l : Fin 2816) :
    linP h w (ix3 a b l) = ∑ k : Fin 1024, h (ix3 a b k) * w (ix2 k l) := by
  pointwise [linP]

theorem gateP_apply (g u : FVec Ideal S2x8192x2816 .f32) (a : Fin 2) (b : Fin 8192) (l : Fin 2816) :
    gateP g u (ix3 a b l) = g (ix3 a b l) * Ideal.logistic (g (ix3 a b l)) * u (ix3 a b l) := by
  pointwise [gateP, Ideal.logistic]

theorem rowsP_apply (x : FVec Ideal S2x8192x1024 .f32) (z : FVec Ideal S2x8192x2816 .f32) (wd : FVec Ideal S2816x1024 .f32) (r : Fin 16384) (e : Fin 1024) :
    rowsP x z wd (ix2 r e) = x (ix3 ⟨r.val / 8192, by omega⟩ ⟨r.val % 8192, by omega⟩ e)
      + ∑ l : Fin 2816, z (ix3 ⟨r.val / 8192, by omega⟩ ⟨r.val % 8192, by omega⟩ l) * wd (ix2 l e) := by
  pointwise [rowsP]

/-- The feed-forward block. -/
def ffnP (x : FVec Ideal S2x8192x1024 .f32) (w : FVec Ideal S1024 .f32) (wg wu : FVec Ideal S1024x2816 .f32) (wd : FVec Ideal S2816x1024 .f32) : FVec Ideal S16384x1024 .f32 :=
  rowsP x (gateP (linP (normP x w) wg) (linP (normP x w) wu)) wd

theorem ffnP_apply (x : FVec Ideal S2x8192x1024 .f32) (w : FVec Ideal S1024 .f32) (wg wu : FVec Ideal S1024x2816 .f32) (wd : FVec Ideal S2816x1024 .f32) (r : Fin 16384) (e : Fin 1024) :
    ffnP x w wg wu wd (ix2 r e) = Cert.Layer.ffn (Ideal.ofBits FTy.f32 1149239296#32) (fun k => x (ix3 ⟨r.val / 8192, by omega⟩ ⟨r.val % 8192, by omega⟩ k)) (fun k => w (ix1 k))
      (fun k l => wg (ix2 k l)) (fun k l => wu (ix2 k l)) (fun l k => wd (ix2 l k)) e := by
  unfold ffnP
  simp only [rowsP_apply, gateP_apply, linP_apply, normP_apply, Cert.Layer.ffn, Cert.Layer.unit]

/-- The norm of every row. -/
def normS (x : FVec Ideal S128x8x1024 .f32) (w : FVec Ideal S1024 .f32) : FVec Ideal S128x8x1024 .f32 :=
  mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 w))

/-- The product with a matrix. -/
def linS (h : FVec Ideal S128x8x1024 .f32) (w : FVec Ideal S1024x2816 .f32) : FVec Ideal S128x8x2816 .f32 :=
  Host.dotGeneral dot_S128x8x1024_S1024x2816_S128x8x2816_2_0_01_1_n_n none h w

/-- The gated units. -/
def gateS (g u : FVec Ideal S128x8x2816 .f32) : FVec Ideal S128x8x2816 .f32 :=
  mulf (mulf g (Host.divf (broadcastInDim S128x8x2816 ![] bcast_S_S128x8x2816 (constant S_ .f32 0x3F800000#32)) (addf (broadcastInDim S128x8x2816 ![] bcast_S_S128x8x2816 (constant S_ .f32 0x3F800000#32)) (Host.exp (Host.negf g))))) u

/-- The block's result, by rows. -/
def rowsS (x : FVec Ideal S128x8x1024 .f32) (z : FVec Ideal S128x8x2816 .f32) (wd : FVec Ideal S2816x1024 .f32) : FVec Ideal S1024x1024 .f32 :=
  shapeCast S1024x1024 (addf x (Host.dotGeneral dot_S128x8x2816_S2816x1024_S128x8x1024_2_0_01_1_n_n none z wd)) shapeCasts_S128x8x1024_S1024x1024

theorem normS_apply (x : FVec Ideal S128x8x1024 .f32) (w : FVec Ideal S1024 .f32) (a : Fin 128) (b : Fin 8) (k : Fin 1024) :
    normS x w (ix3 a b k) = Cert.Layer.norm (Ideal.ofBits FTy.f32 1149239296#32) (fun l => x (ix3 a b l)) (fun l => w (ix1 l)) k := by
  pointwise [normS, Cert.Layer.norm]

theorem linS_apply (h : FVec Ideal S128x8x1024 .f32) (w : FVec Ideal S1024x2816 .f32) (a : Fin 128) (b : Fin 8) (l : Fin 2816) :
    linS h w (ix3 a b l) = ∑ k : Fin 1024, h (ix3 a b k) * w (ix2 k l) := by
  pointwise [linS]

theorem gateS_apply (g u : FVec Ideal S128x8x2816 .f32) (a : Fin 128) (b : Fin 8) (l : Fin 2816) :
    gateS g u (ix3 a b l) = g (ix3 a b l) * Ideal.logistic (g (ix3 a b l)) * u (ix3 a b l) := by
  pointwise [gateS, Ideal.logistic]

theorem rowsS_apply (x : FVec Ideal S128x8x1024 .f32) (z : FVec Ideal S128x8x2816 .f32) (wd : FVec Ideal S2816x1024 .f32) (r : Fin 1024) (e : Fin 1024) :
    rowsS x z wd (ix2 r e) = x (ix3 ⟨r.val / 8, by omega⟩ ⟨r.val % 8, by omega⟩ e)
      + ∑ l : Fin 2816, z (ix3 ⟨r.val / 8, by omega⟩ ⟨r.val % 8, by omega⟩ l) * wd (ix2 l e) := by
  pointwise [rowsS]

/-- The feed-forward block. -/
def ffnS (x : FVec Ideal S128x8x1024 .f32) (w : FVec Ideal S1024 .f32) (wg wu : FVec Ideal S1024x2816 .f32) (wd : FVec Ideal S2816x1024 .f32) : FVec Ideal S1024x1024 .f32 :=
  rowsS x (gateS (linS (normS x w) wg) (linS (normS x w) wu)) wd

theorem ffnS_apply (x : FVec Ideal S128x8x1024 .f32) (w : FVec Ideal S1024 .f32) (wg wu : FVec Ideal S1024x2816 .f32) (wd : FVec Ideal S2816x1024 .f32) (r : Fin 1024) (e : Fin 1024) :
    ffnS x w wg wu wd (ix2 r e) = Cert.Layer.ffn (Ideal.ofBits FTy.f32 1149239296#32) (fun k => x (ix3 ⟨r.val / 8, by omega⟩ ⟨r.val % 8, by omega⟩ k)) (fun k => w (ix1 k))
      (fun k l => wg (ix2 k l)) (fun k l => wu (ix2 k l)) (fun l k => wd (ix2 l k)) e := by
  unfold ffnS
  simp only [rowsS_apply, gateS_apply, linS_apply, normS_apply, Cert.Layer.ffn, Cert.Layer.unit]

/-- Both parts, one under the other. -/
def both (p : FVec Ideal S16384x1024 .f32) (s : FVec Ideal S1024x1024 .f32) : FVec Ideal S17408x1024 .f32 :=
  concatenate S17408x1024 0 [⟨S16384x1024, p⟩, ⟨S1024x1024, s⟩] concatenates_S16384x1024_S1024x1024_S17408x1024_d0

theorem both_apply (p : FVec Ideal S16384x1024 .f32) (s : FVec Ideal S1024x1024 .f32) (r : Fin 17408) (e : Fin 1024) :
    both p s (ix2 r e) = if h : r.val < 16384 then p (ix2 ⟨r.val, h⟩ e) else s (ix2 ⟨r.val - 16384, by omega⟩ e) := by
  pointwise [both]

/-- The reference's result is these steps. -/
theorem res_eq (m : (ℓ : Loc nD τ sig) → Buf (Elt Ideal) ℓ) (c : Dev nD) :
    Cert.FfnReferenceIdeal.Value.res_main_v40 m c
      = both (ffnP (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (ffnS (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := rfl

end Cert.FfnReferenceIdeal.Layer

end
-- ==== Proof.Ffn.Value.lean ====
/- The feed-forward kernel's result array is the reference's result. -/
module

public import proofs.«01_k».proof.Proof.Ffn.Blocks
public import proofs.«01_k».proof.Proof.Ffn.Ref

@[expose] public section

set_option maxRecDepth 16384

noncomputable section

namespace Cert.FfnIdeal.Layer

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ) (c : Dev nD)

/-- What the first point of a pair leaves: the norm and the row plus the first half's units. -/
theorem first_norm (t : Fin cfg0.N) (h : t.val % 2 = 0) :
    (outsAt0 m c t.val t.isLt).2.1 = k0_pay2 (F := Ideal) (iblk m c 0 t) (iblk m c 1 t) := by
  rw [outsAt0_A m c t h (by omega)]
  funext y
  frame_out

theorem first_acc (t : Fin cfg0.N) (h : t.val % 2 = 0) :
    (outsAt0 m c t.val t.isLt).2.2 = k0_pay4 (F := Ideal) (k0_pay2 (F := Ideal) (iblk m c 0 t) (iblk m c 1 t)) (iblk m c 2 t) (iblk m c 3 t)
      (k0_pay3 (F := Ideal) (iblk m c 0 t)) (iblk m c 4 t) := by
  rw [outsAt0_A m c t h (by omega)]
  funext y
  frame_out

/-- What the second leaves. -/
theorem second_out (t : Fin cfg0.N) (h : t.val % 2 = 1) :
    (outsAt0 m c t.val t.isLt).1 = k0_pay4 (F := Ideal) (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) := by
  rw [outsAt0_B m c t (by omega) h]
  funext y
  frame_out
  exact congrFun (congrArg₂ (fun p q => k0_pay4 (F := Ideal) p (iblk m c 2 t) (iblk m c 3 t) q (iblk m c 4 t))
    (Memref.IsWhole.read_unread (Memref.isWhole_whole cc0_scratch0) _) (Memref.IsWhole.read_unread (Memref.isWhole_whole cc0_scratch1) _)) y

/-- The reference's result over arrays. -/
abbrev refTerm (p : FVec Ideal S2x8192x1024 .f32) (s : FVec Ideal S128x8x1024 .f32) (w : FVec Ideal S1024 .f32) (wg wu : FVec Ideal S1024x2816 .f32) (wd : FVec Ideal S2816x1024 .f32) :
    FVec Ideal S17408x1024 .f32 :=
  Cert.FfnReferenceIdeal.Layer.both (Cert.FfnReferenceIdeal.Layer.ffnP p w wg wu wd) (Cert.FfnReferenceIdeal.Layer.ffnS s w wg wu wd)

theorem refTerm_apply (p : FVec Ideal S2x8192x1024 .f32) (s : FVec Ideal S128x8x1024 .f32) (w : FVec Ideal S1024 .f32) (wg wu : FVec Ideal S1024x2816 .f32) (wd : FVec Ideal S2816x1024 .f32)
    (r : Fin 17408) (e : Fin 1024) :
    refTerm p s w wg wu wd (ix2 r e) = Cert.Layer.ffn (Ideal.ofBits FTy.f32 1149239296#32) (fun k => both p s (ix2 r k)) (fun k => w (ix1 k))
      (fun k l => wg (ix2 k l)) (fun k l => wu (ix2 k l)) (fun l k => wd (ix2 l k)) e := by
  unfold refTerm
  rw [Cert.FfnReferenceIdeal.Layer.both_apply]
  by_cases h : r.val < 16384
  · rw [dif_pos h, Cert.FfnReferenceIdeal.Layer.ffnP_apply]
    refine congrArg (fun x => Cert.Layer.ffn _ x _ _ _ _ _) (funext fun k => ?_)
    rw [both_apply, dif_pos h]
  · rw [dif_neg h, Cert.FfnReferenceIdeal.Layer.ffnS_apply]
    refine congrArg (fun x => Cert.Layer.ffn _ x _ _ _ _ _) (funext fun k => ?_)
    rw [both_apply, dif_neg h]

theorem units_blk (t : Fin cfg0.N) (H : FVec Ideal S1024x1024 .bf16) (h : Fin 1024 → EReal) (a e : Fin 1024) (s : Fin 1408 → Fin 2816)
    (hs : ∀ l, (s l).val = t.val % 2 * 1408 + l.val) (hh : ∀ k, H (ix2 a k) = h k) (G U : FVec Ideal S1024x1408 .bf16) (D : FVec Ideal S1408x1024 .bf16)
    (hG : G = iblk m c 2 t) (hU : U = iblk m c 3 t) (hD : D = iblk m c 4 t) :
    ∑ l : Fin 1408, Cert.Layer.unit (fun k => H (ix2 a k)) (fun k => G (ix2 k l)) (fun k => U (ix2 k l)) * D (ix2 l e)
      = ∑ l : Fin 1408, Cert.Layer.unit h (fun k => argG m c (ix2 k (s l))) (fun k => argU m c (ix2 k (s l))) * argD m c (ix2 (s l) e) := by
  have hl : ∀ l : Fin 1408, (⟨t.val % 2 * 1408 + l.val, by omega⟩ : Fin 2816) = s l := fun l => Fin.ext (hs l).symm
  refine Finset.sum_congr rfl fun l _ => ?_
  subst hG hU hD
  have e0 : (fun k => H (ix2 a k)) = h := funext hh
  have e1 : (fun k => (iblk m c 2 t (ix2 k l : S1024x1408.Idx) : EReal)) = fun k => argG m c (ix2 k (s l)) := funext fun k => by rw [gate_blk, hl]
  have e2 : (fun k => (iblk m c 3 t (ix2 k l : S1024x1408.Idx) : EReal)) = fun k => argU m c (ix2 k (s l)) := funext fun k => by rw [up_blk, hl]
  have e3 : (iblk m c 4 t (ix2 l e : S1408x1024.Idx) : EReal) = argD m c (ix2 (s l) e) := by rw [down_blk, hl]
  exact Ideal.mul_congr ((congrArg (fun f => Cert.Layer.unit f _ _) e0).trans ((congrArg (fun f => Cert.Layer.unit h f _) e1).trans (congrArg (fun f => Cert.Layer.unit h _ f) e2))) e3

/-- A pair of points leaves the reference's rows. -/
theorem point (t : Fin cfg0.N) (h : t.val % 2 = 1) (a e : Fin 1024) :
    (outsAt0 m c t.val t.isLt).1 (ix2 a e : S1024x1024.Idx)
      = refTerm (m ((c.tc : Thread nD τ).loc main_arg0)) (m ((c.tc : Thread nD τ).loc main_arg1)) (argW m c) (argG m c) (argU m c) (argD m c)
          (ix2 ⟨t.val / 2 * 1024 + a.val, by have := lt_N t; omega⟩ e) := by
  have ht := lt_N t
  have hp : t.val - 1 < cfg0.N := Nat.lt_of_le_of_lt (Nat.sub_le _ _) t.isLt
  have h0 : (⟨t.val - 1, hp⟩ : Fin cfg0.N).val % 2 = 0 := by show (t.val - 1) % 2 = 0; omega
  have hd : (t.val - 1) / 2 = t.val / 2 := by omega
  have hn := first_norm m c ⟨t.val - 1, hp⟩ h0
  have ha := first_acc m c ⟨t.val - 1, hp⟩ h0
  have hN : ∀ k, k0_pay2 (F := Ideal) (iblk m c 0 ⟨t.val - 1, hp⟩) (iblk m c 1 ⟨t.val - 1, hp⟩) (ix2 a k)
      = Cert.Layer.norm (Ideal.ofBits FTy.f32 1149239296#32) (fun k => argX m c (ix2 ⟨t.val / 2 * 1024 + a.val, by omega⟩ k)) (fun k => argW m c (ix1 k)) k := fun k => by
    rw [norm_apply]
    refine (congrArg (fun f => Cert.Layer.norm _ f _ k) (funext fun l => ?_)).trans (congrArg (fun f => Cert.Layer.norm _ _ f k) (funext fun l => ?_))
    · refine (rows_blk m c ⟨t.val - 1, hp⟩ a l).trans (congrArg (fun r => argX m c (ix2 r l)) (Fin.ext ?_))
      show (t.val - 1) / 2 * 1024 + a.val = t.val / 2 * 1024 + a.val
      rw [hd]
    · exact weights_blk m c ⟨t.val - 1, hp⟩ l
  have hx : (iblk m c 0 ⟨t.val - 1, hp⟩ (ix2 a e : S1024x1024.Idx) : EReal) = argX m c (ix2 ⟨t.val / 2 * 1024 + a.val, by omega⟩ e) := by
    refine (rows_blk m c ⟨t.val - 1, hp⟩ a e).trans (congrArg (fun r => argX m c (ix2 r e)) (Fin.ext ?_))
    show (t.val - 1) / 2 * 1024 + a.val = t.val / 2 * 1024 + a.val
    rw [hd]
  rw [second_out m c t h, step_apply, refTerm_apply]
  refine Eq.trans ?_ (Cert.Layer.ffn_halves (f := 1408) _ _ _ _ _ _ e)
  refine Ideal.add_congr ?_ (units_blk m c t _ _ a e (Fin.natAdd 1408) (fun l => ?_) (fun k => ?_) _ _ _ rfl rfl rfl)
  · refine (congrFun ha (ix2 a e)).trans ?_
    rw [step_apply, row_apply]
    refine Ideal.add_congr hx (units_blk m c ⟨t.val - 1, hp⟩ _ _ a e (Fin.castAdd 1408) (fun l => ?_) hN _ _ _ rfl rfl rfl)
    show l.val = (t.val - 1) % 2 * 1408 + l.val
    omega
  · show 1408 + l.val = t.val % 2 * 1408 + l.val
    omega
  · exact (congrFun hn (ix2 a k)).trans (hN k)

/-- The kernel's result array is the reference's result. -/
theorem final : (dats m 0 c).arrAt 5 (cfgs 0).N
    = refTerm (m ((c.tc : Thread nD τ).loc main_arg0)) (m ((c.tc : Thread nD τ).loc main_arg1)) (argW m c) (argG m c) (argU m c) (argD m c) := by
  refine (dats m 0 c).arrAt_eq_of_covers 5 _ (by decide +kernel) fun t hf y => ?_
  have h : t.val % 2 = 1 := (flush0_5 t).mp hf
  blk_simp
  rw [after0_5]
  idx_vars y
  refine (point m c t h y0 y1).trans (congrArg (refTerm _ _ _ _ _ _) ?_)
  have ht := lt_N t
  blk_ext [idx t]

end Cert.FfnIdeal.Layer

end
-- ==== Proof.Out.Odd.lean ====
/- The output product of an odd layer: the rows of the stream plus the rows of the attention times the weights. -/
module

public import proofs.«01_k».proof.Proof.Gen.OutOddIdeal.Value
public import proofs.«01_k».proof.Proof.Gen.OutOddReferenceIdeal.Run
public import Idealize.ShloMosaic.Lib.StableHlo.ReadAt
public import Idealize.ShloMosaic.Lib.Pipeline.ValueKit
public import Idealize.ShloMosaic.Lib.Pointwise

@[expose] public section

set_option maxRecDepth 16384

noncomputable section

namespace Cert.OutOddReferenceIdeal.Layer

open Cert.OutOddReferenceIdeal Cert.OutOddReferenceIdeal.Gen Idealize.ShloMosaic Idealize.ShloMosaic.TcCoe Idealize.SL.Sem Idealize.ShloMosaic.StableHlo

/-- The stream plus the product, by rows. -/
def outP (x y : FVec Ideal S2x8192x1024 .f32) (w : FVec Ideal S1024x1024 .f32) : FVec Ideal S16384x1024 .f32 :=
  shapeCast S16384x1024 (addf x (Host.dotGeneral dot_S2x8192x1024_S1024x1024_S2x8192x1024_2_0_01_1_n_n none y w)) shapeCasts_S2x8192x1024_S16384x1024

theorem outP_apply (x y : FVec Ideal S2x8192x1024 .f32) (w : FVec Ideal S1024x1024 .f32) (r : Fin 16384) (e : Fin 1024) :
    outP x y w (ix2 r e) = x (ix3 ⟨r.val / 8192, by omega⟩ ⟨r.val % 8192, by omega⟩ e) + ∑ k : Fin 1024, y (ix3 ⟨r.val / 8192, by omega⟩ ⟨r.val % 8192, by omega⟩ k) * w (ix2 k e) := by
  pointwise [outP]

/-- The stream plus the product, by rows. -/
def outS (x y : FVec Ideal S128x8x1024 .f32) (w : FVec Ideal S1024x1024 .f32) : FVec Ideal S1024x1024 .f32 :=
  shapeCast S1024x1024 (addf x (Host.dotGeneral dot_S128x8x1024_S1024x1024_S128x8x1024_2_0_01_1_n_n none y w)) shapeCasts_S128x8x1024_S1024x1024

theorem outS_apply (x y : FVec Ideal S128x8x1024 .f32) (w : FVec Ideal S1024x1024 .f32) (r : Fin 1024) (e : Fin 1024) :
    outS x y w (ix2 r e) = x (ix3 ⟨r.val / 8, by omega⟩ ⟨r.val % 8, by omega⟩ e) + ∑ k : Fin 1024, y (ix3 ⟨r.val / 8, by omega⟩ ⟨r.val % 8, by omega⟩ k) * w (ix2 k e) := by
  pointwise [outS]

/-- Both parts, one under the other. -/
def both (p : FVec Ideal S16384x1024 .f32) (s : FVec Ideal S1024x1024 .f32) : FVec Ideal S17408x1024 .f32 :=
  concatenate S17408x1024 0 [⟨S16384x1024, p⟩, ⟨S1024x1024, s⟩] concatenates_S16384x1024_S1024x1024_S17408x1024_d0

theorem both_apply (p : FVec Ideal S16384x1024 .f32) (s : FVec Ideal S1024x1024 .f32) (r : Fin 17408) (e : Fin 1024) :
    both p s (ix2 r e) = if h : r.val < 16384 then p (ix2 ⟨r.val, h⟩ e) else s (ix2 ⟨r.val - 16384, by omega⟩ e) := by
  pointwise [both]

end Cert.OutOddReferenceIdeal.Layer

namespace Cert.OutOddIdeal.Layer

open Cert.OutOddIdeal Cert.OutOddIdeal.Gen Idealize.ShloMosaic Idealize.ShloMosaic.TcCoe Idealize.SL.Sem Idealize.ShloMosaic.StableHlo

/-- The stored block. -/
theorem pay_apply (x : FVec Ideal S512x1024 .f32) (y : FVec Ideal S512x1024 .bf16) (w : FVec Ideal S1024x1024 .bf16) (a : Fin 512) (e : Fin 1024) :
    k0_pay1 (F := Ideal) x y w (ix2 a e) = x (ix2 a e) + ∑ k : Fin 1024, y (ix2 a k) * w (ix2 k e) := by
  pointwise [k0_pay1]

/-- The rows of two arrays, one under the other. -/
def both (p : FVec Ideal S2x8192x1024 .f32) (s : FVec Ideal S128x8x1024 .f32) : FVec Ideal S17408x1024 .f32 :=
  concatenate S17408x1024 0 [⟨S16384x1024, shapeCast S16384x1024 p shapeCasts_S2x8192x1024_S16384x1024⟩, ⟨S1024x1024, shapeCast S1024x1024 s shapeCasts_S128x8x1024_S1024x1024⟩] concatenates_S16384x1024_S1024x1024_S17408x1024_d0

theorem both_apply (p : FVec Ideal S2x8192x1024 .f32) (s : FVec Ideal S128x8x1024 .f32) (r : Fin 17408) (e : Fin 1024) :
    both p s (ix2 r e) = if h : r.val < 16384 then p (ix3 ⟨r.val / 8192, by omega⟩ ⟨r.val % 8192, by omega⟩ e)
      else s (ix3 ⟨(r.val - 16384) / 8, by omega⟩ ⟨(r.val - 16384) % 8, by omega⟩ e) := by
  pointwise [both]

theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

theorem lt_N (t : Fin cfg0.N) : t.val < 34 := t.isLt

variable (m : (ℓ : Loc nD τ sig) → Buf (Elt Ideal) ℓ) (c : Dev nD)

/-- The rows of the stream, those of the attention, and the weights. -/
abbrev argX : FVec Ideal S17408x1024 .f32 := both (m ((c.tc : Thread nD τ).loc main_arg0)) (m ((c.tc : Thread nD τ).loc main_arg1))
abbrev argY : FVec Ideal S17408x1024 .f32 := both (m ((c.tc : Thread nD τ).loc main_arg2)) (m ((c.tc : Thread nD τ).loc main_arg3))
abbrev argW : FVec Ideal S1024x1024 .f32 := (m ((c.tc : Thread nD τ).loc main_arg4))

theorem V_x : V m c main_v2 = argX m c := by
  entry_read
  rfl

theorem V_y : V m c main_v6 = argY m c := by
  entry_read
  rfl

theorem x_blk (t : Fin cfg0.N) (a : Fin 512) (k : Fin 1024) : iblk m c 0 t (ix2 a k : S512x1024.Idx)
    = argX m c (ix2 ⟨t.val * 512 + a.val, by have := lt_N t; omega⟩ k) := by
  have ht := lt_N t
  have h : iblk m c 0 t (ix2 a k : S512x1024.Idx) = V m c main_v2 (ix2 ⟨t.val * 512 + a.val, by omega⟩ k) := by
    blk_ext [iblk, idx t]
  rw [h, V_x]

theorem y_blk (t : Fin cfg0.N) (a : Fin 512) (k : Fin 1024) : iblk m c 1 t (ix2 a k : S512x1024.Idx)
    = argY m c (ix2 ⟨t.val * 512 + a.val, by have := lt_N t; omega⟩ k) := by
  have ht := lt_N t
  have h : iblk m c 1 t (ix2 a k : S512x1024.Idx) = V m c main_v6 (ix2 ⟨t.val * 512 + a.val, by omega⟩ k) := by
    blk_ext [iblk, idx t]
  rw [h, V_y]

theorem w_blk (t : Fin cfg0.N) (k e : Fin 1024) : iblk m c 2 t (ix2 k e : S1024x1024.Idx) = argW m c (ix2 k e) := by
  blk_point [iblk, V, idx t]

/-- The reference's result over arrays. -/
abbrev refTerm (x : FVec Ideal S2x8192x1024 .f32) (xs : FVec Ideal S128x8x1024 .f32) (y : FVec Ideal S2x8192x1024 .f32) (ys : FVec Ideal S128x8x1024 .f32)
    (w : FVec Ideal S1024x1024 .f32) : FVec Ideal S17408x1024 .f32 :=
  Cert.OutOddReferenceIdeal.Layer.both (Cert.OutOddReferenceIdeal.Layer.outP x y w) (Cert.OutOddReferenceIdeal.Layer.outS xs ys w)

theorem refTerm_apply (x : FVec Ideal S2x8192x1024 .f32) (xs : FVec Ideal S128x8x1024 .f32) (y : FVec Ideal S2x8192x1024 .f32) (ys : FVec Ideal S128x8x1024 .f32)
    (w : FVec Ideal S1024x1024 .f32) (r : Fin 17408) (e : Fin 1024) :
    refTerm x xs y ys w (ix2 r e) = both x xs (ix2 r e) + ∑ k : Fin 1024, both y ys (ix2 r k) * w (ix2 k e) := by
  unfold refTerm
  rw [Cert.OutOddReferenceIdeal.Layer.both_apply]
  simp only [both_apply]
  by_cases h : r.val < 16384
  · simp only [dif_pos h]
    rw [Cert.OutOddReferenceIdeal.Layer.outP_apply]
  · simp only [dif_neg h]
    rw [Cert.OutOddReferenceIdeal.Layer.outS_apply]

theorem point (t : Fin cfg0.N) (a : Fin 512) (e : Fin 1024) :
    k0_pay1 (F := Ideal) (iblk m c 0 t) (iblk m c 1 t) (iblk m c 2 t) (ix2 a e)
      = refTerm (m ((c.tc : Thread nD τ).loc main_arg0)) (m ((c.tc : Thread nD τ).loc main_arg1)) (m ((c.tc : Thread nD τ).loc main_arg2)) (m ((c.tc : Thread nD τ).loc main_arg3)) (argW m c) (ix2 ⟨t.val * 512 + a.val, by have := lt_N t; omega⟩ e) := by
  rw [pay_apply, refTerm_apply]
  exact Ideal.add_congr (x_blk m c t a e) (Finset.sum_congr rfl fun k _ => Ideal.mul_congr (y_blk m c t a k) (w_blk m c t k e))

/-- The kernel's result array is the reference's result. -/
theorem final : (dats m 0 c).arrAt 3 (cfgs 0).N = refTerm (m ((c.tc : Thread nD τ).loc main_arg0)) (m ((c.tc : Thread nD τ).loc main_arg1)) (m ((c.tc : Thread nD τ).loc main_arg2)) (m ((c.tc : Thread nD τ).loc main_arg3)) (argW m c) := by
  refine (dats m 0 c).arrAt_eq_of_covers 3 _ (by decide +kernel) fun t hf y => ?_
  blk_simp
  rw [after0_3]
  idx_vars y
  frame_out
  refine (point m c t y0 y1).trans (congrArg (refTerm _ _ _ _ _) ?_)
  have ht := lt_N t
  blk_ext [idx t]

end Cert.OutOddIdeal.Layer

end
-- ==== Proof.Out.Even.lean ====
/- The output product of an even layer: the rows of the stream plus the attention times the upper half of the weights plus the
   scan times the lower half. -/
module

public import proofs.«01_k».proof.Proof.Gen.OutEvenIdeal.Value
public import proofs.«01_k».proof.Proof.Gen.OutEvenReferenceIdeal.Run
public import Idealize.ShloMosaic.Lib.StableHlo.ReadAt
public import Idealize.ShloMosaic.Lib.Pipeline.ValueKit
public import Idealize.ShloMosaic.Lib.Pointwise
public import proofs.«01_k».proof.Proof.Out.Odd

@[expose] public section

set_option maxRecDepth 16384

noncomputable section

namespace Cert.OutEvenReferenceIdeal.Layer

open Cert.OutEvenReferenceIdeal Cert.OutEvenReferenceIdeal.Gen Idealize.ShloMosaic Idealize.ShloMosaic.TcCoe Idealize.SL.Sem Idealize.ShloMosaic.StableHlo

/-- Two parts side by side. -/
def catP (y z : FVec Ideal S2x8192x512 .f32) : FVec Ideal S2x8192x1024 .f32 :=
  concatenate S2x8192x1024 2 [⟨S2x8192x512, y⟩, ⟨S2x8192x512, z⟩] concatenates_S2x8192x512_S2x8192x512_S2x8192x1024_d2

theorem catP_left (y z : FVec Ideal S2x8192x512 .f32) (a : Fin 2) (b : Fin 8192) (k : Fin 512) :
    catP y z (ix3 a b (Fin.castAdd 512 k)) = y (ix3 a b k) := by
  pointwise [catP]
  exact dif_pos k.isLt

theorem catP_right (y z : FVec Ideal S2x8192x512 .f32) (a : Fin 2) (b : Fin 8192) (k : Fin 512) :
    catP y z (ix3 a b (Fin.natAdd 512 k)) = z (ix3 a b k) := by
  pointwise [catP]
  refine (dif_neg (by show ¬ 512 + k.val < 512; omega)).trans (congrArg (fun l => z (ix3 a b l)) (Fin.ext ?_))
  show 512 + k.val - 512 = k.val
  omega

/-- Two parts side by side. -/
def catS (y z : FVec Ideal S128x8x512 .f32) : FVec Ideal S128x8x1024 .f32 :=
  concatenate S128x8x1024 2 [⟨S128x8x512, y⟩, ⟨S128x8x512, z⟩] concatenates_S128x8x512_S128x8x512_S128x8x1024_d2

theorem catS_left (y z : FVec Ideal S128x8x512 .f32) (a : Fin 128) (b : Fin 8) (k : Fin 512) :
    catS y z (ix3 a b (Fin.castAdd 512 k)) = y (ix3 a b k) := by
  pointwise [catS]
  exact dif_pos k.isLt

theorem catS_right (y z : FVec Ideal S128x8x512 .f32) (a : Fin 128) (b : Fin 8) (k : Fin 512) :
    catS y z (ix3 a b (Fin.natAdd 512 k)) = z (ix3 a b k) := by
  pointwise [catS]
  refine (dif_neg (by show ¬ 512 + k.val < 512; omega)).trans (congrArg (fun l => z (ix3 a b l)) (Fin.ext ?_))
  show 512 + k.val - 512 = k.val
  omega

end Cert.OutEvenReferenceIdeal.Layer

namespace Cert.OutEvenIdeal.Layer

open Cert.OutEvenIdeal Cert.OutEvenIdeal.Gen Idealize.ShloMosaic Idealize.ShloMosaic.TcCoe Idealize.SL.Sem Idealize.ShloMosaic.StableHlo

/-- The stored block. -/
theorem pay_apply (x : FVec Ideal S512x1024 .f32) (y : FVec Ideal S512x512 .bf16) (w : FVec Ideal S512x1024 .bf16) (z : FVec Ideal S512x512 .bf16) (u : FVec Ideal S512x1024 .bf16)
    (a : Fin 512) (e : Fin 1024) :
    k0_pay1 (F := Ideal) x y w z u (ix2 a e) = x (ix2 a e) + ∑ k : Fin 512, y (ix2 a k) * w (ix2 k e) + ∑ k : Fin 512, z (ix2 a k) * u (ix2 k e) := by
  pointwise [k0_pay1]

/-- The rows of two arrays, one under the other. -/
def half (p : FVec Ideal S2x8192x512 .f32) (s : FVec Ideal S128x8x512 .f32) : FVec Ideal S17408x512 .f32 :=
  concatenate S17408x512 0 [⟨S16384x512, shapeCast S16384x512 p shapeCasts_S2x8192x512_S16384x512⟩, ⟨S1024x512, shapeCast S1024x512 s shapeCasts_S128x8x512_S1024x512⟩] concatenates_S16384x512_S1024x512_S17408x512_d0

theorem half_apply (p : FVec Ideal S2x8192x512 .f32) (s : FVec Ideal S128x8x512 .f32) (r : Fin 17408) (e : Fin 512) :
    half p s (ix2 r e) = if h : r.val < 16384 then p (ix3 ⟨r.val / 8192, by omega⟩ ⟨r.val % 8192, by omega⟩ e)
      else s (ix3 ⟨(r.val - 16384) / 8, by omega⟩ ⟨(r.val - 16384) % 8, by omega⟩ e) := by
  pointwise [half]

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0] :=
  (by decide +kernel : ∀ t : Fin grid0.N, _)

theorem lt_N (t : Fin cfg0.N) : t.val < 34 := t.isLt

variable (m : (ℓ : Loc nD τ sig) → Buf (Elt Ideal) ℓ) (c : Dev nD)

/-- The rows of the stream, those of the attention, those of the scan, and the weights. -/
abbrev argX : FVec Ideal S17408x1024 .f32 := Cert.OutOddIdeal.Layer.both (m ((c.tc : Thread nD τ).loc main_arg0)) (m ((c.tc : Thread nD τ).loc main_arg1))
abbrev argY : FVec Ideal S17408x512 .f32 := half (m ((c.tc : Thread nD τ).loc main_arg2)) (m ((c.tc : Thread nD τ).loc main_arg3))
abbrev argZ : FVec Ideal S17408x512 .f32 := half (m ((c.tc : Thread nD τ).loc main_arg4)) (m ((c.tc : Thread nD τ).loc main_arg5))
abbrev argW : FVec Ideal S1024x1024 .f32 := (m ((c.tc : Thread nD τ).loc main_arg6))

theorem V_x : V m c main_v3 = argX m c := by
  entry_read
  rfl

theorem V_y : V m c main_v7 = argY m c := by
  entry_read
  rfl

theorem V_z : V m c main_v11 = argZ m c := by
  entry_read
  rfl

theorem x_blk (t : Fin cfg0.N) (a : Fin 512) (k : Fin 1024) : iblk m c 0 t (ix2 a k : S512x1024.Idx)
    = argX m c (ix2 ⟨t.val * 512 + a.val, by have := lt_N t; omega⟩ k) := by
  have ht := lt_N t
  have h : iblk m c 0 t (ix2 a k : S512x1024.Idx) = V m c main_v3 (ix2 ⟨t.val * 512 + a.val, by omega⟩ k) := by
    blk_ext [iblk, idx t]
  rw [h, V_x]

theorem y_blk (t : Fin cfg0.N) (a k : Fin 512) : iblk m c 1 t (ix2 a k : S512x512.Idx)
    = argY m c (ix2 ⟨t.val * 512 + a.val, by have := lt_N t; omega⟩ k) := by
  have ht := lt_N t
  have h : iblk m c 1 t (ix2 a k : S512x512.Idx) = V m c main_v7 (ix2 ⟨t.val * 512 + a.val, by omega⟩ k) := by
    blk_ext [iblk, idx t]
  rw [h, V_y]

theorem z_blk (t : Fin cfg0.N) (a k : Fin 512) : iblk m c 2 t (ix2 a k : S512x512.Idx)
    = argZ m c (ix2 ⟨t.val * 512 + a.val, by have := lt_N t; omega⟩ k) := by
  have ht := lt_N t
  have h : iblk m c 2 t (ix2 a k : S512x512.Idx) = V m c main_v11 (ix2 ⟨t.val * 512 + a.val, by omega⟩ k) := by
    blk_ext [iblk, idx t]
  rw [h, V_z]

theorem w_blk (t : Fin cfg0.N) (k : Fin 512) (e : Fin 1024) : iblk m c 3 t (ix2 k e : S512x1024.Idx) = argW m c (ix2 (Fin.castAdd 512 k) e) := by
  blk_point [iblk, V, idx t]
  rfl

theorem u_blk (t : Fin cfg0.N) (k : Fin 512) (e : Fin 1024) : iblk m c 4 t (ix2 k e : S512x1024.Idx) = argW m c (ix2 (Fin.natAdd 512 k) e) := by
  blk_point [iblk, V, idx t]
  rfl

/-- The reference's result over arrays. -/
abbrev refTerm (x : FVec Ideal S2x8192x1024 .f32) (xs : FVec Ideal S128x8x1024 .f32) (y : FVec Ideal S2x8192x512 .f32) (ys : FVec Ideal S128x8x512 .f32)
    (z : FVec Ideal S2x8192x512 .f32) (zs : FVec Ideal S128x8x512 .f32) (w : FVec Ideal S1024x1024 .f32) : FVec Ideal S17408x1024 .f32 :=
  Cert.OutOddIdeal.Layer.refTerm x xs (Cert.OutEvenReferenceIdeal.Layer.catP y z) (Cert.OutEvenReferenceIdeal.Layer.catS ys zs) w

/-- The product over the joined columns is that of the two parts. -/
theorem refTerm_apply (x : FVec Ideal S2x8192x1024 .f32) (xs : FVec Ideal S128x8x1024 .f32) (y : FVec Ideal S2x8192x512 .f32) (ys : FVec Ideal S128x8x512 .f32)
    (z : FVec Ideal S2x8192x512 .f32) (zs : FVec Ideal S128x8x512 .f32) (w : FVec Ideal S1024x1024 .f32) (r : Fin 17408) (e : Fin 1024) :
    refTerm x xs y ys z zs w (ix2 r e) = Cert.OutOddIdeal.Layer.both x xs (ix2 r e)
      + ∑ k : Fin 512, half y ys (ix2 r k) * w (ix2 (Fin.castAdd 512 k) e) + ∑ k : Fin 512, half z zs (ix2 r k) * w (ix2 (Fin.natAdd 512 k) e) := by
  unfold refTerm
  rw [Cert.OutOddIdeal.Layer.refTerm_apply, add_assoc]
  refine congrArg (fun s => _ + s) ((Fin.sum_univ_add (a := 512) (b := 512) _).trans (congrArg₂ (· + ·) ?_ ?_))
  · refine Finset.sum_congr rfl fun k _ => congrArg (fun s => s * _) ?_
    rw [Cert.OutOddIdeal.Layer.both_apply, half_apply]
    by_cases h : r.val < 16384
    · rw [dif_pos h, dif_pos h, Cert.OutEvenReferenceIdeal.Layer.catP_left]
    · rw [dif_neg h, dif_neg h, Cert.OutEvenReferenceIdeal.Layer.catS_left]
  · refine Finset.sum_congr rfl fun k _ => congrArg (fun s => s * _) ?_
    rw [Cert.OutOddIdeal.Layer.both_apply, half_apply]
    by_cases h : r.val < 16384
    · rw [dif_pos h, dif_pos h, Cert.OutEvenReferenceIdeal.Layer.catP_right]
    · rw [dif_neg h, dif_neg h, Cert.OutEvenReferenceIdeal.Layer.catS_right]

theorem point (t : Fin cfg0.N) (a : Fin 512) (e : Fin 1024) :
    k0_pay1 (F := Ideal) (iblk m c 0 t) (iblk m c 1 t) (iblk m c 3 t) (iblk m c 2 t) (iblk m c 4 t) (ix2 a e)
      = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (argW m c) (ix2 ⟨t.val * 512 + a.val, by have := lt_N t; omega⟩ e) := by
  rw [pay_apply, refTerm_apply]
  exact Ideal.add_congr (Ideal.add_congr (x_blk m c t a e) (Finset.sum_congr rfl fun k _ => Ideal.mul_congr (y_blk m c t a k) (w_blk m c t k e)))
    (Finset.sum_congr rfl fun k _ => Ideal.mul_congr (z_blk m c t a k) (u_blk m c t k e))

/-- The kernel's result array is the reference's result. -/
theorem final : (dats m 0 c).arrAt 5 (cfgs 0).N = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (argW m c) := by
  refine (dats m 0 c).arrAt_eq_of_covers 5 _ (by decide +kernel) fun t hf y => ?_
  blk_simp
  rw [after0_5]
  idx_vars y
  frame_out
  refine (point m c t y0 y1).trans (congrArg (refTerm _ _ _ _ _ _ _) ?_)
  have ht := lt_N t
  blk_ext [idx t]

end Cert.OutEvenIdeal.Layer

end
-- ==== Proof.Layer.Proj.lean ====
/- The projections of one row, head by head. -/
module

public import Idealize.ShloMosaic.Lib.Pointwise
public import proofs.«01_k».proof.Proof.Layer.Math

@[expose] public section

set_option maxRecDepth 16384

noncomputable section

namespace Cert.Layer

open Idealize.ShloMosaic

/-- A row times a matrix. -/
def lin {n f : ℕ} (h : Fin n → EReal) (w : Fin n → Fin f → EReal) (j : Fin f) : EReal :=
  ∑ k, h k * w k j

/-- The norm of each head of 128 columns, the first at column `o`. -/
def head128 {f n : ℕ} (o : ℕ) (y : Fin f → EReal) (w : Fin 128 → EReal) (e : Fin n) (h : o + n ≤ f) (h' : 128 ∣ n) : EReal :=
  norm (Ideal.ofBits FTy.f32 1124073472#32) (fun l => y ⟨o + (e.val / 128 * 128 + l.val), by omega⟩) w ⟨e.val % 128, by omega⟩

/-- A block of columns, the first at column `o`. -/
def cols {f n : ℕ} (o : ℕ) (y : Fin f → EReal) (e : Fin n) (h : o + n ≤ f) : EReal := y ⟨o + e.val, by omega⟩

/-- The scale of the queries: the inverse root of the width of a head and the logarithm's base. -/
def scale : EReal := (((Real.sqrt 128)⁻¹ * (Real.log 2)⁻¹ : ℝ) : EReal)

end Cert.Layer

end
-- ==== Proof.Odd.Blocks.lean ====
/- The odd projection's stored blocks: a row's norm times the matrix, the norm of every head of the queries and keys. -/
module

public import proofs.«01_k».proof.Proof.Gen.OddIdeal.Value
public import proofs.«01_k».proof.Proof.Layer.Proj
public import Idealize.ShloMosaic.Lib.Pipeline.ValueKit
public import Idealize.ShloMosaic.Lib.Pointwise

@[expose] public section

set_option maxRecDepth 16384

noncomputable section

namespace Cert.OddIdeal.Layer

open Cert.OddIdeal Cert.OddIdeal.Gen Idealize.ShloMosaic Idealize.ShloMosaic.TcCoe Idealize.SL.Sem Idealize.ShloMosaic.StableHlo

/-- The named scale. -/
theorem named_scale : Named.named (F := Ideal) κ "scale" (φ := .f32) 0x3E0293EE#32 = Cert.Layer.scale :=
  IdealRules.named_const.ideal_named_scalar _ _ _ _ rfl

/-- The product of the norm with the matrix. -/
theorem lin_apply (x : FVec Ideal S512x1024 .f32) (g : FVec Ideal S1x1024 .f32) (w : FVec Ideal S1024x1536 .bf16) (a : Fin 512) (j : Fin 1536) :
    k0_pay2 (F := Ideal) x g w (ix2 a j)
      = Cert.Layer.lin (Cert.Layer.norm (Ideal.ofBits FTy.f32 1149239296#32) (fun l => x (ix2 a l)) (fun l => g (ix2 0 l))) (fun k j => w (ix2 k j)) j := by
  pointwise [k0_pay2, k0_pay1, Cert.Layer.lin, Cert.Layer.norm]

theorem query0 (x : FVec Ideal S512x1024 .f32) (g : FVec Ideal S1x1024 .f32) (w : FVec Ideal S1024x1536 .bf16) (qw : FVec Ideal S1x128 .f32) (a : Fin 512) (e : Fin 128) :
    k0_pay4 (F := Ideal) x g w qw (ix2 a e) = Cert.Layer.norm (Ideal.ofBits FTy.f32 1124073472#32) (fun l => k0_pay2 (F := Ideal) x g w (ix2 a ⟨0 + l.val, by omega⟩)) (fun l => qw (ix2 0 l)) e * Cert.Layer.scale := by
  rw [← named_scale]
  pointwise [k0_pay4, k0_pay3, Cert.Layer.norm]

theorem query1 (x : FVec Ideal S512x1024 .f32) (g : FVec Ideal S1x1024 .f32) (w : FVec Ideal S1024x1536 .bf16) (qw : FVec Ideal S1x128 .f32) (a : Fin 512) (e : Fin 128) :
    k0_pay6 (F := Ideal) (k0_pay3 (F := Ideal) qw) (k0_pay5 (F := Ideal) x g w) (ix2 a e) = Cert.Layer.norm (Ideal.ofBits FTy.f32 1124073472#32) (fun l => k0_pay2 (F := Ideal) x g w (ix2 a ⟨128 + l.val, by omega⟩)) (fun l => qw (ix2 0 l)) e * Cert.Layer.scale := by
  rw [← named_scale]
  pointwise [k0_pay6, k0_pay5, k0_pay3, Cert.Layer.norm]

theorem query2 (Y : FVec Ideal S512x1536 .f32) (qw : FVec Ideal S1x128 .f32) (a : Fin 512) (e : Fin 128) :
    k0_pay7 (F := Ideal) Y (k0_pay3 (F := Ideal) qw) (ix2 a e) = Cert.Layer.norm (Ideal.ofBits FTy.f32 1124073472#32) (fun l => Y (ix2 a ⟨256 + l.val, by omega⟩)) (fun l => qw (ix2 0 l)) e * Cert.Layer.scale := by
  rw [← named_scale]
  pointwise [k0_pay7, k0_pay3, Cert.Layer.norm]

theorem query3 (Y : FVec Ideal S512x1536 .f32) (qw : FVec Ideal S1x128 .f32) (a : Fin 512) (e : Fin 128) :
    k0_pay10 (F := Ideal) (k0_pay3 (F := Ideal) qw) (k0_pay8 (F := Ideal) Y) (k0_pay9 (F := Ideal) Y) (ix2 a e) = Cert.Layer.norm (Ideal.ofBits FTy.f32 1124073472#32) (fun l => Y (ix2 a ⟨384 + l.val, by omega⟩)) (fun l => qw (ix2 0 l)) e * Cert.Layer.scale := by
  rw [← named_scale]
  pointwise [k0_pay10, k0_pay9, k0_pay8, k0_pay3, Cert.Layer.norm]

theorem query4 (Y : FVec Ideal S512x1536 .f32) (qw : FVec Ideal S1x128 .f32) (a : Fin 512) (e : Fin 128) :
    k0_pay11 (F := Ideal) Y (k0_pay3 (F := Ideal) qw) (ix2 a e) = Cert.Layer.norm (Ideal.ofBits FTy.f32 1124073472#32) (fun l => Y (ix2 a ⟨512 + l.val, by omega⟩)) (fun l => qw (ix2 0 l)) e * Cert.Layer.scale := by
  rw [← named_scale]
  pointwise [k0_pay11, k0_pay3, Cert.Layer.norm]

theorem query5 (Y : FVec Ideal S512x1536 .f32) (qw : FVec Ideal S1x128 .f32) (a : Fin 512) (e : Fin 128) :
    k0_pay12 (F := Ideal) Y (k0_pay3 (F := Ideal) qw) (ix2 a e) = Cert.Layer.norm (Ideal.ofBits FTy.f32 1124073472#32) (fun l => Y (ix2 a ⟨640 + l.val, by omega⟩)) (fun l => qw (ix2 0 l)) e * Cert.Layer.scale := by
  rw [← named_scale]
  pointwise [k0_pay12, k0_pay3, Cert.Layer.norm]

theorem query6 (Y : FVec Ideal S512x1536 .f32) (qw : FVec Ideal S1x128 .f32) (a : Fin 512) (e : Fin 128) :
    k0_pay14 (F := Ideal) (k0_pay3 (F := Ideal) qw) (k0_pay13 (F := Ideal) Y) (ix2 a e) = Cert.Layer.norm (Ideal.ofBits FTy.f32 1124073472#32) (fun l => Y (ix2 a ⟨768 + l.val, by omega⟩)) (fun l => qw (ix2 0 l)) e * Cert.Layer.scale := by
  rw [← named_scale]
  pointwise [k0_pay14, k0_pay13, k0_pay3, Cert.Layer.norm]

theorem query7 (Y : FVec Ideal S512x1536 .f32) (qw : FVec Ideal S1x128 .f32) (a : Fin 512) (e : Fin 128) :
    k0_pay15 (F := Ideal) Y (k0_pay3 (F := Ideal) qw) (ix2 a e) = Cert.Layer.norm (Ideal.ofBits FTy.f32 1124073472#32) (fun l => Y (ix2 a ⟨896 + l.val, by omega⟩)) (fun l => qw (ix2 0 l)) e * Cert.Layer.scale := by
  rw [← named_scale]
  pointwise [k0_pay15, k0_pay3, Cert.Layer.norm]

theorem key0 (Y : FVec Ideal S512x1536 .f32) (kw : FVec Ideal S1x128 .f32) (a : Fin 512) (e : Fin 128) :
    k0_pay19 (F := Ideal) Y kw (ix2 a e) = Cert.Layer.norm (Ideal.ofBits FTy.f32 1124073472#32) (fun l => Y (ix2 a ⟨1024 + l.val, by omega⟩)) (fun l => kw (ix2 0 l)) e := by
  skip
  pointwise [k0_pay19, k0_pay18, Cert.Layer.norm]

theorem key1 (Y : FVec Ideal S512x1536 .f32) (kw : FVec Ideal S1x128 .f32) (a : Fin 512) (e : Fin 128) :
    k0_pay27 (F := Ideal) (k0_pay18 (F := Ideal) kw) (k0_pay25 (F := Ideal) Y) (k0_pay26 (F := Ideal) Y) (ix2 a e) = Cert.Layer.norm (Ideal.ofBits FTy.f32 1124073472#32) (fun l => Y (ix2 a ⟨1152 + l.val, by omega⟩)) (fun l => kw (ix2 0 l)) e := by
  skip
  pointwise [k0_pay27, k0_pay26, k0_pay25, k0_pay18, Cert.Layer.norm]

theorem value0 (Y : FVec Ideal S512x1536 .f32) (a : Fin 512) (e : Fin 128) :
    k0_pay20 (F := Ideal) Y (ix2 a e) = Y (ix2 a ⟨1280 + e.val, by omega⟩) := by
  pointwise [k0_pay20]

theorem value1 (Y : FVec Ideal S512x1536 .f32) (a : Fin 512) (e : Fin 128) :
    k0_pay28 (F := Ideal) Y (ix2 a e) = Y (ix2 a ⟨1408 + e.val, by omega⟩) := by
  pointwise [k0_pay28]

/-- A head's norm is read at any column of the head. -/
theorem head_at {n : ℕ} (o J : ℕ) (Y : Fin 1536 → EReal) (w : Fin 128 → EReal) (e : Fin n) (h : o + n ≤ 1536) (h' : 128 ∣ n) (k : Fin 128) (he : e.val = 128 * J + k.val)
    (hj : ∀ l : Fin 128, o + 128 * J + l.val < 1536) :
    Cert.Layer.head128 o Y w e h h' = Cert.Layer.norm (Ideal.ofBits FTy.f32 1124073472#32) (fun l => Y ⟨o + 128 * J + l.val, hj l⟩) w k := by
  have h1 : (⟨e.val % 128, by omega⟩ : Fin 128) = k := Fin.ext (by show e.val % 128 = k.val; omega)
  unfold Cert.Layer.head128
  rw [h1]
  refine congrArg (fun f => Cert.Layer.norm _ f w k) (funext fun l => congrArg Y (Fin.ext ?_))
  show o + (e.val / 128 * 128 + l.val) = o + 128 * J + l.val
  omega

/-- The stored queries. -/
theorem queries (i : grid0.Coords) (X : Vec Ideal S512x1024 .f32) (g : Vec Ideal S1x1024 .f32) (w : Vec Ideal S1024x1536 .bf16) (qw kw : Vec Ideal S1x128 .f32)
    (y : S512x1024.Idx) :
    out0_5 (F := Ideal) i X g w qw kw y
      = Cert.Layer.head128 0 (fun j => k0_pay2 (F := Ideal) X g w (ix2 (y 0) j)) (fun l => qw (ix2 0 l)) (y 1) (by decide) (by decide) * Cert.Layer.scale := by
  have e0 : View.ld (Val := Elt Ideal) (e' := .f32) X r0_0 = X := View.ld_unit_lit (Val := Elt Ideal) (S := S512x1024) inb_S512x1024_S512x1024_0_0 X (by decide)
  have e1 : View.ld (Val := Elt Ideal) (e' := .f32) g r0_1 = g := View.ld_unit_lit (Val := Elt Ideal) (S := S1x1024) inb_S1x1024_S1x1024_0_0 g (by decide)
  have e2 : View.ld (Val := Elt Ideal) (e' := .bf16) w r0_2 = w := View.ld_unit_lit (Val := Elt Ideal) (S := S1024x1536) inb_S1024x1536_S1024x1536_0_0 w (by decide)
  have e3 : View.ld (Val := Elt Ideal) (e' := .f32) qw r0_3 = qw := View.ld_unit_lit (Val := Elt Ideal) (S := S1x128) inb_S1x128_S1x128_0_0 qw (by decide)
  have e4 : View.ld (Val := Elt Ideal) (e' := .f32) kw r0_3 = kw := View.ld_unit_lit (Val := Elt Ideal) (S := S1x128) inb_S1x128_S1x128_0_0 kw (by decide)
  unfold_out out0_5
  canon_tiles x h
  case piece0 =>
    simp only [e0, e1, e2, e3, e4]
    have h2 : (y 0 : Fin 512) = x 0 := Fin.ext h0
    rw [h2]
    have e5 := query7 (k0_pay2 (F := Ideal) X g w) qw (x 0) (x 1)
    rw [← eq_ix2 x] at e5
    exact e5.trans (congrArg (fun s => s * Cert.Layer.scale) (head_at 0 7 (fun j => k0_pay2 (F := Ideal) X g w (ix2 (x 0) j)) (fun l => qw (ix2 0 l)) (y 1) _ _ (x 1) (by omega) (fun l => by omega)).symm)
  case piece1 =>
    simp only [e0, e1, e2, e3, e4]
    have h2 : (y 0 : Fin 512) = x 0 := Fin.ext h0
    rw [h2]
    have e5 := query6 (k0_pay2 (F := Ideal) X g w) qw (x 0) (x 1)
    rw [← eq_ix2 x] at e5
    exact e5.trans (congrArg (fun s => s * Cert.Layer.scale) (head_at 0 6 (fun j => k0_pay2 (F := Ideal) X g w (ix2 (x 0) j)) (fun l => qw (ix2 0 l)) (y 1) _ _ (x 1) (by omega) (fun l => by omega)).symm)
  case piece2 =>
    simp only [e0, e1, e2, e3, e4]
    have h2 : (y 0 : Fin 512) = x 0 := Fin.ext h0
    rw [h2]
    have e5 := query5 (k0_pay2 (F := Ideal) X g w) qw (x 0) (x 1)
    rw [← eq_ix2 x] at e5
    exact e5.trans (congrArg (fun s => s * Cert.Layer.scale) (head_at 0 5 (fun j => k0_pay2 (F := Ideal) X g w (ix2 (x 0) j)) (fun l => qw (ix2 0 l)) (y 1) _ _ (x 1) (by omega) (fun l => by omega)).symm)
  case piece3 =>
    simp only [e0, e1, e2, e3, e4]
    have h2 : (y 0 : Fin 512) = x 0 := Fin.ext h0
    rw [h2]
    have e5 := query4 (k0_pay2 (F := Ideal) X g w) qw (x 0) (x 1)
    rw [← eq_ix2 x] at e5
    exact e5.trans (congrArg (fun s => s * Cert.Layer.scale) (head_at 0 4 (fun j => k0_pay2 (F := Ideal) X g w (ix2 (x 0) j)) (fun l => qw (ix2 0 l)) (y 1) _ _ (x 1) (by omega) (fun l => by omega)).symm)
  case piece4 =>
    simp only [e0, e1, e2, e3, e4]
    have h2 : (y 0 : Fin 512) = x 0 := Fin.ext h0
    rw [h2]
    have e5 := query3 (k0_pay2 (F := Ideal) X g w) qw (x 0) (x 1)
    rw [← eq_ix2 x] at e5
    exact e5.trans (congrArg (fun s => s * Cert.Layer.scale) (head_at 0 3 (fun j => k0_pay2 (F := Ideal) X g w (ix2 (x 0) j)) (fun l => qw (ix2 0 l)) (y 1) _ _ (x 1) (by omega) (fun l => by omega)).symm)
  case piece5 =>
    simp only [e0, e1, e2, e3, e4]
    have h2 : (y 0 : Fin 512) = x 0 := Fin.ext h0
    rw [h2]
    have e5 := query2 (k0_pay2 (F := Ideal) X g w) qw (x 0) (x 1)
    rw [← eq_ix2 x] at e5
    exact e5.trans (congrArg (fun s => s * Cert.Layer.scale) (head_at 0 2 (fun j => k0_pay2 (F := Ideal) X g w (ix2 (x 0) j)) (fun l => qw (ix2 0 l)) (y 1) _ _ (x 1) (by omega) (fun l => by omega)).symm)
  case piece6 =>
    simp only [e0, e1, e2, e3, e4]
    have h2 : (y 0 : Fin 512) = x 0 := Fin.ext h0
    rw [h2]
    have e5 := query1 X g w qw (x 0) (x 1)
    rw [← eq_ix2 x] at e5
    exact e5.trans (congrArg (fun s => s * Cert.Layer.scale) (head_at 0 1 (fun j => k0_pay2 (F := Ideal) X g w (ix2 (x 0) j)) (fun l => qw (ix2 0 l)) (y 1) _ _ (x 1) (by omega) (fun l => by omega)).symm)
  case piece7 =>
    simp only [e0, e1, e2, e3, e4]
    have h2 : (y 0 : Fin 512) = x 0 := Fin.ext h0
    rw [h2]
    have e5 := query0 X g w qw (x 0) (x 1)
    rw [← eq_ix2 x] at e5
    exact e5.trans (congrArg (fun s => s * Cert.Layer.scale) (head_at 0 0 (fun j => k0_pay2 (F := Ideal) X g w (ix2 (x 0) j)) (fun l => qw (ix2 0 l)) (y 1) _ _ (x 1) (by omega) (fun l => by omega)).symm)

/-- The stored keys. -/
theorem keys (i : grid0.Coords) (X : Vec Ideal S512x1024 .f32) (g : Vec Ideal S1x1024 .f32) (w : Vec Ideal S1024x1536 .bf16) (qw kw : Vec Ideal S1x128 .f32)
    (y : S512x256.Idx) :
    out0_6 (F := Ideal) i X g w qw kw y
      = Cert.Layer.head128 1024 (fun j => k0_pay2 (F := Ideal) X g w (ix2 (y 0) j)) (fun l => kw (ix2 0 l)) (y 1) (by decide) (by decide) := by
  have e0 : View.ld (Val := Elt Ideal) (e' := .f32) X r0_0 = X := View.ld_unit_lit (Val := Elt Ideal) (S := S512x1024) inb_S512x1024_S512x1024_0_0 X (by decide)
  have e1 : View.ld (Val := Elt Ideal) (e' := .f32) g r0_1 = g := View.ld_unit_lit (Val := Elt Ideal) (S := S1x1024) inb_S1x1024_S1x1024_0_0 g (by decide)
  have e2 : View.ld (Val := Elt Ideal) (e' := .bf16) w r0_2 = w := View.ld_unit_lit (Val := Elt Ideal) (S := S1024x1536) inb_S1024x1536_S1024x1536_0_0 w (by decide)
  have e3 : View.ld (Val := Elt Ideal) (e' := .f32) qw r0_3 = qw := View.ld_unit_lit (Val := Elt Ideal) (S := S1x128) inb_S1x128_S1x128_0_0 qw (by decide)
  have e4 : View.ld (Val := Elt Ideal) (e' := .f32) kw r0_3 = kw := View.ld_unit_lit (Val := Elt Ideal) (S := S1x128) inb_S1x128_S1x128_0_0 kw (by decide)
  unfold_out out0_6
  canon_tiles x h
  case piece0 =>
    simp only [e0, e1, e2, e3, e4]
    have h2 : (y 0 : Fin 512) = x 0 := Fin.ext h0
    rw [h2]
    have e5 := key1 (k0_pay2 (F := Ideal) X g w) kw (x 0) (x 1)
    rw [← eq_ix2 x] at e5
    exact e5.trans (head_at 1024 1 (fun j => k0_pay2 (F := Ideal) X g w (ix2 (x 0) j)) (fun l => kw (ix2 0 l)) (y 1) _ _ (x 1) (by omega) (fun l => by omega)).symm
  case piece1 =>
    simp only [e0, e1, e2, e3, e4]
    have h2 : (y 0 : Fin 512) = x 0 := Fin.ext h0
    rw [h2]
    have e5 := key0 (k0_pay2 (F := Ideal) X g w) kw (x 0) (x 1)
    rw [← eq_ix2 x] at e5
    exact e5.trans (head_at 1024 0 (fun j => k0_pay2 (F := Ideal) X g w (ix2 (x 0) j)) (fun l => kw (ix2 0 l)) (y 1) _ _ (x 1) (by omega) (fun l => by omega)).symm

/-- The stored values. -/
theorem values (i : grid0.Coords) (X : Vec Ideal S512x1024 .f32) (g : Vec Ideal S1x1024 .f32) (w : Vec Ideal S1024x1536 .bf16) (qw kw : Vec Ideal S1x128 .f32)
    (y : S512x256.Idx) :
    out0_7 (F := Ideal) i X g w qw kw y
      = Cert.Layer.cols 1280 (fun j => k0_pay2 (F := Ideal) X g w (ix2 (y 0) j)) (y 1) (by decide) := by
  have e0 : View.ld (Val := Elt Ideal) (e' := .f32) X r0_0 = X := View.ld_unit_lit (Val := Elt Ideal) (S := S512x1024) inb_S512x1024_S512x1024_0_0 X (by decide)
  have e1 : View.ld (Val := Elt Ideal) (e' := .f32) g r0_1 = g := View.ld_unit_lit (Val := Elt Ideal) (S := S1x1024) inb_S1x1024_S1x1024_0_0 g (by decide)
  have e2 : View.ld (Val := Elt Ideal) (e' := .bf16) w r0_2 = w := View.ld_unit_lit (Val := Elt Ideal) (S := S1024x1536) inb_S1024x1536_S1024x1536_0_0 w (by decide)
  have e3 : View.ld (Val := Elt Ideal) (e' := .f32) qw r0_3 = qw := View.ld_unit_lit (Val := Elt Ideal) (S := S1x128) inb_S1x128_S1x128_0_0 qw (by decide)
  have e4 : View.ld (Val := Elt Ideal) (e' := .f32) kw r0_3 = kw := View.ld_unit_lit (Val := Elt Ideal) (S := S1x128) inb_S1x128_S1x128_0_0 kw (by decide)
  unfold_out out0_7
  canon_tiles x h
  case piece0 =>
    simp only [e0, e1, e2, e3, e4]
    have h2 : (y 0 : Fin 512) = x 0 := Fin.ext h0
    rw [h2]
    have e5 := value1 (k0_pay2 (F := Ideal) X g w) (x 0) (x 1)
    rw [← eq_ix2 x] at e5
    refine e5.trans (congrArg (fun j => k0_pay2 (F := Ideal) X g w (ix2 (x 0) j)) (Fin.ext ?_))
    show 1408 + (x 1).val = 1280 + (y 1).val
    omega
  case piece1 =>
    simp only [e0, e1, e2, e3, e4]
    have h2 : (y 0 : Fin 512) = x 0 := Fin.ext h0
    rw [h2]
    have e5 := value0 (k0_pay2 (F := Ideal) X g w) (x 0) (x 1)
    rw [← eq_ix2 x] at e5
    refine e5.trans (congrArg (fun j => k0_pay2 (F := Ideal) X g w (ix2 (x 0) j)) (Fin.ext ?_))
    show 1280 + (x 1).val = 1280 + (y 1).val
    omega

end Cert.OddIdeal.Layer

end
-- ==== Proof.Layer.Consts.lean ====
/- The scale of the queries: dividing by the root of the width and by the logarithm's base is multiplying by their inverses. -/
module

public import Idealize.ShloMosaic.Lib.Pointwise
public import proofs.«01_k».proof.Proof.Layer.Proj

@[expose] public section

noncomputable section

namespace Cert.Layer

open Idealize.ShloMosaic

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem div_scale (x : EReal) :
    Ideal.div (Ideal.div x (Ideal.sqrt (Ideal.ofBits .f32 0x43000000#32))) (Ideal.log (Ideal.ofBits .f32 0x40000000#32)) = x * scale := by
  have h1 : Real.sqrt 128 ≠ 0 := by positivity
  have h2 : Real.log 2 ≠ 0 := (Real.log_pos (by norm_num)).ne'
  rw [ofBits_128, ofBits_2, Ideal.sqrt_coe, Ideal.log_coe, if_neg (by norm_num), if_neg (by norm_num), Ideal.div_coe h1, Ideal.div_coe h2, mul_assoc, ← EReal.coe_mul, one_div, one_div]
  rfl

end Cert.Layer

end
-- ==== Proof.Odd.Ref.lean ====
/- The projections of an odd layer's reference, step by step, and their rows. -/
module

public import proofs.«01_k».proof.Proof.Gen.OddReferenceIdeal.Run
public import proofs.«01_k».proof.Proof.Ffn.Ref
public import proofs.«01_k».proof.Proof.Layer.Proj
public import proofs.«01_k».proof.Proof.Layer.Consts
public import Idealize.ShloMosaic.Lib.Pointwise

@[expose] public section

set_option maxRecDepth 16384

noncomputable section

namespace Cert.OddReferenceIdeal.Layer

open Cert.OddReferenceIdeal Cert.OddReferenceIdeal.Gen Idealize.ShloMosaic Idealize.ShloMosaic.TcCoe Idealize.SL.Sem Idealize.ShloMosaic.StableHlo

/-- The product with the weights. -/
def linP (h : FVec Ideal S2x8192x1024 .f32) (w : FVec Ideal S1024x1536 .f32) : FVec Ideal S2x8192x1536 .f32 :=
  Host.dotGeneral dot_S2x8192x1024_S1024x1536_S2x8192x1536_2_0_01_1_n_n none h w

/-- The heads of the queries, and of the keys. -/
def qheadsP (z : FVec Ideal S2x8192x1536 .f32) : FVec Ideal S2x8192x2x4x128 .f32 :=
  shapeCast S2x8192x2x4x128 (extractStridedSlice S2x8192x1024 ![0, 0, 0] z slices_S2x8192x1536_S2x8192x1024_0_0_0) shapeCasts_S2x8192x1024_S2x8192x2x4x128
def kheadsP (z : FVec Ideal S2x8192x1536 .f32) : FVec Ideal S2x8192x2x128 .f32 :=
  shapeCast S2x8192x2x128 (extractStridedSlice S2x8192x256 ![0, 0, 1024] z slices_S2x8192x1536_S2x8192x256_0_0_1024) shapeCasts_S2x8192x256_S2x8192x2x128

/-- The norms of the heads. -/
def qnormP (x : FVec Ideal S2x8192x2x4x128 .f32) (w : FVec Ideal S128 .f32) : FVec Ideal S2x8192x2x4x128 .f32 :=
  mulf (mulf x (broadcastInDim S2x8192x2x4x128 ![0, 1, 2, 3, 4] bcast_S2x8192x2x4x1_S2x8192x2x4x128_0_1_2_3_4 (Host.rsqrt (addf (Host.divf (broadcastInDim S2x8192x2x4x1 ![0, 1, 2, 3] bcast_S2x8192x2x4_S2x8192x2x4x1_0_1_2_3 (Host.reduceAdd (mulf x x) (constant S_ .f32 0x00000000#32) reducesTo_S2x8192x2x4x128_S2x8192x2x4_d4 h_S_)) (broadcastInDim S2x8192x2x4x1 ![] bcast_S_S2x8192x2x4x1 (constant S_ .f32 0x43000000#32))) (broadcastInDim S2x8192x2x4x1 ![] bcast_S_S2x8192x2x4x1 (constant S_ .f32 0x358637BD#32)))))) (broadcastInDim S2x8192x2x4x128 ![0, 1, 2, 3, 4] bcast_S1x1x1x1x128_S2x8192x2x4x128_0_1_2_3_4 (broadcastInDim S1x1x1x1x128 ![4] bcast_S128_S1x1x1x1x128_4 w))
def knormP (x : FVec Ideal S2x8192x2x128 .f32) (w : FVec Ideal S128 .f32) : FVec Ideal S2x8192x2x128 .f32 :=
  mulf (mulf x (broadcastInDim S2x8192x2x128 ![0, 1, 2, 3] bcast_S2x8192x2x1_S2x8192x2x128_0_1_2_3 (Host.rsqrt (addf (Host.divf (broadcastInDim S2x8192x2x1 ![0, 1, 2] bcast_S2x8192x2_S2x8192x2x1_0_1_2 (Host.reduceAdd (mulf x x) (constant S_ .f32 0x00000000#32) reducesTo_S2x8192x2x128_S2x8192x2_d3 h_S_)) (broadcastInDim S2x8192x2x1 ![] bcast_S_S2x8192x2x1 (constant S_ .f32 0x43000000#32))) (broadcastInDim S2x8192x2x1 ![] bcast_S_S2x8192x2x1 (constant S_ .f32 0x358637BD#32)))))) (broadcastInDim S2x8192x2x128 ![0, 1, 2, 3] bcast_S1x1x1x128_S2x8192x2x128_0_1_2_3 (broadcastInDim S1x1x1x128 ![3] bcast_S128_S1x1x1x128_3 w))

/-- The queries by rows, scaled. -/
def qrowsP (x : FVec Ideal S2x8192x2x4x128 .f32) : FVec Ideal S16384x1024 .f32 :=
  Host.divf (Host.divf (shapeCast S16384x1024 x shapeCasts_S2x8192x2x4x128_S16384x1024) (broadcastInDim S16384x1024 ![] bcast_S_S16384x1024 (Host.sqrt (constant S_ .f32 0x43000000#32)))) (broadcastInDim S16384x1024 ![] bcast_S_S16384x1024 (Host.log (constant S_ .f32 0x40000000#32)))

/-- The keys and the values by rows. -/
def krowsP (x : FVec Ideal S2x8192x2x128 .f32) : FVec Ideal S16384x256 .f32 :=
  shapeCast S16384x256 x shapeCasts_S2x8192x2x128_S16384x256
def vrowsP (z : FVec Ideal S2x8192x1536 .f32) : FVec Ideal S16384x256 .f32 :=
  shapeCast S16384x256 (extractStridedSlice S2x8192x256 ![0, 0, 1280] z slices_S2x8192x1536_S2x8192x256_0_0_1280) shapeCasts_S2x8192x256_S16384x256

theorem linP_apply (h : FVec Ideal S2x8192x1024 .f32) (w : FVec Ideal S1024x1536 .f32) (a : Fin 2) (b : Fin 8192) (j : Fin 1536) :
    linP h w (ix3 a b j) = Cert.Layer.lin (fun k => h (ix3 a b k)) (fun k l => w (ix2 k l)) j := by
  pointwise [linP, Cert.Layer.lin]

theorem qheadsP_apply (z : FVec Ideal S2x8192x1536 .f32) (a : Fin 2) (b : Fin 8192) (g : Fin 2) (h : Fin 4) (l : Fin 128) :
    qheadsP z (ix5 a b g h l) = z (ix3 a b ⟨g.val * 512 + h.val * 128 + l.val, by omega⟩) := by
  pointwise [qheadsP]

theorem kheadsP_apply (z : FVec Ideal S2x8192x1536 .f32) (a : Fin 2) (b : Fin 8192) (g : Fin 2) (l : Fin 128) :
    kheadsP z (ix4 a b g l) = z (ix3 a b ⟨1024 + (g.val * 128 + l.val), by omega⟩) := by
  pointwise [kheadsP]

theorem qnormP_apply (x : FVec Ideal S2x8192x2x4x128 .f32) (w : FVec Ideal S128 .f32) (a : Fin 2) (b : Fin 8192) (g : Fin 2) (h : Fin 4) (l : Fin 128) :
    qnormP x w (ix5 a b g h l) = Cert.Layer.norm (Ideal.ofBits FTy.f32 1124073472#32) (fun k => x (ix5 a b g h k)) (fun k => w (ix1 k)) l := by
  pointwise [qnormP, Cert.Layer.norm]

theorem knormP_apply (x : FVec Ideal S2x8192x2x128 .f32) (w : FVec Ideal S128 .f32) (a : Fin 2) (b : Fin 8192) (g : Fin 2) (l : Fin 128) :
    knormP x w (ix4 a b g l) = Cert.Layer.norm (Ideal.ofBits FTy.f32 1124073472#32) (fun k => x (ix4 a b g k)) (fun k => w (ix1 k)) l := by
  pointwise [knormP, Cert.Layer.norm]

theorem qrowsP_apply (x : FVec Ideal S2x8192x2x4x128 .f32) (r : Fin 16384) (e : Fin 1024) :
    qrowsP x (ix2 r e) = x (ix5 ⟨r.val / 8192, by omega⟩ ⟨r.val % 8192, by omega⟩ ⟨e.val / 512, by omega⟩ ⟨e.val / 128 % 4, by omega⟩ ⟨e.val % 128, by omega⟩) * Cert.Layer.scale := by
  rw [← Cert.Layer.div_scale]
  pointwise [qrowsP]

theorem krowsP_apply (x : FVec Ideal S2x8192x2x128 .f32) (r : Fin 16384) (e : Fin 256) :
    krowsP x (ix2 r e) = x (ix4 ⟨r.val / 8192, by omega⟩ ⟨r.val % 8192, by omega⟩ ⟨e.val / 128, by omega⟩ ⟨e.val % 128, by omega⟩) := by
  pointwise [krowsP]

theorem vrowsP_apply (z : FVec Ideal S2x8192x1536 .f32) (r : Fin 16384) (e : Fin 256) :
    vrowsP z (ix2 r e) = z (ix3 ⟨r.val / 8192, by omega⟩ ⟨r.val % 8192, by omega⟩ ⟨1280 + e.val, by omega⟩) := by
  pointwise [vrowsP]

/-- The projected rows. -/
def projP (x : FVec Ideal S2x8192x1024 .f32) (g : FVec Ideal S1024 .f32) (w : FVec Ideal S1024x1536 .f32) : FVec Ideal S2x8192x1536 .f32 :=
  linP (Cert.FfnReferenceIdeal.Layer.normP x g) w

theorem projP_apply (x : FVec Ideal S2x8192x1024 .f32) (g : FVec Ideal S1024 .f32) (w : FVec Ideal S1024x1536 .f32) (a : Fin 2) (b : Fin 8192) (j : Fin 1536) :
    projP x g w (ix3 a b j) = Cert.Layer.lin (Cert.Layer.norm (Ideal.ofBits FTy.f32 1149239296#32) (fun k => x (ix3 a b k)) (fun k => g (ix1 k))) (fun k l => w (ix2 k l)) j := by
  unfold projP
  rw [linP_apply]
  exact congrArg (fun f => Cert.Layer.lin f _ j) (funext fun k => Cert.FfnReferenceIdeal.Layer.normP_apply x g a b k)

theorem queryP (z : FVec Ideal S2x8192x1536 .f32) (w : FVec Ideal S128 .f32) (r : Fin 16384) (e : Fin 1024) :
    qrowsP (qnormP (qheadsP z) w) (ix2 r e)
      = Cert.Layer.head128 0 (fun j => z (ix3 ⟨r.val / 8192, by omega⟩ ⟨r.val % 8192, by omega⟩ j)) (fun k => w (ix1 k)) e (by decide) (by decide) * Cert.Layer.scale := by
  rw [qrowsP_apply, qnormP_apply]
  refine congrArg (fun f => Cert.Layer.norm _ f _ _ * Cert.Layer.scale) (funext fun k => ?_)
  rw [qheadsP_apply]
  refine congrArg (fun j => z (ix3 ⟨r.val / 8192, by omega⟩ ⟨r.val % 8192, by omega⟩ j)) (Fin.ext ?_)
  show e.val / 512 * 512 + e.val / 128 % 4 * 128 + k.val = 0 + (e.val / 128 * 128 + k.val)
  omega

theorem keyP (z : FVec Ideal S2x8192x1536 .f32) (w : FVec Ideal S128 .f32) (r : Fin 16384) (e : Fin 256) :
    krowsP (knormP (kheadsP z) w) (ix2 r e)
      = Cert.Layer.head128 1024 (fun j => z (ix3 ⟨r.val / 8192, by omega⟩ ⟨r.val % 8192, by omega⟩ j)) (fun k => w (ix1 k)) e (by decide) (by decide) := by
  rw [krowsP_apply, knormP_apply]
  refine congrArg (fun f => Cert.Layer.norm _ f _ _) (funext fun k => ?_)
  rw [kheadsP_apply]

theorem valueP (z : FVec Ideal S2x8192x1536 .f32) (r : Fin 16384) (e : Fin 256) :
    vrowsP z (ix2 r e) = Cert.Layer.cols 1280 (fun j => z (ix3 ⟨r.val / 8192, by omega⟩ ⟨r.val % 8192, by omega⟩ j)) e (by decide) :=
  vrowsP_apply z r e

/-- The product with the weights. -/
def linS (h : FVec Ideal S128x8x1024 .f32) (w : FVec Ideal S1024x1536 .f32) : FVec Ideal S128x8x1536 .f32 :=
  Host.dotGeneral dot_S128x8x1024_S1024x1536_S128x8x1536_2_0_01_1_n_n none h w

/-- The heads of the queries, and of the keys. -/
def qheadsS (z : FVec Ideal S128x8x1536 .f32) : FVec Ideal S128x8x2x4x128 .f32 :=
  shapeCast S128x8x2x4x128 (extractStridedSlice S128x8x1024 ![0, 0, 0] z slices_S128x8x1536_S128x8x1024_0_0_0) shapeCasts_S128x8x1024_S128x8x2x4x128
def kheadsS (z : FVec Ideal S128x8x1536 .f32) : FVec Ideal S128x8x2x128 .f32 :=
  shapeCast S128x8x2x128 (extractStridedSlice S128x8x256 ![0, 0, 1024] z slices_S128x8x1536_S128x8x256_0_0_1024) shapeCasts_S128x8x256_S128x8x2x128

/-- The norms of the heads. -/
def qnormS (x : FVec Ideal S128x8x2x4x128 .f32) (w : FVec Ideal S128 .f32) : FVec Ideal S128x8x2x4x128 .f32 :=
  mulf (mulf x (broadcastInDim S128x8x2x4x128 ![0, 1, 2, 3, 4] bcast_S128x8x2x4x1_S128x8x2x4x128_0_1_2_3_4 (Host.rsqrt (addf (Host.divf (broadcastInDim S128x8x2x4x1 ![0, 1, 2, 3] bcast_S128x8x2x4_S128x8x2x4x1_0_1_2_3 (Host.reduceAdd (mulf x x) (constant S_ .f32 0x00000000#32) reducesTo_S128x8x2x4x128_S128x8x2x4_d4 h_S_)) (broadcastInDim S128x8x2x4x1 ![] bcast_S_S128x8x2x4x1 (constant S_ .f32 0x43000000#32))) (broadcastInDim S128x8x2x4x1 ![] bcast_S_S128x8x2x4x1 (constant S_ .f32 0x358637BD#32)))))) (broadcastInDim S128x8x2x4x128 ![0, 1, 2, 3, 4] bcast_S1x1x1x1x128_S128x8x2x4x128_0_1_2_3_4 (broadcastInDim S1x1x1x1x128 ![4] bcast_S128_S1x1x1x1x128_4 w))
def knormS (x : FVec Ideal S128x8x2x128 .f32) (w : FVec Ideal S128 .f32) : FVec Ideal S128x8x2x128 .f32 :=
  mulf (mulf x (broadcastInDim S128x8x2x128 ![0, 1, 2, 3] bcast_S128x8x2x1_S128x8x2x128_0_1_2_3 (Host.rsqrt (addf (Host.divf (broadcastInDim S128x8x2x1 ![0, 1, 2] bcast_S128x8x2_S128x8x2x1_0_1_2 (Host.reduceAdd (mulf x x) (constant S_ .f32 0x00000000#32) reducesTo_S128x8x2x128_S128x8x2_d3 h_S_)) (broadcastInDim S128x8x2x1 ![] bcast_S_S128x8x2x1 (constant S_ .f32 0x43000000#32))) (broadcastInDim S128x8x2x1 ![] bcast_S_S128x8x2x1 (constant S_ .f32 0x358637BD#32)))))) (broadcastInDim S128x8x2x128 ![0, 1, 2, 3] bcast_S1x1x1x128_S128x8x2x128_0_1_2_3 (broadcastInDim S1x1x1x128 ![3] bcast_S128_S1x1x1x128_3 w))

/-- The queries by rows, scaled. -/
def qrowsS (x : FVec Ideal S128x8x2x4x128 .f32) : FVec Ideal S1024x1024 .f32 :=
  Host.divf (Host.divf (shapeCast S1024x1024 x shapeCasts_S128x8x2x4x128_S1024x1024) (broadcastInDim S1024x1024 ![] bcast_S_S1024x1024 (Host.sqrt (constant S_ .f32 0x43000000#32)))) (broadcastInDim S1024x1024 ![] bcast_S_S1024x1024 (Host.log (constant S_ .f32 0x40000000#32)))

/-- The keys and the values by rows. -/
def krowsS (x : FVec Ideal S128x8x2x128 .f32) : FVec Ideal S1024x256 .f32 :=
  shapeCast S1024x256 x shapeCasts_S128x8x2x128_S1024x256
def vrowsS (z : FVec Ideal S128x8x1536 .f32) : FVec Ideal S1024x256 .f32 :=
  shapeCast S1024x256 (extractStridedSlice S128x8x256 ![0, 0, 1280] z slices_S128x8x1536_S128x8x256_0_0_1280) shapeCasts_S128x8x256_S1024x256

theorem linS_apply (h : FVec Ideal S128x8x1024 .f32) (w : FVec Ideal S1024x1536 .f32) (a : Fin 128) (b : Fin 8) (j : Fin 1536) :
    linS h w (ix3 a b j) = Cert.Layer.lin (fun k => h (ix3 a b k)) (fun k l => w (ix2 k l)) j := by
  pointwise [linS, Cert.Layer.lin]

theorem qheadsS_apply (z : FVec Ideal S128x8x1536 .f32) (a : Fin 128) (b : Fin 8) (g : Fin 2) (h : Fin 4) (l : Fin 128) :
    qheadsS z (ix5 a b g h l) = z (ix3 a b ⟨g.val * 512 + h.val * 128 + l.val, by omega⟩) := by
  pointwise [qheadsS]

theorem kheadsS_apply (z : FVec Ideal S128x8x1536 .f32) (a : Fin 128) (b : Fin 8) (g : Fin 2) (l : Fin 128) :
    kheadsS z (ix4 a b g l) = z (ix3 a b ⟨1024 + (g.val * 128 + l.val), by omega⟩) := by
  pointwise [kheadsS]

theorem qnormS_apply (x : FVec Ideal S128x8x2x4x128 .f32) (w : FVec Ideal S128 .f32) (a : Fin 128) (b : Fin 8) (g : Fin 2) (h : Fin 4) (l : Fin 128) :
    qnormS x w (ix5 a b g h l) = Cert.Layer.norm (Ideal.ofBits FTy.f32 1124073472#32) (fun k => x (ix5 a b g h k)) (fun k => w (ix1 k)) l := by
  pointwise [qnormS, Cert.Layer.norm]

theorem knormS_apply (x : FVec Ideal S128x8x2x128 .f32) (w : FVec Ideal S128 .f32) (a : Fin 128) (b : Fin 8) (g : Fin 2) (l : Fin 128) :
    knormS x w (ix4 a b g l) = Cert.Layer.norm (Ideal.ofBits FTy.f32 1124073472#32) (fun k => x (ix4 a b g k)) (fun k => w (ix1 k)) l := by
  pointwise [knormS, Cert.Layer.norm]

theorem qrowsS_apply (x : FVec Ideal S128x8x2x4x128 .f32) (r : Fin 1024) (e : Fin 1024) :
    qrowsS x (ix2 r e) = x (ix5 ⟨r.val / 8, by omega⟩ ⟨r.val % 8, by omega⟩ ⟨e.val / 512, by omega⟩ ⟨e.val / 128 % 4, by omega⟩ ⟨e.val % 128, by omega⟩) * Cert.Layer.scale := by
  rw [← Cert.Layer.div_scale]
  pointwise [qrowsS]

theorem krowsS_apply (x : FVec Ideal S128x8x2x128 .f32) (r : Fin 1024) (e : Fin 256) :
    krowsS x (ix2 r e) = x (ix4 ⟨r.val / 8, by omega⟩ ⟨r.val % 8, by omega⟩ ⟨e.val / 128, by omega⟩ ⟨e.val % 128, by omega⟩) := by
  pointwise [krowsS]

theorem vrowsS_apply (z : FVec Ideal S128x8x1536 .f32) (r : Fin 1024) (e : Fin 256) :
    vrowsS z (ix2 r e) = z (ix3 ⟨r.val / 8, by omega⟩ ⟨r.val % 8, by omega⟩ ⟨1280 + e.val, by omega⟩) := by
  pointwise [vrowsS]

/-- The projected rows. -/
def projS (x : FVec Ideal S128x8x1024 .f32) (g : FVec Ideal S1024 .f32) (w : FVec Ideal S1024x1536 .f32) : FVec Ideal S128x8x1536 .f32 :=
  linS (Cert.FfnReferenceIdeal.Layer.normS x g) w

theorem projS_apply (x : FVec Ideal S128x8x1024 .f32) (g : FVec Ideal S1024 .f32) (w : FVec Ideal S1024x1536 .f32) (a : Fin 128) (b : Fin 8) (j : Fin 1536) :
    projS x g w (ix3 a b j) = Cert.Layer.lin (Cert.Layer.norm (Ideal.ofBits FTy.f32 1149239296#32) (fun k => x (ix3 a b k)) (fun k => g (ix1 k))) (fun k l => w (ix2 k l)) j := by
  unfold projS
  rw [linS_apply]
  exact congrArg (fun f => Cert.Layer.lin f _ j) (funext fun k => Cert.FfnReferenceIdeal.Layer.normS_apply x g a b k)

theorem queryS (z : FVec Ideal S128x8x1536 .f32) (w : FVec Ideal S128 .f32) (r : Fin 1024) (e : Fin 1024) :
    qrowsS (qnormS (qheadsS z) w) (ix2 r e)
      = Cert.Layer.head128 0 (fun j => z (ix3 ⟨r.val / 8, by omega⟩ ⟨r.val % 8, by omega⟩ j)) (fun k => w (ix1 k)) e (by decide) (by decide) * Cert.Layer.scale := by
  rw [qrowsS_apply, qnormS_apply]
  refine congrArg (fun f => Cert.Layer.norm _ f _ _ * Cert.Layer.scale) (funext fun k => ?_)
  rw [qheadsS_apply]
  refine congrArg (fun j => z (ix3 ⟨r.val / 8, by omega⟩ ⟨r.val % 8, by omega⟩ j)) (Fin.ext ?_)
  show e.val / 512 * 512 + e.val / 128 % 4 * 128 + k.val = 0 + (e.val / 128 * 128 + k.val)
  omega

theorem keyS (z : FVec Ideal S128x8x1536 .f32) (w : FVec Ideal S128 .f32) (r : Fin 1024) (e : Fin 256) :
    krowsS (knormS (kheadsS z) w) (ix2 r e)
      = Cert.Layer.head128 1024 (fun j => z (ix3 ⟨r.val / 8, by omega⟩ ⟨r.val % 8, by omega⟩ j)) (fun k => w (ix1 k)) e (by decide) (by decide) := by
  rw [krowsS_apply, knormS_apply]
  refine congrArg (fun f => Cert.Layer.norm _ f _ _) (funext fun k => ?_)
  rw [kheadsS_apply]

theorem valueS (z : FVec Ideal S128x8x1536 .f32) (r : Fin 1024) (e : Fin 256) :
    vrowsS z (ix2 r e) = Cert.Layer.cols 1280 (fun j => z (ix3 ⟨r.val / 8, by omega⟩ ⟨r.val % 8, by omega⟩ j)) e (by decide) :=
  vrowsS_apply z r e

/-- Both parts, one under the other. -/
def both1024 (p : FVec Ideal S16384x1024 .f32) (s : FVec Ideal S1024x1024 .f32) : FVec Ideal S17408x1024 .f32 :=
  concatenate S17408x1024 0 [⟨S16384x1024, p⟩, ⟨S1024x1024, s⟩] concatenates_S16384x1024_S1024x1024_S17408x1024_d0

theorem both1024_apply (p : FVec Ideal S16384x1024 .f32) (s : FVec Ideal S1024x1024 .f32) (r : Fin 17408) (e : Fin 1024) :
    both1024 p s (ix2 r e) = if h : r.val < 16384 then p (ix2 ⟨r.val, h⟩ e) else s (ix2 ⟨r.val - 16384, by omega⟩ e) := by
  pointwise [both1024]

/-- Both parts, one under the other. -/
def both256 (p : FVec Ideal S16384x256 .f32) (s : FVec Ideal S1024x256 .f32) : FVec Ideal S17408x256 .f32 :=
  concatenate S17408x256 0 [⟨S16384x256, p⟩, ⟨S1024x256, s⟩] concatenates_S16384x256_S1024x256_S17408x256_d0

theorem both256_apply (p : FVec Ideal S16384x256 .f32) (s : FVec Ideal S1024x256 .f32) (r : Fin 17408) (e : Fin 256) :
    both256 p s (ix2 r e) = if h : r.val < 16384 then p (ix2 ⟨r.val, h⟩ e) else s (ix2 ⟨r.val - 16384, by omega⟩ e) := by
  pointwise [both256]

/-- The queries, the keys and the values of the reference. -/
def termQ (x : FVec Ideal S2x8192x1024 .f32) (xs : FVec Ideal S128x8x1024 .f32) (g : FVec Ideal S1024 .f32) (w : FVec Ideal S1024x1536 .f32) (qw : FVec Ideal S128 .f32) : FVec Ideal S17408x1024 .bf16 :=
  truncf .bf16 (both1024 (qrowsP (qnormP (qheadsP (projP x g w)) qw)) (qrowsS (qnormS (qheadsS (projS xs g w)) qw))) bitsLt_bf16_f32
def termK (x : FVec Ideal S2x8192x1024 .f32) (xs : FVec Ideal S128x8x1024 .f32) (g : FVec Ideal S1024 .f32) (w : FVec Ideal S1024x1536 .f32) (kw : FVec Ideal S128 .f32) : FVec Ideal S17408x256 .f32 :=
  both256 (krowsP (knormP (kheadsP (projP x g w)) kw)) (krowsS (knormS (kheadsS (projS xs g w)) kw))
def termV (x : FVec Ideal S2x8192x1024 .f32) (xs : FVec Ideal S128x8x1024 .f32) (g : FVec Ideal S1024 .f32) (w : FVec Ideal S1024x1536 .f32) : FVec Ideal S17408x256 .f32 :=
  both256 (vrowsP (projP x g w)) (vrowsS (projS xs g w))

theorem termQ_apply (x : FVec Ideal S2x8192x1024 .f32) (xs : FVec Ideal S128x8x1024 .f32) (g : FVec Ideal S1024 .f32) (w : FVec Ideal S1024x1536 .f32) (qw : FVec Ideal S128 .f32) (r : Fin 17408) (e : Fin 1024) :
    termQ x xs g w qw (ix2 r e) = both1024 (qrowsP (qnormP (qheadsP (projP x g w)) qw)) (qrowsS (qnormS (qheadsS (projS xs g w)) qw)) (ix2 r e) := rfl

/-- The reference's results are these steps. -/
theorem res_q (m : (ℓ : Loc nD τ sig) → Buf (Elt Ideal) ℓ) (c : Dev nD) :
    Cert.OddReferenceIdeal.Value.res_out0 m c
      = termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res_k (m : (ℓ : Loc nD τ sig) → Buf (Elt Ideal) ℓ) (c : Dev nD) :
    Cert.OddReferenceIdeal.Value.res_out1 m c
      = termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := rfl

end Cert.OddReferenceIdeal.Layer

end
-- ==== Proof.Odd.Value.lean ====
/- The projections of an odd layer: the kernel's arrays are the reference's results. -/
module

public import proofs.«01_k».proof.Proof.Odd.Blocks
public import proofs.«01_k».proof.Proof.Odd.Ref
public import proofs.«01_k».proof.Proof.Out.Odd
public import Idealize.ShloMosaic.Lib.StableHlo.ReadAt
public import Idealize.ShloMosaic.Lib.Pipeline.ValueKit

@[expose] public section

set_option maxRecDepth 16384

noncomputable section

namespace Cert.OddIdeal.Layer

open Cert.OddIdeal Cert.OddIdeal.Gen Idealize.ShloMosaic Idealize.ShloMosaic.TcCoe Idealize.SL.Sem Idealize.ShloMosaic.StableHlo

theorem idx : ∀ t : Fin cfg0.N, win0_0.index t = ![t.val, 0]
    ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

theorem lt_N (t : Fin cfg0.N) : t.val < 34 := t.isLt

variable (m : (ℓ : Loc nD τ sig) → Buf (Elt Ideal) ℓ) (c : Dev nD)

/-- The rows of the stream and the weights. -/
abbrev argX : FVec Ideal S17408x1024 .f32 := Cert.OutOddIdeal.Layer.both (m ((c.tc : Thread nD τ).loc main_arg0)) (m ((c.tc : Thread nD τ).loc main_arg1))
abbrev argG : FVec Ideal S1024 .f32 := (m ((c.tc : Thread nD τ).loc main_arg2))
abbrev argW : FVec Ideal S1024x1536 .f32 := (m ((c.tc : Thread nD τ).loc main_arg3))
abbrev argQ : FVec Ideal S128 .f32 := (m ((c.tc : Thread nD τ).loc main_arg4))
abbrev argK : FVec Ideal S128 .f32 := (m ((c.tc : Thread nD τ).loc main_arg5))

theorem V_x : V m c main_v2 = argX m c := by
  entry_read
  rfl

theorem x_blk (t : Fin cfg0.N) (a : Fin 512) (k : Fin 1024) : iblk m c 0 t (ix2 a k : S512x1024.Idx)
    = argX m c (ix2 ⟨t.val * 512 + a.val, by have := lt_N t; omega⟩ k) := by
  have ht := lt_N t
  have h : iblk m c 0 t (ix2 a k : S512x1024.Idx) = V m c main_v2 (ix2 ⟨t.val * 512 + a.val, by omega⟩ k) := by
    blk_ext [iblk, idx t]
  rw [h, V_x]

theorem g_blk (t : Fin cfg0.N) (k : Fin 1024) : iblk m c 1 t (ix2 0 k : S1x1024.Idx) = argG m c (ix1 k) := by
  blk_point [iblk, V, idx t]

theorem w_blk (t : Fin cfg0.N) (k : Fin 1024) (j : Fin 1536) : iblk m c 2 t (ix2 k j : S1024x1536.Idx) = argW m c (ix2 k j) := by
  blk_point [iblk, V, idx t]

theorem q_blk (t : Fin cfg0.N) (k : Fin 128) : iblk m c 3 t (ix2 0 k : S1x128.Idx) = argQ m c (ix1 k) := by
  blk_point [iblk, V, idx t]

theorem k_blk (t : Fin cfg0.N) (k : Fin 128) : iblk m c 4 t (ix2 0 k : S1x128.Idx) = argK m c (ix1 k) := by
  blk_point [iblk, V, idx t]

/-- The projections of one row. -/
def row (x : FVec Ideal S17408x1024 .f32) (g : FVec Ideal S1024 .f32) (w : FVec Ideal S1024x1536 .f32) (r : Fin 17408) (j : Fin 1536) : EReal :=
  Cert.Layer.lin (Cert.Layer.norm (Ideal.ofBits FTy.f32 1149239296#32) (fun k => x (ix2 r k)) (fun k => g (ix1 k))) (fun k l => w (ix2 k l)) j

theorem lin_blk (t : Fin cfg0.N) (a : Fin 512) (j : Fin 1536) :
    k0_pay2 (F := Ideal) (iblk m c 0 t) (iblk m c 1 t) (iblk m c 2 t) (ix2 a j)
      = row (argX m c) (argG m c) (argW m c) ⟨t.val * 512 + a.val, by have := lt_N t; omega⟩ j := by
  refine (lin_apply (iblk m c 0 t) (iblk m c 1 t) (iblk m c 2 t) a j).trans ?_
  have h0 := fun k => x_blk m c t a k
  have h1 := fun k => g_blk m c t k
  have h2 := fun k l => w_blk m c t k l
  unfold row
  rw [← funext h0, ← funext h1, ← funext fun k => funext fun l => h2 k l]

/-- A row of the reference's projections. -/
theorem row_P (x : FVec Ideal S2x8192x1024 .f32) (xs : FVec Ideal S128x8x1024 .f32) (g : FVec Ideal S1024 .f32) (w : FVec Ideal S1024x1536 .f32) (r : Fin 17408) (h : r.val < 16384) :
    row (Cert.OutOddIdeal.Layer.both x xs) g w r
      = fun j => Cert.OddReferenceIdeal.Layer.projP x g w (ix3 ⟨r.val / 8192, by omega⟩ ⟨r.val % 8192, by omega⟩ j) := by
  funext j
  rw [Cert.OddReferenceIdeal.Layer.projP_apply]
  unfold row
  refine congrArg (fun f => Cert.Layer.lin (Cert.Layer.norm _ f _) _ j) (funext fun k => ?_)
  rw [Cert.OutOddIdeal.Layer.both_apply, dif_pos h]

theorem row_S (x : FVec Ideal S2x8192x1024 .f32) (xs : FVec Ideal S128x8x1024 .f32) (g : FVec Ideal S1024 .f32) (w : FVec Ideal S1024x1536 .f32) (r : Fin 17408) (h : ¬ r.val < 16384) :
    row (Cert.OutOddIdeal.Layer.both x xs) g w r
      = fun j => Cert.OddReferenceIdeal.Layer.projS xs g w (ix3 ⟨(r.val - 16384) / 8, by omega⟩ ⟨(r.val - 16384) % 8, by omega⟩ j) := by
  funext j
  rw [Cert.OddReferenceIdeal.Layer.projS_apply]
  unfold row
  refine congrArg (fun f => Cert.Layer.lin (Cert.Layer.norm _ f _) _ j) (funext fun k => ?_)
  rw [Cert.OutOddIdeal.Layer.both_apply, dif_neg h]

theorem termQ_row (x : FVec Ideal S2x8192x1024 .f32) (xs : FVec Ideal S128x8x1024 .f32) (g : FVec Ideal S1024 .f32) (w : FVec Ideal S1024x1536 .f32) (q : FVec Ideal S128 .f32) (r : Fin 17408) (e : Fin 1024) :
    Cert.OddReferenceIdeal.Layer.termQ x xs g w q (ix2 r e) = Cert.Layer.head128 0 (row (Cert.OutOddIdeal.Layer.both x xs) g w r) (fun l => q (ix1 l)) e (by decide) (by decide) * Cert.Layer.scale := by
  rw [Cert.OddReferenceIdeal.Layer.termQ_apply, Cert.OddReferenceIdeal.Layer.both1024_apply]
  by_cases h : r.val < 16384
  · rw [dif_pos h, row_P x xs g w r h]
    exact Cert.OddReferenceIdeal.Layer.queryP _ q ⟨r.val, h⟩ e
  · rw [dif_neg h, row_S x xs g w r h]
    exact Cert.OddReferenceIdeal.Layer.queryS _ q ⟨r.val - 16384, by omega⟩ e

theorem pointQ (t : Fin cfg0.N) (a : Fin 512) (e : Fin 1024) :
    out0_5 (F := Ideal) (grid0.coords t) (iblk m c 0 t) (iblk m c 1 t) (iblk m c 2 t) (iblk m c 3 t) (iblk m c 4 t) (ix2 a e)
      = Cert.OddReferenceIdeal.Layer.termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 ⟨t.val * 512 + a.val, by have := lt_N t; omega⟩ e) := by
  rw [termQ_row]
  refine (queries _ (iblk m c 0 t) (iblk m c 1 t) (iblk m c 2 t) (iblk m c 3 t) (iblk m c 4 t) (ix2 a e)).trans ?_
  exact congrArg₂ (fun f g => Cert.Layer.head128 0 f g e (by decide) (by decide) * Cert.Layer.scale) (funext fun j => lin_blk m c t a j) (funext fun l => q_blk m c t l)

/-- The kernel's queries. -/
theorem finalQ : (dats m 0 c).arrAt 5 (cfgs 0).N = Cert.OddReferenceIdeal.Layer.termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  idx_vars y
  refine (pointQ m c t y0 y1).trans (congrArg (Cert.OddReferenceIdeal.Layer.termQ _ _ _ _ _) ?_)
  have ht := lt_N t
  blk_ext [idx t]

theorem termK_row (x : FVec Ideal S2x8192x1024 .f32) (xs : FVec Ideal S128x8x1024 .f32) (g : FVec Ideal S1024 .f32) (w : FVec Ideal S1024x1536 .f32) (q : FVec Ideal S128 .f32) (r : Fin 17408) (e : Fin 256) :
    Cert.OddReferenceIdeal.Layer.termK x xs g w q (ix2 r e) = Cert.Layer.head128 1024 (row (Cert.OutOddIdeal.Layer.both x xs) g w r) (fun l => q (ix1 l)) e (by decide) (by decide) := by
  unfold Cert.OddReferenceIdeal.Layer.termK
  rw [Cert.OddReferenceIdeal.Layer.both256_apply]
  by_cases h : r.val < 16384
  · rw [dif_pos h, row_P x xs g w r h]
    exact Cert.OddReferenceIdeal.Layer.keyP _ q ⟨r.val, h⟩ e
  · rw [dif_neg h, row_S x xs g w r h]
    exact Cert.OddReferenceIdeal.Layer.keyS _ q ⟨r.val - 16384, by omega⟩ e

theorem pointK (t : Fin cfg0.N) (a : Fin 512) (e : Fin 256) :
    out0_6 (F := Ideal) (grid0.coords t) (iblk m c 0 t) (iblk m c 1 t) (iblk m c 2 t) (iblk m c 3 t) (iblk m c 4 t) (ix2 a e)
      = Cert.OddReferenceIdeal.Layer.termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 ⟨t.val * 512 + a.val, by have := lt_N t; omega⟩ e) := by
  rw [termK_row]
  refine (keys _ (iblk m c 0 t) (iblk m c 1 t) (iblk m c 2 t) (iblk m c 3 t) (iblk m c 4 t) (ix2 a e)).trans ?_
  exact congrArg₂ (fun f g => Cert.Layer.head128 1024 f g e (by decide) (by decide)) (funext fun j => lin_blk m c t a j) (funext fun l => k_blk m c t l)

/-- The kernel's keys. -/
theorem finalK : (dats m 0 c).arrAt 6 (cfgs 0).N = Cert.OddReferenceIdeal.Layer.termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 6 _ (by decide +kernel) fun t hf y => ?_
  blk_simp
  rw [after0_6]
  idx_vars y
  refine (pointK m c t y0 y1).trans (congrArg (Cert.OddReferenceIdeal.Layer.termK _ _ _ _ _) ?_)
  have ht := lt_N t
  blk_ext [idx t]

theorem termV_row (x : FVec Ideal S2x8192x1024 .f32) (xs : FVec Ideal S128x8x1024 .f32) (g : FVec Ideal S1024 .f32) (w : FVec Ideal S1024x1536 .f32) (r : Fin 17408) (e : Fin 256) :
    Cert.OddReferenceIdeal.Layer.termV x xs g w (ix2 r e) = Cert.Layer.cols 1280 (row (Cert.OutOddIdeal.Layer.both x xs) g w r) e (by decide) := by
  unfold Cert.OddReferenceIdeal.Layer.termV
  rw [Cert.OddReferenceIdeal.Layer.both256_apply]
  by_cases h : r.val < 16384
  · rw [dif_pos h, row_P x xs g w r h]
    exact Cert.OddReferenceIdeal.Layer.valueP _ ⟨r.val, h⟩ e
  · rw [dif_neg h, row_S x xs g w r h]
    exact Cert.OddReferenceIdeal.Layer.valueS _ ⟨r.val - 16384, by omega⟩ e

theorem pointV (t : Fin cfg0.N) (a : Fin 512) (e : Fin 256) :
    out0_7 (F := Ideal) (grid0.coords t) (iblk m c 0 t) (iblk m c 1 t) (iblk m c 2 t) (iblk m c 3 t) (iblk m c 4 t) (ix2 a e)
      = Cert.OddReferenceIdeal.Layer.termV (m ((c.tc : Thread nD τ).loc main_arg0)) (m ((c.tc : Thread nD τ).loc main_arg1)) (m ((c.tc : Thread nD τ).loc main_arg2)) (m ((c.tc : Thread nD τ).loc main_arg3)) (ix2 ⟨t.val * 512 + a.val, by have := lt_N t; omega⟩ e) := by
  rw [termV_row]
  refine (values _ (iblk m c 0 t) (iblk m c 1 t) (iblk m c 2 t) (iblk m c 3 t) (iblk m c 4 t) (ix2 a e)).trans ?_
  exact congrArg (fun f => Cert.Layer.cols 1280 f e (by decide)) (funext fun j => lin_blk m c t a j)

/-- The kernel's values. -/
theorem finalV : (dats m 0 c).arrAt 7 (cfgs 0).N = Cert.OddReferenceIdeal.Layer.termV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  idx_vars y
  refine (pointV m c t y0 y1).trans (congrArg (Cert.OddReferenceIdeal.Layer.termV _ _ _ _) ?_)
  have ht := lt_N t
  blk_ext [idx t]

end Cert.OddIdeal.Layer

end
-- ==== Proof.Layer.Headnorm.lean ====
/- The norm of each head of 64 columns by products with a block-diagonal matrix of ones, on finite rows. -/
module

public import Idealize.ShloMosaic.Lib.Pointwise
public import proofs.«01_k».proof.Proof.Layer.Proj
public import proofs.«01_k».proof.Proof.Layer.Consts

@[expose] public section

noncomputable section

namespace Cert.Layer

open Idealize.ShloMosaic

/-- A real number. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem IsReal.sum {n : ℕ} (f : Fin n → EReal) (h : ∀ k, IsReal (f k)) : IsReal (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

theorem IsReal.sub_self {x : EReal} (h : IsReal x) : x - x = 0 := by
  obtain ⟨r, rfl⟩ := h
  rw [← EReal.coe_sub, _root_.sub_self, EReal.coe_zero]

theorem ofBits_1024 : Ideal.ofBits .f32 1149239296#32 = ((1024 : ℝ) : EReal) := by
  simp [Ideal.ofBits, Ideal.ieee, -EReal.coe_mul]; norm_num

theorem ofBits_inv64 : Ideal.ofBits .f32 1015021568#32 = ((1 / 64 : ℝ) : EReal) := by
  simp [Ideal.ofBits, Ideal.ieee, -EReal.coe_mul]; norm_num

/-- The addend under the root is a positive number. -/
theorem ofBits_eps : ∃ e : ℝ, 0 < e ∧ Ideal.ofBits .f32 897988541#32 = ((e : ℝ) : EReal) := by
  refine ⟨8796093 / 8796093022208, by norm_num, ?_⟩
  simp [Ideal.ofBits, Ideal.ieee, -EReal.coe_mul]; norm_num

/-- The norm of a finite row is finite. -/
theorem IsReal.norm {n : ℕ} (x w : Fin n → EReal) (hx : ∀ k, IsReal (x k)) (hw : ∀ k, IsReal (w k)) (k : Fin n) :
    IsReal (norm (Ideal.ofBits FTy.f32 1149239296#32) x w k) := by
  obtain ⟨e, he, hb⟩ := ofBits_eps
  choose g hg using hx
  have hs : (∑ l, x l * x l) = ((∑ l, g l * g l : ℝ) : EReal) := by
    rw [Finset.sum_congr rfl fun l _ => (by rw [hg l, ← EReal.coe_mul] : x l * x l = ((g l * g l : ℝ) : EReal))]
    exact (map_sum (⟨⟨Real.toEReal, EReal.coe_zero⟩, EReal.coe_add⟩ : ℝ →+ EReal) (fun l => g l * g l) Finset.univ).symm
  have hp : 0 < (∑ l, g l * g l) * (1 / 1024) + e := add_pos_of_nonneg_of_pos (mul_nonneg (Finset.sum_nonneg fun l _ => mul_self_nonneg _) (by norm_num)) he
  unfold Cert.Layer.norm
  rw [hs, hb, ofBits_1024, Ideal.div_coe (by norm_num), ← EReal.coe_mul, ← EReal.coe_add, Ideal.rsqrt_coe, if_neg hp.le.not_gt, if_neg hp.ne']
  exact IsReal.mul (IsReal.mul ⟨g k, hg k⟩ ⟨_, rfl⟩) (hw k)

/-- The product of a finite row with a finite matrix is finite. -/
theorem IsReal.lin {n f : ℕ} (h : Fin n → EReal) (w : Fin n → Fin f → EReal) (hh : ∀ k, IsReal (h k)) (hw : ∀ k j, IsReal (w k j)) (j : Fin f) :
    IsReal (lin h w j) :=
  IsReal.sum _ fun k => (hh k).mul (hw k j)

/-- The norm of each head of 64 columns, the first at column `o`. -/
def head64 {f n : ℕ} (o : ℕ) (y : Fin f → EReal) (w : Fin 64 → EReal) (e : Fin n) (h : o + n ≤ f) (h' : 64 ∣ n) : EReal :=
  norm (Ideal.ofBits FTy.f32 1115684864#32) (fun l => y ⟨o + (e.val / 64 * 64 + l.val), by omega⟩) w ⟨e.val % 64, by omega⟩

/-- The entries of a block-diagonal matrix of ones, the blocks of 64. -/
def ones64 {n : ℕ} (l e : Fin n) : EReal := if l.val / 64 = e.val / 64 then 1 else 0

/-- A product with the ones adds the entries of the head. -/
theorem sum_ones {n : ℕ} (f : Fin n → EReal) (e : Fin n) (h' : 64 ∣ n) :
    ∑ l, f l * ones64 l e = ∑ k : Fin 64, f ⟨e.val / 64 * 64 + k.val, by omega⟩ := by
  symm
  refine Finset.sum_of_injOn (fun k : Fin 64 => (⟨e.val / 64 * 64 + k.val, by omega⟩ : Fin n)) ?_ (fun _ _ => Finset.mem_coe.2 (Finset.mem_univ _)) ?_ ?_
  · intro a _ b _ hab
    have := congrArg Fin.val hab
    exact Fin.ext (by simpa using this)
  · intro l _ hl
    have hne : l.val / 64 ≠ e.val / 64 := fun hq => hl ⟨⟨l.val % 64, by omega⟩, Finset.mem_coe.2 (Finset.mem_univ _), Fin.ext (by show e.val / 64 * 64 + l.val % 64 = l.val; omega)⟩
    show f l * ones64 l e = 0
    rw [ones64, if_neg hne, mul_zero]
  · intro k _
    have : (e.val / 64 * 64 + k.val) / 64 = e.val / 64 := by omega
    show f _ = f _ * ones64 _ e
    rw [ones64, if_pos this, mul_one]

/-- The kernel's norm of the heads: the squares and what is left of them, each times the ones. -/
def split64 {n : ℕ} (y w : Fin n → EReal) (b : Fin n → Fin n → EReal) (e : Fin n) : EReal :=
  y e * Ideal.rsqrt (((∑ l, y l * y l * b l e) + ∑ l, (y l * y l - y l * y l) * b l e) * Ideal.ofBits FTy.f32 1015021568#32 + Ideal.ofBits FTy.f32 897988541#32) * w e

theorem split64_eq {n f : ℕ} (o : ℕ) (y : Fin f → EReal) (w : Fin 64 → EReal) (e : Fin n) (h : o + n ≤ f) (h' : 64 ∣ n) (hy : ∀ j, IsReal (y j)) :
    split64 (fun l => y ⟨o + l.val, by omega⟩) (fun l => w ⟨l.val % 64, by omega⟩) ones64 e = head64 o y w e h h' := by
  have h0 : ∑ l : Fin n, (y ⟨o + l.val, by omega⟩ * y ⟨o + l.val, by omega⟩ - y ⟨o + l.val, by omega⟩ * y ⟨o + l.val, by omega⟩) * ones64 l e = 0 :=
    Finset.sum_eq_zero fun l _ => by rw [((hy _).mul (hy _)).sub_self, zero_mul]
  have h1 := sum_ones (fun l : Fin n => y ⟨o + l.val, by omega⟩ * y ⟨o + l.val, by omega⟩) e h'
  have h2 : Ideal.ofBits .f32 1115684864#32 = ((64 : ℝ) : EReal) := ofBits_64
  have h3 : (⟨o + e.val, by omega⟩ : Fin f) = ⟨o + (e.val / 64 * 64 + e.val % 64), by omega⟩ := Fin.ext (by show o + e.val = o + (e.val / 64 * 64 + e.val % 64); omega)
  unfold split64 head64 norm
  simp only [h0, h1, h2, h3, add_zero, ofBits_inv64]
  rw [Ideal.div_coe (by norm_num)]

end Cert.Layer

end
-- ==== Proof.Even.Blocks.lean ====
/- The even projection's stored blocks: a row's norm times the matrix, its columns, the norm of the queries' and keys' heads. -/
module

public import proofs.«01_k».proof.Proof.Gen.EvenIdeal.Value
public import proofs.«01_k».proof.Proof.Layer.Headnorm
public import Idealize.ShloMosaic.Lib.Pipeline.ValueKit
public import Idealize.ShloMosaic.Lib.Pointwise

@[expose] public section

set_option maxRecDepth 16384

noncomputable section

namespace Cert.EvenIdeal.Layer

open Cert.EvenIdeal Cert.EvenIdeal.Gen Idealize.ShloMosaic Idealize.ShloMosaic.TcCoe Idealize.SL.Sem Idealize.ShloMosaic.StableHlo

/-- The product of the norm with the matrix. -/
theorem lin_apply (x : FVec Ideal S512x1024 .f32) (g : FVec Ideal S1x1024 .f32) (w : FVec Ideal S1024x2176 .bf16) (a : Fin 512) (j : Fin 2176) :
    k0_pay1 (F := Ideal) x g w (ix2 a j)
      = Cert.Layer.lin (Cert.Layer.norm (Ideal.ofBits FTy.f32 1149239296#32) (fun l => x (ix2 a l)) (fun l => g (ix2 0 l))) (fun k j => w (ix2 k j)) j := by
  pointwise [k0_pay1, Cert.Layer.lin, Cert.Layer.norm]

theorem queries0 (x : FVec Ideal S512x1024 .f32) (g : FVec Ideal S1x1024 .f32) (w : FVec Ideal S1024x2176 .bf16) (b : FVec Ideal S512x512 .bf16) (q : FVec Ideal S1x512 .f32) (Y : FVec Ideal S512x2176 .f32) (hY : k0_pay1 (F := Ideal) x g w = Y) (a : Fin 512) (e : Fin 512) :
    k0_pay2 (F := Ideal) x g w b q (ix2 a e)
      = Cert.Layer.split64 (fun l => Y (ix2 a ⟨0 + l.val, by omega⟩)) (fun j => q (ix2 0 j)) (fun l j => b (ix2 l j)) e := by
  unfold k0_pay2
  rw [hY]
  pointwise [Cert.Layer.split64]

theorem queries (x : FVec Ideal S512x1024 .f32) (g : FVec Ideal S1x1024 .f32) (w : FVec Ideal S1024x2176 .bf16) (b : FVec Ideal S512x512 .bf16) (q : FVec Ideal S1x512 .f32) (a : Fin 512) (e : Fin 512) :
    k0_pay3 (F := Ideal) (k0_pay2 (F := Ideal) x g w b q) (ix2 a e)
      = Cert.Layer.split64 (fun l => k0_pay1 (F := Ideal) x g w (ix2 a ⟨0 + l.val, by omega⟩)) (fun j => q (ix2 0 j)) (fun l j => b (ix2 l j)) e * Ideal.ofBits FTy.f32 1040187392#32 := by
  rw [← queries0 x g w b q _ rfl a e]
  pointwise [k0_pay3]

theorem keys (Y : FVec Ideal S512x2176 .f32) (b : FVec Ideal S128x128 .bf16) (q : FVec Ideal S1x128 .f32) (a : Fin 512) (e : Fin 128) :
    k0_pay4 (F := Ideal) Y b q (ix2 a e)
      = Cert.Layer.split64 (fun l => Y (ix2 a ⟨512 + l.val, by omega⟩)) (fun j => q (ix2 0 j)) (fun l j => b (ix2 l j)) e := by
  pointwise [k0_pay4, Cert.Layer.split64]

theorem values (Y : FVec Ideal S512x2176 .f32) (a : Fin 512) (e : Fin 128) :
    k0_pay5 (F := Ideal) Y (ix2 a e) = Y (ix2 a ⟨640 + e.val, by omega⟩) := by
  pointwise [k0_pay5]

theorem gates (Y : FVec Ideal S512x2176 .f32) (a : Fin 512) (e : Fin 512) :
    k0_pay6 (F := Ideal) Y (ix2 a e) = Y (ix2 a ⟨768 + e.val, by omega⟩) := by
  pointwise [k0_pay6]

theorem convs (Y : FVec Ideal S512x2176 .f32) (a : Fin 512) (e : Fin 768) :
    k0_pay7 (F := Ideal) Y (ix2 a e) = Y (ix2 a ⟨1280 + e.val, by omega⟩) := by
  pointwise [k0_pay7]

theorem steps (Y : FVec Ideal S512x2176 .f32) (a : Fin 512) (e : Fin 128) :
    k0_pay8 (F := Ideal) Y (ix2 a e) = Y (ix2 a ⟨2048 + e.val, by omega⟩) := by
  pointwise [k0_pay8]

theorem queries_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_7 (F := Ideal) x g w bq bk q k = k0_pay3 (F := Ideal) (k0_pay2 (F := Ideal) x g w bq q) := by
  unfold out0_7
  frame_out

theorem keys_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_8 (F := Ideal) x g w bq bk q k = k0_pay4 (F := Ideal) (k0_pay1 (F := Ideal) x g w) bk k := by
  unfold out0_8 k0_pay9
  frame_out

theorem values_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_9 (F := Ideal) x g w bq bk q k = k0_pay5 (F := Ideal) (k0_pay1 (F := Ideal) x g w) := by
  unfold out0_9 k0_pay9
  frame_out

theorem gates_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_10 (F := Ideal) x g w bq bk q k = k0_pay6 (F := Ideal) (k0_pay1 (F := Ideal) x g w) := by
  unfold out0_10 k0_pay9
  frame_out

theorem convs_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_11 (F := Ideal) x g w bq bk q k = k0_pay7 (F := Ideal) (k0_pay1 (F := Ideal) x g w) := by
  unfold out0_11 k0_pay9
  frame_out

theorem steps_out (x : Vec Ideal S512x1024 .f32) (g : Vec Ideal S1x1024 .f32) (w : Vec Ideal S1024x2176 .bf16) (bq : Vec Ideal S512x512 .bf16) (bk : Vec Ideal S128x128 .bf16) (q : Vec Ideal S1x512 .f32) (k : Vec Ideal S1x128 .f32) :
    out0_12 (F := Ideal) x g w bq bk q k = k0_pay8 (F := Ideal) (k0_pay1 (F := Ideal) x g w) := by
  unfold out0_12 k0_pay9
  frame_out

end Cert.EvenIdeal.Layer

end
-- ==== Proof.Even.Ref.lean ====
/- The projections of an even layer's reference, step by step, and their rows. -/
module

public import proofs.«01_k».proof.Proof.Gen.EvenReferenceIdeal.Run
public import proofs.«01_k».proof.Proof.Ffn.Ref
public import proofs.«01_k».proof.Proof.Layer.Headnorm
public import Idealize.ShloMosaic.Lib.Pointwise

@[expose] public section

set_option maxRecDepth 16384

noncomputable section

namespace Cert.EvenReferenceIdeal.Layer

open Cert.EvenReferenceIdeal Cert.EvenReferenceIdeal.Gen Idealize.ShloMosaic Idealize.ShloMosaic.TcCoe Idealize.SL.Sem Idealize.ShloMosaic.StableHlo

/-- The scale of the queries, one eighth. -/
abbrev eighth : EReal := Ideal.ofBits FTy.f32 1040187392#32

theorem dite_iff {α : Type} {p q : Prop} [Decidable p] [Decidable q] (hpq : p ↔ q) (f : q → α) (y : α) :
    (if h : p then f (hpq.1 h) else y) = if h : q then f h else y := by
  by_cases h : q
  · rw [dif_pos h, dif_pos (hpq.2 h)]
  · rw [dif_neg h, dif_neg fun hp => h (hpq.1 hp)]

/-- The product with the weights. -/
def linP (h : FVec Ideal S2x8192x1024 .f32) (w : FVec Ideal S1024x2056 .f32) : FVec Ideal S2x8192x2056 .f32 :=
  Host.dotGeneral dot_S2x8192x1024_S1024x2056_S2x8192x2056_2_0_01_1_n_n none h w

/-- The heads of the queries, and of the keys. -/
def qheadsP (z : FVec Ideal S2x8192x2056 .f32) : FVec Ideal S2x8192x2x4x64 .f32 :=
  shapeCast S2x8192x2x4x64 (extractStridedSlice S2x8192x512 ![0, 0, 0] z slices_S2x8192x2056_S2x8192x512_0_0_0) shapeCasts_S2x8192x512_S2x8192x2x4x64
def kheadsP (z : FVec Ideal S2x8192x2056 .f32) : FVec Ideal S2x8192x2x64 .f32 :=
  shapeCast S2x8192x2x64 (extractStridedSlice S2x8192x128 ![0, 0, 512] z slices_S2x8192x2056_S2x8192x128_0_0_512) shapeCasts_S2x8192x128_S2x8192x2x64

/-- The norms of the heads. -/
def qnormP (x : FVec Ideal S2x8192x2x4x64 .f32) (w : FVec Ideal S64 .f32) : FVec Ideal S2x8192x2x4x64 .f32 :=
  mulf (mulf x (broadcastInDim S2x8192x2x4x64 ![0, 1, 2, 3, 4] bcast_S2x8192x2x4x1_S2x8192x2x4x64_0_1_2_3_4 (Host.rsqrt (addf (Host.divf (broadcastInDim S2x8192x2x4x1 ![0, 1, 2, 3] bcast_S2x8192x2x4_S2x8192x2x4x1_0_1_2_3 (Host.reduceAdd (mulf x x) (constant S_ .f32 0x00000000#32) reducesTo_S2x8192x2x4x64_S2x8192x2x4_d4 h_S_)) (broadcastInDim S2x8192x2x4x1 ![] bcast_S_S2x8192x2x4x1 (constant S_ .f32 0x42800000#32))) (broadcastInDim S2x8192x2x4x1 ![] bcast_S_S2x8192x2x4x1 (constant S_ .f32 0x358637BD#32)))))) (broadcastInDim S2x8192x2x4x64 ![0, 1, 2, 3, 4] bcast_S1x1x1x1x64_S2x8192x2x4x64_0_1_2_3_4 (broadcastInDim S1x1x1x1x64 ![4] bcast_S64_S1x1x1x1x64_4 w))
def knormP (x : FVec Ideal S2x8192x2x64 .f32) (w : FVec Ideal S64 .f32) : FVec Ideal S2x8192x2x64 .f32 :=
  mulf (mulf x (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf x x) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 w))

/-- The queries by rows, scaled; the keys by rows. -/
def qrowsP (x : FVec Ideal S2x8192x2x4x64 .f32) : FVec Ideal S16384x512 .f32 :=
  shapeCast S16384x512 (mulf x (broadcastInDim S2x8192x2x4x64 ![] bcast_S_S2x8192x2x4x64 (constant S_ .f32 0x3E000000#32))) shapeCasts_S2x8192x2x4x64_S16384x512
def krowsP (x : FVec Ideal S2x8192x2x64 .f32) : FVec Ideal S16384x128 .f32 :=
  shapeCast S16384x128 x shapeCasts_S2x8192x2x64_S16384x128

/-- The values, the gates, the convolution's input and the time steps by rows. -/
def vrowsP (z : FVec Ideal S2x8192x2056 .f32) : FVec Ideal S16384x128 .f32 :=
  shapeCast S16384x128 (extractStridedSlice S2x8192x128 ![0, 0, 640] z slices_S2x8192x2056_S2x8192x128_0_0_640) shapeCasts_S2x8192x128_S16384x128
def zrowsP (z : FVec Ideal S2x8192x2056 .f32) : FVec Ideal S16384x512 .f32 :=
  shapeCast S16384x512 (extractStridedSlice S2x8192x512 ![0, 0, 768] z slices_S2x8192x2056_S2x8192x512_0_0_768) shapeCasts_S2x8192x512_S16384x512
def crowsP (z : FVec Ideal S2x8192x2056 .f32) : FVec Ideal S16384x768 .f32 :=
  shapeCast S16384x768 (extractStridedSlice S2x8192x768 ![0, 0, 1280] z slices_S2x8192x2056_S2x8192x768_0_0_1280) shapeCasts_S2x8192x768_S16384x768
def trowsP (z : FVec Ideal S2x8192x2056 .f32) : FVec Ideal S16384x128 .f32 :=
  shapeCast S16384x128 (pad S2x8192x128 ![0, 0, 0] ![0, 0, 120] ![0, 0, 0] (extractStridedSlice S2x8192x8 ![0, 0, 2048] z slices_S2x8192x2056_S2x8192x8_0_0_2048) (sitofp .f32 (constantI S_ 32 0#32)) pads_S2x8192x8_S2x8192x128_000_000_01200 h_S_) shapeCasts_S2x8192x128_S16384x128

theorem linP_apply (h : FVec Ideal S2x8192x1024 .f32) (w : FVec Ideal S1024x2056 .f32) (a : Fin 2) (b : Fin 8192) (j : Fin 2056) :
    linP h w (ix3 a b j) = Cert.Layer.lin (fun k => h (ix3 a b k)) (fun k l => w (ix2 k l)) j := by
  pointwise [linP, Cert.Layer.lin]

theorem qheadsP_apply (z : FVec Ideal S2x8192x2056 .f32) (a : Fin 2) (b : Fin 8192) (g : Fin 2) (h : Fin 4) (l : Fin 64) :
    qheadsP z (ix5 a b g h l) = z (ix3 a b ⟨g.val * 256 + h.val * 64 + l.val, by omega⟩) := by
  pointwise [qheadsP]

theorem kheadsP_apply (z : FVec Ideal S2x8192x2056 .f32) (a : Fin 2) (b : Fin 8192) (g : Fin 2) (l : Fin 64) :
    kheadsP z (ix4 a b g l) = z (ix3 a b ⟨512 + (g.val * 64 + l.val), by omega⟩) := by
  pointwise [kheadsP]

theorem qnormP_apply (x : FVec Ideal S2x8192x2x4x64 .f32) (w : FVec Ideal S64 .f32) (a : Fin 2) (b : Fin 8192) (g : Fin 2) (h : Fin 4) (l : Fin 64) :
    qnormP x w (ix5 a b g h l) = Cert.Layer.norm (Ideal.ofBits FTy.f32 1115684864#32) (fun k => x (ix5 a b g h k)) (fun k => w (ix1 k)) l := by
  pointwise [qnormP, Cert.Layer.norm]

theorem knormP_apply (x : FVec Ideal S2x8192x2x64 .f32) (w : FVec Ideal S64 .f32) (a : Fin 2) (b : Fin 8192) (g : Fin 2) (l : Fin 64) :
    knormP x w (ix4 a b g l) = Cert.Layer.norm (Ideal.ofBits FTy.f32 1115684864#32) (fun k => x (ix4 a b g k)) (fun k => w (ix1 k)) l := by
  pointwise [knormP, Cert.Layer.norm]

theorem qrowsP_apply (x : FVec Ideal S2x8192x2x4x64 .f32) (r : Fin 16384) (e : Fin 512) :
    qrowsP x (ix2 r e) = x (ix5 ⟨r.val / 8192, by omega⟩ ⟨r.val % 8192, by omega⟩ ⟨e.val / 256, by omega⟩ ⟨e.val / 64 % 4, by omega⟩ ⟨e.val % 64, by omega⟩) * eighth := by
  pointwise [qrowsP]

theorem krowsP_apply (x : FVec Ideal S2x8192x2x64 .f32) (r : Fin 16384) (e : Fin 128) :
    krowsP x (ix2 r e) = x (ix4 ⟨r.val / 8192, by omega⟩ ⟨r.val % 8192, by omega⟩ ⟨e.val / 64, by omega⟩ ⟨e.val % 64, by omega⟩) := by
  pointwise [krowsP]

/-- The projected rows. -/
def projP (x : FVec Ideal S2x8192x1024 .f32) (g : FVec Ideal S1024 .f32) (w : FVec Ideal S1024x2056 .f32) : FVec Ideal S2x8192x2056 .f32 :=
  linP (Cert.FfnReferenceIdeal.Layer.normP x g) w

theorem projP_apply (x : FVec Ideal S2x8192x1024 .f32) (g : FVec Ideal S1024 .f32) (w : FVec Ideal S1024x2056 .f32) (a : Fin 2) (b : Fin 8192) (j : Fin 2056) :
    projP x g w (ix3 a b j) = Cert.Layer.lin (Cert.Layer.norm (Ideal.ofBits FTy.f32 1149239296#32) (fun k => x (ix3 a b k)) (fun k => g (ix1 k))) (fun k l => w (ix2 k l)) j := by
  unfold projP
  rw [linP_apply]
  exact congrArg (fun f => Cert.Layer.lin f _ j) (funext fun k => Cert.FfnReferenceIdeal.Layer.normP_apply x g a b k)

/-- The columns of one row. -/
abbrev atP (z : FVec Ideal S2x8192x2056 .f32) (r : Fin 16384) (j : Fin 2056) : EReal := z (ix3 ⟨r.val / 8192, by omega⟩ ⟨r.val % 8192, by omega⟩ j)

theorem queryP (z : FVec Ideal S2x8192x2056 .f32) (w : FVec Ideal S64 .f32) (r : Fin 16384) (e : Fin 512) :
    qrowsP (qnormP (qheadsP z) w) (ix2 r e) = Cert.Layer.head64 0 (atP z r) (fun k => w (ix1 k)) e (by decide) (by decide) * eighth := by
  rw [qrowsP_apply, qnormP_apply]
  refine congrArg (fun f => Cert.Layer.norm _ f _ _ * eighth) (funext fun k => ?_)
  rw [qheadsP_apply]
  refine congrArg (atP z r) (Fin.ext ?_)
  show e.val / 256 * 256 + e.val / 64 % 4 * 64 + k.val = 0 + (e.val / 64 * 64 + k.val)
  omega

theorem keyP (z : FVec Ideal S2x8192x2056 .f32) (w : FVec Ideal S64 .f32) (r : Fin 16384) (e : Fin 128) :
    krowsP (knormP (kheadsP z) w) (ix2 r e) = Cert.Layer.head64 512 (atP z r) (fun k => w (ix1 k)) e (by decide) (by decide) := by
  rw [krowsP_apply, knormP_apply]
  refine congrArg (fun f => Cert.Layer.norm _ f _ _) (funext fun k => ?_)
  rw [kheadsP_apply]

theorem valueP (z : FVec Ideal S2x8192x2056 .f32) (r : Fin 16384) (e : Fin 128) :
    vrowsP z (ix2 r e) = Cert.Layer.cols 640 (atP z r) e (by decide) := by
  pointwise [vrowsP, Cert.Layer.cols]

theorem gateP (z : FVec Ideal S2x8192x2056 .f32) (r : Fin 16384) (e : Fin 512) :
    zrowsP z (ix2 r e) = Cert.Layer.cols 768 (atP z r) e (by decide) := by
  pointwise [zrowsP, Cert.Layer.cols]

theorem convP (z : FVec Ideal S2x8192x2056 .f32) (r : Fin 16384) (e : Fin 768) :
    crowsP z (ix2 r e) = Cert.Layer.cols 1280 (atP z r) e (by decide) := by
  pointwise [crowsP, Cert.Layer.cols]

theorem stepP (z : FVec Ideal S2x8192x2056 .f32) (r : Fin 16384) (e : Fin 128) :
    trowsP z (ix2 r e) = if h : e.val < 8 then atP z r ⟨2048 + e.val, by omega⟩ else FloatOps.sitofp (F := Ideal) FTy.f32 0#32 := by
  pointwise [trowsP]
  exact dite_iff ⟨fun h => h.2.2, fun h => ⟨by omega, by omega, h⟩⟩ (fun h : e.val < 8 => atP z r ⟨2048 + e.val, by omega⟩) (FloatOps.sitofp (F := Ideal) FTy.f32 0#32)

/-- The product with the weights. -/
def linS (h : FVec Ideal S128x8x1024 .f32) (w : FVec Ideal S1024x2056 .f32) : FVec Ideal S128x8x2056 .f32 :=
  Host.dotGeneral dot_S128x8x1024_S1024x2056_S128x8x2056_2_0_01_1_n_n none h w

/-- The heads of the queries, and of the keys. -/
def qheadsS (z : FVec Ideal S128x8x2056 .f32) : FVec Ideal S128x8x2x4x64 .f32 :=
  shapeCast S128x8x2x4x64 (extractStridedSlice S128x8x512 ![0, 0, 0] z slices_S128x8x2056_S128x8x512_0_0_0) shapeCasts_S128x8x512_S128x8x2x4x64
def kheadsS (z : FVec Ideal S128x8x2056 .f32) : FVec Ideal S128x8x2x64 .f32 :=
  shapeCast S128x8x2x64 (extractStridedSlice S128x8x128 ![0, 0, 512] z slices_S128x8x2056_S128x8x128_0_0_512) shapeCasts_S128x8x128_S128x8x2x64

/-- The norms of the heads. -/
def qnormS (x : FVec Ideal S128x8x2x4x64 .f32) (w : FVec Ideal S64 .f32) : FVec Ideal S128x8x2x4x64 .f32 :=
  mulf (mulf x (broadcastInDim S128x8x2x4x64 ![0, 1, 2, 3, 4] bcast_S128x8x2x4x1_S128x8x2x4x64_0_1_2_3_4 (Host.rsqrt (addf (Host.divf (broadcastInDim S128x8x2x4x1 ![0, 1, 2, 3] bcast_S128x8x2x4_S128x8x2x4x1_0_1_2_3 (Host.reduceAdd (mulf x x) (constant S_ .f32 0x00000000#32) reducesTo_S128x8x2x4x64_S128x8x2x4_d4 h_S_)) (broadcastInDim S128x8x2x4x1 ![] bcast_S_S128x8x2x4x1 (constant S_ .f32 0x42800000#32))) (broadcastInDim S128x8x2x4x1 ![] bcast_S_S128x8x2x4x1 (constant S_ .f32 0x358637BD#32)))))) (broadcastInDim S128x8x2x4x64 ![0, 1, 2, 3, 4] bcast_S1x1x1x1x64_S128x8x2x4x64_0_1_2_3_4 (broadcastInDim S1x1x1x1x64 ![4] bcast_S64_S1x1x1x1x64_4 w))
def knormS (x : FVec Ideal S128x8x2x64 .f32) (w : FVec Ideal S64 .f32) : FVec Ideal S128x8x2x64 .f32 :=
  mulf (mulf x (broadcastInDim S128x8x2x64 ![0, 1, 2, 3] bcast_S128x8x2x1_S128x8x2x64_0_1_2_3 (Host.rsqrt (addf (Host.divf (broadcastInDim S128x8x2x1 ![0, 1, 2] bcast_S128x8x2_S128x8x2x1_0_1_2 (Host.reduceAdd (mulf x x) (constant S_ .f32 0x00000000#32) reducesTo_S128x8x2x64_S128x8x2_d3 h_S_)) (broadcastInDim S128x8x2x1 ![] bcast_S_S128x8x2x1 (constant S_ .f32 0x42800000#32))) (broadcastInDim S128x8x2x1 ![] bcast_S_S128x8x2x1 (constant S_ .f32 0x358637BD#32)))))) (broadcastInDim S128x8x2x64 ![0, 1, 2, 3] bcast_S1x1x1x64_S128x8x2x64_0_1_2_3 (broadcastInDim S1x1x1x64 ![3] bcast_S64_S1x1x1x64_3 w))

/-- The queries by rows, scaled; the keys by rows. -/
def qrowsS (x : FVec Ideal S128x8x2x4x64 .f32) : FVec Ideal S1024x512 .f32 :=
  shapeCast S1024x512 (mulf x (broadcastInDim S128x8x2x4x64 ![] bcast_S_S128x8x2x4x64 (constant S_ .f32 0x3E000000#32))) shapeCasts_S128x8x2x4x64_S1024x512
def krowsS (x : FVec Ideal S128x8x2x64 .f32) : FVec Ideal S1024x128 .f32 :=
  shapeCast S1024x128 x shapeCasts_S128x8x2x64_S1024x128

/-- The values, the gates, the convolution's input and the time steps by rows. -/
def vrowsS (z : FVec Ideal S128x8x2056 .f32) : FVec Ideal S1024x128 .f32 :=
  shapeCast S1024x128 (extractStridedSlice S128x8x128 ![0, 0, 640] z slices_S128x8x2056_S128x8x128_0_0_640) shapeCasts_S128x8x128_S1024x128
def zrowsS (z : FVec Ideal S128x8x2056 .f32) : FVec Ideal S1024x512 .f32 :=
  shapeCast S1024x512 (extractStridedSlice S128x8x512 ![0, 0, 768] z slices_S128x8x2056_S128x8x512_0_0_768) shapeCasts_S128x8x512_S1024x512
def crowsS (z : FVec Ideal S128x8x2056 .f32) : FVec Ideal S1024x768 .f32 :=
  shapeCast S1024x768 (extractStridedSlice S128x8x768 ![0, 0, 1280] z slices_S128x8x2056_S128x8x768_0_0_1280) shapeCasts_S128x8x768_S1024x768
def trowsS (z : FVec Ideal S128x8x2056 .f32) : FVec Ideal S1024x128 .f32 :=
  shapeCast S1024x128 (pad S128x8x128 ![0, 0, 0] ![0, 0, 120] ![0, 0, 0] (extractStridedSlice S128x8x8 ![0, 0, 2048] z slices_S128x8x2056_S128x8x8_0_0_2048) (sitofp .f32 (constantI S_ 32 0#32)) pads_S128x8x8_S128x8x128_000_000_01200 h_S_) shapeCasts_S128x8x128_S1024x128

theorem linS_apply (h : FVec Ideal S128x8x1024 .f32) (w : FVec Ideal S1024x2056 .f32) (a : Fin 128) (b : Fin 8) (j : Fin 2056) :
    linS h w (ix3 a b j) = Cert.Layer.lin (fun k => h (ix3 a b k)) (fun k l => w (ix2 k l)) j := by
  pointwise [linS, Cert.Layer.lin]

theorem qheadsS_apply (z : FVec Ideal S128x8x2056 .f32) (a : Fin 128) (b : Fin 8) (g : Fin 2) (h : Fin 4) (l : Fin 64) :
    qheadsS z (ix5 a b g h l) = z (ix3 a b ⟨g.val * 256 + h.val * 64 + l.val, by omega⟩) := by
  pointwise [qheadsS]

theorem kheadsS_apply (z : FVec Ideal S128x8x2056 .f32) (a : Fin 128) (b : Fin 8) (g : Fin 2) (l : Fin 64) :
    kheadsS z (ix4 a b g l) = z (ix3 a b ⟨512 + (g.val * 64 + l.val), by omega⟩) := by
  pointwise [kheadsS]

theorem qnormS_apply (x : FVec Ideal S128x8x2x4x64 .f32) (w : FVec Ideal S64 .f32) (a : Fin 128) (b : Fin 8) (g : Fin 2) (h : Fin 4) (l : Fin 64) :
    qnormS x w (ix5 a b g h l) = Cert.Layer.norm (Ideal.ofBits FTy.f32 1115684864#32) (fun k => x (ix5 a b g h k)) (fun k => w (ix1 k)) l := by
  pointwise [qnormS, Cert.Layer.norm]

theorem knormS_apply (x : FVec Ideal S128x8x2x64 .f32) (w : FVec Ideal S64 .f32) (a : Fin 128) (b : Fin 8) (g : Fin 2) (l : Fin 64) :
    knormS x w (ix4 a b g l) = Cert.Layer.norm (Ideal.ofBits FTy.f32 1115684864#32) (fun k => x (ix4 a b g k)) (fun k => w (ix1 k)) l := by
  pointwise [knormS, Cert.Layer.norm]

theorem qrowsS_apply (x : FVec Ideal S128x8x2x4x64 .f32) (r : Fin 1024) (e : Fin 512) :
    qrowsS x (ix2 r e) = x (ix5 ⟨r.val / 8, by omega⟩ ⟨r.val % 8, by omega⟩ ⟨e.val / 256, by omega⟩ ⟨e.val / 64 % 4, by omega⟩ ⟨e.val % 64, by omega⟩) * eighth := by
  pointwise [qrowsS]

theorem krowsS_apply (x : FVec Ideal S128x8x2x64 .f32) (r : Fin 1024) (e : Fin 128) :
    krowsS x (ix2 r e) = x (ix4 ⟨r.val / 8, by omega⟩ ⟨r.val % 8, by omega⟩ ⟨e.val / 64, by omega⟩ ⟨e.val % 64, by omega⟩) := by
  pointwise [krowsS]

/-- The projected rows. -/
def projS (x : FVec Ideal S128x8x1024 .f32) (g : FVec Ideal S1024 .f32) (w : FVec Ideal S1024x2056 .f32) : FVec Ideal S128x8x2056 .f32 :=
  linS (Cert.FfnReferenceIdeal.Layer.normS x g) w

theorem projS_apply (x : FVec Ideal S128x8x1024 .f32) (g : FVec Ideal S1024 .f32) (w : FVec Ideal S1024x2056 .f32) (a : Fin 128) (b : Fin 8) (j : Fin 2056) :
    projS x g w (ix3 a b j) = Cert.Layer.lin (Cert.Layer.norm (Ideal.ofBits FTy.f32 1149239296#32) (fun k => x (ix3 a b k)) (fun k => g (ix1 k))) (fun k l => w (ix2 k l)) j := by
  unfold projS
  rw [linS_apply]
  exact congrArg (fun f => Cert.Layer.lin f _ j) (funext fun k => Cert.FfnReferenceIdeal.Layer.normS_apply x g a b k)

/-- The columns of one row. -/
abbrev atS (z : FVec Ideal S128x8x2056 .f32) (r : Fin 1024) (j : Fin 2056) : EReal := z (ix3 ⟨r.val / 8, by omega⟩ ⟨r.val % 8, by omega⟩ j)

theorem queryS (z : FVec Ideal S128x8x2056 .f32) (w : FVec Ideal S64 .f32) (r : Fin 1024) (e : Fin 512) :
    qrowsS (qnormS (qheadsS z) w) (ix2 r e) = Cert.Layer.head64 0 (atS z r) (fun k => w (ix1 k)) e (by decide) (by decide) * eighth := by
  rw [qrowsS_apply, qnormS_apply]
  refine congrArg (fun f => Cert.Layer.norm _ f _ _ * eighth) (funext fun k => ?_)
  rw [qheadsS_apply]
  refine congrArg (atS z r) (Fin.ext ?_)
  show e.val / 256 * 256 + e.val / 64 % 4 * 64 + k.val = 0 + (e.val / 64 * 64 + k.val)
  omega

theorem keyS (z : FVec Ideal S128x8x2056 .f32) (w : FVec Ideal S64 .f32) (r : Fin 1024) (e : Fin 128) :
    krowsS (knormS (kheadsS z) w) (ix2 r e) = Cert.Layer.head64 512 (atS z r) (fun k => w (ix1 k)) e (by decide) (by decide) := by
  rw [krowsS_apply, knormS_apply]
  refine congrArg (fun f => Cert.Layer.norm _ f _ _) (funext fun k => ?_)
  rw [kheadsS_apply]

theorem valueS (z : FVec Ideal S128x8x2056 .f32) (r : Fin 1024) (e : Fin 128) :
    vrowsS z (ix2 r e) = Cert.Layer.cols 640 (atS z r) e (by decide) := by
  pointwise [vrowsS, Cert.Layer.cols]

theorem gateS (z : FVec Ideal S128x8x2056 .f32) (r : Fin 1024) (e : Fin 512) :
    zrowsS z (ix2 r e) = Cert.Layer.cols 768 (atS z r) e (by decide) := by
  pointwise [zrowsS, Cert.Layer.cols]

theorem convS (z : FVec Ideal S128x8x2056 .f32) (r : Fin 1024) (e : Fin 768) :
    crowsS z (ix2 r e) = Cert.Layer.cols 1280 (atS z r) e (by decide) := by
  pointwise [crowsS, Cert.Layer.cols]

theorem stepS (z : FVec Ideal S128x8x2056 .f32) (r : Fin 1024) (e : Fin 128) :
    trowsS z (ix2 r e) = if h : e.val < 8 then atS z r ⟨2048 + e.val, by omega⟩ else FloatOps.sitofp (F := Ideal) FTy.f32 0#32 := by
  pointwise [trowsS]
  exact dite_iff ⟨fun h => h.2.2, fun h => ⟨by omega, by omega, h⟩⟩ (fun h : e.val < 8 => atS z r ⟨2048 + e.val, by omega⟩) (FloatOps.sitofp (F := Ideal) FTy.f32 0#32)

/-- Both parts, one under the other. -/
def both128 (p : FVec Ideal S16384x128 .f32) (s : FVec Ideal S1024x128 .f32) : FVec Ideal S17408x128 .f32 :=
  concatenate S17408x128 0 [⟨S16384x128, p⟩, ⟨S1024x128, s⟩] concatenates_S16384x128_S1024x128_S17408x128_d0

theorem both128_apply (p : FVec Ideal S16384x128 .f32) (s : FVec Ideal S1024x128 .f32) (r : Fin 17408) (e : Fin 128) :
    both128 p s (ix2 r e) = if h : r.val < 16384 then p (ix2 ⟨r.val, h⟩ e) else s (ix2 ⟨r.val - 16384, by omega⟩ e) := by
  pointwise [both128]

/-- Both parts, one under the other. -/
def both512 (p : FVec Ideal S16384x512 .f32) (s : FVec Ideal S1024x512 .f32) : FVec Ideal S17408x512 .f32 :=
  concatenate S17408x512 0 [⟨S16384x512, p⟩, ⟨S1024x512, s⟩] concatenates_S16384x512_S1024x512_S17408x512_d0

theorem both512_apply (p : FVec Ideal S16384x512 .f32) (s : FVec Ideal S1024x512 .f32) (r : Fin 17408) (e : Fin 512) :
    both512 p s (ix2 r e) = if h : r.val < 16384 then p (ix2 ⟨r.val, h⟩ e) else s (ix2 ⟨r.val - 16384, by omega⟩ e) := by
  pointwise [both512]

/-- Both parts, one under the other. -/
def both768 (p : FVec Ideal S16384x768 .f32) (s : FVec Ideal S1024x768 .f32) : FVec Ideal S17408x768 .f32 :=
  concatenate S17408x768 0 [⟨S16384x768, p⟩, ⟨S1024x768, s⟩] concatenates_S16384x768_S1024x768_S17408x768_d0

theorem both768_apply (p : FVec Ideal S16384x768 .f32) (s : FVec Ideal S1024x768 .f32) (r : Fin 17408) (e : Fin 768) :
    both768 p s (ix2 r e) = if h : r.val < 16384 then p (ix2 ⟨r.val, h⟩ e) else s (ix2 ⟨r.val - 16384, by omega⟩ e) := by
  pointwise [both768]

/-- The six results of the reference. -/
def termQ (x : FVec Ideal S2x8192x1024 .f32) (xs : FVec Ideal S128x8x1024 .f32) (g : FVec Ideal S1024 .f32) (w : FVec Ideal S1024x2056 .f32) (qw : FVec Ideal S64 .f32) : FVec Ideal S17408x512 .bf16 :=
  truncf .bf16 (both512 (qrowsP (qnormP (qheadsP (projP x g w)) qw)) (qrowsS (qnormS (qheadsS (projS xs g w)) qw))) bitsLt_bf16_f32
def termK (x : FVec Ideal S2x8192x1024 .f32) (xs : FVec Ideal S128x8x1024 .f32) (g : FVec Ideal S1024 .f32) (w : FVec Ideal S1024x2056 .f32) (kw : FVec Ideal S64 .f32) : FVec Ideal S17408x128 .f32 :=
  both128 (krowsP (knormP (kheadsP (projP x g w)) kw)) (krowsS (knormS (kheadsS (projS xs g w)) kw))
def termV (x : FVec Ideal S2x8192x1024 .f32) (xs : FVec Ideal S128x8x1024 .f32) (g : FVec Ideal S1024 .f32) (w : FVec Ideal S1024x2056 .f32) : FVec Ideal S17408x128 .f32 :=
  both128 (vrowsP (projP x g w)) (vrowsS (projS xs g w))
def termZ (x : FVec Ideal S2x8192x1024 .f32) (xs : FVec Ideal S128x8x1024 .f32) (g : FVec Ideal S1024 .f32) (w : FVec Ideal S1024x2056 .f32) : FVec Ideal S17408x512 .f32 :=
  both512 (zrowsP (projP x g w)) (zrowsS (projS xs g w))
def termC (x : FVec Ideal S2x8192x1024 .f32) (xs : FVec Ideal S128x8x1024 .f32) (g : FVec Ideal S1024 .f32) (w : FVec Ideal S1024x2056 .f32) : FVec Ideal S17408x768 .f32 :=
  both768 (crowsP (projP x g w)) (crowsS (projS xs g w))
def termT (x : FVec Ideal S2x8192x1024 .f32) (xs : FVec Ideal S128x8x1024 .f32) (g : FVec Ideal S1024 .f32) (w : FVec Ideal S1024x2056 .f32) : FVec Ideal S17408x128 .f32 :=
  both128 (trowsP (projP x g w)) (trowsS (projS xs g w))

theorem termQ_apply (x : FVec Ideal S2x8192x1024 .f32) (xs : FVec Ideal S128x8x1024 .f32) (g : FVec Ideal S1024 .f32) (w : FVec Ideal S1024x2056 .f32) (qw : FVec Ideal S64 .f32) (r : Fin 17408) (e : Fin 512) :
    termQ x xs g w qw (ix2 r e) = both512 (qrowsP (qnormP (qheadsP (projP x g w)) qw)) (qrowsS (qnormS (qheadsS (projS xs g w)) qw)) (ix2 r e) := rfl

/-- The reference's results are these steps. -/
theorem res_q (m : (ℓ : Loc nD τ sig) → Buf (Elt Ideal) ℓ) (c : Dev nD) :
    Cert.EvenReferenceIdeal.Value.res_out0 m c
      = termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res_k (m : (ℓ : Loc nD τ sig) → Buf (Elt Ideal) ℓ) (c : Dev nD) :
    Cert.EvenReferenceIdeal.Value.res_out1 m c
      = termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := rfl

end Cert.EvenReferenceIdeal.Layer

end
-- ==== Proof.Layer.Finite.lean ====
/- What the preconditions say of an array, and the kernel's block-diagonal matrix of ones, entry by entry. -/
module

public import Idealize.ShloMosaic.Lib.KernelVsHost
public import proofs.«01_k».proof.Proof.Layer.Headnorm

@[expose] public section

noncomputable section

namespace Cert.Layer

open Idealize.ShloMosaic

/-- A value whose magnitude is below infinity is a real number. -/
theorem real_of_finite (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine ⟨x.toReal, (EReal.coe_toReal hlt.1.ne ?_).symm⟩
  rintro rfl
  simp at hlt

theorem quot64 : ∀ a : Fin 512, IntOp.divsi ArithUnit.host (BitVec.ofNat 32 a.val) 64#32 = BitVec.ofNat 32 (a.val / 64) := by
  decide +kernel

/-- An entry of the matrix: the integer quotients compared, the bit as a number. -/
theorem ones_bit (a b : ℕ) (ha : a < 512) (hb : b < 512) :
    FloatOps.uitofp (F := Ideal) FTy.f32 (IntOp.cmpi CmpIPredicate.eq (IntOp.divsi ArithUnit.host (BitVec.ofNat 32 a) 64#32) (IntOp.divsi ArithUnit.host (BitVec.ofNat 32 b) 64#32))
      = if a / 64 = b / 64 then (1 : EReal) else 0 := by
  have h1 := quot64 ⟨a, ha⟩
  have h2 := quot64 ⟨b, hb⟩
  dsimp only at h1 h2
  rw [h1, h2]
  by_cases h : a / 64 = b / 64
  · rw [if_pos h, h]
    have : IntOp.cmpi CmpIPredicate.eq (BitVec.ofNat 32 (b / 64)) (BitVec.ofNat 32 (b / 64)) = 1#1 := by simp [IntOp.cmpi]
    rw [this]
    show (((1#1 : BitVec 1).toNat : ℝ) : EReal) = 1
    norm_num
  · rw [if_neg h]
    have hne : BitVec.ofNat 32 (a / 64) ≠ BitVec.ofNat 32 (b / 64) := by
      intro hq
      have := congrArg BitVec.toNat hq
      rw [BitVec.toNat_ofNat, BitVec.toNat_ofNat, Nat.mod_eq_of_lt (by omega), Nat.mod_eq_of_lt (by omega)] at this
      exact h this
    have : IntOp.cmpi CmpIPredicate.eq (BitVec.ofNat 32 (a / 64)) (BitVec.ofNat 32 (b / 64)) = 0#1 := by
      show BitVec.ofBool (BitVec.ofNat 32 (a / 64) == BitVec.ofNat 32 (b / 64)) = 0#1
      rw [beq_eq_false_iff_ne.2 hne]
      rfl
    rw [this]
    show (((0#1 : BitVec 1).toNat : ℝ) : EReal) = 0
    norm_num

end Cert.Layer

end
-- ==== Proof.Even.Value.lean ====
/- The projections of an even layer: the kernel's arrays are the reference's results. -/
module

public import proofs.«01_k».proof.Defs
public import proofs.«01_k».proof.Proof.Even.Blocks
public import proofs.«01_k».proof.Proof.Even.Ref
public import proofs.«01_k».proof.Proof.Layer.Finite
public import proofs.«01_k».proof.Proof.Out.Odd
public import Idealize.ShloMosaic.Lib.StableHlo.ReadAt
public import Idealize.ShloMosaic.Lib.Pipeline.ValueKit

@[expose] public section

set_option maxRecDepth 16384

noncomputable section

namespace Cert.EvenIdeal.Layer

open Cert.EvenIdeal Cert.EvenIdeal.Gen Idealize.ShloMosaic Idealize.ShloMosaic.TcCoe Idealize.SL.Sem Idealize.ShloMosaic.StableHlo

open Cert.EvenReferenceIdeal.Layer (eighth)

theorem idx : ∀ t : Fin cfg0.N, win0_0.index t = ![t.val, 0]
    ∧ win0_1.index t = ![0, 0] ∧ win0_2.index t = ![0, 0] ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

theorem lt_N (t : Fin cfg0.N) : t.val < 34 := t.isLt

/-- The weights with columns of zeros after the last. -/
def padW (w : FVec Ideal S1024x2056 .f32) (k : Fin 1024) (j : Fin 2176) : EReal :=
  if h : j.val < 2056 then w (ix2 k ⟨j.val, h⟩) else 0

/-- The projections of one row, with the reference's columns and with the kernel's. -/
def row (x : FVec Ideal S17408x1024 .f32) (g : FVec Ideal S1024 .f32) (w : FVec Ideal S1024x2056 .f32) (r : Fin 17408) (j : Fin 2056) : EReal :=
  Cert.Layer.lin (Cert.Layer.norm (Ideal.ofBits FTy.f32 1149239296#32) (fun k => x (ix2 r k)) (fun k => g (ix1 k))) (fun k l => w (ix2 k l)) j
def rowK (x : FVec Ideal S17408x1024 .f32) (g : FVec Ideal S1024 .f32) (w : FVec Ideal S1024x2056 .f32) (r : Fin 17408) (j : Fin 2176) : EReal :=
  Cert.Layer.lin (Cert.Layer.norm (Ideal.ofBits FTy.f32 1149239296#32) (fun k => x (ix2 r k)) (fun k => g (ix1 k))) (padW w) j

theorem rowK_lt (x : FVec Ideal S17408x1024 .f32) (g : FVec Ideal S1024 .f32) (w : FVec Ideal S1024x2056 .f32) (r : Fin 17408) (j : Fin 2176) (h : j.val < 2056) : rowK x g w r j = row x g w r ⟨j.val, h⟩ := by
  unfold rowK row Cert.Layer.lin
  exact Finset.sum_congr rfl fun k _ => by rw [padW, dif_pos h]

theorem rowK_ge (x : FVec Ideal S17408x1024 .f32) (g : FVec Ideal S1024 .f32) (w : FVec Ideal S1024x2056 .f32) (r : Fin 17408) (j : Fin 2176) (h : ¬ j.val < 2056) : rowK x g w r j = 0 := by
  unfold rowK Cert.Layer.lin
  exact Finset.sum_eq_zero fun k _ => by rw [padW, dif_neg h, mul_zero]

theorem rowK_real (x : FVec Ideal S17408x1024 .f32) (g : FVec Ideal S1024 .f32) (w : FVec Ideal S1024x2056 .f32) (hx : ∀ i, Cert.Layer.IsReal (x i)) (hg : ∀ i, Cert.Layer.IsReal (g i)) (hw : ∀ i, Cert.Layer.IsReal (w i)) (r : Fin 17408) (j : Fin 2176) :
    Cert.Layer.IsReal (rowK x g w r j) := by
  refine Cert.Layer.IsReal.lin _ _ (Cert.Layer.IsReal.norm _ _ (fun k => hx _) (fun k => hg _)) (fun k l => ?_) j
  unfold padW
  by_cases h : l.val < 2056
  · rw [dif_pos h]; exact hw _
  · rw [dif_neg h]; exact ⟨0, EReal.coe_zero.symm⟩

theorem cols_rowK (x : FVec Ideal S17408x1024 .f32) (g : FVec Ideal S1024 .f32) (w : FVec Ideal S1024x2056 .f32) (r : Fin 17408) {n : ℕ} (o : ℕ) (e : Fin n) (h : o + n ≤ 2056) :
    rowK x g w r ⟨o + e.val, by omega⟩ = Cert.Layer.cols o (row x g w r) e h :=
  rowK_lt x g w r _ (by show o + e.val < 2056; omega)

theorem head_rowK (x : FVec Ideal S17408x1024 .f32) (g : FVec Ideal S1024 .f32) (w : FVec Ideal S1024x2056 .f32) (q : Fin 64 → EReal) (r : Fin 17408) {n : ℕ} (o : ℕ) (e : Fin n) (h : o + n ≤ 2056) (h' : 64 ∣ n) :
    Cert.Layer.head64 o (rowK x g w r) q e (by omega) h' = Cert.Layer.head64 o (row x g w r) q e h h' :=
  congrArg (fun f => Cert.Layer.norm _ f q _) (funext fun l => rowK_lt x g w r _ (by show o + (e.val / 64 * 64 + l.val) < 2056; omega))

variable (m : (ℓ : Loc nD τ sig) → Buf (Elt Ideal) ℓ) (c : Dev nD)

/-- The rows of the stream and the weights. -/
abbrev argX : FVec Ideal S17408x1024 .f32 := Cert.OutOddIdeal.Layer.both (m ((c.tc : Thread nD τ).loc main_arg0)) (m ((c.tc : Thread nD τ).loc main_arg1))
abbrev argG : FVec Ideal S1024 .f32 := (m ((c.tc : Thread nD τ).loc main_arg2))
abbrev argW : FVec Ideal S1024x2056 .f32 := (m ((c.tc : Thread nD τ).loc main_arg3))
abbrev argQ : FVec Ideal S64 .f32 := (m ((c.tc : Thread nD τ).loc main_arg4))
abbrev argK : FVec Ideal S64 .f32 := (m ((c.tc : Thread nD τ).loc main_arg5))

theorem V_x : V m c main_v4 = argX m c := by
  simp only [V, hostOps0, hostOps0_1, hostOps0_2, List.flatten_cons, List.flatten_nil, List.append_nil, List.cons_append, List.nil_append, TRef.unary, TRef.binary, TRef.toBuf, TRef.ofBuf, cast_eq]
  entry_read
  rfl

theorem V_g (k : Fin 1024) : V m c main_v5 (ix2 0 k : S1x1024.Idx) = argG m c (ix1 k) := by
  simp only [V, hostOps0, hostOps0_1, hostOps0_2, List.flatten_cons, List.flatten_nil, List.append_nil, List.cons_append, List.nil_append, TRef.unary, TRef.binary, TRef.toBuf, TRef.ofBuf, cast_eq]
  entry_read
  pointwise

theorem V_w (k : Fin 1024) (j : Fin 2176) : V m c main_v1 (ix2 k j : S1024x2176.Idx) = padW (argW m c) k j := by
  simp only [V, hostOps0, hostOps0_1, hostOps0_2, List.flatten_cons, List.flatten_nil, List.append_nil, List.cons_append, List.nil_append, TRef.unary, TRef.binary, TRef.toBuf, TRef.ofBuf, cast_eq]
  entry_read
  have h0 : FloatOps.sitofp (F := Ideal) FTy.f32 0#32 = (0 : EReal) := by
    show (((0#32 : BitVec 32).toInt : ℝ) : EReal) = 0
    norm_num
  unfold padW
  rw [← h0]
  pointwise

theorem V_bq (a k : Fin 512) : V m c main_v22 (ix2 a k : S512x512.Idx) = Cert.Layer.ones64 a k := by
  simp only [V, hostOps0, hostOps0_1, hostOps0_2, List.flatten_cons, List.flatten_nil, List.append_nil, List.cons_append, List.nil_append, TRef.unary, TRef.binary, TRef.toBuf, TRef.ofBuf, cast_eq]
  entry_read
  refine Eq.trans ?_ (Cert.Layer.ones_bit a.val k.val (by omega) (by omega))
  pointwise

theorem V_bk (a k : Fin 128) : V m c main_v31 (ix2 a k : S128x128.Idx) = Cert.Layer.ones64 a k := by
  simp only [V, hostOps0, hostOps0_1, hostOps0_2, List.flatten_cons, List.flatten_nil, List.append_nil, List.cons_append, List.nil_append, TRef.unary, TRef.binary, TRef.toBuf, TRef.ofBuf, cast_eq]
  entry_read
  refine Eq.trans ?_ (Cert.Layer.ones_bit a.val k.val (by omega) (by omega))
  pointwise

theorem V_q (k : Fin 512) : V m c main_v9 (ix2 0 k : S1x512.Idx) = argQ m c (ix1 ⟨k.val % 64, by omega⟩) := by
  simp only [V, hostOps0, hostOps0_1, hostOps0_2, List.flatten_cons, List.flatten_nil, List.append_nil, List.cons_append, List.nil_append, TRef.unary, TRef.binary, TRef.toBuf, TRef.ofBuf, cast_eq]
  entry_read
  pointwise

theorem V_k (k : Fin 128) : V m c main_v13 (ix2 0 k : S1x128.Idx) = argK m c (ix1 ⟨k.val % 64, by omega⟩) := by
  simp only [V, hostOps0, hostOps0_1, hostOps0_2, List.flatten_cons, List.flatten_nil, List.append_nil, List.cons_append, List.nil_append, TRef.unary, TRef.binary, TRef.toBuf, TRef.ofBuf, cast_eq]
  entry_read
  pointwise

theorem x_blk (t : Fin cfg0.N) (a : Fin 512) (k : Fin 1024) : iblk m c 0 t (ix2 a k : S512x1024.Idx)
    = argX m c (ix2 ⟨t.val * 512 + a.val, by have := lt_N t; omega⟩ k) := by
  have ht := lt_N t
  have h : iblk m c 0 t (ix2 a k : S512x1024.Idx) = V m c main_v4 (ix2 ⟨t.val * 512 + a.val, by omega⟩ k) := by
    blk_ext [iblk, idx t]
  rw [h, V_x]

theorem g_blk (t : Fin cfg0.N) (k : Fin 1024) : iblk m c 1 t (ix2 0 k : S1x1024.Idx) = argG m c (ix1 k) := by
  have h : iblk m c 1 t (ix2 0 k : S1x1024.Idx) = V m c main_v5 (ix2 0 k) := by
    blk_ext [iblk, idx t]
  rw [h, V_g]

theorem w_blk (t : Fin cfg0.N) (k : Fin 1024) (j : Fin 2176) : iblk m c 2 t (ix2 k j : S1024x2176.Idx) = padW (argW m c) k j := by
  have h : iblk m c 2 t (ix2 k j : S1024x2176.Idx) = V m c main_v1 (ix2 k j) := by
    blk_ext [iblk, idx t]
  rw [h, V_w]

theorem bq_blk (t : Fin cfg0.N) (a k : Fin 512) : iblk m c 3 t (ix2 a k : S512x512.Idx) = Cert.Layer.ones64 a k := by
  have h : iblk m c 3 t (ix2 a k : S512x512.Idx) = V m c main_v22 (ix2 a k) := by
    blk_ext [iblk, idx t]
  rw [h, V_bq]

theorem bk_blk (t : Fin cfg0.N) (a k : Fin 128) : iblk m c 4 t (ix2 a k : S128x128.Idx) = Cert.Layer.ones64 a k := by
  have h : iblk m c 4 t (ix2 a k : S128x128.Idx) = V m c main_v31 (ix2 a k) := by
    blk_ext [iblk, idx t]
  rw [h, V_bk]

theorem q_blk (t : Fin cfg0.N) (k : Fin 512) : iblk m c 5 t (ix2 0 k : S1x512.Idx) = argQ m c (ix1 ⟨k.val % 64, by omega⟩) := by
  have h : iblk m c 5 t (ix2 0 k : S1x512.Idx) = V m c main_v9 (ix2 0 k) := by
    blk_ext [iblk, idx t]
  rw [h, V_q]

theorem k_blk (t : Fin cfg0.N) (k : Fin 128) : iblk m c 6 t (ix2 0 k : S1x128.Idx) = argK m c (ix1 ⟨k.val % 64, by omega⟩) := by
  have h : iblk m c 6 t (ix2 0 k : S1x128.Idx) = V m c main_v13 (ix2 0 k) := by
    blk_ext [iblk, idx t]
  rw [h, V_k]

theorem lin_blk (t : Fin cfg0.N) (a : Fin 512) (j : Fin 2176) :
    k0_pay1 (F := Ideal) (iblk m c 0 t) (iblk m c 1 t) (iblk m c 2 t) (ix2 a j)
      = rowK (argX m c) (argG m c) (argW m c) ⟨t.val * 512 + a.val, by have := lt_N t; omega⟩ j := by
  refine (lin_apply (iblk m c 0 t) (iblk m c 1 t) (iblk m c 2 t) a j).trans ?_
  have h0 := fun k => x_blk m c t a k
  have h1 := fun k => g_blk m c t k
  have h2 := fun k l => w_blk m c t k l
  unfold rowK
  rw [← funext h0, ← funext h1, ← funext fun k => funext fun l => h2 k l]

/-- A row of the reference's projections. -/
theorem row_P (x : FVec Ideal S2x8192x1024 .f32) (xs : FVec Ideal S128x8x1024 .f32) (g : FVec Ideal S1024 .f32) (w : FVec Ideal S1024x2056 .f32) (r : Fin 17408) (h : r.val < 16384) :
    row (Cert.OutOddIdeal.Layer.both x xs) g w r = Cert.EvenReferenceIdeal.Layer.atP (Cert.EvenReferenceIdeal.Layer.projP x g w) ⟨r.val, h⟩ := by
  funext j
  rw [Cert.EvenReferenceIdeal.Layer.atP, Cert.EvenReferenceIdeal.Layer.projP_apply]
  unfold row
  refine congrArg (fun f => Cert.Layer.lin (Cert.Layer.norm _ f _) _ j) (funext fun k => ?_)
  rw [Cert.OutOddIdeal.Layer.both_apply, dif_pos h]

/-- A row of the reference's projections. -/
theorem row_S (x : FVec Ideal S2x8192x1024 .f32) (xs : FVec Ideal S128x8x1024 .f32) (g : FVec Ideal S1024 .f32) (w : FVec Ideal S1024x2056 .f32) (r : Fin 17408) (h : ¬ r.val < 16384) :
    row (Cert.OutOddIdeal.Layer.both x xs) g w r = Cert.EvenReferenceIdeal.Layer.atS (Cert.EvenReferenceIdeal.Layer.projS xs g w) ⟨r.val - 16384, by omega⟩ := by
  funext j
  rw [Cert.EvenReferenceIdeal.Layer.atS, Cert.EvenReferenceIdeal.Layer.projS_apply]
  unfold row
  refine congrArg (fun f => Cert.Layer.lin (Cert.Layer.norm _ f _) _ j) (funext fun k => ?_)
  rw [Cert.OutOddIdeal.Layer.both_apply, dif_neg h]

theorem termQ_row (x : FVec Ideal S2x8192x1024 .f32) (xs : FVec Ideal S128x8x1024 .f32) (g : FVec Ideal S1024 .f32) (w : FVec Ideal S1024x2056 .f32) (q : FVec Ideal S64 .f32) (r : Fin 17408) (e : Fin 512) :
    Cert.EvenReferenceIdeal.Layer.termQ x xs g w q (ix2 r e) = Cert.Layer.head64 0 (row (Cert.OutOddIdeal.Layer.both x xs) g w r) (fun l => q (ix1 l)) e (by decide) (by decide) * eighth := by
  rw [Cert.EvenReferenceIdeal.Layer.termQ_apply, Cert.EvenReferenceIdeal.Layer.both512_apply]
  by_cases h : r.val < 16384
  · rw [dif_pos h, row_P x xs g w r h]
    exact Cert.EvenReferenceIdeal.Layer.queryP _ q ⟨r.val, h⟩ e
  · rw [dif_neg h, row_S x xs g w r h]
    exact Cert.EvenReferenceIdeal.Layer.queryS _ q ⟨r.val - 16384, by omega⟩ e

theorem pointQ (hx : ∀ i, Cert.Layer.IsReal (argX m c i)) (hg : ∀ i, Cert.Layer.IsReal (argG m c i)) (hw : ∀ i, Cert.Layer.IsReal (argW m c i)) (t : Fin cfg0.N) (a : Fin 512) (e : Fin 512) :
    k0_pay3 (F := Ideal) (k0_pay2 (F := Ideal) (iblk m c 0 t) (iblk m c 1 t) (iblk m c 2 t) (iblk m c 3 t) (iblk m c 5 t)) (ix2 a e)
      = Cert.EvenReferenceIdeal.Layer.termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 ⟨t.val * 512 + a.val, by have := lt_N t; omega⟩ e) := by
  rw [termQ_row]
  refine (queries (iblk m c 0 t) (iblk m c 1 t) (iblk m c 2 t) (iblk m c 3 t) (iblk m c 5 t) a e).trans ?_
  have h0 := funext fun l : Fin 512 => lin_blk m c t a ⟨0 + l.val, by omega⟩
  have h1 := funext fun k => q_blk m c t k
  have h2 := funext fun k => funext fun l => bq_blk m c t k l
  rw [h0, h1, h2]
  refine congrArg ((· * eighth)) ?_
  exact (Cert.Layer.split64_eq 0 (rowK (argX m c) (argG m c) (argW m c) ⟨t.val * 512 + a.val, by have := lt_N t; omega⟩) (fun l => argQ m c (ix1 l)) e (by decide) (by decide) (rowK_real _ _ _ hx hg hw _)).trans (head_rowK _ _ _ _ _ 0 e (by decide) (by decide))

/-- The kernel's queries. -/
theorem finalQ (hx : ∀ i, Cert.Layer.IsReal (argX m c i)) (hg : ∀ i, Cert.Layer.IsReal (argG m c i)) (hw : ∀ i, Cert.Layer.IsReal (argW m c i)) : (dats m 0 c).arrAt 7 (cfgs 0).N = Cert.EvenReferenceIdeal.Layer.termQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  idx_vars y
  refine (congrFun (queries_out (iblk m c 0 t) (iblk m c 1 t) (iblk m c 2 t) (iblk m c 3 t) (iblk m c 4 t) (iblk m c 5 t) (iblk m c 6 t)) (ix2 y0 y1)).trans ?_
  refine (pointQ m c hx hg hw t y0 y1).trans (congrArg (Cert.EvenReferenceIdeal.Layer.termQ _ _ _ _ _) ?_)
  have ht := lt_N t
  blk_ext [idx t]

theorem termK_row (x : FVec Ideal S2x8192x1024 .f32) (xs : FVec Ideal S128x8x1024 .f32) (g : FVec Ideal S1024 .f32) (w : FVec Ideal S1024x2056 .f32) (q : FVec Ideal S64 .f32) (r : Fin 17408) (e : Fin 128) :
    Cert.EvenReferenceIdeal.Layer.termK x xs g w q (ix2 r e) = Cert.Layer.head64 512 (row (Cert.OutOddIdeal.Layer.both x xs) g w r) (fun l => q (ix1 l)) e (by decide) (by decide) := by
  unfold Cert.EvenReferenceIdeal.Layer.termK
  rw [Cert.EvenReferenceIdeal.Layer.both128_apply]
  by_cases h : r.val < 16384
  · rw [dif_pos h, row_P x xs g w r h]
    exact Cert.EvenReferenceIdeal.Layer.keyP _ q ⟨r.val, h⟩ e
  · rw [dif_neg h, row_S x xs g w r h]
    exact Cert.EvenReferenceIdeal.Layer.keyS _ q ⟨r.val - 16384, by omega⟩ e

theorem pointK (hx : ∀ i, Cert.Layer.IsReal (argX m c i)) (hg : ∀ i, Cert.Layer.IsReal (argG m c i)) (hw : ∀ i, Cert.Layer.IsReal (argW m c i)) (t : Fin cfg0.N) (a : Fin 512) (e : Fin 128) :
    k0_pay4 (F := Ideal) (k0_pay1 (F := Ideal) (iblk m c 0 t) (iblk m c 1 t) (iblk m c 2 t)) (iblk m c 4 t) (iblk m c 6 t) (ix2 a e)
      = Cert.EvenReferenceIdeal.Layer.termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 ⟨t.val * 512 + a.val, by have := lt_N t; omega⟩ e) := by
  rw [termK_row]
  refine (keys (k0_pay1 (F := Ideal) (iblk m c 0 t) (iblk m c 1 t) (iblk m c 2 t)) (iblk m c 4 t) (iblk m c 6 t) a e).trans ?_
  have h0 := funext fun l : Fin 128 => lin_blk m c t a ⟨512 + l.val, by omega⟩
  have h1 := funext fun k => k_blk m c t k
  have h2 := funext fun k => funext fun l => bk_blk m c t k l
  rw [h0, h1, h2]
  refine congrArg (id) ?_
  exact (Cert.Layer.split64_eq 512 (rowK (argX m c) (argG m c) (argW m c) ⟨t.val * 512 + a.val, by have := lt_N t; omega⟩) (fun l => argK m c (ix1 l)) e (by decide) (by decide) (rowK_real _ _ _ hx hg hw _)).trans (head_rowK _ _ _ _ _ 512 e (by decide) (by decide))

/-- The kernel's keys. -/
theorem finalK (hx : ∀ i, Cert.Layer.IsReal (argX m c i)) (hg : ∀ i, Cert.Layer.IsReal (argG m c i)) (hw : ∀ i, Cert.Layer.IsReal (argW m c i)) : (dats m 0 c).arrAt 8 (cfgs 0).N = Cert.EvenReferenceIdeal.Layer.termK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 8 _ (by decide +kernel) fun t hf y => ?_
  blk_simp
  rw [after0_8]
  idx_vars y
  refine (congrFun (keys_out (iblk m c 0 t) (iblk m c 1 t) (iblk m c 2 t) (iblk m c 3 t) (iblk m c 4 t) (iblk m c 5 t) (iblk m c 6 t)) (ix2 y0 y1)).trans ?_
  refine (pointK m c hx hg hw t y0 y1).trans (congrArg (Cert.EvenReferenceIdeal.Layer.termK _ _ _ _ _) ?_)
  have ht := lt_N t
  blk_ext [idx t]

theorem termV_row (x : FVec Ideal S2x8192x1024 .f32) (xs : FVec Ideal S128x8x1024 .f32) (g : FVec Ideal S1024 .f32) (w : FVec Ideal S1024x2056 .f32) (r : Fin 17408) (e : Fin 128) :
    Cert.EvenReferenceIdeal.Layer.termV x xs g w (ix2 r e) = Cert.Layer.cols 640 (row (Cert.OutOddIdeal.Layer.both x xs) g w r) e (by decide) := by
  unfold Cert.EvenReferenceIdeal.Layer.termV
  rw [Cert.EvenReferenceIdeal.Layer.both128_apply]
  by_cases h : r.val < 16384
  · rw [dif_pos h, row_P x xs g w r h]
    exact Cert.EvenReferenceIdeal.Layer.valueP _ ⟨r.val, h⟩ e
  · rw [dif_neg h, row_S x xs g w r h]
    exact Cert.EvenReferenceIdeal.Layer.valueS _ ⟨r.val - 16384, by omega⟩ e

theorem pointV (t : Fin cfg0.N) (a : Fin 512) (e : Fin 128) :
    k0_pay5 (F := Ideal) (k0_pay1 (F := Ideal) (iblk m c 0 t) (iblk m c 1 t) (iblk m c 2 t)) (ix2 a e)
      = Cert.EvenReferenceIdeal.Layer.termV (m ((c.tc : Thread nD τ).loc main_arg0)) (m ((c.tc : Thread nD τ).loc main_arg1)) (m ((c.tc : Thread nD τ).loc main_arg2)) (m ((c.tc : Thread nD τ).loc main_arg3)) (ix2 ⟨t.val * 512 + a.val, by have := lt_N t; omega⟩ e) := by
  rw [termV_row]
  exact (values _ a e).trans ((lin_blk m c t a ⟨640 + e.val, by omega⟩).trans (cols_rowK _ _ _ _ 640 e (by decide)))

/-- The kernel's values. -/
theorem finalV : (dats m 0 c).arrAt 9 (cfgs 0).N = Cert.EvenReferenceIdeal.Layer.termV (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  rw [after0_9]
  idx_vars y
  refine (congrFun (values_out (iblk m c 0 t) (iblk m c 1 t) (iblk m c 2 t) (iblk m c 3 t) (iblk m c 4 t) (iblk m c 5 t) (iblk m c 6 t)) (ix2 y0 y1)).trans ?_
  refine (pointV m c t y0 y1).trans (congrArg (Cert.EvenReferenceIdeal.Layer.termV _ _ _ _) ?_)
  have ht := lt_N t
  blk_ext [idx t]

theorem termZ_row (x : FVec Ideal S2x8192x1024 .f32) (xs : FVec Ideal S128x8x1024 .f32) (g : FVec Ideal S1024 .f32) (w : FVec Ideal S1024x2056 .f32) (r : Fin 17408) (e : Fin 512) :
    Cert.EvenReferenceIdeal.Layer.termZ x xs g w (ix2 r e) = Cert.Layer.cols 768 (row (Cert.OutOddIdeal.Layer.both x xs) g w r) e (by decide) := by
  unfold Cert.EvenReferenceIdeal.Layer.termZ
  rw [Cert.EvenReferenceIdeal.Layer.both512_apply]
  by_cases h : r.val < 16384
  · rw [dif_pos h, row_P x xs g w r h]
    exact Cert.EvenReferenceIdeal.Layer.gateP _ ⟨r.val, h⟩ e
  · rw [dif_neg h, row_S x xs g w r h]
    exact Cert.EvenReferenceIdeal.Layer.gateS _ ⟨r.val - 16384, by omega⟩ e

theorem pointZ (t : Fin cfg0.N) (a : Fin 512) (e : Fin 512) :
    k0_pay6 (F := Ideal) (k0_pay1 (F := Ideal) (iblk m c 0 t) (iblk m c 1 t) (iblk m c 2 t)) (ix2 a e)
      = Cert.EvenReferenceIdeal.Layer.termZ (m ((c.tc : Thread nD τ).loc main_arg0)) (m ((c.tc : Thread nD τ).loc main_arg1)) (m ((c.tc : Thread nD τ).loc main_arg2)) (m ((c.tc : Thread nD τ).loc main_arg3)) (ix2 ⟨t.val * 512 + a.val, by have := lt_N t; omega⟩ e) := by
  rw [termZ_row]
  exact (gates _ a e).trans ((lin_blk m c t a ⟨768 + e.val, by omega⟩).trans (cols_rowK _ _ _ _ 768 e (by decide)))

/-- The kernel's gates. -/
theorem finalZ : (dats m 0 c).arrAt 10 (cfgs 0).N = Cert.EvenReferenceIdeal.Layer.termZ (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t hf y => ?_
  blk_simp
  rw [after0_10]
  idx_vars y
  refine (congrFun (gates_out (iblk m c 0 t) (iblk m c 1 t) (iblk m c 2 t) (iblk m c 3 t) (iblk m c 4 t) (iblk m c 5 t) (iblk m c 6 t)) (ix2 y0 y1)).trans ?_
  refine (pointZ m c t y0 y1).trans (congrArg (Cert.EvenReferenceIdeal.Layer.termZ _ _ _ _) ?_)
  have ht := lt_N t
  blk_ext [idx t]

theorem termC_row (x : FVec Ideal S2x8192x1024 .f32) (xs : FVec Ideal S128x8x1024 .f32) (g : FVec Ideal S1024 .f32) (w : FVec Ideal S1024x2056 .f32) (r : Fin 17408) (e : Fin 768) :
    Cert.EvenReferenceIdeal.Layer.termC x xs g w (ix2 r e) = Cert.Layer.cols 1280 (row (Cert.OutOddIdeal.Layer.both x xs) g w r) e (by decide) := by
  unfold Cert.EvenReferenceIdeal.Layer.termC
  rw [Cert.EvenReferenceIdeal.Layer.both768_apply]
  by_cases h : r.val < 16384
  · rw [dif_pos h, row_P x xs g w r h]
    exact Cert.EvenReferenceIdeal.Layer.convP _ ⟨r.val, h⟩ e
  · rw [dif_neg h, row_S x xs g w r h]
    exact Cert.EvenReferenceIdeal.Layer.convS _ ⟨r.val - 16384, by omega⟩ e

theorem pointC (t : Fin cfg0.N) (a : Fin 512) (e : Fin 768) :
    k0_pay7 (F := Ideal) (k0_pay1 (F := Ideal) (iblk m c 0 t) (iblk m c 1 t) (iblk m c 2 t)) (ix2 a e)
      = Cert.EvenReferenceIdeal.Layer.termC (m ((c.tc : Thread nD τ).loc main_arg0)) (m ((c.tc : Thread nD τ).loc main_arg1)) (m ((c.tc : Thread nD τ).loc main_arg2)) (m ((c.tc : Thread nD τ).loc main_arg3)) (ix2 ⟨t.val * 512 + a.val, by have := lt_N t; omega⟩ e) := by
  rw [termC_row]
  exact (convs _ a e).trans ((lin_blk m c t a ⟨1280 + e.val, by omega⟩).trans (cols_rowK _ _ _ _ 1280 e (by decide)))

/-- The kernel's convolution's input. -/
theorem finalC : (dats m 0 c).arrAt 11 (cfgs 0).N = Cert.EvenReferenceIdeal.Layer.termC (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t hf y => ?_
  blk_simp
  rw [after0_11]
  idx_vars y
  refine (congrFun (convs_out (iblk m c 0 t) (iblk m c 1 t) (iblk m c 2 t) (iblk m c 3 t) (iblk m c 4 t) (iblk m c 5 t) (iblk m c 6 t)) (ix2 y0 y1)).trans ?_
  refine (pointC m c t y0 y1).trans (congrArg (Cert.EvenReferenceIdeal.Layer.termC _ _ _ _) ?_)
  have ht := lt_N t
  blk_ext [idx t]

theorem termT_row (x : FVec Ideal S2x8192x1024 .f32) (xs : FVec Ideal S128x8x1024 .f32) (g : FVec Ideal S1024 .f32) (w : FVec Ideal S1024x2056 .f32) (r : Fin 17408) (e : Fin 128) :
    Cert.EvenReferenceIdeal.Layer.termT x xs g w (ix2 r e) = if h : e.val < 8 then row (Cert.OutOddIdeal.Layer.both x xs) g w r ⟨2048 + e.val, by omega⟩ else FloatOps.sitofp (F := Ideal) FTy.f32 0#32 := by
  unfold Cert.EvenReferenceIdeal.Layer.termT
  rw [Cert.EvenReferenceIdeal.Layer.both128_apply]
  by_cases h : r.val < 16384
  · rw [dif_pos h, row_P x xs g w r h]
    exact Cert.EvenReferenceIdeal.Layer.stepP _ ⟨r.val, h⟩ e
  · rw [dif_neg h, row_S x xs g w r h]
    exact Cert.EvenReferenceIdeal.Layer.stepS _ ⟨r.val - 16384, by omega⟩ e

theorem pointT (t : Fin cfg0.N) (a : Fin 512) (e : Fin 128) :
    k0_pay8 (F := Ideal) (k0_pay1 (F := Ideal) (iblk m c 0 t) (iblk m c 1 t) (iblk m c 2 t)) (ix2 a e)
      = Cert.EvenReferenceIdeal.Layer.termT (m ((c.tc : Thread nD τ).loc main_arg0)) (m ((c.tc : Thread nD τ).loc main_arg1)) (m ((c.tc : Thread nD τ).loc main_arg2)) (m ((c.tc : Thread nD τ).loc main_arg3)) (ix2 ⟨t.val * 512 + a.val, by have := lt_N t; omega⟩ e) := by
  rw [termT_row]
  refine (steps _ a e).trans ((lin_blk m c t a ⟨2048 + e.val, by omega⟩).trans ?_)
  by_cases h : e.val < 8
  · rw [dif_pos h]
    exact rowK_lt _ _ _ _ _ (by show 2048 + e.val < 2056; omega)
  · rw [dif_neg h, rowK_ge _ _ _ _ _ (by show ¬ 2048 + e.val < 2056; omega)]
    show 0 = (((0#32 : BitVec 32).toInt : ℝ) : EReal)
    norm_num

/-- The kernel's time steps. -/
theorem finalT : (dats m 0 c).arrAt 12 (cfgs 0).N = Cert.EvenReferenceIdeal.Layer.termT (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 12 _ (by decide +kernel) fun t hf y => ?_
  blk_simp
  rw [after0_12]
  idx_vars y
  refine (congrFun (steps_out (iblk m c 0 t) (iblk m c 1 t) (iblk m c 2 t) (iblk m c 3 t) (iblk m c 4 t) (iblk m c 5 t) (iblk m c 6 t)) (ix2 y0 y1)).trans ?_
  refine (pointT m c t y0 y1).trans (congrArg (Cert.EvenReferenceIdeal.Layer.termT _ _ _ _) ?_)
  have ht := lt_N t
  blk_ext [idx t]

/-- What the precondition says. -/
theorem pre_real [Cert.Pre_finite_even.Facts] (h : Cert.Pre_EvenIdeal_finite_even m) :
    (∀ i, Cert.Layer.IsReal (argX m c i)) ∧ (∀ i, Cert.Layer.IsReal (argG m c i)) ∧ ∀ i, Cert.Layer.IsReal (argW m c i) := by
  obtain ⟨h0, h1, h2, h3⟩ := h c
  refine ⟨fun i => ?_, fun i => Cert.Layer.real_of_finite _ (congrFun h2 i), fun i => Cert.Layer.real_of_finite _ (congrFun h3 i)⟩
  idx_vars i
  rw [argX, Cert.OutOddIdeal.Layer.both_apply]
  by_cases h : i0.val < 16384
  · rw [dif_pos h]; exact Cert.Layer.real_of_finite _ (congrFun h0 _)
  · rw [dif_neg h]; exact Cert.Layer.real_of_finite _ (congrFun h1 _)

end Cert.EvenIdeal.Layer

end
-- ==== Proof.Memkv.Ref.lean ====
/- The reference's keys and values of the memory, step by step, and their rows. -/
module

public import proofs.«01_k».proof.Proof.Gen.MemkvReferenceIdeal.Run
public import proofs.«01_k».proof.Proof.Layer.Headnorm
public import Idealize.ShloMosaic.Lib.Pointwise

@[expose] public section

set_option maxRecDepth 16384

noncomputable section

namespace Cert.MemkvReferenceIdeal.Layer

open Cert.MemkvReferenceIdeal Cert.MemkvReferenceIdeal.Gen Idealize.ShloMosaic Idealize.ShloMosaic.TcCoe Idealize.SL.Sem Idealize.ShloMosaic.StableHlo

/-- The heads of the product with the weights. -/
def heads (x : FVec Ideal S2x256x1024 .f32) (w : FVec Ideal S1024x256 .f32) : FVec Ideal S2x256x4x64 .f32 :=
  shapeCast S2x256x4x64 (Host.dotGeneral dot_S2x256x1024_S1024x256_S2x256x256_2_0_01_1_n_n none x w) shapeCasts_S2x256x256_S2x256x4x64

/-- The norm of the heads. -/
def normH (x : FVec Ideal S2x256x4x64 .f32) (w : FVec Ideal S64 .f32) : FVec Ideal S2x256x4x64 .f32 :=
  mulf (mulf x (broadcastInDim S2x256x4x64 ![0, 1, 2, 3] bcast_S2x256x4x1_S2x256x4x64_0_1_2_3 (Host.rsqrt (addf (Host.divf (broadcastInDim S2x256x4x1 ![0, 1, 2] bcast_S2x256x4_S2x256x4x1_0_1_2 (Host.reduceAdd (mulf x x) (constant S_ .f32 0x00000000#32) reducesTo_S2x256x4x64_S2x256x4_d3 h_S_)) (broadcastInDim S2x256x4x1 ![] bcast_S_S2x256x4x1 (constant S_ .f32 0x42800000#32))) (broadcastInDim S2x256x4x1 ![] bcast_S_S2x256x4x1 (constant S_ .f32 0x358637BD#32)))))) (broadcastInDim S2x256x4x64 ![0, 1, 2, 3] bcast_S1x1x1x64_S2x256x4x64_0_1_2_3 (broadcastInDim S1x1x1x64 ![3] bcast_S64_S1x1x1x64_3 w))

/-- The rows of the keys, and of the values. -/
def termK (x : FVec Ideal S2x256x1024 .f32) (w : FVec Ideal S1024x256 .f32) (g : FVec Ideal S64 .f32) : FVec Ideal S512x256 .f32 :=
  shapeCast S512x256 (normH (heads x w) g) shapeCasts_S2x256x4x64_S512x256
def termV (x : FVec Ideal S2x256x1024 .f32) (w : FVec Ideal S1024x256 .f32) : FVec Ideal S512x256 .f32 :=
  shapeCast S512x256 (heads x w) shapeCasts_S2x256x4x64_S512x256

/-- The products of one row of the memory with the weights. -/
def row (x : FVec Ideal S2x256x1024 .f32) (w : FVec Ideal S1024x256 .f32) (r : Fin 512) (j : Fin 256) : EReal :=
  Cert.Layer.lin (fun k => x (ix3 ⟨r.val / 256, by omega⟩ ⟨r.val % 256, by omega⟩ k)) (fun k l => w (ix2 k l)) j

theorem heads_apply (x : FVec Ideal S2x256x1024 .f32) (w : FVec Ideal S1024x256 .f32) (a : Fin 2) (b : Fin 256) (h : Fin 4) (l : Fin 64) :
    heads x w (ix4 a b h l) = Cert.Layer.lin (fun k => x (ix3 a b k)) (fun k l => w (ix2 k l)) ⟨h.val * 64 + l.val, by omega⟩ := by
  pointwise [heads, Cert.Layer.lin]

theorem normH_apply (x : FVec Ideal S2x256x4x64 .f32) (w : FVec Ideal S64 .f32) (a : Fin 2) (b : Fin 256) (h : Fin 4) (l : Fin 64) :
    normH x w (ix4 a b h l) = Cert.Layer.norm (Ideal.ofBits FTy.f32 1115684864#32) (fun k => x (ix4 a b h k)) (fun k => w (ix1 k)) l := by
  pointwise [normH, Cert.Layer.norm]

theorem cast_apply (x : FVec Ideal S2x256x4x64 .f32) (r : Fin 512) (e : Fin 256) :
    shapeCast S512x256 x shapeCasts_S2x256x4x64_S512x256 (ix2 r e) = x (ix4 ⟨r.val / 256, by omega⟩ ⟨r.val % 256, by omega⟩ ⟨e.val / 64, by omega⟩ ⟨e.val % 64, by omega⟩) := by
  pointwise

theorem termK_apply (x : FVec Ideal S2x256x1024 .f32) (w : FVec Ideal S1024x256 .f32) (g : FVec Ideal S64 .f32) (r : Fin 512) (e : Fin 256) :
    termK x w g (ix2 r e) = Cert.Layer.head64 0 (row x w r) (fun k => g (ix1 k)) e (by decide) (by decide) := by
  unfold termK
  rw [cast_apply, normH_apply]
  refine congrArg (fun f => Cert.Layer.norm _ f _ _) (funext fun k => ?_)
  rw [heads_apply]
  refine congrArg (fun j => row x w r j) (Fin.ext ?_)
  show e.val / 64 * 64 + k.val = 0 + (e.val / 64 * 64 + k.val)
  omega

theorem termV_apply (x : FVec Ideal S2x256x1024 .f32) (w : FVec Ideal S1024x256 .f32) (r : Fin 512) (e : Fin 256) :
    termV x w (ix2 r e) = row x w r e := by
  unfold termV
  rw [cast_apply, heads_apply]
  refine congrArg (fun j => row x w r j) (Fin.ext ?_)
  show e.val / 64 * 64 + e.val % 64 = e.val
  omega

end Cert.MemkvReferenceIdeal.Layer

end
-- ==== Proof.Memkv.Value.lean ====
/- The memory's keys and values: the kernel's arrays are the reference's results. -/
module

public import proofs.«01_k».proof.Proof.Gen.MemkvIdeal.Value
public import proofs.«01_k».proof.Defs
public import proofs.«01_k».proof.Proof.Layer.Finite
public import proofs.«01_k».proof.Proof.Memkv.Ref
public import Idealize.ShloMosaic.Lib.StableHlo.ReadAt
public import Idealize.ShloMosaic.Lib.Pipeline.ValueKit

@[expose] public section

set_option maxRecDepth 16384

noncomputable section

namespace Cert.MemkvIdeal.Layer

open Cert.MemkvIdeal Cert.MemkvIdeal.Gen Idealize.ShloMosaic Idealize.ShloMosaic.TcCoe Idealize.SL.Sem Idealize.ShloMosaic.StableHlo

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin cfg0.N, _)

variable (m : (ℓ : Loc nD τ sig) → Buf (Elt Ideal) ℓ) (c : Dev nD)

/-- The memory, the weights of the keys and of the values, the norm's weights. -/
abbrev argX : FVec Ideal S2x256x1024 .f32 := m ((c.tc : Thread nD τ).loc main_arg0)
abbrev argK : FVec Ideal S1024x256 .f32 := m ((c.tc : Thread nD τ).loc main_arg1)
abbrev argV : FVec Ideal S1024x256 .f32 := m ((c.tc : Thread nD τ).loc main_arg2)
abbrev argG : FVec Ideal S64 .f32 := m ((c.tc : Thread nD τ).loc main_arg3)

theorem V_x (a : Fin 512) (k : Fin 1024) : V m c main_v0 (ix2 a k : S512x1024.Idx) = argX m c (ix3 ⟨a.val / 256, by omega⟩ ⟨a.val % 256, by omega⟩ k) := by
  entry_read
  pointwise

theorem V_g (k : Fin 256) : V m c main_v6 (ix2 0 k : S1x256.Idx) = argG m c (ix1 ⟨k.val % 64, by omega⟩) := by
  entry_read
  pointwise

theorem V_b (a k : Fin 256) : V m c main_v15 (ix2 a k : S256x256.Idx) = Cert.Layer.ones64 a k := by
  entry_read
  refine Eq.trans ?_ (Cert.Layer.ones_bit a.val k.val (by omega) (by omega))
  pointwise

theorem x_blk (t : Fin cfg0.N) (a : Fin 512) (k : Fin 1024) : iblk m c 0 t (ix2 a k : S512x1024.Idx)
    = argX m c (ix3 ⟨a.val / 256, by omega⟩ ⟨a.val % 256, by omega⟩ k) := by
  have h : iblk m c 0 t (ix2 a k : S512x1024.Idx) = V m c main_v0 (ix2 a k) := by
    blk_ext [iblk, idx t]
  rw [h, V_x]

theorem k_blk (t : Fin cfg0.N) (k : Fin 1024) (j : Fin 256) : iblk m c 1 t (ix2 k j : S1024x256.Idx) = argK m c (ix2 k j) := by
  blk_point [iblk, V, idx t]

theorem v_blk (t : Fin cfg0.N) (k : Fin 1024) (j : Fin 256) : iblk m c 2 t (ix2 k j : S1024x256.Idx) = argV m c (ix2 k j) := by
  blk_point [iblk, V, idx t]

theorem b_blk (t : Fin cfg0.N) (a k : Fin 256) : iblk m c 3 t (ix2 a k : S256x256.Idx) = Cert.Layer.ones64 a k := by
  have h : iblk m c 3 t (ix2 a k : S256x256.Idx) = V m c main_v15 (ix2 a k) := by
    blk_ext [iblk, idx t]
  rw [h, V_b]

theorem g_blk (t : Fin cfg0.N) (k : Fin 256) : iblk m c 4 t (ix2 0 k : S1x256.Idx) = argG m c (ix1 ⟨k.val % 64, by omega⟩) := by
  have h : iblk m c 4 t (ix2 0 k : S1x256.Idx) = V m c main_v6 (ix2 0 k) := by
    blk_ext [iblk, idx t]
  rw [h, V_g]

theorem keys (x : FVec Ideal S512x1024 .f32) (w : FVec Ideal S1024x256 .bf16) (b : FVec Ideal S256x256 .bf16) (g : FVec Ideal S1x256 .f32) (r : Fin 512) (e : Fin 256) :
    k0_pay2 (F := Ideal) x w b g (ix2 r e)
      = Cert.Layer.split64 (fun j => Cert.Layer.lin (fun k => x (ix2 r k)) (fun k l => w (ix2 k l)) j) (fun j => g (ix2 0 j)) (fun l j => b (ix2 l j)) e := by
  pointwise [k0_pay2, k0_pay1, Cert.Layer.split64, Cert.Layer.lin]

theorem values (x : FVec Ideal S512x1024 .f32) (w : FVec Ideal S1024x256 .bf16) (r : Fin 512) (e : Fin 256) :
    k0_pay3 (F := Ideal) x w (ix2 r e) = Cert.Layer.lin (fun k => x (ix2 r k)) (fun k l => w (ix2 k l)) e := by
  pointwise [k0_pay3, k0_pay1, Cert.Layer.lin]

theorem keys_out (x : Vec Ideal S512x1024 .f32) (w v : Vec Ideal S1024x256 .bf16) (b : Vec Ideal S256x256 .bf16) (g : Vec Ideal S1x256 .f32) :
    out0_5 (F := Ideal) x w v b g = k0_pay2 (F := Ideal) x w b g := by
  unfold out0_5
  frame_out

theorem values_out (x : Vec Ideal S512x1024 .f32) (w v : Vec Ideal S1024x256 .bf16) (b : Vec Ideal S256x256 .bf16) (g : Vec Ideal S1x256 .f32) :
    out0_6 (F := Ideal) x w v b g = k0_pay3 (F := Ideal) x v := by
  unfold out0_6
  frame_out

/-- Finite memory and weights make every product finite. -/
theorem row_real (hx : ∀ i, Cert.Layer.IsReal (argX m c i)) (hw : ∀ i, Cert.Layer.IsReal (argK m c i)) (r : Fin 512) (j : Fin 256) :
    Cert.Layer.IsReal (Cert.MemkvReferenceIdeal.Layer.row (argX m c) (argK m c) r j) :=
  Cert.Layer.IsReal.lin _ _ (fun k => hx _) (fun k l => hw _) j

theorem pointK (hx : ∀ i, Cert.Layer.IsReal (argX m c i)) (hw : ∀ i, Cert.Layer.IsReal (argK m c i)) (t : Fin cfg0.N) (a : Fin 512) (e : Fin 256) :
    k0_pay2 (F := Ideal) (iblk m c 0 t) (iblk m c 1 t) (iblk m c 3 t) (iblk m c 4 t) (ix2 a e)
      = Cert.MemkvReferenceIdeal.Layer.termK (argX m c) (argK m c) (argG m c) (ix2 a e) := by
  refine (keys (iblk m c 0 t) (iblk m c 1 t) (iblk m c 3 t) (iblk m c 4 t) a e).trans ?_
  rw [Cert.MemkvReferenceIdeal.Layer.termK_apply, ← Cert.Layer.split64_eq 0 _ _ e _ _ (row_real m c hx hw a)]
  have h0 := funext fun k => x_blk m c t a k
  have h1 := funext fun k => funext fun l => k_blk m c t k l
  have h2 := funext fun k => g_blk m c t k
  have h3 := funext fun k => funext fun l => b_blk m c t k l
  rw [h0, h1, h2, h3]
  refine congrArg (fun f => Cert.Layer.split64 f _ _ e) (funext fun j => ?_)
  exact congrArg (Cert.MemkvReferenceIdeal.Layer.row (argX m c) (argK m c) a) (Fin.ext (by show j.val = 0 + j.val; omega))

theorem pointV (t : Fin cfg0.N) (a : Fin 512) (e : Fin 256) :
    k0_pay3 (F := Ideal) (iblk m c 0 t) (iblk m c 2 t) (ix2 a e)
      = Cert.MemkvReferenceIdeal.Layer.termV (argX m c) (argV m c) (ix2 a e) := by
  refine (values (iblk m c 0 t) (iblk m c 2 t) a e).trans ?_
  rw [Cert.MemkvReferenceIdeal.Layer.termV_apply]
  have h0 := funext fun k => x_blk m c t a k
  have h1 := funext fun k => funext fun l => v_blk m c t k l
  rw [h0, h1]
  rfl

/-- The kernel's keys. -/
theorem finalK (hx : ∀ i, Cert.Layer.IsReal (argX m c i)) (hw : ∀ i, Cert.Layer.IsReal (argK m c i)) :
    (dats m 0 c).arrAt 5 (cfgs 0).N = Cert.MemkvReferenceIdeal.Layer.termK (argX m c) (argK m c) (argG m c) := by
  refine (dats m 0 c).arrAt_eq_of_covers 5 _ (by decide +kernel) fun t hf y => ?_
  blk_simp
  rw [after0_5]
  idx_vars y
  refine (congrFun (keys_out (iblk m c 0 t) (iblk m c 1 t) (iblk m c 2 t) (iblk m c 3 t) (iblk m c 4 t)) (ix2 y0 y1)).trans ?_
  refine (pointK m c hx hw t y0 y1).trans (congrArg (Cert.MemkvReferenceIdeal.Layer.termK _ _ _) ?_)
  blk_ext [idx t]

/-- The kernel's values. -/
theorem finalV : (dats m 0 c).arrAt 6 (cfgs 0).N = Cert.MemkvReferenceIdeal.Layer.termV (argX m c) (argV m c) := by
  refine (dats m 0 c).arrAt_eq_of_covers 6 _ (by decide +kernel) fun t hf y => ?_
  blk_simp
  rw [after0_6]
  idx_vars y
  refine (congrFun (values_out (iblk m c 0 t) (iblk m c 1 t) (iblk m c 2 t) (iblk m c 3 t) (iblk m c 4 t)) (ix2 y0 y1)).trans ?_
  refine (pointV m c t y0 y1).trans (congrArg (Cert.MemkvReferenceIdeal.Layer.termV _ _) ?_)
  blk_ext [idx t]

/-- What the precondition says. -/
theorem pre_real [Cert.Pre_finite_memkv.Facts] (h : Cert.Pre_MemkvIdeal_finite_memkv m) :
    (∀ i, Cert.Layer.IsReal (argX m c i)) ∧ ∀ i, Cert.Layer.IsReal (argK m c i) :=
  ⟨fun i => Cert.Layer.real_of_finite _ (congrFun (h c).1 i), fun i => Cert.Layer.real_of_finite _ (congrFun (h c).2 i)⟩

end Cert.MemkvIdeal.Layer

end
-- ==== Proof.Memattn.Soft.lean ====
/- Attention of one query row to the memory, on the extended reals: the weights are the exponentials of the scores less the
   greatest score, over their sum. -/
module

public import proofs.«01_k».proof.Proof.Layer.Headnorm
public import proofs.«01_k».proof.Proof.Swa.Words

@[expose] public section

noncomputable section

namespace Cert.Memattn

open Idealize.ShloMosaic

/-- The greatest score. -/
def top {n : ℕ} (s : Fin n → EReal) : EReal :=
  Finset.fold max (Ideal.ofBits FTy.f32 4286578688#32) s Finset.univ

/-- The values under the weights of the scores. -/
def soft {n : ℕ} (s v : Fin n → EReal) : EReal :=
  ∑ x, Ideal.div (Ideal.exp (s x - top s)) (∑ y, Ideal.exp (s y - top s)) * v x

/-- Column `e` of the attention of four heads of 64 columns: `q` the row of queries, already scaled, `k` and `v` the rows
    of keys and values. -/
def heads4 (q : Fin 256 → EReal) (k v : Fin 256 → Fin 256 → EReal) (e : Fin 256) : EReal :=
  soft (fun j => ∑ d : Fin 64, q ⟨e.val / 64 * 64 + d.val, by omega⟩ * k j ⟨e.val / 64 * 64 + d.val, by omega⟩) (fun j => v j e)

/-- A maximum with the least number changes nothing. -/
theorem max_low (x : EReal) : max (Ideal.ofBits FTy.f32 4286578688#32) x = x := by
  rw [Cert.Swa.lit_low]
  exact max_eq_right bot_le

/-- The scale may be taken out of a score. -/
theorem score_scale {n : ℕ} (f g : Fin n → EReal) :
    ∑ d, f d * Ideal.ofBits FTy.f32 1040187392#32 * g d = (∑ d, f d * g d) * Ideal.ofBits FTy.f32 1040187392#32 := by
  rw [Cert.Swa.lit_eighth, Cert.Swa.sum_scale _ _ _ (by norm_num)]
  exact congrArg (· * _) (Finset.sum_congr rfl fun d _ => mul_comm _ _)

end Cert.Memattn

end
-- ==== Proof.Memattn.Block.lean ====
/- What one grid point of the memory attention's kernel leaves in its output block: the rows of the stream plus the product
   of four heads side by side with the output's weights. -/
module

public import proofs.«01_k».proof.Proof.Gen.MemattnIdeal.Value
public import proofs.«01_k».proof.Proof.Memattn.Soft
public import Idealize.ShloMosaic.Lib.Pipeline.ValueKit
public import Idealize.ShloMosaic.Lib.Pointwise

@[expose] public section

set_option maxRecDepth 16384

noncomputable section

namespace Cert.MemattnIdeal.Layer

open Cert.MemattnIdeal Cert.MemattnIdeal.Gen Idealize.ShloMosaic Idealize.ShloMosaic.TcCoe Idealize.SL.Sem

/-- One head: scores, softmax, times the values. -/
def headOut (q : FVec Ideal S512x64 .bf16) (kb vb : FVec Ideal S256x64 .bf16) : FVec Ideal S512x64 .f32 :=
  let s : FVec Ideal S512x256 .f32 := matmul dot_S512x64_S256x64_S512x256_1_1_0_0_n_n none q kb (constant S512x256 .f32 0x00000000#32)
  let mx : FVec Ideal S512x1 .f32 := shapeCast S512x1 (multiReduction .maximumf [1] S512 s 0xFF800000#32 reduces_S512x256_S512 (.inl rfl) rfl) shapeCasts_S512_S512x1
  let p : FVec Ideal S512x256 .f32 := exp (subf s (broadcastTo S512x256 mx broadcasts_S512x1_S512x256))
  let den : FVec Ideal S512x1 .f32 := shapeCast S512x1 (multiReduction .add [1] S512 p 0x00000000#32 reduces_S512x256_S512 (.inl rfl) rfl) shapeCasts_S512_S512x1
  matmul dot_S512x256_S256x64_S512x64_1_0_0_1_n_n none
    (truncf .bf16 (divf p (broadcastTo S512x256 den broadcasts_S512x1_S512x256)) bitsLt_bf16_f32) vb
    (constant S512x64 .f32 0x00000000#32)

theorem headOut_apply (q : FVec Ideal S512x64 .bf16) (kb vb : FVec Ideal S256x64 .bf16) (a : Fin 512) (d : Fin 64) :
    headOut q kb vb (ix2 a d) = Cert.Memattn.soft (fun j : Fin 256 => ∑ k : Fin 64, q (ix2 a k) * kb (ix2 j k)) (fun j => vb (ix2 j d)) := by
  pointwise [headOut]
  rfl

/-- Four blocks of 64 columns side by side. -/
def cat4 (f : Fin 4 → FVec Ideal S512x64 .f32) : FVec Ideal S512x256 .f32 :=
  concatenate S512x256 1 [⟨S512x64, f 0⟩, ⟨S512x64, f 1⟩, ⟨S512x64, f 2⟩, ⟨S512x64, f 3⟩] concatenates_S512x64_S512x64_S512x64_S512x64_S512x256_d1

theorem cat4_apply (f : Fin 4 → FVec Ideal S512x64 .f32) (a : Fin 512) (hh : Fin 4) (d : Fin 64) :
    cat4 f (ix2 a ⟨64 * hh.val + d.val, by omega⟩) = f hh (ix2 a d) := by
  match hh with
  | 0 | 1 | 2 | 3 =>
    pointwise [cat4]
    all_goals repeat rw [dif_neg (by omega)]
    all_goals first
      | rw [dif_pos (by omega)]; exact congrArg (f _) (congrArg (ix2 a) (Fin.ext (by simp only []; omega)))
      | exact congrArg (f _) (congrArg (ix2 a) (Fin.ext (by simp only []; omega)))

/-- The body's four heads. -/
theorem heads_eq (q : FVec Ideal S512x256 .f32) (mk mv : FVec Ideal S1x256x256 .f32) :
    k0_pay9 (F := Ideal) (k0_pay4 q) (k0_pay5 mk) (k0_pay6 mv) (k0_pay7 q mk mv) (k0_pay8 q mk)
      = shapeCast S512x256 (cat4 ![
          headOut (extractStridedSlice S512x64 ![0, 0] (k0_pay4 q) slices_S512x256_o0_0_S512x64) (extractStridedSlice S256x64 ![0, 0] (k0_pay5 mk) slices_S256x256_o0_0_S256x64) (extractStridedSlice S256x64 ![0, 0] (k0_pay6 mv) slices_S256x256_o0_0_S256x64),
          headOut (extractStridedSlice S512x64 ![0, 64] (k0_pay4 q) slices_S512x256_o0_64_S512x64) (extractStridedSlice S256x64 ![0, 64] (k0_pay5 mk) slices_S256x256_o0_64_S256x64) (extractStridedSlice S256x64 ![0, 64] (k0_pay6 mv) slices_S256x256_o0_64_S256x64),
          headOut (extractStridedSlice S512x64 ![0, 128] (k0_pay4 q) slices_S512x256_o0_128_S512x64) (extractStridedSlice S256x64 ![0, 128] (k0_pay5 mk) slices_S256x256_o0_128_S256x64) (extractStridedSlice S256x64 ![0, 128] (k0_pay6 mv) slices_S256x256_o0_128_S256x64),
          headOut (extractStridedSlice S512x64 ![0, 192] (k0_pay4 q) slices_S512x256_o0_192_S512x64) (extractStridedSlice S256x64 ![0, 192] (k0_pay5 mk) slices_S256x256_o0_192_S256x64) (extractStridedSlice S256x64 ![0, 192] (k0_pay6 mv) slices_S256x256_o0_192_S256x64)]) shapeCasts_S512x256_S512x256 := rfl

theorem cast_self (y : FVec Ideal S512x256 .f32) (a : Fin 512) (e : Fin 256) : shapeCast S512x256 y shapeCasts_S512x256_S512x256 (ix2 a e) = y (ix2 a e) := by
  pointwise

theorem heads_at (q : FVec Ideal S512x256 .f32) (mk mv : FVec Ideal S1x256x256 .f32) (a : Fin 512) (hh : Fin 4) (d : Fin 64) :
    k0_pay9 (F := Ideal) (k0_pay4 q) (k0_pay5 mk) (k0_pay6 mv) (k0_pay7 q mk mv) (k0_pay8 q mk) (ix2 a ⟨64 * hh.val + d.val, by omega⟩)
      = Cert.Memattn.soft (fun j : Fin 256 => ∑ k : Fin 64, q (ix2 a ⟨64 * hh.val + k.val, by omega⟩) * mk (ix3 0 j ⟨64 * hh.val + k.val, by omega⟩))
          (fun j => mv (ix3 0 j ⟨64 * hh.val + d.val, by omega⟩)) := by
  rw [heads_eq, cast_self]
  refine (cat4_apply _ a hh d).trans ?_
  match hh with
  | 0 | 1 | 2 | 3 =>
    refine (headOut_apply _ _ _ a d).trans ?_
    unfold Cert.Memattn.soft Cert.Memattn.top
    pointwise [k0_pay4, k0_pay5, k0_pay6]

theorem heads_apply (q : FVec Ideal S512x256 .f32) (mk mv : FVec Ideal S1x256x256 .f32) (a : Fin 512) (e : Fin 256) :
    k0_pay9 (F := Ideal) (k0_pay4 q) (k0_pay5 mk) (k0_pay6 mv) (k0_pay7 q mk mv) (k0_pay8 q mk) (ix2 a e)
      = Cert.Memattn.heads4 (fun k => q (ix2 a k)) (fun j k => mk (ix3 0 j k)) (fun j k => mv (ix3 0 j k)) e := by
  have he : e = ⟨64 * (e.val / 64) + e.val % 64, by omega⟩ := Fin.ext (by show e.val = 64 * (e.val / 64) + e.val % 64; omega)
  have h := heads_at q mk mv a ⟨e.val / 64, by omega⟩ ⟨e.val % 64, by omega⟩
  simp only [← he] at h
  rw [h]
  unfold Cert.Memattn.heads4
  refine congrArg (fun s => Cert.Memattn.soft s _) (funext fun j => Finset.sum_congr rfl fun k _ => ?_)
  have hk : (⟨64 * (e.val / 64) + k.val, by omega⟩ : Fin 256) = ⟨e.val / 64 * 64 + k.val, by omega⟩ := Fin.ext (by show 64 * (e.val / 64) + k.val = e.val / 64 * 64 + k.val; omega)
  rw [hk]

/-- The scaled queries. -/
def qs (x : FVec Ideal S512x1024 .f32) (g : FVec Ideal S1x1024 .f32) (wq : FVec Ideal S1024x256 .bf16) (bd : FVec Ideal S256x256 .bf16) (qw : FVec Ideal S1x256 .f32) : FVec Ideal S512x256 .f32 :=
  k0_pay3 (F := Ideal) (k0_pay2 x g wq bd qw) (Scalar.ofBits .f32 0x3E000000#32)

theorem qs_apply (x : FVec Ideal S512x1024 .f32) (g : FVec Ideal S1x1024 .f32) (wq : FVec Ideal S1024x256 .bf16) (bd : FVec Ideal S256x256 .bf16) (qw : FVec Ideal S1x256 .f32) (a : Fin 512) (e : Fin 256) :
    qs x g wq bd qw (ix2 a e) = Cert.Layer.split64 (fun j => Cert.Layer.lin (Cert.Layer.norm (Ideal.ofBits FTy.f32 1149239296#32) (fun k => x (ix2 a k)) (fun k => g (ix2 0 k))) (fun k l => wq (ix2 k l)) j)
        (fun j => qw (ix2 0 j)) (fun l j => bd (ix2 l j)) e * Ideal.ofBits FTy.f32 1040187392#32 := by
  pointwise [qs, k0_pay3, k0_pay2, k0_pay1, Cert.Layer.split64, Cert.Layer.lin, Cert.Layer.norm]

/-- The stored block. -/
theorem close_apply (x : FVec Ideal S512x1024 .f32) (y : FVec Ideal S512x256 .f32) (w : FVec Ideal S256x1024 .bf16) (a : Fin 512) (e : Fin 1024) :
    k0_pay10 (F := Ideal) (k0_pay1 x) y w (ix2 a e) = x (ix2 a e) + ∑ k : Fin 256, y (ix2 a k) * w (ix2 k e) := by
  pointwise [k0_pay10, k0_pay1]

/-- Row `a`, column `e` of the output block, from the eight input blocks. -/
def outVal (x : FVec Ideal S512x1024 .f32) (g : FVec Ideal S1x1024 .f32) (wq : FVec Ideal S1024x256 .bf16) (wo : FVec Ideal S256x1024 .bf16) (bd : FVec Ideal S256x256 .bf16) (qw : FVec Ideal S1x256 .f32)
    (mk mv : FVec Ideal S1x256x256 .f32) (a : Fin 512) (e : Fin 1024) : EReal :=
  x (ix2 a e) + ∑ k : Fin 256, Cert.Memattn.heads4 (fun k => qs x g wq bd qw (ix2 a k)) (fun j k => mk (ix3 0 j k)) (fun j k => mv (ix3 0 j k)) k * wo (ix2 k e)

theorem body_apply (x : FVec Ideal S512x1024 .f32) (g : FVec Ideal S1x1024 .f32) (wq : FVec Ideal S1024x256 .bf16) (wo : FVec Ideal S256x1024 .bf16) (bd : FVec Ideal S256x256 .bf16) (qw : FVec Ideal S1x256 .f32)
    (mk mv : FVec Ideal S1x256x256 .f32) (a : Fin 512) (e : Fin 1024) :
    k0_pay10 (F := Ideal) (k0_pay1 x) (k0_pay9 (F := Ideal) (k0_pay4 (qs x g wq bd qw)) (k0_pay5 mk) (k0_pay6 mv) (k0_pay7 (qs x g wq bd qw) mk mv) (k0_pay8 (qs x g wq bd qw) mk)) wo (ix2 a e)
      = outVal x g wq wo bd qw mk mv a e := by
  rw [close_apply]
  unfold outVal
  refine congrArg (x (ix2 a e) + ·) (Finset.sum_congr rfl fun k _ => congrArg (· * wo (ix2 k e)) ?_)
  exact heads_apply _ _ _ a k

variable (m : (ℓ : Loc nD τ sig) → Buf (Elt Ideal) ℓ)

/-- What point `t` leaves at row `a` and column `e` of its output block. -/
theorem outs_apply (c : Dev nD) (t : Fin cfg0.N) (a : Fin 512) (e : Fin 1024) :
    outsAt0 m c t (ix2 a e : S512x1024.Idx)
      = outVal (iblk m c 0 t) (iblk m c 1 t) (iblk m c 2 t) (iblk m c 3 t) (iblk m c 4 t) (iblk m c 5 t) (iblk m c 6 t) (iblk m c 7 t) a e := by
  unfold outsAt0
  frame_out
  exact body_apply (iblk m c 0 t) (iblk m c 1 t) (iblk m c 2 t) (iblk m c 3 t) (iblk m c 4 t) (iblk m c 5 t) (iblk m c 6 t) (iblk m c 7 t) a e

end Cert.MemattnIdeal.Layer

end
-- ==== Proof.Memattn.Ref.lean ====
/- The reference of the attention to the memory, cut into its steps, and each step read at an index. -/
module

public import proofs.«01_k».proof.Proof.Gen.MemattnReferenceIdeal.Run
public import proofs.«01_k».proof.Proof.Memattn.Soft
public import Idealize.ShloMosaic.Lib.StableHlo.ReadAt
public import Idealize.ShloMosaic.Lib.Pointwise

@[expose] public section

set_option maxRecDepth 16384

noncomputable section

namespace Cert.MemattnReferenceIdeal.Layer

open Cert.MemattnReferenceIdeal Cert.MemattnReferenceIdeal.Gen Idealize.ShloMosaic Idealize.ShloMosaic.TcCoe Idealize.SL.Sem Idealize.ShloMosaic.StableHlo

/-- The norm of the stream. -/
def normX (x : FVec Ideal S2x8192x1024 .f32) (w : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))

/-- The heads of the product with the weights. -/
def heads (x : FVec Ideal S2x8192x1024 .f32) (w : FVec Ideal S1024x256 .f32) : FVec Ideal S2x8192x4x64 .f32 :=
  shapeCast S2x8192x4x64 (Host.dotGeneral dot_S2x8192x1024_S1024x256_S2x8192x256_2_0_01_1_n_n none x w) shapeCasts_S2x8192x256_S2x8192x4x64

/-- The norm of the heads. -/
def normH (x : FVec Ideal S2x8192x4x64 .f32) (w : FVec Ideal S64 .f32) : FVec Ideal S2x8192x4x64 .f32 :=
  mulf (mulf x (broadcastInDim S2x8192x4x64 ![0, 1, 2, 3] bcast_S2x8192x4x1_S2x8192x4x64_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x64_S2x8192x4_d3 h_S_)) (broadcastInDim S2x8192x4x1 ![] bcast_S_S2x8192x4x1 (constant S_ .f32 0x42800000#32))) (broadcastInDim S2x8192x4x1 ![] bcast_S_S2x8192x4x1 (constant S_ .f32 0x358637BD#32)))))) (broadcastInDim S2x8192x4x64 ![0, 1, 2, 3] bcast_S1x1x1x64_S2x8192x4x64_0_1_2_3 (broadcastInDim S1x1x1x64 ![3] bcast_S64_S1x1x1x64_3 w))

/-- The scores of the queries against the keys of the memory. -/
def scores (q : FVec Ideal S2x8192x4x64 .f32) (k : FVec Ideal S2x256x4x64 .f32) : FVec Ideal S2x4x8192x256 .f32 :=
  mulf (Host.dotGeneral dot_S2x8192x4x64_S2x256x4x64_S2x4x8192x256_3_3_1_1_02_02 none q k) (broadcastInDim S2x4x8192x256 ![] bcast_S_S2x4x8192x256 (constant S_ .f32 0x3E000000#32))

/-- The greatest score of a row, and the sum of a row. -/
def redMax (s : FVec Ideal S2x4x8192x256 .f32) : FVec Ideal S2x4x8192 .f32 :=
  Host.reduce FloatOps.maximumf s (constant S_ .f32 0xFF800000#32) reducesTo_S2x4x8192x256_S2x4x8192_d3 h_S_
def redSum (s : FVec Ideal S2x4x8192x256 .f32) : FVec Ideal S2x4x8192 .f32 :=
  Host.reduceAdd s (constant S_ .f32 0x00000000#32) reducesTo_S2x4x8192x256_S2x4x8192_d3 h_S_

/-- The exponentials of the scores less the greatest, `t` the greatest scores. -/
def expsOf (s : FVec Ideal S2x4x8192x256 .f32) (t : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) t))))
def exps (s : FVec Ideal S2x4x8192x256 .f32) : FVec Ideal S2x4x8192x256 .f32 := expsOf s (redMax s)

/-- The weights, `t` the sums of the exponentials. -/
def weightsOf (p : FVec Ideal S2x4x8192x256 .f32) (t : FVec Ideal S2x4x8192 .f32) : FVec Ideal S2x4x8192x256 .f32 :=
  Host.divf p (broadcastInDim S2x4x8192x256 ![0, 1, 2, 3] bcast_S2x4x8192x1_S2x4x8192x256_0_1_2_3 (broadcastInDim S2x4x8192x1 ![0, 1, 2] bcast_S2x4x8192_S2x4x8192x1_0_1_2 t))
def weights (p : FVec Ideal S2x4x8192x256 .f32) : FVec Ideal S2x4x8192x256 .f32 := weightsOf p (redSum p)

/-- The values under the weights, the heads side by side. -/
def mix (v : FVec Ideal S2x256x4x64 .f32) (w : FVec Ideal S2x4x8192x256 .f32) : FVec Ideal S2x8192x256 .f32 :=
  shapeCast S2x8192x256 (transpose S2x8192x4x64 [0, 3, 1, 2] (Host.dotGeneral dot_S2x256x4x64_S2x4x8192x256_S2x4x64x8192_1_3_3_2_02_01 none v w) transposes_S2x4x64x8192_S2x8192x4x64_0_3_1_2) shapeCasts_S2x8192x4x64_S2x8192x256

/-- The rows of the prompt's stream plus the product with the output's weights, over the rows of the sample's stream. -/
def close (x : FVec Ideal S2x8192x1024 .f32) (xs : FVec Ideal S128x8x1024 .f32) (a : FVec Ideal S2x8192x256 .f32) (w : FVec Ideal S256x1024 .f32) : FVec Ideal S17408x1024 .f32 :=
  concatenate S17408x1024 0 [⟨S16384x1024, shapeCast S16384x1024 (addf x (Host.dotGeneral dot_S2x8192x256_S256x1024_S2x8192x1024_2_0_01_1_n_n none a w)) shapeCasts_S2x8192x1024_S16384x1024⟩, ⟨S1024x1024, shapeCast S1024x1024 xs shapeCasts_S128x8x1024_S1024x1024⟩] concatenates_S16384x1024_S1024x1024_S17408x1024_d0

/-- The reference's result. -/
def refTerm (x : FVec Ideal S2x8192x1024 .f32) (xs : FVec Ideal S128x8x1024 .f32) (mk mv : FVec Ideal S2x256x4x64 .f32) (g : FVec Ideal S1024 .f32)
    (wq : FVec Ideal S1024x256 .f32) (wo : FVec Ideal S256x1024 .f32) (qn : FVec Ideal S64 .f32) : FVec Ideal S17408x1024 .f32 :=
  close x xs (mix mv (weights (exps (scores (normH (heads (normX x g) wq) qn) mk)))) wo

theorem res_eq (m : (ℓ : Loc nD τ sig) → Buf (Elt Ideal) ℓ) (c : Dev nD) :
    Cert.MemattnReferenceIdeal.Value.res_main_v49 m c
      = refTerm (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := rfl

theorem normX_apply (x : FVec Ideal S2x8192x1024 .f32) (w : FVec Ideal S1024 .f32) (a : Fin 2) (b : Fin 8192) (k : Fin 1024) :
    normX x w (ix3 a b k) = Cert.Layer.norm (Ideal.ofBits FTy.f32 1149239296#32) (fun k => x (ix3 a b k)) (fun k => w (ix1 k)) k := by
  pointwise [normX, Cert.Layer.norm]

theorem heads_apply (x : FVec Ideal S2x8192x1024 .f32) (w : FVec Ideal S1024x256 .f32) (a : Fin 2) (b : Fin 8192) (h : Fin 4) (l : Fin 64) :
    heads x w (ix4 a b h l) = Cert.Layer.lin (fun k => x (ix3 a b k)) (fun k l => w (ix2 k l)) ⟨h.val * 64 + l.val, by omega⟩ := by
  pointwise [heads, Cert.Layer.lin]

theorem normH_apply (x : FVec Ideal S2x8192x4x64 .f32) (w : FVec Ideal S64 .f32) (a : Fin 2) (b : Fin 8192) (h : Fin 4) (l : Fin 64) :
    normH x w (ix4 a b h l) = Cert.Layer.norm (Ideal.ofBits FTy.f32 1115684864#32) (fun k => x (ix4 a b h k)) (fun k => w (ix1 k)) l := by
  pointwise [normH, Cert.Layer.norm]

theorem scores_apply (q : FVec Ideal S2x8192x4x64 .f32) (k : FVec Ideal S2x256x4x64 .f32) (b : Fin 2) (h : Fin 4) (l : Fin 8192) (j : Fin 256) :
    scores q k (ix4 b h l j) = (∑ d : Fin 64, q (ix4 b l h d) * k (ix4 b j h d)) * Ideal.ofBits FTy.f32 1040187392#32 := by
  pointwise [scores]

theorem red : S2x4x8192x256.Reduces [3] S2x4x8192 := by decide

theorem lift_eq (b : Fin 2) (h : Fin 4) (l : Fin 8192) (k : Fin 256) : red.lift (ix3 b h l) k = ix4 b h l k := by
  funext c
  apply Fin.ext
  fin_cases c <;> rfl

theorem redMax_apply (s : FVec Ideal S2x4x8192x256 .f32) (b : Fin 2) (h : Fin 4) (l : Fin 8192) :
    redMax s (ix3 b h l) = Cert.Memattn.top (fun k : Fin 256 => s (ix4 b h l k)) := by
  unfold redMax
  rw [Host.reduce_eq_fold_single _ _ _ _ red]
  have : (s ∘ red.lift (ix3 b h l)) = fun k : Fin 256 => s (ix4 b h l k) := funext fun k => congrArg s (lift_eq b h l k)
  rw [this]
  rfl

theorem redSum_apply (s : FVec Ideal S2x4x8192x256 .f32) (b : Fin 2) (h : Fin 4) (l : Fin 8192) :
    redSum s (ix3 b h l) = ∑ k : Fin 256, s (ix4 b h l k) := by
  refine (Ideal.hostReduceAdd_single _ red _ _ _).trans ?_
  refine Eq.trans (congrArg₂ (· + ·) (Ideal.ofBits_zero (φ := .f32)) (Finset.sum_congr rfl fun k _ => congrArg s (lift_eq b h l k))) (zero_add _)

theorem expsOf_apply (s : FVec Ideal S2x4x8192x256 .f32) (t : FVec Ideal S2x4x8192 .f32) (b : Fin 2) (h : Fin 4) (l : Fin 8192) (j : Fin 256) :
    expsOf s t (ix4 b h l j) = Ideal.exp (s (ix4 b h l j) - max (Ideal.ofBits FTy.f32 4286578688#32) (t (ix3 b h l))) := by
  pointwise [expsOf]

theorem exps_apply (s : FVec Ideal S2x4x8192x256 .f32) (b : Fin 2) (h : Fin 4) (l : Fin 8192) (j : Fin 256) :
    exps s (ix4 b h l j) = Ideal.exp (s (ix4 b h l j) - Cert.Memattn.top (fun k : Fin 256 => s (ix4 b h l k))) := by
  unfold exps
  rw [expsOf_apply, Cert.Memattn.max_low, redMax_apply]

theorem weightsOf_apply (p : FVec Ideal S2x4x8192x256 .f32) (t : FVec Ideal S2x4x8192 .f32) (b : Fin 2) (h : Fin 4) (l : Fin 8192) (j : Fin 256) :
    weightsOf p t (ix4 b h l j) = Ideal.div (p (ix4 b h l j)) (t (ix3 b h l)) := by
  pointwise [weightsOf]

theorem weights_apply (p : FVec Ideal S2x4x8192x256 .f32) (b : Fin 2) (h : Fin 4) (l : Fin 8192) (j : Fin 256) :
    weights p (ix4 b h l j) = Ideal.div (p (ix4 b h l j)) (∑ k : Fin 256, p (ix4 b h l k)) := by
  unfold weights
  rw [weightsOf_apply, redSum_apply]

theorem mix_apply (v : FVec Ideal S2x256x4x64 .f32) (w : FVec Ideal S2x4x8192x256 .f32) (b : Fin 2) (l : Fin 8192) (e : Fin 256) :
    mix v w (ix3 b l e) = ∑ j : Fin 256, v (ix4 b j ⟨e.val / 64, by omega⟩ ⟨e.val % 64, by omega⟩) * w (ix4 b ⟨e.val / 64, by omega⟩ l j) := by
  pointwise [mix]

theorem close_apply (x : FVec Ideal S2x8192x1024 .f32) (xs : FVec Ideal S128x8x1024 .f32) (a : FVec Ideal S2x8192x256 .f32) (w : FVec Ideal S256x1024 .f32) (r : Fin 17408) (e : Fin 1024) :
    close x xs a w (ix2 r e) = if h : r.val < 16384
      then x (ix3 ⟨r.val / 8192, by omega⟩ ⟨r.val % 8192, by omega⟩ e) + ∑ k : Fin 256, a (ix3 ⟨r.val / 8192, by omega⟩ ⟨r.val % 8192, by omega⟩ k) * w (ix2 k e)
      else xs (ix3 ⟨(r.val - 16384) / 8, by omega⟩ ⟨(r.val - 16384) % 8, by omega⟩ e) := by
  pointwise [close]

/-- The products of one row of the stream with the queries' weights. -/
def row (x : FVec Ideal S2x8192x1024 .f32) (g : FVec Ideal S1024 .f32) (wq : FVec Ideal S1024x256 .f32) (b : Fin 2) (l : Fin 8192) (j : Fin 256) : EReal :=
  Cert.Layer.lin (Cert.Layer.norm (Ideal.ofBits FTy.f32 1149239296#32) (fun k => x (ix3 b l k)) (fun k => g (ix1 k))) (fun k l => wq (ix2 k l)) j

/-- The queries of one row, scaled. -/
def query (x : FVec Ideal S2x8192x1024 .f32) (g : FVec Ideal S1024 .f32) (wq : FVec Ideal S1024x256 .f32) (qn : FVec Ideal S64 .f32) (b : Fin 2) (l : Fin 8192) (e : Fin 256) : EReal :=
  Cert.Layer.head64 0 (row x g wq b l) (fun k => qn (ix1 k)) e (by decide) (by decide) * Ideal.ofBits FTy.f32 1040187392#32

theorem queries (x : FVec Ideal S2x8192x1024 .f32) (g : FVec Ideal S1024 .f32) (wq : FVec Ideal S1024x256 .f32) (qn : FVec Ideal S64 .f32) (b : Fin 2) (l : Fin 8192) (e : Fin 256) (d : Fin 64) :
    normH (heads (normX x g) wq) qn (ix4 b l ⟨e.val / 64, by omega⟩ d)
      = Cert.Layer.head64 0 (row x g wq b l) (fun k => qn (ix1 k)) (⟨e.val / 64 * 64 + d.val, by omega⟩ : Fin 256) (by decide) (by decide) := by
  rw [normH_apply]
  unfold Cert.Layer.head64
  refine congr (congrArg (fun f => Cert.Layer.norm _ f _) (funext fun k => ?_)) (Fin.ext (by show d.val = (e.val / 64 * 64 + d.val) % 64; omega))
  rw [heads_apply]
  unfold row
  have hx : (fun k => normX x g (ix3 b l k)) = Cert.Layer.norm (Ideal.ofBits FTy.f32 1149239296#32) (fun k => x (ix3 b l k)) (fun k => g (ix1 k)) :=
    funext fun k => normX_apply x g b l k
  rw [hx]
  refine congrArg (Cert.Layer.lin _ _) (Fin.ext ?_)
  show e.val / 64 * 64 + k.val = 0 + ((e.val / 64 * 64 + d.val) / 64 * 64 + k.val)
  omega

/-- Column `e` of the attention of a row. -/
theorem att_apply (x : FVec Ideal S2x8192x1024 .f32) (mk mv : FVec Ideal S2x256x4x64 .f32) (g : FVec Ideal S1024 .f32) (wq : FVec Ideal S1024x256 .f32) (qn : FVec Ideal S64 .f32) (b : Fin 2) (l : Fin 8192) (e : Fin 256) :
    mix mv (weights (exps (scores (normH (heads (normX x g) wq) qn) mk))) (ix3 b l e)
      = Cert.Memattn.heads4 (query x g wq qn b l) (fun j k => mk (ix4 b j ⟨k.val / 64, by omega⟩ ⟨k.val % 64, by omega⟩))
          (fun j k => mv (ix4 b j ⟨k.val / 64, by omega⟩ ⟨k.val % 64, by omega⟩)) e := by
  have hs : (fun j : Fin 256 => scores (normH (heads (normX x g) wq) qn) mk (ix4 b ⟨e.val / 64, by omega⟩ l j))
      = fun j : Fin 256 => ∑ d : Fin 64, query x g wq qn b l ⟨e.val / 64 * 64 + d.val, by omega⟩
          * mk (ix4 b j ⟨(e.val / 64 * 64 + d.val) / 64, by omega⟩ ⟨(e.val / 64 * 64 + d.val) % 64, by omega⟩) := funext fun j => by
    rw [scores_apply]
    unfold query
    rw [Cert.Memattn.score_scale]
    refine congrArg (· * _) (Finset.sum_congr rfl fun d _ => ?_)
    rw [queries]
    refine congrArg (_ * ·) (congrArg mk (congr (congrArg (ix4 b j) (Fin.ext ?_)) (Fin.ext ?_)))
    · show e.val / 64 = (e.val / 64 * 64 + d.val) / 64
      omega
    · show d.val = (e.val / 64 * 64 + d.val) % 64
      omega
  rw [mix_apply]
  unfold Cert.Memattn.heads4 Cert.Memattn.soft
  refine Finset.sum_congr rfl fun j _ => ?_
  rw [mul_comm, weights_apply, exps_apply, ← hs]
  refine congrArg (fun y => Ideal.div _ y * _) (Finset.sum_congr rfl fun k _ => ?_)
  rw [exps_apply]

end Cert.MemattnReferenceIdeal.Layer

end
-- ==== Proof.Memattn.Value.lean ====
/- The attention of the prompt to the memory: the kernel's array is the reference's result. The kernel writes the prompt's rows; the
   sample's rows stay as they were given. -/
module

public import proofs.«01_k».proof.Defs
public import proofs.«01_k».proof.Proof.Memattn.Block
public import proofs.«01_k».proof.Proof.Memattn.Ref
public import proofs.«01_k».proof.Proof.Layer.Finite
public import proofs.«01_k».proof.Proof.Out.Odd
public import Idealize.ShloMosaic.Lib.StableHlo.ReadAt
public import Idealize.ShloMosaic.Lib.Pipeline.ValueKit

@[expose] public section

set_option maxRecDepth 16384

noncomputable section

namespace Cert.MemattnIdeal.Layer

open Cert.MemattnIdeal Cert.MemattnIdeal.Gen Idealize.ShloMosaic Idealize.ShloMosaic.TcCoe Idealize.SL.Sem Idealize.ShloMosaic.StableHlo

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val / 16, 0, 0] ∧ win0_7.index t = ![t.val / 16, 0, 0] ∧ win0_8.index t = ![t.val, 0] :=
  (by decide +kernel : ∀ t : Fin grid0.N, _)

theorem flush8 : ∀ t : Fin cfg0.N, (cfg0.win 8).flush t = true :=
  (by decide +kernel : ∀ t : Fin grid0.N, _)

theorem lt_N (t : Fin cfg0.N) : t.val < 32 := t.isLt

variable (m : (ℓ : Loc nD τ sig) → Buf (Elt Ideal) ℓ) (c : Dev nD)

/-- The streams, the memory's keys and values, the weights. -/
abbrev argX : FVec Ideal S2x8192x1024 .f32 := m ((c.tc : Thread nD τ).loc main_arg0)
abbrev argS : FVec Ideal S128x8x1024 .f32 := m ((c.tc : Thread nD τ).loc main_arg1)
abbrev argK : FVec Ideal S2x256x4x64 .f32 := m ((c.tc : Thread nD τ).loc main_arg2)
abbrev argV : FVec Ideal S2x256x4x64 .f32 := m ((c.tc : Thread nD τ).loc main_arg3)
abbrev argG : FVec Ideal S1024 .f32 := m ((c.tc : Thread nD τ).loc main_arg4)
abbrev argW : FVec Ideal S1024x256 .f32 := m ((c.tc : Thread nD τ).loc main_arg5)
abbrev argO : FVec Ideal S256x1024 .f32 := m ((c.tc : Thread nD τ).loc main_arg6)
abbrev argQ : FVec Ideal S64 .f32 := m ((c.tc : Thread nD τ).loc main_arg7)

theorem V_x : V m c main_v2 = Cert.OutOddIdeal.Layer.both (argX m c) (argS m c) := by
  entry_read
  rfl

theorem V_out : V m c main_v21 = Cert.OutOddIdeal.Layer.both (argX m c) (argS m c) := by
  entry_read
  rfl

theorem V_g (k : Fin 1024) : V m c main_v3 (ix2 0 k : S1x1024.Idx) = argG m c (ix1 k) := by
  entry_read
  pointwise

theorem V_wq (k : Fin 1024) (j : Fin 256) : V m c main_v4 (ix2 k j : S1024x256.Idx) = argW m c (ix2 k j) := by
  entry_read
  pointwise

theorem V_wo (k : Fin 256) (j : Fin 1024) : V m c main_v5 (ix2 k j : S256x1024.Idx) = argO m c (ix2 k j) := by
  entry_read
  pointwise

theorem V_bd (a k : Fin 256) : V m c main_v20 (ix2 a k : S256x256.Idx) = Cert.Layer.ones64 a k := by
  entry_read
  refine Eq.trans ?_ (Cert.Layer.ones_bit a.val k.val (by omega) (by omega))
  pointwise

theorem V_q (k : Fin 256) : V m c main_v9 (ix2 0 k : S1x256.Idx) = argQ m c (ix1 ⟨k.val % 64, by omega⟩) := by
  entry_read
  pointwise

theorem V_k (b : Fin 2) (j k : Fin 256) : V m c main_v10 (ix3 b j k : S2x256x256.Idx) = argK m c (ix4 b j ⟨k.val / 64, by omega⟩ ⟨k.val % 64, by omega⟩) := by
  entry_read
  pointwise

theorem V_v (b : Fin 2) (j k : Fin 256) : V m c main_v11 (ix3 b j k : S2x256x256.Idx) = argV m c (ix4 b j ⟨k.val / 64, by omega⟩ ⟨k.val % 64, by omega⟩) := by
  entry_read
  pointwise

theorem x_blk (t : Fin cfg0.N) (a : Fin 512) (k : Fin 1024) : iblk m c 0 t (ix2 a k : S512x1024.Idx)
    = argX m c (ix3 ⟨(t.val * 512 + a.val) / 8192, by have := lt_N t; omega⟩ ⟨(t.val * 512 + a.val) % 8192, by omega⟩ k) := by
  have ht := lt_N t
  have h : iblk m c 0 t (ix2 a k : S512x1024.Idx) = V m c main_v2 (ix2 ⟨t.val * 512 + a.val, by omega⟩ k) := by
    blk_ext [iblk, idx t]
  rw [h, V_x]
  refine (Cert.OutOddIdeal.Layer.both_apply (argX m c) (argS m c) ⟨t.val * 512 + a.val, by omega⟩ k).trans ?_
  exact dif_pos (show t.val * 512 + a.val < 16384 by omega)

theorem g_blk (t : Fin cfg0.N) (k : Fin 1024) : iblk m c 1 t (ix2 0 k : S1x1024.Idx) = argG m c (ix1 k) := by
  have h : iblk m c 1 t (ix2 0 k : S1x1024.Idx) = V m c main_v3 (ix2 0 k) := by
    blk_ext [iblk, idx t]
  rw [h, V_g]

theorem wq_blk (t : Fin cfg0.N) (k : Fin 1024) (j : Fin 256) : iblk m c 2 t (ix2 k j : S1024x256.Idx) = argW m c (ix2 k j) := by
  have h : iblk m c 2 t (ix2 k j : S1024x256.Idx) = V m c main_v4 (ix2 k j) := by
    blk_ext [iblk, idx t]
  rw [h, V_wq]

theorem wo_blk (t : Fin cfg0.N) (k : Fin 256) (j : Fin 1024) : iblk m c 3 t (ix2 k j : S256x1024.Idx) = argO m c (ix2 k j) := by
  have h : iblk m c 3 t (ix2 k j : S256x1024.Idx) = V m c main_v5 (ix2 k j) := by
    blk_ext [iblk, idx t]
  rw [h, V_wo]

theorem bd_blk (t : Fin cfg0.N) (a k : Fin 256) : iblk m c 4 t (ix2 a k : S256x256.Idx) = Cert.Layer.ones64 a k := by
  have h : iblk m c 4 t (ix2 a k : S256x256.Idx) = V m c main_v20 (ix2 a k) := by
    blk_ext [iblk, idx t]
  rw [h, V_bd]

theorem q_blk (t : Fin cfg0.N) (k : Fin 256) : iblk m c 5 t (ix2 0 k : S1x256.Idx) = argQ m c (ix1 ⟨k.val % 64, by omega⟩) := by
  have h : iblk m c 5 t (ix2 0 k : S1x256.Idx) = V m c main_v9 (ix2 0 k) := by
    blk_ext [iblk, idx t]
  rw [h, V_q]

theorem k_blk (t : Fin cfg0.N) (a : Fin 512) (j k : Fin 256) : iblk m c 6 t (ix3 0 j k : S1x256x256.Idx)
    = argK m c (ix4 ⟨(t.val * 512 + a.val) / 8192, by have := lt_N t; omega⟩ j ⟨k.val / 64, by omega⟩ ⟨k.val % 64, by omega⟩) := by
  have ht := lt_N t
  have h : iblk m c 6 t (ix3 0 j k : S1x256x256.Idx) = V m c main_v10 (ix3 ⟨(t.val * 512 + a.val) / 8192, by omega⟩ j k) := by
    blk_ext [iblk, idx t]
  rw [h, V_k]

theorem v_blk (t : Fin cfg0.N) (a : Fin 512) (j k : Fin 256) : iblk m c 7 t (ix3 0 j k : S1x256x256.Idx)
    = argV m c (ix4 ⟨(t.val * 512 + a.val) / 8192, by have := lt_N t; omega⟩ j ⟨k.val / 64, by omega⟩ ⟨k.val % 64, by omega⟩) := by
  have ht := lt_N t
  have h : iblk m c 7 t (ix3 0 j k : S1x256x256.Idx) = V m c main_v11 (ix3 ⟨(t.val * 512 + a.val) / 8192, by omega⟩ j k) := by
    blk_ext [iblk, idx t]
  rw [h, V_v]

/-- The reference's result at the arguments. -/
abbrev ref : FVec Ideal S17408x1024 .f32 :=
  Cert.MemattnReferenceIdeal.Layer.refTerm (argX m c) (argS m c) (argK m c) (argV m c) (argG m c) (argW m c) (argO m c) (argQ m c)

/-- Finite rows and weights make every product finite. -/
theorem row_real (hx : ∀ i, Cert.Layer.IsReal (argX m c i)) (hg : ∀ i, Cert.Layer.IsReal (argG m c i)) (hw : ∀ i, Cert.Layer.IsReal (argW m c i)) (b : Fin 2) (l : Fin 8192) (j : Fin 256) :
    Cert.Layer.IsReal (Cert.MemattnReferenceIdeal.Layer.row (argX m c) (argG m c) (argW m c) b l j) :=
  Cert.Layer.IsReal.lin _ _ (Cert.Layer.IsReal.norm _ _ (fun k => hx _) (fun k => hg _)) (fun k l => hw _) j

/-- The scaled queries of a row. -/
theorem qs_blk (hx : ∀ i, Cert.Layer.IsReal (argX m c i)) (hg : ∀ i, Cert.Layer.IsReal (argG m c i)) (hw : ∀ i, Cert.Layer.IsReal (argW m c i)) (t : Fin cfg0.N) (a : Fin 512) (e : Fin 256) :
    qs (iblk m c 0 t) (iblk m c 1 t) (iblk m c 2 t) (iblk m c 4 t) (iblk m c 5 t) (ix2 a e)
      = Cert.MemattnReferenceIdeal.Layer.query (argX m c) (argG m c) (argW m c) (argQ m c) ⟨(t.val * 512 + a.val) / 8192, by have := lt_N t; omega⟩ ⟨(t.val * 512 + a.val) % 8192, by omega⟩ e := by
  refine (qs_apply (iblk m c 0 t) (iblk m c 1 t) (iblk m c 2 t) (iblk m c 4 t) (iblk m c 5 t) a e).trans ?_
  unfold Cert.MemattnReferenceIdeal.Layer.query
  rw [← Cert.Layer.split64_eq 0 _ _ e _ _ (row_real m c hx hg hw _ _)]
  have h0 := funext fun k => x_blk m c t a k
  have h1 := funext fun k => g_blk m c t k
  have h2 := funext fun k => funext fun l => wq_blk m c t k l
  have h3 := funext fun k => q_blk m c t k
  have h4 := funext fun k => funext fun l => bd_blk m c t k l
  rw [h0, h1, h2, h3, h4]
  refine congrArg (fun f => Cert.Layer.split64 f _ _ e * _) (funext fun j => ?_)
  exact congrArg (Cert.MemattnReferenceIdeal.Layer.row (argX m c) (argG m c) (argW m c) _ _) (Fin.ext (by show j.val = 0 + j.val; omega))

/-- What a grid point leaves is the reference's rows. -/
theorem point (hx : ∀ i, Cert.Layer.IsReal (argX m c i)) (hg : ∀ i, Cert.Layer.IsReal (argG m c i)) (hw : ∀ i, Cert.Layer.IsReal (argW m c i)) (t : Fin cfg0.N) (a : Fin 512) (e : Fin 1024) :
    outsAt0 m c t (ix2 a e : S512x1024.Idx) = ref m c (ix2 ⟨t.val * 512 + a.val, by have := lt_N t; omega⟩ e) := by
  have ht := lt_N t
  refine (outs_apply m c t a e).trans (Eq.trans ?_ (Cert.MemattnReferenceIdeal.Layer.close_apply _ _ _ _ _ _).symm)
  rw [dif_pos (show t.val * 512 + a.val < 16384 by omega)]
  unfold outVal
  have h0 := funext fun k => qs_blk m c hx hg hw t a k
  have h1 := funext fun j => funext fun k => k_blk m c t a j k
  have h2 := funext fun j => funext fun k => v_blk m c t a j k
  rw [h0, h1, h2]
  refine congrArg₂ (· + ·) (x_blk m c t a e) (Finset.sum_congr rfl fun k _ => congrArg₂ (· * ·) ?_ (wo_blk m c t k e))
  exact (Cert.MemattnReferenceIdeal.Layer.att_apply (argX m c) (argK m c) (argV m c) (argG m c) (argW m c) (argQ m c) _ _ k).symm

/-- The kernel's array: the blocks of the prompt's rows, and the sample's rows as given. -/
theorem final (hx : ∀ i, Cert.Layer.IsReal (argX m c i)) (hg : ∀ i, Cert.Layer.IsReal (argG m c i)) (hw : ∀ i, Cert.Layer.IsReal (argW m c i)) :
    (dats m 0 c).arrAt 8 (cfgs 0).N = ref m c := by
  funext i
  obtain ⟨r, e, rfl⟩ : ∃ (r : Fin 17408) (e : Fin 1024), i = ix2 r e := ⟨i 0, i 1, eq_ix2 i⟩
  by_cases h : r.val < 16384
  · have ht : r.val / 512 < cfg0.N := by show r.val / 512 < 32; omega
    have hb := congrFun (Value.blocks8 m c ⟨r.val / 512, ht⟩ (flush8 _)) (ix2 ⟨r.val % 512, by omega⟩ e)
    have hp := point m c hx hg hw ⟨r.val / 512, ht⟩ ⟨r.val % 512, by omega⟩ e
    rw [Value.flushed8] at hb
    have hr : (⟨r.val / 512 * 512 + r.val % 512, by omega⟩ : Fin 17408) = r := Fin.ext (by show r.val / 512 * 512 + r.val % 512 = r.val; omega)
    rw [hr] at hp
    rw [← hp]
    refine Eq.trans ?_ hb
    refine congrArg ((dats m 0 c).arrAt 8 (cfgs 0).N) ?_
    blk_ext [idx]
  · refine (Value.entry8 m c (ix2 r e) fun t hf hi => ?_).trans ?_
    · have ht := lt_N t
      mem_blk [idx t] at hi
      have h2 : r.val < t.val * 512 + 512 := hi.1.2
      omega
    · refine (congrFun (V_out m c) (ix2 r e)).trans ?_
      refine (Cert.OutOddIdeal.Layer.both_apply (argX m c) (argS m c) r e).trans (Eq.trans ?_ (Cert.MemattnReferenceIdeal.Layer.close_apply _ _ _ _ _ _).symm)
      rw [dif_neg h, dif_neg h]

/-- What the precondition says. -/
theorem pre_real [Cert.Pre_finite_memattn.Facts] (h : Cert.Pre_MemattnIdeal_finite_memattn m) :
    (∀ i, Cert.Layer.IsReal (argX m c i)) ∧ (∀ i, Cert.Layer.IsReal (argG m c i)) ∧ ∀ i, Cert.Layer.IsReal (argW m c i) :=
  ⟨fun i => Cert.Layer.real_of_finite _ (congrFun (h c).1 i), fun i => Cert.Layer.real_of_finite _ (congrFun (h c).2.1 i), fun i => Cert.Layer.real_of_finite _ (congrFun (h c).2.2 i)⟩

end Cert.MemattnIdeal.Layer

end
-- ==== Proof.Ssd.Math.lean ====
/- One step of the sample's state: the convolution over four rows, the step sizes, their running sums and the new state, entry by entry. -/
module

public import Idealize.ShloMosaic.Lib.Pointwise
public import proofs.«01_k».proof.Proof.Layer.Headnorm

@[expose] public section

set_option maxRecDepth 16384

noncomputable section

namespace Cert.Ssd

open Idealize.ShloMosaic

/-- Row `s` of the convolution, from the eleven rows (three kept ones, then eight new ones). -/
def conv (x : Fin 11 → EReal) (w : Fin 4 → EReal) (b : EReal) (s : Fin 8) : EReal :=
  x ⟨s.val, by omega⟩ * w 0 + x ⟨1 + s.val, by omega⟩ * w 1 + x ⟨2 + s.val, by omega⟩ * w 2 + x ⟨3 + s.val, by omega⟩ * w 3 + b

/-- The kernel adds from the newest row to the oldest. -/
theorem conv_eq (x : Fin 11 → EReal) (w : Fin 4 → EReal) (b : EReal) (s : Fin 8) :
    b + x ⟨3 + s.val, by omega⟩ * w 3 + x ⟨2 + s.val, by omega⟩ * w 2 + x ⟨1 + s.val, by omega⟩ * w 1 + x ⟨s.val, by omega⟩ * w 0 = conv x w b s := by
  unfold conv
  generalize x ⟨s.val, _⟩ * w 0 = a0, x ⟨1 + s.val, _⟩ * w 1 = a1, x ⟨2 + s.val, _⟩ * w 2 = a2, x ⟨3 + s.val, _⟩ * w 3 = a3
  ac_rfl

/-- `x · σ(x)`. -/
def silu (x : EReal) : EReal := x * Ideal.logistic x

/-- The logarithm of `1 + e^x`, from the magnitude. -/
def softplus (x : EReal) : EReal := max x 0 + Ideal.log1p (Ideal.exp (-max x (-x)))

/-- The running sum of the first rows up to `i`. -/
def cum (a : Fin 8 → EReal) (i : Fin 8) : EReal := ∑ j : Fin 8, if j ≤ i then a j else 0

/-- An entry of the new state: the old one, decayed over the whole window, plus each row's product decayed from that row on. -/
def next (h : EReal) (x d b a : Fin 8 → EReal) : EReal :=
  h * Ideal.exp (cum a 7) + ∑ s : Fin 8, x s * d s * (b s * Ideal.exp (cum a 7 - cum a s))

/-- The gated rows of a sequence from its eleven rows. -/
def gated (w : Fin 11 → Fin 768 → EReal) (cw : Fin 4 → Fin 768 → EReal) (cb : Fin 768 → EReal) (s : Fin 8) (e : Fin 768) : EReal :=
  silu (conv (fun j => w j e) (fun t => cw t e) (cb e) s)

/-- An entry of the new state: value column `a`, whose head is `a / 64`, and input column `n` of the head's group. -/
def state (u : Fin 8 → Fin 768 → EReal) (d : Fin 8 → EReal) (al h : EReal) (a : Fin 512) (n : Fin 64) : EReal :=
  next h (fun s => u s ⟨a.val, by omega⟩) (fun s => softplus (d s)) (fun s => u s ⟨512 + (a.val / 64 / 4 * 64 + n.val), by omega⟩) (fun s => softplus (d s) * -Ideal.exp al)

/-- A window of eight that ends at `i`, padded with zeros below, folded in order. -/
theorem cum_fold (a : Fin 8 → EReal) (i : Fin 8) :
    (List.finRange 8).foldl (fun r n => r + if h : 7 ≤ i.val + n.val then a ⟨i.val + n.val - 7, by omega⟩ else 0) 0 = cum a i := by
  unfold cum
  rw [Fin.sum_univ_eight]
  match i with
  | 0 | 1 | 2 | 3 | 4 | 5 | 6 | 7 => simp [List.finRange, List.ofFn, Fin.foldr, Fin.foldr.loop]

theorem exp_nonneg (x : EReal) : 0 ≤ Ideal.exp x := by
  induction x with
  | bot => rw [Ideal.exp_bot]
  | top => rw [Ideal.exp_top]; exact le_top
  | coe r => rw [Ideal.exp_coe]; exact EReal.coe_nonneg.2 (Real.exp_pos r).le

theorem log1p_nonneg {x : EReal} (hx : 0 ≤ x) : 0 ≤ Ideal.log1p x := by
  unfold Ideal.log1p
  induction x with
  | bot => exact absurd hx (not_le.2 EReal.bot_lt_zero)
  | top => rw [EReal.add_top_of_ne_bot (by exact EReal.coe_ne_bot 1), Ideal.log_top]; exact le_top
  | coe r =>
    have hr : 0 ≤ r := EReal.coe_nonneg.1 hx
    have hp : ¬1 + r ≤ 0 := not_le.2 (by positivity)
    rw [← EReal.coe_one, ← EReal.coe_add, Ideal.log_coe, if_neg hp]
    exact EReal.coe_nonneg.2 (Real.log_nonneg (by linarith))

/-- A step is never negative. -/
theorem softplus_nonneg (x : EReal) : 0 ≤ softplus x :=
  add_nonneg (le_max_right _ _) (log1p_nonneg (exp_nonneg _))

/-- An exponent is never `+∞`. -/
theorem exponent_ne_top (x al : EReal) : softplus x * -Ideal.exp al ≠ ⊤ := by
  rw [mul_neg]
  refine ne_of_lt (lt_of_le_of_lt (EReal.neg_le_zero.2 ?_) EReal.zero_lt_top)
  exact mul_nonneg (softplus_nonneg x) (exp_nonneg al)

/-- A value below `+∞` and its two remainders add up to the value: the remainders are zero, or all three are `-∞`. -/
theorem parts {x : EReal} (hx : x ≠ ⊤) : x + (x - x) + (x - x - (x - x)) = x := by
  induction x with
  | bot => rfl
  | top => exact absurd rfl hx
  | coe r =>
    have h0 : (r : EReal) - r = 0 := by rw [← EReal.coe_sub, sub_self, EReal.coe_zero]
    rw [h0, sub_zero, add_zero, add_zero]

/-- The exponents in three parts, summed part by part. -/
theorem cum_parts (a : Fin 8 → EReal) (ha : ∀ j, a j ≠ ⊤) (i : Fin 8) :
    ∑ j : Fin 8, (if j ≤ i then (1 : EReal) else 0) * a j + ∑ j : Fin 8, (if j ≤ i then (1 : EReal) else 0) * (a j - a j)
      + ∑ j : Fin 8, (if j ≤ i then (1 : EReal) else 0) * (a j - a j - (a j - a j)) = cum a i := by
  rw [← Finset.sum_add_distrib, ← Finset.sum_add_distrib]
  refine Finset.sum_congr rfl fun j _ => ?_
  by_cases h : j ≤ i
  · rw [if_pos h, if_pos h, one_mul, one_mul, one_mul, parts (ha j)]
  · rw [if_neg h, if_neg h, zero_mul, zero_mul, zero_mul, add_zero, add_zero]

end Cert.Ssd

end
-- ==== Proof.Ssd.Block.lean ====
/- What one trip of the kernel's loop stores of the new state: the heads one above another, from the sequence's rows. -/
module

public import proofs.«01_k».proof.Proof.Gen.SsdIdeal.Value
public import proofs.«01_k».proof.Proof.Ssd.Math
public import Idealize.ShloMosaic.Lib.Pipeline.ValueKit
public import Idealize.ShloMosaic.Lib.Pointwise

@[expose] public section

set_option maxRecDepth 16384

noncomputable section

namespace Cert.SsdIdeal.Layer

open Cert.SsdIdeal Cert.SsdIdeal.Gen Idealize.ShloMosaic Idealize.ShloMosaic.TcCoe Idealize.SL.Sem

/-- The eleven rows of a column: the last three of the kept block, then the new ones. -/
def rows (x p : FVec Ideal S8x768 .f32) (e : Fin 768) (j : Fin 11) : EReal :=
  if h : j.val < 3 then p (ix2 ⟨5 + j.val, by omega⟩ e) else x (ix2 ⟨j.val - 3, by omega⟩ e)

/-- The kernel shifts the rows down, the rows that leave below coming in from the kept block. -/
theorem pick1 (x p : FVec Ideal S8x768 .f32) (s : Fin 8) (e : Fin 768) :
    Scalar.select (IntOp.cmpi CmpIPredicate.sge (BitVec.ofNat 32 s.val) 1#32) (x (ix2 ⟨(s.val + 8 - 1) % 8, by omega⟩ e)) (p (ix2 ⟨(s.val + 8 - 1) % 8, by omega⟩ e))
      = rows x p e ⟨2 + s.val, by omega⟩ := by
  match s with
  | 0 | 1 | 2 | 3 | 4 | 5 | 6 | 7 => rfl

theorem pick2 (x p : FVec Ideal S8x768 .f32) (s : Fin 8) (e : Fin 768) :
    Scalar.select (IntOp.cmpi CmpIPredicate.sge (BitVec.ofNat 32 s.val) 2#32) (x (ix2 ⟨(s.val + 8 - 2) % 8, by omega⟩ e)) (p (ix2 ⟨(s.val + 8 - 2) % 8, by omega⟩ e))
      = rows x p e ⟨1 + s.val, by omega⟩ := by
  match s with
  | 0 | 1 | 2 | 3 | 4 | 5 | 6 | 7 => rfl

theorem pick3 (x p : FVec Ideal S8x768 .f32) (s : Fin 8) (e : Fin 768) :
    Scalar.select (IntOp.cmpi CmpIPredicate.sge (BitVec.ofNat 32 s.val) 3#32) (x (ix2 ⟨(s.val + 8 - 3) % 8, by omega⟩ e)) (p (ix2 ⟨(s.val + 8 - 3) % 8, by omega⟩ e))
      = rows x p e ⟨s.val, by omega⟩ := by
  match s with
  | 0 | 1 | 2 | 3 | 4 | 5 | 6 | 7 => rfl

theorem pick0 (x p : FVec Ideal S8x768 .f32) (s : Fin 8) (e : Fin 768) : x (ix2 s e) = rows x p e ⟨3 + s.val, by omega⟩ := by
  match s with
  | 0 | 1 | 2 | 3 | 4 | 5 | 6 | 7 => rfl

theorem act_apply (x p : FVec Ideal S8x768 .f32) (cw : FVec Ideal S4x768 .f32) (cb : FVec Ideal S1x768 .f32) (s : Fin 8) (e : Fin 768) :
    k0_pay16 (F := Ideal) x p cw cb (ix2 s e) = Cert.Ssd.silu (Cert.Ssd.conv (rows x p e) (fun t => cw (ix2 t e)) (cb (ix2 0 e)) s) := by
  rw [← Cert.Ssd.conv_eq, ← pick0, ← pick1, ← pick2, ← pick3]
  unfold Cert.Ssd.silu
  pointwise [k0_pay16]

theorem xs_apply (x p : FVec Ideal S8x768 .f32) (cw : FVec Ideal S4x768 .f32) (cb : FVec Ideal S1x768 .f32) (s : Fin 8) (e : Fin 512) :
    k0_pay17 (F := Ideal) x p cw cb (ix2 s e) = k0_pay16 (F := Ideal) x p cw cb (ix2 s ⟨e.val, by omega⟩) := by
  pointwise [k0_pay17]

theorem bs_apply (x p : FVec Ideal S8x768 .f32) (cw : FVec Ideal S4x768 .f32) (cb : FVec Ideal S1x768 .f32) (s : Fin 8) (e : Fin 128) :
    k0_pay18 (F := Ideal) x p cw cb (ix2 s e) = k0_pay16 (F := Ideal) x p cw cb (ix2 s ⟨512 + e.val, by omega⟩) := by
  pointwise [k0_pay18]

theorem decay_apply (al : FVec Ideal S1x128 .f32) (l : Fin 8) :
    k0_pay20 (F := Ideal) al (ix2 0 ⟨l.val, by omega⟩) = -Ideal.exp (al (ix2 0 ⟨l.val, by omega⟩)) := by
  pointwise [k0_pay20]
  match l with
  | 0 | 1 | 2 | 3 | 4 | 5 | 6 | 7 => exact zero_sub _

theorem step_apply (d : FVec Ideal S8x128 .f32) (db : FVec Ideal S1x128 .f32) (s : Fin 8) (l : Fin 128) :
    k0_pay21 (F := Ideal) d db (ix2 s l) = Cert.Ssd.softplus (d (ix2 s l) + db (ix2 0 l)) := by
  pointwise [k0_pay21, Cert.Ssd.softplus]
  exact congrArg (fun y => _ + Ideal.log1p (Ideal.exp y)) (zero_sub _)

theorem expo_apply (d : FVec Ideal S8x128 .f32) (db a : FVec Ideal S1x128 .f32) (s : Fin 8) (l : Fin 128) :
    k0_pay22 (F := Ideal) d db a (ix2 s l) = Cert.Ssd.softplus (d (ix2 s l) + db (ix2 0 l)) * a (ix2 0 l) := by
  rw [← step_apply]
  pointwise [k0_pay22]

theorem lower_apply (i j : Fin 8) : k0_pay25 (F := Ideal) (ix2 i j) = if j ≤ i then (1 : EReal) else 0 := by
  pointwise [k0_pay25, k0_pay24]
  revert i j
  intro i j
  match i with
  | 0 | 1 | 2 | 3 | 4 | 5 | 6 | 7 =>
    match j with
    | 0 | 1 | 2 | 3 | 4 | 5 | 6 | 7 => rfl

/-- The running sums, the exponents cut into three parts that are added up again. -/
def sums (d : FVec Ideal S8x128 .f32) (db a : FVec Ideal S1x128 .f32) : FVec Ideal S8x128 .f32 :=
  k0_pay32 (F := Ideal) k0_pay25 (k0_pay29 d db a) (k0_pay30 d db a) (k0_pay31 d db a)

theorem sums_apply (d : FVec Ideal S8x128 .f32) (db a : FVec Ideal S1x128 .f32) (l : Fin 128)
    (hr : ∀ j : Fin 8, k0_pay22 (F := Ideal) d db a (ix2 j l) ≠ ⊤) (i : Fin 8) :
    sums d db a (ix2 i l) = Cert.Ssd.cum (fun j => k0_pay22 (F := Ideal) d db a (ix2 j l)) i := by
  rw [← Cert.Ssd.cum_parts _ hr]
  simp only [← lower_apply]
  pointwise [sums, k0_pay32, k0_pay31, k0_pay30, k0_pay29, k0_pay28, k0_pay27]

/-- The decay from each row to the last, and over the whole window. -/
def tails (d : FVec Ideal S8x128 .f32) (db a : FVec Ideal S1x128 .f32) : FVec Ideal S8x128 .f32 :=
  k0_pay36 (F := Ideal) k0_pay25 (k0_pay29 d db a) (k0_pay30 d db a) (k0_pay31 d db a)
def whole (d : FVec Ideal S8x128 .f32) (db a : FVec Ideal S1x128 .f32) : FVec Ideal S1x128 .f32 :=
  k0_pay37 (F := Ideal) k0_pay25 (k0_pay29 d db a) (k0_pay30 d db a) (k0_pay31 d db a)

theorem tails_apply (d : FVec Ideal S8x128 .f32) (db a : FVec Ideal S1x128 .f32) (s : Fin 8) (l : Fin 128) :
    tails d db a (ix2 s l) = Ideal.exp (sums d db a (ix2 7 l) - sums d db a (ix2 s l)) := by
  pointwise [tails, sums, k0_pay36, k0_pay35]

theorem whole_apply (d : FVec Ideal S8x128 .f32) (db a : FVec Ideal S1x128 .f32) (l : Fin 128) :
    whole d db a (ix2 0 l) = Ideal.exp (sums d db a (ix2 7 l)) := by
  pointwise [whole, sums, k0_pay37, k0_pay35]

/-- One head's new state. -/
def head (h : FVec Ideal S512x64 .f32) (xs : FVec Ideal S8x512 .f32) (bs st tl : FVec Ideal S8x128 .f32) (wh : FVec Ideal S1x128 .f32) (g : Fin 8) (p n : Fin 64) : EReal :=
  h (ix2 ⟨64 * g.val + p.val, by omega⟩ n) * wh (ix2 0 ⟨g.val, by omega⟩)
    + ∑ s : Fin 8, xs (ix2 s ⟨64 * g.val + p.val, by omega⟩) * st (ix2 s ⟨g.val, by omega⟩) * (bs (ix2 s ⟨64 * (g.val / 4) + n.val, by omega⟩) * tl (ix2 s ⟨g.val, by omega⟩))

/-- The eight heads' new states, as the body computes them. -/
def states (h : FVec Ideal S512x64 .f32) (xs : FVec Ideal S8x512 .f32) (bs st tl : FVec Ideal S8x128 .f32) (wh : FVec Ideal S1x128 .f32) : Fin 8 → FVec Ideal S64x64 .f32 :=
  ![k0_pay47 (F := Ideal) tl wh (k0_pay38 bs) (k0_pay41 xs st) (k0_pay42 h),
    k0_pay51 (F := Ideal) h xs st tl wh (k0_pay38 bs),
    k0_pay58 (F := Ideal) h tl wh (k0_pay38 bs) (k0_pay53 xs) (k0_pay54 st),
    k0_pay62 (F := Ideal) h xs st tl wh (k0_pay38 bs),
    k0_pay69 (F := Ideal) h xs bs st tl wh,
    k0_pay74 (F := Ideal) tl wh (k0_pay63 bs) (k0_pay70 xs st) (k0_pay71 h),
    k0_pay78 (F := Ideal) h xs st tl wh (k0_pay63 bs),
    k0_pay82 (F := Ideal) h xs st tl wh (k0_pay63 bs)]

theorem states_apply (h : FVec Ideal S512x64 .f32) (xs : FVec Ideal S8x512 .f32) (bs st tl : FVec Ideal S8x128 .f32) (wh : FVec Ideal S1x128 .f32) (g : Fin 8) (p n : Fin 64) :
    states h xs bs st tl wh g (ix2 p n) = head h xs bs st tl wh g p n := by
  unfold head
  match g with
  | 0 =>
    show k0_pay47 (F := Ideal) tl wh (k0_pay38 bs) (k0_pay41 xs st) (k0_pay42 h) (ix2 p n) = _
    pointwise [k0_pay47, k0_pay38, k0_pay41, k0_pay42]
  | 1 =>
    show k0_pay51 (F := Ideal) h xs st tl wh (k0_pay38 bs) (ix2 p n) = _
    pointwise [k0_pay51, k0_pay38, k0_pay48, k0_pay49]
  | 2 =>
    show k0_pay58 (F := Ideal) h tl wh (k0_pay38 bs) (k0_pay53 xs) (k0_pay54 st) (ix2 p n) = _
    pointwise [k0_pay58, k0_pay38, k0_pay53, k0_pay54, k0_pay55, k0_pay56]
  | 3 =>
    show k0_pay62 (F := Ideal) h xs st tl wh (k0_pay38 bs) (ix2 p n) = _
    pointwise [k0_pay62, k0_pay38, k0_pay59, k0_pay60]
  | 4 =>
    show k0_pay69 (F := Ideal) h xs bs st tl wh (ix2 p n) = _
    pointwise [k0_pay69, k0_pay63, k0_pay66, k0_pay67]
  | 5 =>
    show k0_pay74 (F := Ideal) tl wh (k0_pay63 bs) (k0_pay70 xs st) (k0_pay71 h) (ix2 p n) = _
    pointwise [k0_pay74, k0_pay63, k0_pay70, k0_pay71]
  | 6 =>
    show k0_pay78 (F := Ideal) h xs st tl wh (k0_pay63 bs) (ix2 p n) = _
    pointwise [k0_pay78, k0_pay63, k0_pay75, k0_pay76]
  | 7 =>
    show k0_pay82 (F := Ideal) h xs st tl wh (k0_pay63 bs) (ix2 p n) = _
    pointwise [k0_pay82, k0_pay63, k0_pay80, k0_pay81]

/-- The heads one above another. -/
theorem stack_apply (f : Fin 8 → FVec Ideal S64x64 .f32) (g : Fin 8) (p n : Fin 64) :
    k0_pay2 (F := Ideal) (f 0) (f 1) (f 2) (f 3) (f 4) (f 5) (f 6) (f 7) (ix3 0 ⟨64 * g.val + p.val, by omega⟩ n) = f g (ix2 p n) := by
  match g with
  | 0 | 1 | 2 | 3 | 4 | 5 | 6 | 7 =>
    pointwise [k0_pay2]
    all_goals repeat rw [dif_neg (by omega)]
    all_goals first
      | rw [dif_pos (by omega)]; exact congrArg (f _) (congrArg (fun y => ix2 y n) (Fin.ext (by simp only []; omega)))
      | exact congrArg (f _) (congrArg (fun y => ix2 y n) (Fin.ext (by simp only []; omega)))

/-- What a trip stores, from its loads. -/
def stored (x p : FVec Ideal S1x8x768 .f32) (d : FVec Ideal S1x8x128 .f32) (h : FVec Ideal S1x512x64 .f32)
    (cw : FVec Ideal S4x768 .f32) (cb : FVec Ideal S1x768 .f32) (db al : FVec Ideal S1x128 .f32) : FVec Ideal S1x512x64 .f32 :=
  let f := states (k0_pay8 (F := Ideal) h) (k0_pay17 (F := Ideal) (k0_pay3 (F := Ideal) x) (k0_pay4 (F := Ideal) p) cw (k0_pay9 (F := Ideal) cb))
    (k0_pay18 (F := Ideal) (k0_pay3 (F := Ideal) x) (k0_pay4 (F := Ideal) p) cw (k0_pay9 (F := Ideal) cb))
    (k0_pay21 (F := Ideal) (k0_pay6 (F := Ideal) d) (k0_pay10 (F := Ideal) db))
    (tails (k0_pay6 (F := Ideal) d) (k0_pay10 (F := Ideal) db) (k0_pay20 (F := Ideal) (k0_pay12 (F := Ideal) al)))
    (whole (k0_pay6 (F := Ideal) d) (k0_pay10 (F := Ideal) db) (k0_pay20 (F := Ideal) (k0_pay12 (F := Ideal) al)))
  k0_pay2 (F := Ideal) (f 0) (f 1) (f 2) (f 3) (f 4) (f 5) (f 6) (f 7)

theorem x_cast (x : FVec Ideal S1x8x768 .f32) (s : Fin 8) (e : Fin 768) : k0_pay3 (F := Ideal) x (ix2 s e) = x (ix3 0 s e) := by
  pointwise [k0_pay3]

theorem p_cast (x : FVec Ideal S1x8x768 .f32) (s : Fin 8) (e : Fin 768) : k0_pay4 (F := Ideal) x (ix2 s e) = x (ix3 0 s e) := by
  pointwise [k0_pay4]

theorem d_cast (x : FVec Ideal S1x8x128 .f32) (s : Fin 8) (e : Fin 128) : k0_pay6 (F := Ideal) x (ix2 s e) = x (ix3 0 s e) := by
  pointwise [k0_pay6]

theorem h_cast (x : FVec Ideal S1x512x64 .f32) (s : Fin 512) (e : Fin 64) : k0_pay8 (F := Ideal) x (ix2 s e) = x (ix3 0 s e) := by
  pointwise [k0_pay8]

theorem cb_cast (x : FVec Ideal S1x768 .f32) (e : Fin 768) : k0_pay9 (F := Ideal) x (ix2 0 e) = x (ix2 0 e) := by
  pointwise [k0_pay9]

theorem db_cast (x : FVec Ideal S1x128 .f32) (e : Fin 128) : k0_pay10 (F := Ideal) x (ix2 0 e) = x (ix2 0 e) := by
  pointwise [k0_pay10]

theorem al_cast (x : FVec Ideal S1x128 .f32) (e : Fin 128) : k0_pay12 (F := Ideal) x (ix2 0 e) = x (ix2 0 e) := by
  pointwise [k0_pay12]

/-- The eleven rows of a sequence, from the kept block's last three and the new eight. -/
def joined (x p : Fin 8 → Fin 768 → EReal) (j : Fin 11) (e : Fin 768) : EReal :=
  if h : j.val < 3 then p ⟨5 + j.val, by omega⟩ e else x ⟨j.val - 3, by omega⟩ e

theorem gated_apply (x p : FVec Ideal S1x8x768 .f32) (cw : FVec Ideal S4x768 .f32) (cb : FVec Ideal S1x768 .f32) (s : Fin 8) (e : Fin 768) :
    k0_pay16 (F := Ideal) (k0_pay3 (F := Ideal) x) (k0_pay4 (F := Ideal) p) cw (k0_pay9 (F := Ideal) cb) (ix2 s e)
      = Cert.Ssd.gated (joined (fun s e => x (ix3 0 s e)) fun s e => p (ix3 0 s e)) (fun t e => cw (ix2 t e)) (fun e => cb (ix2 0 e)) s e := by
  rw [act_apply, cb_cast]
  unfold Cert.Ssd.gated
  refine congrArg Cert.Ssd.silu (congrArg (fun f => Cert.Ssd.conv f _ _ s) (funext fun j => ?_))
  unfold rows joined
  by_cases h : j.val < 3
  · rw [dif_pos h, dif_pos h, p_cast]
  · rw [dif_neg h, dif_neg h, x_cast]

theorem stored_apply (x p : FVec Ideal S1x8x768 .f32) (d : FVec Ideal S1x8x128 .f32) (h : FVec Ideal S1x512x64 .f32)
    (cw : FVec Ideal S4x768 .f32) (cb : FVec Ideal S1x768 .f32) (db al : FVec Ideal S1x128 .f32) (a : Fin 512) (n : Fin 64) :
    stored x p d h cw cb db al (ix3 0 a n)
      = Cert.Ssd.state (Cert.Ssd.gated (joined (fun s e => x (ix3 0 s e)) fun s e => p (ix3 0 s e)) (fun t e => cw (ix2 t e)) fun e => cb (ix2 0 e))
          (fun s => d (ix3 0 s ⟨a.val / 64, by omega⟩) + db (ix2 0 ⟨a.val / 64, by omega⟩)) (al (ix2 0 ⟨a.val / 64, by omega⟩)) (h (ix3 0 a n)) a n := by
  obtain ⟨g, q, hg, hq⟩ : ∃ (g : Fin 8) (q : Fin 64), g.val = a.val / 64 ∧ q.val = a.val % 64 :=
    ⟨⟨a.val / 64, by omega⟩, ⟨a.val % 64, by omega⟩, rfl, rfl⟩
  have e1 : a = ⟨64 * g.val + q.val, by omega⟩ := Fin.ext (by show a.val = 64 * g.val + q.val; omega)
  have e2 : (⟨a.val / 64, by omega⟩ : Fin 128) = ⟨g.val, by omega⟩ := Fin.ext hg.symm
  have e3 : (⟨512 + (a.val / 64 / 4 * 64 + n.val), by omega⟩ : Fin 768) = ⟨512 + (64 * (g.val / 4) + n.val), by omega⟩ := Fin.ext (by show 512 + (a.val / 64 / 4 * 64 + n.val) = 512 + (64 * (g.val / 4) + n.val); omega)
  have e4 : (⟨a.val, by omega⟩ : Fin 768) = ⟨64 * g.val + q.val, by omega⟩ := Fin.ext (by show a.val = 64 * g.val + q.val; omega)
  have hs : ∀ j : Fin 8, k0_pay22 (F := Ideal) (k0_pay6 (F := Ideal) d) (k0_pay10 (F := Ideal) db) (k0_pay20 (F := Ideal) (k0_pay12 (F := Ideal) al)) (ix2 j ⟨g.val, by omega⟩)
      = Cert.Ssd.softplus (d (ix3 0 j ⟨g.val, by omega⟩) + db (ix2 0 ⟨g.val, by omega⟩)) * -Ideal.exp (al (ix2 0 ⟨g.val, by omega⟩)) := fun j => by
    rw [expo_apply, decay_apply, d_cast, db_cast, al_cast]
  have hr : ∀ j : Fin 8, k0_pay22 (F := Ideal) (k0_pay6 (F := Ideal) d) (k0_pay10 (F := Ideal) db) (k0_pay20 (F := Ideal) (k0_pay12 (F := Ideal) al)) (ix2 j ⟨g.val, by omega⟩) ≠ ⊤ := fun j => by
    rw [hs]
    exact Cert.Ssd.exponent_ne_top _ _
  unfold Cert.Ssd.state Cert.Ssd.next
  rw [e2, e3, e4]
  have hh : h (ix3 0 a n) = k0_pay8 (F := Ideal) h (ix2 ⟨64 * g.val + q.val, by omega⟩ n) := by rw [h_cast, ← e1]
  rw [hh]
  conv_lhs => rw [e1]
  refine (stack_apply _ g q n).trans ((states_apply _ _ _ _ _ _ g q n).trans ?_)
  unfold head
  rw [whole_apply, sums_apply _ _ _ _ hr]
  simp only [xs_apply, bs_apply, gated_apply, step_apply, tails_apply, sums_apply _ _ _ _ hr, hs, d_cast, db_cast]

end Cert.SsdIdeal.Layer

end
-- ==== Proof.Ssd.Trip.lean ====
/- The kernel's loop over the sixteen sequences of a block: the pieces its trips store, and the array they leave. -/
module

public import proofs.«01_k».proof.Proof.Ssd.Block
public import Idealize.ShloMosaic.Lib.WholeRead
public import Idealize.ShloMosaic.Lib.Pipeline.Value

@[expose] public section

set_option maxRecDepth 16384

noncomputable section

namespace Cert.SsdIdeal.Layer

open Cert.SsdIdeal Cert.SsdIdeal.Gen Idealize.ShloMosaic Idealize.ShloMosaic.TcCoe Idealize.SL.Sem

theorem trips_eq : k0_t1_loop.trips = 16 := by
  decide +kernel

theorem lt_trips (k : Fin k0_t1_loop.trips) : k.val < 16 := lt_of_lt_of_eq k.isLt trips_eq

theorem off1 : ∀ k : Fin k0_t1_loop.trips, k0_off1 k = ![k.val, 0, 0] := by
  decide +kernel

theorem off3 : ∀ k : Fin k0_t1_loop.trips, k0_off3 k = ![k.val, 0, 0] := by
  decide +kernel

theorem off5 : ∀ k : Fin k0_t1_loop.trips, k0_off5 k = ![k.val, 0, 0] := by
  decide +kernel

theorem rows_at (k : Fin k0_t1_loop.trips) (s : Fin 8) (e : Fin 768) :
    (Rect.unit (s := S16x8x768) (k0_off1 k) S1x8x768.size (k0_off1_inb k)).toLoadRect.idx (ix3 0 s e : S1x8x768.Idx) = ix3 ⟨k.val, lt_trips k⟩ s e := by
  have h := off1 k
  refine funext fun a => Fin.ext ?_
  match a with
  | 0 => show k0_off1 k 0 + 1 * 0 = k.val; rw [h]; show k.val + 1 * 0 = k.val; omega
  | 1 => show k0_off1 k 1 + 1 * s.val = s.val; rw [h]; show 0 + 1 * s.val = s.val; omega
  | 2 => show k0_off1 k 2 + 1 * e.val = e.val; rw [h]; show 0 + 1 * e.val = e.val; omega

theorem steps_at (k : Fin k0_t1_loop.trips) (s : Fin 8) (e : Fin 128) :
    (Rect.unit (s := S16x8x128) (k0_off3 k) S1x8x128.size (k0_off3_inb k)).toLoadRect.idx (ix3 0 s e : S1x8x128.Idx) = ix3 ⟨k.val, lt_trips k⟩ s e := by
  have h := off3 k
  refine funext fun a => Fin.ext ?_
  match a with
  | 0 => show k0_off3 k 0 + 1 * 0 = k.val; rw [h]; show k.val + 1 * 0 = k.val; omega
  | 1 => show k0_off3 k 1 + 1 * s.val = s.val; rw [h]; show 0 + 1 * s.val = s.val; omega
  | 2 => show k0_off3 k 2 + 1 * e.val = e.val; rw [h]; show 0 + 1 * e.val = e.val; omega

theorem state_at (k : Fin k0_t1_loop.trips) (s : Fin 512) (e : Fin 64) :
    (Rect.unit (s := S16x512x64) (k0_off5 k) S1x512x64.size (k0_off5_inb k)).toLoadRect.idx (ix3 0 s e : S1x512x64.Idx) = ix3 ⟨k.val, lt_trips k⟩ s e := by
  have h := off5 k
  refine funext fun a => Fin.ext ?_
  match a with
  | 0 => show k0_off5 k 0 + 1 * 0 = k.val; rw [h]; show k.val + 1 * 0 = k.val; omega
  | 1 => show k0_off5 k 1 + 1 * s.val = s.val; rw [h]; show 0 + 1 * s.val = s.val; omega
  | 2 => show k0_off5 k 2 + 1 * e.val = e.val; rw [h]; show 0 + 1 * e.val = e.val; omega

theorem weights_at (s : Fin 4) (e : Fin 768) :
    (Rect.unit (s := S4x768) ![0, 0] S4x768.size inb_S4x768_S4x768_0_0).toLoadRect.idx (ix2 s e : S4x768.Idx) = ix2 s e := by
  refine funext fun a => Fin.ext ?_
  match a with
  | 0 => show 0 + 1 * s.val = s.val; omega
  | 1 => show 0 + 1 * e.val = e.val; omega

theorem bias_at (s : Fin 1) (e : Fin 768) :
    (Rect.unit (s := S1x768) ![0, 0] S1x768.size inb_S1x768_S1x768_0_0).toLoadRect.idx (ix2 s e : S1x768.Idx) = ix2 s e := by
  refine funext fun a => Fin.ext ?_
  match a with
  | 0 => show 0 + 1 * s.val = s.val; omega
  | 1 => show 0 + 1 * e.val = e.val; omega

theorem lane_at (s : Fin 1) (e : Fin 128) :
    (Rect.unit (s := S1x128) ![0, 0] S1x128.size inb_S1x128_S1x128_0_0).toLoadRect.idx (ix2 s e : S1x128.Idx) = ix2 s e := by
  refine funext fun a => Fin.ext ?_
  match a with
  | 0 => show 0 + 1 * s.val = s.val; omega
  | 1 => show 0 + 1 * e.val = e.val; omega

/-- A block's new states: each sequence from its own rows. -/
def block (x p : FVec Ideal S16x8x768 .f32) (d : FVec Ideal S16x8x128 .f32) (h : FVec Ideal S16x512x64 .f32)
    (cw : FVec Ideal S4x768 .f32) (cb : FVec Ideal S1x768 .f32) (db al : FVec Ideal S1x128 .f32) (b : Fin 16) (a : Fin 512) (n : Fin 64) : EReal :=
  Cert.Ssd.state (Cert.Ssd.gated (joined (fun s e => x (ix3 b s e)) fun s e => p (ix3 b s e)) (fun t e => cw (ix2 t e)) fun e => cb (ix2 0 e))
    (fun s => d (ix3 b s ⟨a.val / 64, by omega⟩) + db (ix2 0 ⟨a.val / 64, by omega⟩)) (al (ix2 0 ⟨a.val / 64, by omega⟩)) (h (ix3 b a n)) a n

/-- One trip's piece of the new state. -/
theorem trip_eq (𝒱 : Variants) (c : Dev nD) (bd : Option 𝒱.V) (i : grid0.Coords) (arg1 : Memref sig .tc .vmem S16x8x768 .f32) (harg1 : arg1.IsWhole) (arg2 : Memref sig .tc .vmem S16x8x768 .f32) (harg2 : arg2.IsWhole) (arg3 : Memref sig .tc .vmem S16x8x512 .f32) (harg3 : arg3.IsWhole) (arg4 : Memref sig .tc .vmem S16x8x128 .f32) (harg4 : arg4.IsWhole) (arg5 : Memref sig .tc .vmem S16x8x8 .f32) (harg5 : arg5.IsWhole) (arg6 : Memref sig .tc .vmem S16x512x64 .f32) (harg6 : arg6.IsWhole) (arg7 : Memref sig .tc .vmem S4x768 .f32) (harg7 : arg7.IsWhole) (arg8 : Memref sig .tc .vmem S1x768 .f32) (harg8 : arg8.IsWhole) (arg9 : Memref sig .tc .vmem S1x128 .f32) (harg9 : arg9.IsWhole) (arg10 : Memref sig .tc .vmem S8x1 .f32) (harg10 : arg10.IsWhole) (arg11 : Memref sig .tc .vmem S1x128 .f32) (harg11 : arg11.IsWhole) (arg12 : Memref sig .tc .vmem S8x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x8x512 .f32) (harg15 : arg15.IsWhole) (arg16 : Memref sig .tc .vmem S16x512x64 .f32) (harg16 : arg16.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips) :
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 X_arg3 X_arg4 X_arg5 X_arg6 X_arg7 X_arg8 X_arg9 X_arg10 X_arg11 X_arg12 X_arg13 X_arg14 k).2
      = [⟨Rect.unit (s := S16x512x64) (k0_off5 k) S1x512x64.size (k0_off5_inb k), stored (View.readAt (Elt Ideal) arg1.view (Rect.unit (s := S16x8x768) (k0_off1 k) S1x8x768.size (k0_off1_inb k)).toLoadRect X_arg1) (View.readAt (Elt Ideal) arg2.view (Rect.unit (s := S16x8x768) (k0_off1 k) S1x8x768.size (k0_off1_inb k)).toLoadRect X_arg2) (View.readAt (Elt Ideal) arg4.view (Rect.unit (s := S16x8x128) (k0_off3 k) S1x8x128.size (k0_off3_inb k)).toLoadRect X_arg4) (View.readAt (Elt Ideal) arg6.view (Rect.unit (s := S16x512x64) (k0_off5 k) S1x512x64.size (k0_off5_inb k)).toLoadRect X_arg6) (View.readAt (Elt Ideal) arg7.view (Rect.unit (s := S4x768) ![0, 0] S4x768.size inb_S4x768_S4x768_0_0).toLoadRect X_arg7) (View.readAt (Elt Ideal) arg8.view (Rect.unit (s := S1x768) ![0, 0] S1x768.size inb_S1x768_S1x768_0_0).toLoadRect X_arg8) (View.readAt (Elt Ideal) arg9.view (Rect.unit (s := S1x128) ![0, 0] S1x128.size inb_S1x128_S1x128_0_0).toLoadRect X_arg9) (View.readAt (Elt Ideal) arg11.view (Rect.unit (s := S1x128) ![0, 0] S1x128.size inb_S1x128_S1x128_0_0).toLoadRect X_arg11)⟩] := by
  unfold tripL_k0_t1 trip_k0_t1
  rfl

/-- The trip's piece is the block's state at the trip's sequence. -/
theorem trip_apply (𝒱 : Variants) (c : Dev nD) (bd : Option 𝒱.V) (i : grid0.Coords) (arg1 : Memref sig .tc .vmem S16x8x768 .f32) (harg1 : arg1.IsWhole) (arg2 : Memref sig .tc .vmem S16x8x768 .f32) (harg2 : arg2.IsWhole) (arg3 : Memref sig .tc .vmem S16x8x512 .f32) (harg3 : arg3.IsWhole) (arg4 : Memref sig .tc .vmem S16x8x128 .f32) (harg4 : arg4.IsWhole) (arg5 : Memref sig .tc .vmem S16x8x8 .f32) (harg5 : arg5.IsWhole) (arg6 : Memref sig .tc .vmem S16x512x64 .f32) (harg6 : arg6.IsWhole) (arg7 : Memref sig .tc .vmem S4x768 .f32) (harg7 : arg7.IsWhole) (arg8 : Memref sig .tc .vmem S1x768 .f32) (harg8 : arg8.IsWhole) (arg9 : Memref sig .tc .vmem S1x128 .f32) (harg9 : arg9.IsWhole) (arg10 : Memref sig .tc .vmem S8x1 .f32) (harg10 : arg10.IsWhole) (arg11 : Memref sig .tc .vmem S1x128 .f32) (harg11 : arg11.IsWhole) (arg12 : Memref sig .tc .vmem S8x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x8x512 .f32) (harg15 : arg15.IsWhole) (arg16 : Memref sig .tc .vmem S16x512x64 .f32) (harg16 : arg16.IsWhole) (Y1 : FVec Ideal S16x8x768 .f32) (Y2 : FVec Ideal S16x8x768 .f32) (Y3 : FVec Ideal S16x8x512 .f32) (Y4 : FVec Ideal S16x8x128 .f32) (Y5 : FVec Ideal S16x8x8 .f32) (Y6 : FVec Ideal S16x512x64 .f32) (Y7 : FVec Ideal S4x768 .f32) (Y8 : FVec Ideal S1x768 .f32) (Y9 : FVec Ideal S1x128 .f32) (Y10 : FVec Ideal S8x1 .f32) (Y11 : FVec Ideal S1x128 .f32) (Y12 : FVec Ideal S8x1 .f32) (Y13 : FVec Ideal S1x512 .f32) (Y14 : FVec Ideal S1x512 .f32) (k : Fin k0_t1_loop.trips)
    (a : Fin 512) (n : Fin 64) :
    stored (View.readAt (Elt Ideal) arg1.view (Rect.unit (s := S16x8x768) (k0_off1 k) S1x8x768.size (k0_off1_inb k)).toLoadRect (harg1.unread Y1)) (View.readAt (Elt Ideal) arg2.view (Rect.unit (s := S16x8x768) (k0_off1 k) S1x8x768.size (k0_off1_inb k)).toLoadRect (harg2.unread Y2)) (View.readAt (Elt Ideal) arg4.view (Rect.unit (s := S16x8x128) (k0_off3 k) S1x8x128.size (k0_off3_inb k)).toLoadRect (harg4.unread Y4)) (View.readAt (Elt Ideal) arg6.view (Rect.unit (s := S16x512x64) (k0_off5 k) S1x512x64.size (k0_off5_inb k)).toLoadRect (harg6.unread Y6)) (View.readAt (Elt Ideal) arg7.view (Rect.unit (s := S4x768) ![0, 0] S4x768.size inb_S4x768_S4x768_0_0).toLoadRect (harg7.unread Y7)) (View.readAt (Elt Ideal) arg8.view (Rect.unit (s := S1x768) ![0, 0] S1x768.size inb_S1x768_S1x768_0_0).toLoadRect (harg8.unread Y8)) (View.readAt (Elt Ideal) arg9.view (Rect.unit (s := S1x128) ![0, 0] S1x128.size inb_S1x128_S1x128_0_0).toLoadRect (harg9.unread Y9)) (View.readAt (Elt Ideal) arg11.view (Rect.unit (s := S1x128) ![0, 0] S1x128.size inb_S1x128_S1x128_0_0).toLoadRect (harg11.unread Y11)) (ix3 0 a n) = block Y1 Y2 Y4 Y6 Y7 Y8 Y9 Y11 ⟨k.val, lt_trips k⟩ a n := by
  have r1 : ∀ (s : Fin 8) (e : Fin 768), (View.readAt (Elt Ideal) arg1.view (Rect.unit (s := S16x8x768) (k0_off1 k) S1x8x768.size (k0_off1_inb k)).toLoadRect (harg1.unread Y1)) (ix3 0 s e) = Y1 (ix3 ⟨k.val, lt_trips k⟩ s e) := fun s e => (Memref.IsWhole.readAt_unread (Val := Elt Ideal) harg1 Y1 (Rect.unit (s := S16x8x768) (k0_off1 k) S1x8x768.size (k0_off1_inb k)).toLoadRect (ix3 0 s e : S1x8x768.Idx)).trans (congrArg Y1 (rows_at k s e))
  have r2 : ∀ (s : Fin 8) (e : Fin 768), (View.readAt (Elt Ideal) arg2.view (Rect.unit (s := S16x8x768) (k0_off1 k) S1x8x768.size (k0_off1_inb k)).toLoadRect (harg2.unread Y2)) (ix3 0 s e) = Y2 (ix3 ⟨k.val, lt_trips k⟩ s e) := fun s e => (Memref.IsWhole.readAt_unread (Val := Elt Ideal) harg2 Y2 (Rect.unit (s := S16x8x768) (k0_off1 k) S1x8x768.size (k0_off1_inb k)).toLoadRect (ix3 0 s e : S1x8x768.Idx)).trans (congrArg Y2 (rows_at k s e))
  have r4 : ∀ (s : Fin 8) (e : Fin 128), (View.readAt (Elt Ideal) arg4.view (Rect.unit (s := S16x8x128) (k0_off3 k) S1x8x128.size (k0_off3_inb k)).toLoadRect (harg4.unread Y4)) (ix3 0 s e) = Y4 (ix3 ⟨k.val, lt_trips k⟩ s e) := fun s e => (Memref.IsWhole.readAt_unread (Val := Elt Ideal) harg4 Y4 (Rect.unit (s := S16x8x128) (k0_off3 k) S1x8x128.size (k0_off3_inb k)).toLoadRect (ix3 0 s e : S1x8x128.Idx)).trans (congrArg Y4 (steps_at k s e))
  have r6 : ∀ (s : Fin 512) (e : Fin 64), (View.readAt (Elt Ideal) arg6.view (Rect.unit (s := S16x512x64) (k0_off5 k) S1x512x64.size (k0_off5_inb k)).toLoadRect (harg6.unread Y6)) (ix3 0 s e) = Y6 (ix3 ⟨k.val, lt_trips k⟩ s e) := fun s e => (Memref.IsWhole.readAt_unread (Val := Elt Ideal) harg6 Y6 (Rect.unit (s := S16x512x64) (k0_off5 k) S1x512x64.size (k0_off5_inb k)).toLoadRect (ix3 0 s e : S1x512x64.Idx)).trans (congrArg Y6 (state_at k s e))
  have r7 : ∀ (s : Fin 4) (e : Fin 768), (View.readAt (Elt Ideal) arg7.view (Rect.unit (s := S4x768) ![0, 0] S4x768.size inb_S4x768_S4x768_0_0).toLoadRect (harg7.unread Y7)) (ix2 s e) = Y7 (ix2 s e) := fun s e => (Memref.IsWhole.readAt_unread (Val := Elt Ideal) harg7 Y7 (Rect.unit (s := S4x768) ![0, 0] S4x768.size inb_S4x768_S4x768_0_0).toLoadRect (ix2 s e : S4x768.Idx)).trans (congrArg Y7 (weights_at s e))
  have r8 : ∀ (s : Fin 1) (e : Fin 768), (View.readAt (Elt Ideal) arg8.view (Rect.unit (s := S1x768) ![0, 0] S1x768.size inb_S1x768_S1x768_0_0).toLoadRect (harg8.unread Y8)) (ix2 s e) = Y8 (ix2 s e) := fun s e => (Memref.IsWhole.readAt_unread (Val := Elt Ideal) harg8 Y8 (Rect.unit (s := S1x768) ![0, 0] S1x768.size inb_S1x768_S1x768_0_0).toLoadRect (ix2 s e : S1x768.Idx)).trans (congrArg Y8 (bias_at s e))
  have r9 : ∀ (s : Fin 1) (e : Fin 128), (View.readAt (Elt Ideal) arg9.view (Rect.unit (s := S1x128) ![0, 0] S1x128.size inb_S1x128_S1x128_0_0).toLoadRect (harg9.unread Y9)) (ix2 s e) = Y9 (ix2 s e) := fun s e => (Memref.IsWhole.readAt_unread (Val := Elt Ideal) harg9 Y9 (Rect.unit (s := S1x128) ![0, 0] S1x128.size inb_S1x128_S1x128_0_0).toLoadRect (ix2 s e : S1x128.Idx)).trans (congrArg Y9 (lane_at s e))
  have r11 : ∀ (s : Fin 1) (e : Fin 128), (View.readAt (Elt Ideal) arg11.view (Rect.unit (s := S1x128) ![0, 0] S1x128.size inb_S1x128_S1x128_0_0).toLoadRect (harg11.unread Y11)) (ix2 s e) = Y11 (ix2 s e) := fun s e => (Memref.IsWhole.readAt_unread (Val := Elt Ideal) harg11 Y11 (Rect.unit (s := S1x128) ![0, 0] S1x128.size inb_S1x128_S1x128_0_0).toLoadRect (ix2 s e : S1x128.Idx)).trans (congrArg Y11 (lane_at s e))
  refine (stored_apply _ _ _ _ _ _ _ _ a n).trans ?_
  unfold block
  simp only [r1, r2, r4, r6, r7, r8, r9, r11]

/-- The same read at an index of the whole block. -/
def whole3 (f : Fin 16 → Fin 512 → Fin 64 → EReal) : FVec Ideal S16x512x64 .f32 := fun i => f (i 0) (i 1) (i 2)

/-- Every piece stored before trip `n` is the block's state where it lies. -/
theorem pieces_agree (𝒱 : Variants) (c : Dev nD) (bd : Option 𝒱.V) (i : grid0.Coords) (arg1 : Memref sig .tc .vmem S16x8x768 .f32) (harg1 : arg1.IsWhole) (arg2 : Memref sig .tc .vmem S16x8x768 .f32) (harg2 : arg2.IsWhole) (arg3 : Memref sig .tc .vmem S16x8x512 .f32) (harg3 : arg3.IsWhole) (arg4 : Memref sig .tc .vmem S16x8x128 .f32) (harg4 : arg4.IsWhole) (arg5 : Memref sig .tc .vmem S16x8x8 .f32) (harg5 : arg5.IsWhole) (arg6 : Memref sig .tc .vmem S16x512x64 .f32) (harg6 : arg6.IsWhole) (arg7 : Memref sig .tc .vmem S4x768 .f32) (harg7 : arg7.IsWhole) (arg8 : Memref sig .tc .vmem S1x768 .f32) (harg8 : arg8.IsWhole) (arg9 : Memref sig .tc .vmem S1x128 .f32) (harg9 : arg9.IsWhole) (arg10 : Memref sig .tc .vmem S8x1 .f32) (harg10 : arg10.IsWhole) (arg11 : Memref sig .tc .vmem S1x128 .f32) (harg11 : arg11.IsWhole) (arg12 : Memref sig .tc .vmem S8x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x8x512 .f32) (harg15 : arg15.IsWhole) (arg16 : Memref sig .tc .vmem S16x512x64 .f32) (harg16 : arg16.IsWhole) (Y1 : FVec Ideal S16x8x768 .f32) (Y2 : FVec Ideal S16x8x768 .f32) (Y3 : FVec Ideal S16x8x512 .f32) (Y4 : FVec Ideal S16x8x128 .f32) (Y5 : FVec Ideal S16x8x8 .f32) (Y6 : FVec Ideal S16x512x64 .f32) (Y7 : FVec Ideal S4x768 .f32) (Y8 : FVec Ideal S1x768 .f32) (Y9 : FVec Ideal S1x128 .f32) (Y10 : FVec Ideal S8x1 .f32) (Y11 : FVec Ideal S1x128 .f32) (Y12 : FVec Ideal S8x1 .f32) (Y13 : FVec Ideal S1x512 .f32) (Y14 : FVec Ideal S1x512 .f32)
    (n : ℕ) (hn : n ≤ k0_t1_loop.trips) :
    (∀ q ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread Y1) (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) n).2, ∀ x : q.1.shape.Idx, q.2 x = whole3 (block Y1 Y2 Y4 Y6 Y7 Y8 Y9 Y11) (q.1.emb x))
      ∧ ∀ y : S16x512x64.Idx, (y 0).val < n → ∃ q ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread Y1) (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) n).2, y ∈ q.1.set := by
  induction n with
  | zero => exact ⟨fun q hq => (List.not_mem_nil hq).elim, fun y hy => (Nat.not_lt_zero _ hy).elim⟩
  | succ n ih =>
    obtain ⟨h1, h2⟩ := ih (by omega)
    have e := congrArg Prod.snd (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread Y1) (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) ⟨n, hn⟩)
    have e' := e.trans (congrArg (· ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread Y1) (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) n).2) (trip_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread Y1) (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) ⟨n, hn⟩))
    rw [e']
    refine ⟨fun q hq => ?_, fun y hy => ?_⟩
    · rcases List.mem_append.1 hq with h | h
      · rw [List.mem_singleton.1 h]
        intro x
        obtain ⟨z, a, b, rfl⟩ : ∃ (z : Fin 1) (a : Fin 512) (b : Fin 64), x = ix3 z a b := ⟨x 0, x 1, x 2, eq_ix3 x⟩
        obtain rfl : z = 0 := Subsingleton.elim _ _
        refine (trip_apply 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 Y1 Y2 Y3 Y4 Y5 Y6 Y7 Y8 Y9 Y10 Y11 Y12 Y13 Y14 ⟨n, hn⟩ a b).trans ?_
        exact (congrArg (whole3 (block Y1 Y2 Y4 Y6 Y7 Y8 Y9 Y11)) (state_at ⟨n, hn⟩ a b)).symm
      · exact h1 q h
    · by_cases hyn : (y 0).val < n
      · obtain ⟨q, hq, hm⟩ := h2 y hyn
        exact ⟨q, List.mem_append_right _ hq, hm⟩
      · refine ⟨_, List.mem_append_left _ (List.mem_singleton.2 rfl), ?_⟩
        refine (Rect.mem_set_unit (inb := k0_off5_inb ⟨n, hn⟩)).2 fun a => ?_
        have h := off5 ⟨n, hn⟩
        have y1 := (y 1).isLt
        have y2 := (y 2).isLt
        match a with
        | 0 => rw [h]; show n ≤ (y 0).val ∧ (y 0).val < n + 1; omega
        | 1 => rw [h]; exact ⟨Nat.zero_le _, lt_of_lt_of_eq y1 (Nat.zero_add _).symm⟩
        | 2 => rw [h]; exact ⟨Nat.zero_le _, lt_of_lt_of_eq y2 (Nat.zero_add _).symm⟩

variable (m : (ℓ : Loc nD τ sig) → Buf (Elt Ideal) ℓ) (c : Dev nD)

/-- What a grid point leaves of the new state. -/
theorem outs_apply (t : Fin cfg0.N)
    (b : Fin 16) (a : Fin 512) (n : Fin 64) :
    (outsAt0 m c t).2 (ix3 b a n) = block (iblk m c 0 t) (iblk m c 1 t) (iblk m c 3 t) (iblk m c 5 t) (iblk m c 6 t) (iblk m c 7 t) (iblk m c 8 t) (iblk m c 10 t) b a n := by
  unfold outsAt0 out0_A_15
  dsimp only
  unfold kernelRun0_A
  dsimp only
  frame_out
  exact View.canon_apply_of_pieces (whole3 (block (iblk m c 0 t) (iblk m c 1 t) (iblk m c 3 t) (iblk m c 5 t) (iblk m c 6 t) (iblk m c 7 t) (iblk m c 8 t) (iblk m c 10 t))) _
    (pieces_agree _ _ _ _ _ _ _ _ _ _ _ _ _ _ _ _ _ _ _ _ _ _ _ _ _ _ _ _ _ _ _ _ _ _ _ _ _ _ _ _ _ _ _ _ _ _ _ _ _ _ _ le_rfl).1 (ix3 b a n)
    ((pieces_agree _ _ _ _ _ _ _ _ _ _ _ _ _ _ _ _ _ _ _ _ _ _ _ _ _ _ _ _ _ _ _ _ _ _ _ _ _ _ _ _ _ _ _ _ _ _ _ _ _ _ _ le_rfl).2 _ (lt_of_lt_of_eq b.isLt trips_eq.symm))

end Cert.SsdIdeal.Layer

end
-- ==== Proof.Ssd.Ref.lean ====
/- The reference of the sample's state step, cut into its steps, and each step read at an index. -/
module

public import proofs.«01_k».proof.Proof.Gen.SsdReferenceIdeal.Run
public import proofs.«01_k».proof.Proof.Ssd.Math
public import Idealize.ShloMosaic.Lib.StableHlo.ReadAt
public import Idealize.ShloMosaic.Lib.Pointwise

@[expose] public section

set_option maxRecDepth 16384

noncomputable section

namespace Cert.SsdReferenceIdeal.Layer

open Cert.SsdReferenceIdeal Cert.SsdReferenceIdeal.Gen Idealize.ShloMosaic Idealize.ShloMosaic.TcCoe Idealize.SL.Sem Idealize.ShloMosaic.StableHlo

/-- The kept rows before the new ones. -/
def win (k : FVec Ideal S128x3x768 .f32) (x : FVec Ideal S128x8x768 .f32) : FVec Ideal S128x11x768 .f32 :=
  concatenate S128x11x768 1 [⟨S128x3x768, k⟩, ⟨S128x8x768, x⟩] concatenates_S128x3x768_S128x8x768_S128x11x768_d1

/-- The convolution. -/
def conv (w : FVec Ideal S128x11x768 .f32) (cw : FVec Ideal S4x768 .f32) (cb : FVec Ideal S768 .f32) : FVec Ideal S128x8x768 .f32 :=
  addf (addf (addf (addf (addf (broadcastInDim S128x8x768 ![] bcast_S_S128x8x768 (constant S_ .f32 0x00000000#32)) (mulf (extractStridedSlice S128x8x768 ![0, 0, 0] w slices_S128x11x768_S128x8x768_0_0_0) (broadcastInDim S128x8x768 ![0, 1, 2] bcast_S1x1x768_S128x8x768_0_1_2 (broadcastInDim S1x1x768 ![2] bcast_S768_S1x1x768_2 (shapeCast _ (extractStridedSlice S1x768 ![0, 0] cw slices_S4x768_S1x768_0_0) shapeCasts_S1x768_S768))))) (mulf (extractStridedSlice S128x8x768 ![0, 1, 0] w slices_S128x11x768_S128x8x768_0_1_0) (broadcastInDim S128x8x768 ![0, 1, 2] bcast_S1x1x768_S128x8x768_0_1_2 (broadcastInDim S1x1x768 ![2] bcast_S768_S1x1x768_2 (shapeCast _ (extractStridedSlice S1x768 ![1, 0] cw slices_S4x768_S1x768_1_0) shapeCasts_S1x768_S768))))) (mulf (extractStridedSlice S128x8x768 ![0, 2, 0] w slices_S128x11x768_S128x8x768_0_2_0) (broadcastInDim S128x8x768 ![0, 1, 2] bcast_S1x1x768_S128x8x768_0_1_2 (broadcastInDim S1x1x768 ![2] bcast_S768_S1x1x768_2 (shapeCast _ (extractStridedSlice S1x768 ![2, 0] cw slices_S4x768_S1x768_2_0) shapeCasts_S1x768_S768))))) (mulf (extractStridedSlice S128x8x768 ![0, 3, 0] w slices_S128x11x768_S128x8x768_0_3_0) (broadcastInDim S128x8x768 ![0, 1, 2] bcast_S1x1x768_S128x8x768_0_1_2 (broadcastInDim S1x1x768 ![2] bcast_S768_S1x1x768_2 (shapeCast _ (extractStridedSlice S1x768 ![3, 0] cw slices_S4x768_S1x768_3_0) shapeCasts_S1x768_S768))))) (broadcastInDim S128x8x768 ![0, 1, 2] bcast_S1x1x768_S128x8x768_0_1_2 (broadcastInDim S1x1x768 ![2] bcast_S768_S1x1x768_2 cb))

/-- The gated rows. -/
def act (u : FVec Ideal S128x8x768 .f32) : FVec Ideal S128x8x768 .f32 :=
  mulf u (Host.divf (broadcastInDim S128x8x768 ![] bcast_S_S128x8x768 (constant S_ .f32 0x3F800000#32)) (addf (broadcastInDim S128x8x768 ![] bcast_S_S128x8x768 (constant S_ .f32 0x3F800000#32)) (Host.exp (Host.negf u))))

/-- The step sizes before and after the softplus. -/
def pre (d : FVec Ideal S128x8x128 .f32) (db : FVec Ideal S8 .f32) : FVec Ideal S128x8x8 .f32 :=
  addf (extractStridedSlice S128x8x8 ![0, 0, 0] d slices_S128x8x128_S128x8x8_0_0_0) (broadcastInDim S128x8x8 ![0, 1, 2] bcast_S1x1x8_S128x8x8_0_1_2 (broadcastInDim S1x1x8 ![2] bcast_S8_S1x1x8_2 db))
def steps (x : FVec Ideal S128x8x8 .f32) : FVec Ideal S128x8x8 .f32 :=
  select (cmpf .une (subf x (broadcastInDim S128x8x8 ![] bcast_S_S128x8x8 (constant S_ .f32 0x00000000#32))) (subf x (broadcastInDim S128x8x8 ![] bcast_S_S128x8x8 (constant S_ .f32 0x00000000#32)))) (addf x (broadcastInDim S128x8x8 ![] bcast_S_S128x8x8 (constant S_ .f32 0x00000000#32))) (addf (maximumf x (broadcastInDim S128x8x8 ![] bcast_S_S128x8x8 (constant S_ .f32 0x00000000#32))) (Host.log1p (Host.exp (Host.negf (Host.absf (subf x (broadcastInDim S128x8x8 ![] bcast_S_S128x8x8 (constant S_ .f32 0x00000000#32))))))))

/-- The exponents, and their running sums. -/
def expo (s : FVec Ideal S128x8x8 .f32) (al : FVec Ideal S8 .f32) : FVec Ideal S128x8x8 .f32 :=
  mulf s (broadcastInDim S128x8x8 ![0, 1, 2] bcast_S1x1x8_S128x8x8_0_1_2 (broadcastInDim S1x1x8 ![2] bcast_S8_S1x1x8_2 (Host.negf (Host.exp al))))
def run (a : FVec Ideal S128x8x8 .f32) : FVec Ideal S128x8x8 .f32 :=
  Host.reduceWindowAdd ![1, 8, 1] ![1, 1, 1] ![0, 7, 0] ![0, 0, 0] a (broadcastInDim S_ ![] bcast_S_S_ (constant S_ .f32 0x00000000#32)) reduceWindows_S128x8x8_S128x8x8_w1s1p0_0_w8s1p7_0_w1s1p0_0 h_S_

/-- The rows' values times their step sizes. -/
def vals (u : FVec Ideal S128x8x768 .f32) (s : FVec Ideal S128x8x8 .f32) : FVec Ideal S128x8x8x64 .f32 :=
  mulf (shapeCast _ (extractStridedSlice S128x8x512 ![0, 0, 0] u slices_S128x8x768_S128x8x512_0_0_0) shapeCasts_S128x8x512_S128x8x8x64) (broadcastInDim S128x8x8x64 ![0, 1, 2, 3] bcast_S128x8x8x1_S128x8x8x64_0_1_2_3 (broadcastInDim S128x8x8x1 ![0, 1, 2] bcast_S128x8x8_S128x8x8x1_0_1_2 s))

/-- The group of each head. -/
def quot : IVec S8 32 :=
  select (andi (cmpi .ne (signi (iotaInDim S8 32 0)) (broadcastInDim S8 ![] bcast_S_S8 (signi (id (constantI S_ 32 4#32))))) (cmpi .ne (Host.remsi (iotaInDim S8 32 0) (broadcastInDim S8 ![] bcast_S_S8 (id (constantI S_ 32 4#32)))) (broadcastInDim S8 ![] bcast_S_S8 (constantI S_ 32 0#32)))) (subi (Host.divsi (iotaInDim S8 32 0) (broadcastInDim S8 ![] bcast_S_S8 (id (constantI S_ 32 4#32)))) (broadcastInDim S8 ![] bcast_S_S8 (constantI S_ 32 1#32))) (Host.divsi (iotaInDim S8 32 0) (broadcastInDim S8 ![] bcast_S_S8 (id (constantI S_ 32 4#32))))
def group : IVec S8 32 :=
  select (cmpi .slt quot (broadcastInDim S8 ![] bcast_S_S8 (constantI S_ 32 0#32))) (addi quot (broadcastInDim S8 ![] bcast_S_S8 (constantI S_ 32 2#32))) quot

/-- The rows' inputs of each head. -/
def ins (u : FVec Ideal S128x8x768 .f32) : FVec Ideal S128x8x8x64 .f32 :=
  Host.gather gather_S128x8x2x64_S8x1_S128x8x8x64_013_2_n_n_2_1_1288164 (shapeCast _ (extractStridedSlice S128x8x128 ![0, 0, 512] u slices_S128x8x768_S128x8x128_0_0_512) shapeCasts_S128x8x128_S128x8x2x64) (broadcastInDim S8x1 ![0] bcast_S8_S8x1_0 group)

/-- The decay from a row to the last one. -/
def tail (r : FVec Ideal S128x8x8 .f32) : FVec Ideal S128x8x8 .f32 :=
  Host.exp (subf (broadcastInDim S128x8x8 ![0, 1, 2] bcast_S128x1x8_S128x8x8_0_1_2 (extractStridedSlice S128x1x8 ![0, 7, 0] r slices_S128x8x8_S128x1x8_0_7_0)) r)

/-- The new state. -/
def close (h : FVec Ideal S128x8x64x64 .f32) (r : FVec Ideal S128x8x8 .f32) (v b : FVec Ideal S128x8x8x64 .f32) : FVec Ideal S128x512x64 .f32 :=
  shapeCast _ (addf (mulf h (broadcastInDim S128x8x64x64 ![0, 1, 2, 3] bcast_S128x8x1x1_S128x8x64x64_0_1_2_3 (broadcastInDim S128x8x1x1 ![0, 1] bcast_S128x8_S128x8x1x1_0_1 (Host.exp (shapeCast _ (extractStridedSlice S128x1x8 ![0, 7, 0] r slices_S128x8x8_S128x1x8_0_7_0) shapeCasts_S128x1x8_S128x8))))) (Host.dotGeneral dot_S128x8x8x64_S128x8x8x64_S128x8x64x64_1_1_3_3_02_02 none v (mulf b (broadcastInDim S128x8x8x64 ![0, 1, 2, 3] bcast_S128x8x8x1_S128x8x8x64_0_1_2_3 (broadcastInDim S128x8x8x1 ![0, 1, 2] bcast_S128x8x8_S128x8x8x1_0_1_2 (tail r)))))) shapeCasts_S128x8x64x64_S128x512x64

/-- The reference's result. -/
def refTerm (x : FVec Ideal S128x8x768 .f32) (d : FVec Ideal S128x8x128 .f32) (k : FVec Ideal S128x3x768 .f32) (h : FVec Ideal S128x8x64x64 .f32)
    (cw : FVec Ideal S4x768 .f32) (cb : FVec Ideal S768 .f32) (db al : FVec Ideal S8 .f32) : FVec Ideal S128x512x64 .f32 :=
  close h (run (expo (steps (pre d db)) al)) (vals (act (conv (win k x) cw cb)) (steps (pre d db))) (ins (act (conv (win k x) cw cb)))

theorem res_eq (m : (ℓ : Loc nD τ sig) → Buf (Elt Ideal) ℓ) (c : Dev nD) :
    Cert.SsdReferenceIdeal.Value.res_main_v77 m c
      = refTerm (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) := rfl

theorem win_apply (k : FVec Ideal S128x3x768 .f32) (x : FVec Ideal S128x8x768 .f32) (b : Fin 128) (s : Fin 11) (e : Fin 768) :
    win k x (ix3 b s e) = if h : s.val < 3 then k (ix3 b ⟨s.val, h⟩ e) else x (ix3 b ⟨s.val - 3, by omega⟩ e) := by
  pointwise [win]

theorem conv_apply (w : FVec Ideal S128x11x768 .f32) (cw : FVec Ideal S4x768 .f32) (cb : FVec Ideal S768 .f32) (b : Fin 128) (s : Fin 8) (e : Fin 768) :
    conv w cw cb (ix3 b s e) = Cert.Ssd.conv (fun j => w (ix3 b j e)) (fun t => cw (ix2 t e)) (cb (ix1 e)) s := by
  pointwise [conv, Cert.Ssd.conv]

theorem act_apply (u : FVec Ideal S128x8x768 .f32) (b : Fin 128) (s : Fin 8) (e : Fin 768) :
    act u (ix3 b s e) = Cert.Ssd.silu (u (ix3 b s e)) := by
  pointwise [act, Cert.Ssd.silu, Ideal.logistic]

theorem pre_apply (d : FVec Ideal S128x8x128 .f32) (db : FVec Ideal S8 .f32) (b : Fin 128) (s h : Fin 8) :
    pre d db (ix3 b s h) = d (ix3 b s ⟨h.val, by omega⟩) + db (ix1 h) := by
  pointwise [pre]

theorem steps_apply (x : FVec Ideal S128x8x8 .f32) (b : Fin 128) (s h : Fin 8) :
    steps x (ix3 b s h) = Cert.Ssd.softplus (x (ix3 b s h)) := by
  pointwise [steps, Cert.Ssd.softplus]
  exact if_neg (not_not.2 rfl)

theorem expo_apply (x : FVec Ideal S128x8x8 .f32) (al : FVec Ideal S8 .f32) (b : Fin 128) (s h : Fin 8) :
    expo x al (ix3 b s h) = x (ix3 b s h) * -Ideal.exp (al (ix1 h)) := by
  pointwise [expo]

theorem vals_apply (u : FVec Ideal S128x8x768 .f32) (x : FVec Ideal S128x8x8 .f32) (b : Fin 128) (s h : Fin 8) (p : Fin 64) :
    vals u x (ix4 b s h p) = u (ix3 b s ⟨h.val * 64 + p.val, by omega⟩) * x (ix3 b s h) := by
  pointwise [vals]

theorem group_val : ∀ h : Fin 8, (group (ix1 h)).toInt.toNat = h.val / 4 := by
  decide +kernel

theorem gather_apply (x : FVec Ideal S128x8x2x64 .f32) (idx : IVec S8x1 32) (b : Fin 128) (s h : Fin 8) (n : Fin 64) :
    Host.gather gather_S128x8x2x64_S8x1_S128x8x8x64_013_2_n_n_2_1_1288164 x idx (ix4 b s h n)
      = x (ix4 b s ⟨min (idx (ix2 h (0 : Fin 1))).toInt.toNat 1, by omega⟩ n) := by
  unfold Host.gather
  refine congrArg x (funext fun c => Fin.ext ?_)
  show gather_S128x8x2x64_S8x1_S128x8x8x64_013_2_n_n_2_1_1288164.start _ idx c + gather_S128x8x2x64_S8x1_S128x8x8x64_013_2_n_n_2_1_1288164.batchCoord _ c
      + gather_S128x8x2x64_S8x1_S128x8x8x64_013_2_n_n_2_1_1288164.offCoord _ c = _
  have h4 : c = 0 ∨ c = 1 ∨ c = 2 ∨ c = 3 := by
    match c with
    | ⟨0, _⟩ => exact .inl rfl
    | ⟨1, _⟩ => exact .inr (.inl rfl)
    | ⟨2, _⟩ => exact .inr (.inr (.inl rfl))
    | ⟨3, _⟩ => exact .inr (.inr (.inr rfl))
  rw [GatherDims.batchCoord_eq_zero _ _ _ List.not_mem_nil]
  rcases h4 with rfl | rfl | rfl | rfl
  · unfold GatherDims.start
    rw [dif_neg (by decide)]
    exact Nat.zero_add _
  · unfold GatherDims.start
    rw [dif_neg (by decide)]
    exact Nat.zero_add _
  · rw [GatherDims.offCoord_eq_zero _ _ _ (by decide)]
    unfold GatherDims.start
    rw [dif_pos (by decide)]
    have hsi : gather_S128x8x2x64_S8x1_S128x8x8x64_013_2_n_n_2_1_1288164.siIdx (ix4 b s h n) ⟨List.idxOf (2 : Fin 4) gather_S128x8x2x64_S8x1_S128x8x8x64_013_2_n_n_2_1_1288164.startIndexMap, by decide⟩ = ix2 h (0 : Fin 1) := by
      funext d
      refine Fin.ext ?_
      match d with
      | ⟨0, _⟩ => rfl
      | ⟨1, _⟩ => rfl
    rw [hsi]
    rfl
  · unfold GatherDims.start
    rw [dif_neg (by decide)]
    exact Nat.zero_add _

theorem parts_apply (u : FVec Ideal S128x8x768 .f32) (b : Fin 128) (s : Fin 8) (g : Fin 2) (n : Fin 64) :
    shapeCast S128x8x2x64 (extractStridedSlice S128x8x128 ![0, 0, 512] u slices_S128x8x768_S128x8x128_0_0_512) shapeCasts_S128x8x128_S128x8x2x64 (ix4 b s g n)
      = u (ix3 b s ⟨512 + (g.val * 64 + n.val), by omega⟩) := by
  pointwise

theorem column_apply (g : IVec S8 32) (h : Fin 8) (z : Fin 1) : broadcastInDim S8x1 ![0] bcast_S8_S8x1_0 g (ix2 h z) = g (ix1 h) := by
  pointwise

theorem ins_apply (u : FVec Ideal S128x8x768 .f32) (b : Fin 128) (s h : Fin 8) (n : Fin 64) :
    ins u (ix4 b s h n) = u (ix3 b s ⟨512 + (h.val / 4 * 64 + n.val), by omega⟩) := by
  unfold ins
  rw [gather_apply]
  refine (parts_apply u b s _ n).trans (congrArg (fun e => u (ix3 b s e)) (Fin.ext ?_))
  have hg := group_val h
  show 512 + (min (broadcastInDim S8x1 ![0] bcast_S8_S8x1_0 group (ix2 h (0 : Fin 1))).toInt.toNat 1 * 64 + n.val) = 512 + (h.val / 4 * 64 + n.val)
  rw [column_apply, hg]
  have := h.isLt
  omega

/-- The rows of a window of eight, in row-major order. -/
theorem window_pos : ∀ n : Fin 8, ∀ c : Fin 3, ((⟨3, ![1, 8, 1]⟩ : Shape).rowMajor.symm n c).val = ![0, n.val, 0] c := by
  decide +kernel

theorem run_apply (a : FVec Ideal S128x8x8 .f32) (b : Fin 128) (s h : Fin 8) :
    run a (ix3 b s h) = Cert.Ssd.cum (fun j => a (ix3 b j h)) s := by
  have hz : (broadcastInDim S_ ![] bcast_S_S_ (constant (F := Ideal) S_ .f32 0x00000000#32) : FVec Ideal S_ .f32) (Shape.Idx.first h_S_) = 0 := by
    pointwise
  rw [← Cert.Ssd.cum_fold]
  unfold run Host.reduceWindowAdd
  rw [hz]
  change Ideal.hostReduceWindowAdd ![1, 8, 1] ![1, 1, 1] ![0, 7, 0] ![0, 0, 0] reduceWindows_S128x8x8_S128x8x8_w1s1p0_0_w8s1p7_0_w1s1p0_0 a 0 (ix3 b s h) = _
  unfold Ideal.hostReduceWindowAdd Host.reduceWindow
  refine congrArg (fun f => (List.finRange 8).foldl f (0 : EReal)) (funext fun r => funext fun n => congrArg (r + ·) ?_)
  have hn := window_pos n
  have h0 := hn 0
  have h1 := hn 1
  have h2 := hn 2
  simp only [Matrix.cons_val_zero, Matrix.cons_val_one, Matrix.cons_val] at h0 h1 h2
  by_cases hw : 7 ≤ s.val + n.val
  · rw [dif_pos hw]
    refine (dif_pos fun c => ?_).trans ?_
    · match c with
      | 0 => show 0 ≤ b.val * 1 + ((⟨3, ![1, 8, 1]⟩ : Shape).rowMajor.symm n (0 : Fin 3)).val ∧ b.val * 1 + ((⟨3, ![1, 8, 1]⟩ : Shape).rowMajor.symm n (0 : Fin 3)).val - 0 < 128; omega
      | 1 => show 7 ≤ s.val * 1 + ((⟨3, ![1, 8, 1]⟩ : Shape).rowMajor.symm n (1 : Fin 3)).val ∧ s.val * 1 + ((⟨3, ![1, 8, 1]⟩ : Shape).rowMajor.symm n (1 : Fin 3)).val - 7 < 8; omega
      | 2 => show 0 ≤ h.val * 1 + ((⟨3, ![1, 8, 1]⟩ : Shape).rowMajor.symm n (2 : Fin 3)).val ∧ h.val * 1 + ((⟨3, ![1, 8, 1]⟩ : Shape).rowMajor.symm n (2 : Fin 3)).val - 0 < 8; omega
    · refine congrArg a (funext fun c => Fin.ext ?_)
      match c with
      | 0 => show b.val * 1 + ((⟨3, ![1, 8, 1]⟩ : Shape).rowMajor.symm n (0 : Fin 3)).val - 0 = b.val; omega
      | 1 => show s.val * 1 + ((⟨3, ![1, 8, 1]⟩ : Shape).rowMajor.symm n (1 : Fin 3)).val - 7 = s.val + n.val - 7; omega
      | 2 => show h.val * 1 + ((⟨3, ![1, 8, 1]⟩ : Shape).rowMajor.symm n (2 : Fin 3)).val - 0 = h.val; omega
  · rw [dif_neg hw]
    refine dif_neg fun hc => hw ?_
    have h3 : 7 ≤ s.val * 1 + ((⟨3, ![1, 8, 1]⟩ : Shape).rowMajor.symm n (1 : Fin 3)).val := (hc 1).1
    omega

theorem tail_apply (r : FVec Ideal S128x8x8 .f32) (b : Fin 128) (s h : Fin 8) :
    tail r (ix3 b s h) = Ideal.exp (r (ix3 b 7 h) - r (ix3 b s h)) := by
  pointwise [tail]

theorem close_apply (h : FVec Ideal S128x8x64x64 .f32) (r : FVec Ideal S128x8x8 .f32) (v w : FVec Ideal S128x8x8x64 .f32) (b : Fin 128) (a : Fin 512) (n : Fin 64) :
    close h r v w (ix3 b a n) = h (ix4 b ⟨a.val / 64, by omega⟩ ⟨a.val % 64, by omega⟩ n) * Ideal.exp (r (ix3 b 7 ⟨a.val / 64, by omega⟩))
      + ∑ s : Fin 8, v (ix4 b s ⟨a.val / 64, by omega⟩ ⟨a.val % 64, by omega⟩) * (w (ix4 b s ⟨a.val / 64, by omega⟩ n) * tail r (ix3 b s ⟨a.val / 64, by omega⟩)) := by
  pointwise [close]

/-- The eleven rows of a sequence. -/
def joined (x : Fin 8 → Fin 768 → EReal) (k : Fin 3 → Fin 768 → EReal) (j : Fin 11) (e : Fin 768) : EReal :=
  if h : j.val < 3 then k ⟨j.val, h⟩ e else x ⟨j.val - 3, by omega⟩ e

theorem gated_apply (x : FVec Ideal S128x8x768 .f32) (k : FVec Ideal S128x3x768 .f32) (cw : FVec Ideal S4x768 .f32) (cb : FVec Ideal S768 .f32) (b : Fin 128) (s : Fin 8) (e : Fin 768) :
    act (conv (win k x) cw cb) (ix3 b s e)
      = Cert.Ssd.gated (joined (fun s e => x (ix3 b s e)) fun s e => k (ix3 b s e)) (fun t e => cw (ix2 t e)) (fun e => cb (ix1 e)) s e := by
  rw [act_apply, conv_apply]
  unfold Cert.Ssd.gated
  refine congrArg Cert.Ssd.silu (congrArg (fun f => Cert.Ssd.conv f _ _ s) (funext fun j => ?_))
  exact win_apply k x b j e

theorem ref_apply (x : FVec Ideal S128x8x768 .f32) (d : FVec Ideal S128x8x128 .f32) (k : FVec Ideal S128x3x768 .f32) (h : FVec Ideal S128x8x64x64 .f32)
    (cw : FVec Ideal S4x768 .f32) (cb : FVec Ideal S768 .f32) (db al : FVec Ideal S8 .f32) (b : Fin 128) (a : Fin 512) (n : Fin 64) :
    refTerm x d k h cw cb db al (ix3 b a n)
      = Cert.Ssd.state (Cert.Ssd.gated (joined (fun s e => x (ix3 b s e)) fun s e => k (ix3 b s e)) (fun t e => cw (ix2 t e)) fun e => cb (ix1 e))
          (fun s => d (ix3 b s ⟨a.val / 64, by omega⟩) + db (ix1 ⟨a.val / 64, by omega⟩)) (al (ix1 ⟨a.val / 64, by omega⟩)) (h (ix4 b ⟨a.val / 64, by omega⟩ ⟨a.val % 64, by omega⟩ n)) a n := by
  have e4 : (⟨a.val / 64 * 64 + a.val % 64, by omega⟩ : Fin 768) = ⟨a.val, by omega⟩ := Fin.ext (by show a.val / 64 * 64 + a.val % 64 = a.val; omega)
  unfold refTerm Cert.Ssd.state Cert.Ssd.next
  rw [close_apply]
  simp only [vals_apply, ins_apply, tail_apply, run_apply, expo_apply, steps_apply, pre_apply, gated_apply, e4]

end Cert.SsdReferenceIdeal.Layer

end
-- ==== Proof.Ssd.Value.lean ====
/- The sample's state step: the kernel's second array is the reference's result. -/
module

public import proofs.«01_k».proof.Defs
public import proofs.«01_k».proof.Proof.Ssd.Trip
public import proofs.«01_k».proof.Proof.Ssd.Ref
public import proofs.«01_k».proof.Proof.Layer.Finite
public import Idealize.ShloMosaic.Lib.StableHlo.ReadAt
public import Idealize.ShloMosaic.Lib.Pipeline.ValueKit

@[expose] public section

set_option maxRecDepth 16384

noncomputable section

namespace Cert.SsdIdeal.Layer

open Cert.SsdIdeal Cert.SsdIdeal.Gen Idealize.ShloMosaic Idealize.ShloMosaic.TcCoe Idealize.SL.Sem Idealize.ShloMosaic.StableHlo

theorem idx : ∀ t : Fin cfg0.N, win0_0.index t = ![t.val, 0, 0] ∧ win0_1.index t = ![t.val, 0, 0] ∧ win0_3.index t = ![t.val, 0, 0] ∧ win0_5.index t = ![t.val, 0, 0]
    ∧ win0_6.index t = ![0, 0] ∧ win0_7.index t = ![0, 0] ∧ win0_8.index t = ![0, 0] ∧ win0_10.index t = ![0, 0] ∧ win0_15.index t = ![t.val, 0, 0] :=
  (by decide +kernel : ∀ t : Fin grid0.N, _)

theorem flush15 : ∀ t : Fin cfg0.N, (cfg0.win 15).flush t = true :=
  (by decide +kernel : ∀ t : Fin grid0.N, _)

theorem lt_N (t : Fin cfg0.N) : t.val < 8 := t.isLt

variable (m : (ℓ : Loc nD τ sig) → Buf (Elt Ideal) ℓ) (c : Dev nD)

/-- The rows, the step sizes, the kept rows, the state, the weights. -/
abbrev argX : FVec Ideal S128x8x768 .f32 := m ((c.tc : Thread nD τ).loc main_arg0)
abbrev argD : FVec Ideal S128x8x128 .f32 := m ((c.tc : Thread nD τ).loc main_arg2)
abbrev argK : FVec Ideal S128x3x768 .f32 := m ((c.tc : Thread nD τ).loc main_arg3)
abbrev argH : FVec Ideal S128x8x64x64 .f32 := m ((c.tc : Thread nD τ).loc main_arg4)
abbrev argW : FVec Ideal S4x768 .f32 := m ((c.tc : Thread nD τ).loc main_arg5)
abbrev argB : FVec Ideal S768 .f32 := m ((c.tc : Thread nD τ).loc main_arg6)
abbrev argT : FVec Ideal S8 .f32 := m ((c.tc : Thread nD τ).loc main_arg7)
abbrev argA : FVec Ideal S8 .f32 := m ((c.tc : Thread nD τ).loc main_arg8)

theorem V_x : V m c main_arg0 = argX m c := by
  entry_read
  rfl

theorem V_d : V m c main_arg2 = argD m c := by
  entry_read
  rfl

theorem V_w : V m c main_arg5 = argW m c := by
  entry_read
  rfl

theorem V_k (b : Fin 128) (j : Fin 3) (e : Fin 768) : V m c main_v11 (ix3 b ⟨5 + j.val, by omega⟩ e : S128x8x768.Idx) = argK m c (ix3 b j e) := by
  simp only [V, hostOps0, hostOps0_1, hostOps0_2, hostOps0_3, hostOps0_4, hostOps0_5, hostOps0_6, List.flatten_cons, List.flatten_nil, List.cons_append, List.nil_append, List.append_nil]
  entry_read
  show pad S128x8x768 ![0, 5, 0] ![0, 0, 0] ![0, 0, 0] (argK m c) (sitofp (F := Ideal) .f32 (constantI S_ 32 0#32)) pads_S128x3x768_S128x8x768_000_500_000 h_S_ (ix3 b ⟨5 + j.val, by omega⟩ e) = _
  pointwise

theorem V_h (b : Fin 128) (a : Fin 512) (n : Fin 64) : V m c main_v14 (ix3 b a n : S128x512x64.Idx) = argH m c (ix4 b ⟨a.val / 64, by omega⟩ ⟨a.val % 64, by omega⟩ n) := by
  simp only [V, hostOps0, hostOps0_1, hostOps0_2, hostOps0_3, hostOps0_4, hostOps0_5, hostOps0_6, List.flatten_cons, List.flatten_nil, List.cons_append, List.nil_append, List.append_nil]
  entry_read
  pointwise

theorem V_b (e : Fin 768) : V m c main_v0 (ix2 0 e : S1x768.Idx) = argB m c (ix1 e) := by
  simp only [V, hostOps0, hostOps0_1, hostOps0_2, hostOps0_3, hostOps0_4, hostOps0_5, hostOps0_6, List.flatten_cons, List.flatten_nil, List.cons_append, List.nil_append, List.append_nil]
  entry_read
  pointwise

theorem V_t (l : Fin 8) : V m c main_v2 (ix2 0 ⟨l.val, by omega⟩ : S1x128.Idx) = argT m c (ix1 l) := by
  simp only [V, hostOps0, hostOps0_1, hostOps0_2, hostOps0_3, hostOps0_4, hostOps0_5, hostOps0_6, List.flatten_cons, List.flatten_nil, List.cons_append, List.nil_append, List.append_nil]
  entry_read
  pointwise
  show pad S128 ![0] ![120] ![0] (argT m c) (sitofp (F := Ideal) .f32 (constantI S_ 32 0#32)) pads_S8_S128_01200 h_S_ (ix1 ⟨l.val, by omega⟩) = _
  pointwise

theorem V_a (l : Fin 8) : V m c main_v5 (ix2 0 ⟨l.val, by omega⟩ : S1x128.Idx) = argA m c (ix1 l) := by
  simp only [V, hostOps0, hostOps0_1, hostOps0_2, hostOps0_3, hostOps0_4, hostOps0_5, hostOps0_6, List.flatten_cons, List.flatten_nil, List.cons_append, List.nil_append, List.append_nil]
  entry_read
  pointwise
  show pad S128 ![0] ![120] ![0] (argA m c) (sitofp (F := Ideal) .f32 (constantI S_ 32 0#32)) pads_S8_S128_01200 h_S_ (ix1 ⟨l.val, by omega⟩) = _
  pointwise

/-- The sequence of a block's row. -/
def seq (t : Fin cfg0.N) (b : Fin 16) : Fin 128 := ⟨t.val * 16 + b.val, by have := lt_N t; omega⟩

theorem x_blk (t : Fin cfg0.N) (b : Fin 16) (s : Fin 8) (e : Fin 768) : iblk m c 0 t (ix3 b s e : S16x8x768.Idx) = argX m c (ix3 (seq t b) s e) := by
  have h : iblk m c 0 t (ix3 b s e : S16x8x768.Idx) = V m c main_arg0 (ix3 (seq t b) s e) := by
    unfold seq
    blk_ext [iblk, idx t]
  rw [h, V_x]

theorem k_blk (t : Fin cfg0.N) (b : Fin 16) (j : Fin 3) (e : Fin 768) : iblk m c 1 t (ix3 b ⟨5 + j.val, by omega⟩ e : S16x8x768.Idx) = argK m c (ix3 (seq t b) j e) := by
  have h : iblk m c 1 t (ix3 b ⟨5 + j.val, by omega⟩ e : S16x8x768.Idx) = V m c main_v11 (ix3 (seq t b) ⟨5 + j.val, by omega⟩ e) := by
    unfold seq
    blk_ext [iblk, idx t]
  rw [h, V_k]

theorem d_blk (t : Fin cfg0.N) (b : Fin 16) (s : Fin 8) (e : Fin 128) : iblk m c 3 t (ix3 b s e : S16x8x128.Idx) = argD m c (ix3 (seq t b) s e) := by
  have h : iblk m c 3 t (ix3 b s e : S16x8x128.Idx) = V m c main_arg2 (ix3 (seq t b) s e) := by
    unfold seq
    blk_ext [iblk, idx t]
  rw [h, V_d]

theorem h_blk (t : Fin cfg0.N) (b : Fin 16) (a : Fin 512) (n : Fin 64) : iblk m c 5 t (ix3 b a n : S16x512x64.Idx)
    = argH m c (ix4 (seq t b) ⟨a.val / 64, by omega⟩ ⟨a.val % 64, by omega⟩ n) := by
  have h : iblk m c 5 t (ix3 b a n : S16x512x64.Idx) = V m c main_v14 (ix3 (seq t b) a n) := by
    unfold seq
    blk_ext [iblk, idx t]
  rw [h, V_h]

theorem w_blk (t : Fin cfg0.N) (k : Fin 4) (e : Fin 768) : iblk m c 6 t (ix2 k e : S4x768.Idx) = argW m c (ix2 k e) := by
  have h : iblk m c 6 t (ix2 k e : S4x768.Idx) = V m c main_arg5 (ix2 k e) := by
    blk_ext [iblk, idx t]
  rw [h, V_w]

theorem b_blk (t : Fin cfg0.N) (e : Fin 768) : iblk m c 7 t (ix2 0 e : S1x768.Idx) = argB m c (ix1 e) := by
  have h : iblk m c 7 t (ix2 0 e : S1x768.Idx) = V m c main_v0 (ix2 0 e) := by
    blk_ext [iblk, idx t]
  rw [h, V_b]

theorem t_blk (t : Fin cfg0.N) (l : Fin 8) : iblk m c 8 t (ix2 0 ⟨l.val, by omega⟩ : S1x128.Idx) = argT m c (ix1 l) := by
  have h : iblk m c 8 t (ix2 0 ⟨l.val, by omega⟩ : S1x128.Idx) = V m c main_v2 (ix2 0 ⟨l.val, by omega⟩) := by
    blk_ext [iblk, idx t]
  rw [h, V_t]

theorem a_blk (t : Fin cfg0.N) (l : Fin 8) : iblk m c 10 t (ix2 0 ⟨l.val, by omega⟩ : S1x128.Idx) = argA m c (ix1 l) := by
  have h : iblk m c 10 t (ix2 0 ⟨l.val, by omega⟩ : S1x128.Idx) = V m c main_v5 (ix2 0 ⟨l.val, by omega⟩) := by
    blk_ext [iblk, idx t]
  rw [h, V_a]

/-- The reference's result at the arguments. -/
abbrev ref : FVec Ideal S128x512x64 .f32 :=
  Cert.SsdReferenceIdeal.Layer.refTerm (argX m c) (argD m c) (argK m c) (argH m c) (argW m c) (argB m c) (argT m c) (argA m c)

/-- The kernel's eleven rows are the reference's. -/
theorem joined_blk (t : Fin cfg0.N) (b : Fin 16) :
    joined (fun s e => iblk m c 0 t (ix3 b s e : S16x8x768.Idx)) (fun s e => iblk m c 1 t (ix3 b s e : S16x8x768.Idx))
      = Cert.SsdReferenceIdeal.Layer.joined (fun s e => argX m c (ix3 (seq t b) s e)) fun s e => argK m c (ix3 (seq t b) s e) := by
  funext j e
  unfold joined Cert.SsdReferenceIdeal.Layer.joined
  by_cases h : j.val < 3
  · rw [dif_pos h, dif_pos h]
    exact k_blk m c t b ⟨j.val, h⟩ e
  · rw [dif_neg h, dif_neg h]
    exact x_blk m c t b _ e

/-- What a grid point leaves is the reference's states of its sixteen sequences. -/
theorem point (t : Fin cfg0.N) (b : Fin 16) (a : Fin 512) (n : Fin 64) :
    (outsAt0 m c t).2 (ix3 b a n : S16x512x64.Idx) = ref m c (ix3 (seq t b) a n) := by
  refine (outs_apply m c t b a n).trans (Eq.trans ?_ (Cert.SsdReferenceIdeal.Layer.ref_apply _ _ _ _ _ _ _ _ _ _ _).symm)
  unfold block
  have h1 := funext fun k => funext fun e => w_blk m c t k e
  have h2 := funext fun e => b_blk m c t e
  have h3 := funext fun s => d_blk m c t b s ⟨a.val / 64, by omega⟩
  have h4 := t_blk m c t ⟨a.val / 64, by omega⟩
  have h5 := a_blk m c t ⟨a.val / 64, by omega⟩
  rw [joined_blk, h1, h2, h_blk, h5]
  refine congrArg (fun f => Cert.Ssd.state _ f _ _ a n) (funext fun s => ?_)
  exact congrArg₂ (· + ·) (congrFun h3 s) h4

/-- The kernel's array: the blocks are all of it. -/
theorem final :
    (dats m 0 c).arrAt 15 (cfgs 0).N = ref m c := by
  funext i
  obtain ⟨r, a, n, rfl⟩ : ∃ (r : Fin 128) (a : Fin 512) (n : Fin 64), i = ix3 r a n := ⟨i 0, i 1, i 2, eq_ix3 i⟩
  have hN : r.val / 16 < cfg0.N := by show r.val / 16 < 8; omega
  have hb := congrFun (Value.blocks15 m c ⟨r.val / 16, hN⟩ (flush15 _)) (ix3 ⟨r.val % 16, by omega⟩ a n)
  have hp := point m c ⟨r.val / 16, hN⟩ ⟨r.val % 16, by omega⟩ a n
  rw [Value.flushed15] at hb
  have hr : seq ⟨r.val / 16, hN⟩ ⟨r.val % 16, by omega⟩ = r := Fin.ext (by show r.val / 16 * 16 + r.val % 16 = r.val; omega)
  rw [hr] at hp
  rw [← hp]
  refine Eq.trans ?_ hb
  refine congrArg ((dats m 0 c).arrAt 15 (cfgs 0).N) ?_
  blk_ext [idx]

end Cert.SsdIdeal.Layer

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.OutOdd
public import proofs.«01_k».proof.Proof.Gen.OutOdd.Frame
public import proofs.«01_k».proof.Proof.Gen.OutOddIdeal
public import proofs.«01_k».proof.Proof.Gen.OutOddIdeal.Frame
public import proofs.«01_k».proof.Proof.Gen.OutOddIdeal.Value
public import proofs.«01_k».proof.Proof.Gen.OutOddReferenceIdeal
public import proofs.«01_k».proof.Proof.Gen.OutOddReferenceIdeal.Run
public import proofs.«01_k».proof.Proof.Gen.OutEven
public import proofs.«01_k».proof.Proof.Gen.OutEven.Frame
public import proofs.«01_k».proof.Proof.Gen.OutEvenIdeal
public import proofs.«01_k».proof.Proof.Gen.OutEvenIdeal.Frame
public import proofs.«01_k».proof.Proof.Gen.OutEvenIdeal.Value
public import proofs.«01_k».proof.Proof.Gen.OutEvenReferenceIdeal
public import proofs.«01_k».proof.Proof.Gen.OutEvenReferenceIdeal.Run
public import proofs.«01_k».proof.Proof.Gen.Odd
public import proofs.«01_k».proof.Proof.Gen.Odd.Frame
public import proofs.«01_k».proof.Proof.Gen.OddIdeal
public import proofs.«01_k».proof.Proof.Gen.OddIdeal.Frame
public import proofs.«01_k».proof.Proof.Gen.OddIdeal.Value
public import proofs.«01_k».proof.Proof.Gen.OddReferenceIdeal
public import proofs.«01_k».proof.Proof.Gen.OddReferenceIdeal.Run
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenIdeal.Value
public import proofs.«01_k».proof.Proof.Gen.EvenReferenceIdeal
public import proofs.«01_k».proof.Proof.Gen.EvenReferenceIdeal.Run
public import proofs.«01_k».proof.Proof.Gen.Memkv
public import proofs.«01_k».proof.Proof.Gen.Memkv.Frame
public import proofs.«01_k».proof.Proof.Gen.MemkvIdeal
public import proofs.«01_k».proof.Proof.Gen.MemkvIdeal.Frame
public import proofs.«01_k».proof.Proof.Gen.MemkvIdeal.Value
public import proofs.«01_k».proof.Proof.Gen.MemkvReferenceIdeal
public import proofs.«01_k».proof.Proof.Gen.MemkvReferenceIdeal.Run
public import proofs.«01_k».proof.Proof.Gen.Memattn
public import proofs.«01_k».proof.Proof.Gen.Memattn.Frame
public import proofs.«01_k».proof.Proof.Gen.MemattnIdeal
public import proofs.«01_k».proof.Proof.Gen.MemattnIdeal.Frame
public import proofs.«01_k».proof.Proof.Gen.MemattnIdeal.Value
public import proofs.«01_k».proof.Proof.Gen.MemattnReferenceIdeal
public import proofs.«01_k».proof.Proof.Gen.MemattnReferenceIdeal.Run
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import proofs.«01_k».proof.Proof.Gen.SsdIdeal.Value
public import proofs.«01_k».proof.Proof.Gen.SsdReferenceIdeal
public import proofs.«01_k».proof.Proof.Gen.SsdReferenceIdeal.Run
public import proofs.«01_k».proof.Proof.Swa.Point
public import proofs.«01_k».proof.Proof.Ffn.Value
public import proofs.«01_k».proof.Proof.Out.Odd
public import proofs.«01_k».proof.Proof.Out.Even
public import proofs.«01_k».proof.Proof.Odd.Value
public import proofs.«01_k».proof.Proof.Even.Value
public import proofs.«01_k».proof.Proof.Memkv.Value
public import proofs.«01_k».proof.Proof.Memattn.Value
public import proofs.«01_k».proof.Proof.Ssd.Value
public import Idealize.ShloMosaic.Adequacy
public import Idealize.ShloMosaic.Init

@[expose] public section

open Idealize Idealize.ShloMosaic

namespace Cert.Proof

/-- The reference's result depends on the arguments alone. -/
theorem refTerm_congr {q q' : FVec Ideal Cert.KernelIdeal.S2x8192x2x4x64 .f32} {k k' v v' : FVec Ideal Cert.KernelIdeal.S2x8192x2x64 .f32}
    {t t' : FVec Ideal Cert.KernelIdeal.S32x8 .f32} {s s' : FVec Ideal Cert.KernelIdeal.S8 .f32}
    (hq : q = q') (hk : k = k') (hv : v = v') (ht : t = t') (hs : s = s') :
    Cert.KernelIdeal.Swa.refTerm q k v t s = Cert.KernelIdeal.Swa.refTerm q' k' v' t' s' := by
  subst hq hk hv ht hs
  rfl

/-- The attention of the idealized kernel is the reference's, at every cell of the result. -/
theorem algebraic_KernelIdeal_ReferenceIdeal : Cert.algebraic_KernelIdeal_ReferenceIdeal := by
  intro m g m' g' _ hagree
  refine ⟨fun c => Cert.KernelIdeal.Swa.refTerm (Cert.KernelIdeal.Swa.argQ m c) (Cert.KernelIdeal.Swa.argK m c) (Cert.KernelIdeal.Swa.argV m c)
    (Cert.KernelIdeal.Swa.argT m c) (Cert.KernelIdeal.Swa.argS m c), ?_, ?_⟩
  · exact θ_run_mono (Cert.KernelIdeal.Value.run_blocks m g) fun r h c => ⟨(h c).1.trans (Cert.KernelIdeal.Swa.final m c), (h c).2⟩
  · exact θ_run_mono (Cert.ReferenceIdeal.Value.run m' g') fun r h c => ⟨(h c).1.trans ((Cert.ReferenceIdeal.Swa.res_eq m' c).trans
      (refTerm_congr (hagree c).1 (hagree c).2.1 (hagree c).2.2.1 (hagree c).2.2.2.1 (hagree c).2.2.2.2)), (h c).2⟩

theorem ffnTerm_congr {p p' : FVec Ideal Cert.FfnIdeal.S2x8192x1024 .f32} {s s' : FVec Ideal Cert.FfnIdeal.S128x8x1024 .f32} {w w' : FVec Ideal Cert.FfnIdeal.S1024 .f32}
    {g g' u u' : FVec Ideal Cert.FfnIdeal.S1024x2816 .f32} {d d' : FVec Ideal Cert.FfnIdeal.S2816x1024 .f32}
    (hp : p = p') (hs : s = s') (hw : w = w') (hg : g = g') (hu : u = u') (hd : d = d') :
    Cert.FfnIdeal.Layer.refTerm p s w g u d = Cert.FfnIdeal.Layer.refTerm p' s' w' g' u' d' := by
  subst hp hs hw hg hu hd
  rfl

/-- The feed-forward block of the idealized kernel is the reference's, at every cell of the result. -/
theorem algebraic_FfnIdeal_FfnReferenceIdeal : Cert.algebraic_FfnIdeal_FfnReferenceIdeal := by
  intro m g m' g' _ hagree
  refine ⟨fun c => Cert.FfnIdeal.Layer.refTerm (m ((c.tc : Thread Cert.FfnIdeal.nD Cert.FfnIdeal.τ).loc Cert.FfnIdeal.main_arg0))
    (m ((c.tc : Thread Cert.FfnIdeal.nD Cert.FfnIdeal.τ).loc Cert.FfnIdeal.main_arg1)) (Cert.FfnIdeal.Layer.argW m c) (Cert.FfnIdeal.Layer.argG m c)
    (Cert.FfnIdeal.Layer.argU m c) (Cert.FfnIdeal.Layer.argD m c), ?_, ?_⟩
  · exact θ_run_mono (Cert.FfnIdeal.Value.run_blocks m g) fun r h c => ⟨(h c).1.trans (Cert.FfnIdeal.Layer.final m c), (h c).2⟩
  · exact θ_run_mono (Cert.FfnReferenceIdeal.Value.run m' g') fun r h c => ⟨(h c).1.trans ((Cert.FfnReferenceIdeal.Layer.res_eq m' c).trans
      (ffnTerm_congr (hagree c).1 (hagree c).2.1 (hagree c).2.2.1 (hagree c).2.2.2.1 (hagree c).2.2.2.2.1 (hagree c).2.2.2.2.2)), (h c).2⟩

/-- A function of equal arguments. -/
theorem congr3 {α0 α1 α2 β : Type} (f : α0 → α1 → α2 → β) {x0 y0 : α0} {x1 y1 : α1} {x2 y2 : α2} (h0 : x0 = y0) (h1 : x1 = y1) (h2 : x2 = y2) :
    f x0 x1 x2 = f y0 y1 y2 := by
  subst h0 h1 h2
  rfl

theorem congr4 {α0 α1 α2 α3 β : Type} (f : α0 → α1 → α2 → α3 → β) {x0 y0 : α0} {x1 y1 : α1} {x2 y2 : α2} {x3 y3 : α3} (h0 : x0 = y0) (h1 : x1 = y1) (h2 : x2 = y2) (h3 : x3 = y3) :
    f x0 x1 x2 x3 = f y0 y1 y2 y3 := by
  subst h0 h1 h2 h3
  rfl

theorem congr5 {α0 α1 α2 α3 α4 β : Type} (f : α0 → α1 → α2 → α3 → α4 → β) {x0 y0 : α0} {x1 y1 : α1} {x2 y2 : α2} {x3 y3 : α3} {x4 y4 : α4} (h0 : x0 = y0) (h1 : x1 = y1) (h2 : x2 = y2) (h3 : x3 = y3) (h4 : x4 = y4) :
    f x0 x1 x2 x3 x4 = f y0 y1 y2 y3 y4 := by
  subst h0 h1 h2 h3 h4
  rfl

theorem congr7 {α0 α1 α2 α3 α4 α5 α6 β : Type} (f : α0 → α1 → α2 → α3 → α4 → α5 → α6 → β) {x0 y0 : α0} {x1 y1 : α1} {x2 y2 : α2} {x3 y3 : α3} {x4 y4 : α4} {x5 y5 : α5} {x6 y6 : α6} (h0 : x0 = y0) (h1 : x1 = y1) (h2 : x2 = y2) (h3 : x3 = y3) (h4 : x4 = y4) (h5 : x5 = y5) (h6 : x6 = y6) :
    f x0 x1 x2 x3 x4 x5 x6 = f y0 y1 y2 y3 y4 y5 y6 := by
  subst h0 h1 h2 h3 h4 h5 h6
  rfl

theorem congr8 {α0 α1 α2 α3 α4 α5 α6 α7 β : Type} (f : α0 → α1 → α2 → α3 → α4 → α5 → α6 → α7 → β) {x0 y0 : α0} {x1 y1 : α1} {x2 y2 : α2} {x3 y3 : α3} {x4 y4 : α4} {x5 y5 : α5} {x6 y6 : α6} {x7 y7 : α7} (h0 : x0 = y0) (h1 : x1 = y1) (h2 : x2 = y2) (h3 : x3 = y3) (h4 : x4 = y4) (h5 : x5 = y5) (h6 : x6 = y6) (h7 : x7 = y7) :
    f x0 x1 x2 x3 x4 x5 x6 x7 = f y0 y1 y2 y3 y4 y5 y6 y7 := by
  subst h0 h1 h2 h3 h4 h5 h6 h7
  rfl

/-- The result of an odd layer's output projection: the idealized kernel's arrays are the reference's. -/
theorem algebraic_OutOddIdeal_OutOddReferenceIdeal : Cert.algebraic_OutOddIdeal_OutOddReferenceIdeal := by
  intro m g m' g' _ hagree
  refine ⟨fun c => Cert.OutOddIdeal.Layer.refTerm (m ((c.tc : Thread Cert.OutOddIdeal.nD Cert.OutOddIdeal.τ).loc Cert.OutOddIdeal.main_arg0)) (m ((c.tc : Thread Cert.OutOddIdeal.nD Cert.OutOddIdeal.τ).loc Cert.OutOddIdeal.main_arg1)) (m ((c.tc : Thread Cert.OutOddIdeal.nD Cert.OutOddIdeal.τ).loc Cert.OutOddIdeal.main_arg2)) (m ((c.tc : Thread Cert.OutOddIdeal.nD Cert.OutOddIdeal.τ).loc Cert.OutOddIdeal.main_arg3)) (m ((c.tc : Thread Cert.OutOddIdeal.nD Cert.OutOddIdeal.τ).loc Cert.OutOddIdeal.main_arg4)),
    ?_, ?_⟩
  · exact θ_run_mono (Cert.OutOddIdeal.Value.run_blocks m g) fun r h c => ⟨(h c).1.trans (Cert.OutOddIdeal.Layer.final m c), (h c).2⟩
  · exact θ_run_mono (Cert.OutOddReferenceIdeal.Value.run m' g') fun r h c => ⟨(h c).1.trans (congr5 Cert.OutOddIdeal.Layer.refTerm (hagree c).1 (hagree c).2.1 (hagree c).2.2.1 (hagree c).2.2.2.1 (hagree c).2.2.2.2), (h c).2⟩

/-- The result of an even layer's output projection: the idealized kernel's arrays are the reference's. -/
theorem algebraic_OutEvenIdeal_OutEvenReferenceIdeal : Cert.algebraic_OutEvenIdeal_OutEvenReferenceIdeal := by
  intro m g m' g' _ hagree
  refine ⟨fun c => Cert.OutEvenIdeal.Layer.refTerm (m ((c.tc : Thread Cert.OutEvenIdeal.nD Cert.OutEvenIdeal.τ).loc Cert.OutEvenIdeal.main_arg0)) (m ((c.tc : Thread Cert.OutEvenIdeal.nD Cert.OutEvenIdeal.τ).loc Cert.OutEvenIdeal.main_arg1)) (m ((c.tc : Thread Cert.OutEvenIdeal.nD Cert.OutEvenIdeal.τ).loc Cert.OutEvenIdeal.main_arg2)) (m ((c.tc : Thread Cert.OutEvenIdeal.nD Cert.OutEvenIdeal.τ).loc Cert.OutEvenIdeal.main_arg3)) (m ((c.tc : Thread Cert.OutEvenIdeal.nD Cert.OutEvenIdeal.τ).loc Cert.OutEvenIdeal.main_arg4)) (m ((c.tc : Thread Cert.OutEvenIdeal.nD Cert.OutEvenIdeal.τ).loc Cert.OutEvenIdeal.main_arg5)) (m ((c.tc : Thread Cert.OutEvenIdeal.nD Cert.OutEvenIdeal.τ).loc Cert.OutEvenIdeal.main_arg6)),
    ?_, ?_⟩
  · exact θ_run_mono (Cert.OutEvenIdeal.Value.run_blocks m g) fun r h c => ⟨(h c).1.trans (Cert.OutEvenIdeal.Layer.final m c), (h c).2⟩
  · exact θ_run_mono (Cert.OutEvenReferenceIdeal.Value.run m' g') fun r h c => ⟨(h c).1.trans (congr7 Cert.OutEvenIdeal.Layer.refTerm (hagree c).1 (hagree c).2.1 (hagree c).2.2.1 (hagree c).2.2.2.1 (hagree c).2.2.2.2.1 (hagree c).2.2.2.2.2.1 (hagree c).2.2.2.2.2.2), (h c).2⟩

/-- The queries, keys and values of an odd layer: the idealized kernel's arrays are the reference's. -/
theorem algebraic_OddIdeal_OddReferenceIdeal : Cert.algebraic_OddIdeal_OddReferenceIdeal := by
  intro m g m' g' _ hagree
  refine ⟨fun c => Cert.OddReferenceIdeal.Layer.termQ (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)), fun c => Cert.OddReferenceIdeal.Layer.termK (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg5)), fun c => Cert.OddReferenceIdeal.Layer.termV (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)),
    ?_, ?_⟩
  · exact θ_run_mono (Cert.OddIdeal.Value.run_blocks m g) fun r h c => ⟨(h c).1.trans (Cert.OddIdeal.Layer.finalQ m c), (h c).2.1.trans (Cert.OddIdeal.Layer.finalK m c), (h c).2.2.1.trans (Cert.OddIdeal.Layer.finalV m c), (h c).2.2.2.2.2.2⟩
  · exact θ_run_mono (Cert.OddReferenceIdeal.Value.run m' g') fun r h c => ⟨(h c).1.trans ((Cert.OddReferenceIdeal.Layer.res_q m' c).trans (congr5 Cert.OddReferenceIdeal.Layer.termQ (hagree c).1 (hagree c).2.1 (hagree c).2.2.1 (hagree c).2.2.2.1 (hagree c).2.2.2.2.1)), (h c).2.1.trans ((Cert.OddReferenceIdeal.Layer.res_k m' c).trans (congr5 Cert.OddReferenceIdeal.Layer.termK (hagree c).1 (hagree c).2.1 (hagree c).2.2.1 (hagree c).2.2.2.1 (hagree c).2.2.2.2.2)), (h c).2.2.1.trans (congr4 Cert.OddReferenceIdeal.Layer.termV (hagree c).1 (hagree c).2.1 (hagree c).2.2.1 (hagree c).2.2.2.1), (h c).2.2.2⟩

theorem finite_even_facts : Cert.Pre_finite_even.Facts := ⟨by decide, by decide, by decide, by decide⟩

/-- The projections of an even layer: the idealized kernel's arrays are the reference's. -/
theorem algebraic_EvenIdeal_EvenReferenceIdeal_pre_finite_even : Cert.algebraic_EvenIdeal_EvenReferenceIdeal_pre_finite_even (hPre_finite_even := finite_even_facts) := by
  intro m g m' g' hpre hagree
  haveI := finite_even_facts
  have real := fun c => Cert.EvenIdeal.Layer.pre_real m c hpre
  refine ⟨fun c => Cert.EvenReferenceIdeal.Layer.termQ (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)), fun c => Cert.EvenReferenceIdeal.Layer.termK (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg5)), fun c => Cert.EvenReferenceIdeal.Layer.termV (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)), fun c => Cert.EvenReferenceIdeal.Layer.termZ (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)), fun c => Cert.EvenReferenceIdeal.Layer.termC (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)), fun c => Cert.EvenReferenceIdeal.Layer.termT (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)),
    ?_, ?_⟩
  · exact θ_run_mono (Cert.EvenIdeal.Value.run_blocks m g) fun r h c => ⟨(h c).1.trans (Cert.EvenIdeal.Layer.finalQ m c (real c).1 (real c).2.1 (real c).2.2), (h c).2.1.trans (Cert.EvenIdeal.Layer.finalK m c (real c).1 (real c).2.1 (real c).2.2), (h c).2.2.1.trans (Cert.EvenIdeal.Layer.finalV m c), (h c).2.2.2.1.trans (Cert.EvenIdeal.Layer.finalZ m c), (h c).2.2.2.2.1.trans (Cert.EvenIdeal.Layer.finalC m c), (h c).2.2.2.2.2.1.trans (Cert.EvenIdeal.Layer.finalT m c), (h c).2.2.2.2.2.2⟩
  · exact θ_run_mono (Cert.EvenReferenceIdeal.Value.run m' g') fun r h c => ⟨(h c).1.trans ((Cert.EvenReferenceIdeal.Layer.res_q m' c).trans (congr5 Cert.EvenReferenceIdeal.Layer.termQ (hagree c).1 (hagree c).2.1 (hagree c).2.2.1 (hagree c).2.2.2.1 (hagree c).2.2.2.2.1)), (h c).2.1.trans ((Cert.EvenReferenceIdeal.Layer.res_k m' c).trans (congr5 Cert.EvenReferenceIdeal.Layer.termK (hagree c).1 (hagree c).2.1 (hagree c).2.2.1 (hagree c).2.2.2.1 (hagree c).2.2.2.2.2)), (h c).2.2.1.trans (congr4 Cert.EvenReferenceIdeal.Layer.termV (hagree c).1 (hagree c).2.1 (hagree c).2.2.1 (hagree c).2.2.2.1), (h c).2.2.2.1.trans (congr4 Cert.EvenReferenceIdeal.Layer.termZ (hagree c).1 (hagree c).2.1 (hagree c).2.2.1 (hagree c).2.2.2.1), (h c).2.2.2.2.1.trans (congr4 Cert.EvenReferenceIdeal.Layer.termC (hagree c).1 (hagree c).2.1 (hagree c).2.2.1 (hagree c).2.2.2.1), (h c).2.2.2.2.2.1.trans (congr4 Cert.EvenReferenceIdeal.Layer.termT (hagree c).1 (hagree c).2.1 (hagree c).2.2.1 (hagree c).2.2.2.1), (h c).2.2.2.2.2.2⟩

theorem finite_memkv_facts : Cert.Pre_finite_memkv.Facts := ⟨by decide, by decide⟩

/-- The keys and values of the memory: the idealized kernel's arrays are the reference's. -/
theorem algebraic_MemkvIdeal_MemkvReferenceIdeal_pre_finite_memkv : Cert.algebraic_MemkvIdeal_MemkvReferenceIdeal_pre_finite_memkv (hPre_finite_memkv := finite_memkv_facts) := by
  intro m g m' g' hpre hagree
  haveI := finite_memkv_facts
  have real := fun c => Cert.MemkvIdeal.Layer.pre_real m c hpre
  refine ⟨fun c => Cert.MemkvReferenceIdeal.Layer.termK (m ((c.tc : Thread Cert.MemkvIdeal.nD Cert.MemkvIdeal.τ).loc Cert.MemkvIdeal.main_arg0)) (m ((c.tc : Thread Cert.MemkvIdeal.nD Cert.MemkvIdeal.τ).loc Cert.MemkvIdeal.main_arg1)) (m ((c.tc : Thread Cert.MemkvIdeal.nD Cert.MemkvIdeal.τ).loc Cert.MemkvIdeal.main_arg3)), fun c => Cert.MemkvReferenceIdeal.Layer.termV (m ((c.tc : Thread Cert.MemkvIdeal.nD Cert.MemkvIdeal.τ).loc Cert.MemkvIdeal.main_arg0)) (m ((c.tc : Thread Cert.MemkvIdeal.nD Cert.MemkvIdeal.τ).loc Cert.MemkvIdeal.main_arg2)),
    ?_, ?_⟩
  · exact θ_run_mono (Cert.MemkvIdeal.Value.run_blocks m g) fun r h c => ⟨(h c).1.trans (Cert.MemkvIdeal.Layer.finalK m c (real c).1 (real c).2), (h c).2.1.trans (Cert.MemkvIdeal.Layer.finalV m c), (h c).2.2⟩
  · exact θ_run_mono (Cert.MemkvReferenceIdeal.Value.run m' g') fun r h c => ⟨(h c).1.trans (congr3 Cert.MemkvReferenceIdeal.Layer.termK (hagree c).1 (hagree c).2.1 (hagree c).2.2.2), (h c).2.1.trans (congrArg₂ Cert.MemkvReferenceIdeal.Layer.termV (hagree c).1 (hagree c).2.2.1), (h c).2.2⟩

theorem finite_memattn_facts : Cert.Pre_finite_memattn.Facts := ⟨by decide, by decide, by decide⟩

/-- The attention of the prompt to the memory: the idealized kernel's arrays are the reference's. -/
theorem algebraic_MemattnIdeal_MemattnReferenceIdeal_pre_finite_memattn : Cert.algebraic_MemattnIdeal_MemattnReferenceIdeal_pre_finite_memattn (hPre_finite_memattn := finite_memattn_facts) := by
  intro m g m' g' hpre hagree
  haveI := finite_memattn_facts
  have real := fun c => Cert.MemattnIdeal.Layer.pre_real m c hpre
  refine ⟨fun c => Cert.MemattnReferenceIdeal.Layer.refTerm (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1)) (m ((c.tc : Thread Cert.MemattnIdeal.nD Cert.MemattnIdeal.τ).loc Cert.MemattnIdeal.main_arg2)) (m ((c.tc : Thread Cert.MemattnIdeal.nD Cert.MemattnIdeal.τ).loc Cert.MemattnIdeal.main_arg3)) (m ((c.tc : Thread Cert.MemattnIdeal.nD Cert.MemattnIdeal.τ).loc Cert.MemattnIdeal.main_arg4)) (m ((c.tc : Thread Cert.MemattnIdeal.nD Cert.MemattnIdeal.τ).loc Cert.MemattnIdeal.main_arg5)) (m ((c.tc : Thread Cert.MemattnIdeal.nD Cert.MemattnIdeal.τ).loc Cert.MemattnIdeal.main_arg6)) (m ((c.tc : Thread Cert.MemattnIdeal.nD Cert.MemattnIdeal.τ).loc Cert.MemattnIdeal.main_arg7)),
    ?_, ?_⟩
  · exact θ_run_mono (Cert.MemattnIdeal.Value.run_blocks m g) fun r h c => ⟨(h c).1.trans (Cert.MemattnIdeal.Layer.final m c (real c).1 (real c).2.1 (real c).2.2), (h c).2⟩
  · exact θ_run_mono (Cert.MemattnReferenceIdeal.Value.run m' g') fun r h c => ⟨(h c).1.trans ((Cert.MemattnReferenceIdeal.Layer.res_eq m' c).trans (congr8 Cert.MemattnReferenceIdeal.Layer.refTerm (hagree c).1 (hagree c).2.1 (hagree c).2.2.1 (hagree c).2.2.2.1 (hagree c).2.2.2.2.1 (hagree c).2.2.2.2.2.1 (hagree c).2.2.2.2.2.2.1 (hagree c).2.2.2.2.2.2.2)), (h c).2⟩

/-- The state step of the sample: the idealized kernel's arrays are the reference's. -/
theorem algebraic_SsdIdeal_SsdReferenceIdeal : Cert.algebraic_SsdIdeal_SsdReferenceIdeal := by
  intro m g m' g' _ hagree
  refine ⟨fun c => Cert.SsdReferenceIdeal.Layer.refTerm (m ((c.tc : Thread Cert.SsdIdeal.nD Cert.SsdIdeal.τ).loc Cert.SsdIdeal.main_arg0)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8)),
    ?_, ?_⟩
  · exact θ_run_mono (Cert.SsdIdeal.Value.run_blocks m g) fun r h c => ⟨(h c).2.1.trans (Cert.SsdIdeal.Layer.final m c), (h c).2.2⟩
  · exact θ_run_mono (Cert.SsdReferenceIdeal.Value.run m' g') fun r h c => ⟨(h c).1.trans ((Cert.SsdReferenceIdeal.Layer.res_eq m' c).trans (congr8 Cert.SsdReferenceIdeal.Layer.refTerm (hagree c).1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1)), (h c).2⟩

theorem quiescent_ReferenceIdeal : Cert.quiescent_ReferenceIdeal := fun m g _ =>
  θ_run_mono (Cert.ReferenceIdeal.Value.run m g) fun r h => ⟨fun c => (h c).2, funext fun s => nomatch s⟩

theorem quiescent_FfnReferenceIdeal : Cert.quiescent_FfnReferenceIdeal := fun m g _ =>
  θ_run_mono (Cert.FfnReferenceIdeal.Value.run m g) fun r h => ⟨fun c => (h c).2, funext fun s => nomatch s⟩

theorem quiescent_OutOddReferenceIdeal : Cert.quiescent_OutOddReferenceIdeal := fun m g _ =>
  θ_run_mono (Cert.OutOddReferenceIdeal.Value.run m g) fun r h => ⟨fun c => (h c).2, funext fun s => nomatch s⟩

theorem quiescent_OutEvenReferenceIdeal : Cert.quiescent_OutEvenReferenceIdeal := fun m g _ =>
  θ_run_mono (Cert.OutEvenReferenceIdeal.Value.run m g) fun r h => ⟨fun c => (h c).2, funext fun s => nomatch s⟩

theorem quiescent_OddReferenceIdeal : Cert.quiescent_OddReferenceIdeal := fun m g _ =>
  θ_run_mono (Cert.OddReferenceIdeal.Value.run m g) fun r h => ⟨fun c => (h c).2.2.2, funext fun s => nomatch s⟩

theorem quiescent_EvenReferenceIdeal : Cert.quiescent_EvenReferenceIdeal := fun m g _ =>
  θ_run_mono (Cert.EvenReferenceIdeal.Value.run m g) fun r h => ⟨fun c => (h c).2.2.2.2.2.2, funext fun s => nomatch s⟩

theorem quiescent_MemkvReferenceIdeal : Cert.quiescent_MemkvReferenceIdeal := fun m g _ =>
  θ_run_mono (Cert.MemkvReferenceIdeal.Value.run m g) fun r h => ⟨fun c => (h c).2.2, funext fun s => nomatch s⟩

theorem quiescent_MemattnReferenceIdeal : Cert.quiescent_MemattnReferenceIdeal := fun m g _ =>
  θ_run_mono (Cert.MemattnReferenceIdeal.Value.run m g) fun r h => ⟨fun c => (h c).2, funext fun s => nomatch s⟩

theorem quiescent_SsdReferenceIdeal : Cert.quiescent_SsdReferenceIdeal := fun m g _ =>
  θ_run_mono (Cert.SsdReferenceIdeal.Value.run m g) fun r h => ⟨fun c => (h c).2, funext fun s => nomatch s⟩

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.OutOdd.Gen.facts, Cert.OutOddIdeal.Gen.facts, Cert.OutOddReferenceIdeal.Gen.facts,
    Cert.OutEven.Gen.facts, Cert.OutEvenIdeal.Gen.facts, Cert.OutEvenReferenceIdeal.Gen.facts,
    Cert.Odd.Gen.facts, Cert.OddIdeal.Gen.facts, Cert.OddReferenceIdeal.Gen.facts,
    Cert.Even.Gen.facts, Cert.EvenIdeal.Gen.facts, Cert.EvenReferenceIdeal.Gen.facts,
    Cert.Memkv.Gen.facts, Cert.MemkvIdeal.Gen.facts, Cert.MemkvReferenceIdeal.Gen.facts,
    Cert.Memattn.Gen.facts, Cert.MemattnIdeal.Gen.facts, Cert.MemattnReferenceIdeal.Gen.facts,
    Cert.Ssd.Gen.facts, Cert.SsdIdeal.Gen.facts, Cert.SsdReferenceIdeal.Gen.facts,
    finite_even_facts, finite_memkv_facts, finite_memattn_facts,
    fun m ρ _ => Cert.Kernel.Gen.frame m ρ,
    fun m ρ _ => Cert.KernelIdeal.Gen.frame m ρ,
    quiescent_ReferenceIdeal,
    fun m ρ _ => Cert.Ffn.Gen.frame m ρ,
    fun m ρ _ => Cert.FfnIdeal.Gen.frame m ρ,
    quiescent_FfnReferenceIdeal,
    fun m ρ _ => Cert.OutOdd.Gen.frame m ρ,
    fun m ρ _ => Cert.OutOddIdeal.Gen.frame m ρ,
    quiescent_OutOddReferenceIdeal,
    fun m ρ _ => Cert.OutEven.Gen.frame m ρ,
    fun m ρ _ => Cert.OutEvenIdeal.Gen.frame m ρ,
    quiescent_OutEvenReferenceIdeal,
    fun m ρ _ => Cert.Odd.Gen.frame m ρ,
    fun m ρ _ => Cert.OddIdeal.Gen.frame m ρ,
    quiescent_OddReferenceIdeal,
    fun m ρ _ => Cert.Even.Gen.frame m ρ,
    fun m ρ _ => Cert.EvenIdeal.Gen.frame m ρ,
    fun m ρ _ => Cert.EvenIdeal.Gen.frame m ρ,
    quiescent_EvenReferenceIdeal,
    fun m ρ _ => quiescent_EvenReferenceIdeal m ρ trivial,
    fun m ρ _ => Cert.Memkv.Gen.frame m ρ,
    fun m ρ _ => Cert.MemkvIdeal.Gen.frame m ρ,
    fun m ρ _ => Cert.MemkvIdeal.Gen.frame m ρ,
    quiescent_MemkvReferenceIdeal,
    fun m ρ _ => quiescent_MemkvReferenceIdeal m ρ trivial,
    fun m ρ _ => Cert.Memattn.Gen.frame m ρ,
    fun m ρ _ => Cert.MemattnIdeal.Gen.frame m ρ,
    fun m ρ _ => Cert.MemattnIdeal.Gen.frame m ρ,
    quiescent_MemattnReferenceIdeal,
    fun m ρ _ => quiescent_MemattnReferenceIdeal m ρ trivial,
    fun m ρ _ => Cert.Ssd.Gen.frame m ρ,
    fun m ρ _ => Cert.SsdIdeal.Gen.frame m ρ,
    quiescent_SsdReferenceIdeal,
    IdealRules.named_const.statement Cert.KernelIdeal.κ "mask" .f32 0xF149F2CA#32 ⊥ rfl,
    algebraic_KernelIdeal_ReferenceIdeal,
    trivial,
    algebraic_FfnIdeal_FfnReferenceIdeal,
    trivial,
    algebraic_OutOddIdeal_OutOddReferenceIdeal,
    trivial,
    algebraic_OutEvenIdeal_OutEvenReferenceIdeal,
    IdealRules.named_const.statement Cert.OddIdeal.κ "scale" .f32 0x3E0293EE#32 (((Real.sqrt 128)⁻¹ * (Real.log 2)⁻¹ : ℝ) : EReal) rfl,
    algebraic_OddIdeal_OddReferenceIdeal,
    trivial,
    algebraic_EvenIdeal_EvenReferenceIdeal_pre_finite_even,
    trivial,
    algebraic_MemkvIdeal_MemkvReferenceIdeal_pre_finite_memkv,
    trivial,
    algebraic_MemattnIdeal_MemattnReferenceIdeal_pre_finite_memattn,
    IdealRules.named_const.statement Cert.SsdIdeal.κ "mask" .f32 0xF149F2CA#32 ⊥ rfl,
    algebraic_SsdIdeal_SsdReferenceIdeal⟩

end Cert.Proof
